-- ==== Defs.lean ====
def Pre_Kernel [hPre_ids_ok : Cert.Pre_ids_ok.Facts] (m : (ℓ : Loc Cert.Kernel.nD Cert.Kernel.τ Cert.Kernel.sig) → Buf (Elt Bits) ℓ) : Prop :=
  ∀ c : Dev Cert.Kernel.nD,
    (Cert.Pre_ids_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_ok [hPre_ids_ok : Cert.Pre_ids_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_ok : Cert.Pre_ids_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_ok [hReferenceIdeal : Cert.ReferenceIdeal.Facts] [hPre_ids_ok : Cert.Pre_ids_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_ok : Cert.Pre_ids_ok.Facts),
    quiescent_Kernel (hKernel := hKernel) (hPre_ids_ok := hPre_ids_ok)
    ∧ quiescent_KernelIdeal (hKernelIdeal := hKernelIdeal) (hPre_ids_ok := hPre_ids_ok)
    ∧ quiescent_ReferenceIdeal (hReferenceIdeal := hReferenceIdeal)
    ∧ quiescent_ReferenceIdeal_pre_ids_ok (hReferenceIdeal := hReferenceIdeal) (hPre_ids_ok := hPre_ids_ok)
    ∧ preserves_Kernel_KernelIdeal
    ∧ algebraic_KernelIdeal_ReferenceIdeal (hKernelIdeal := hKernelIdeal) (hReferenceIdeal := hReferenceIdeal) (hPre_ids_ok := hPre_ids_ok)
-- ==== Pre_ids_ok.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S320000 32) (main_arg2 : FVec F S128x64 .f32) (main_arg3 : FVec F S64 .f32) (main_arg4 : FVec F S64x64 .f32) (main_arg5 : FVec F S64 .f32) (main_arg6 : FVec F S129x64 .f32) (main_arg7 : FVec F S64 .f32) (main_arg8 : FVec F S64x1 .f32) (main_arg9 : FVec F S1 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg1 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg1
  let main_v8 : IVec S319999 32 := (extractStridedSlice S319999 ![1] · slices_S320000_S319999_1) main_arg1
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S1x64 : Shape := ⟨2, ![1, 64]⟩
abbrev S320000x64 : Shape := ⟨2, ![320000, 64]⟩
abbrev S2560x128 : Shape := ⟨2, ![2560, 128]⟩
abbrev S2560x64 : Shape := ⟨2, ![2560, 64]⟩
abbrev S10240x64 : Shape := ⟨2, ![10240, 64]⟩
abbrev S10240x16 : Shape := ⟨2, ![10240, 16]⟩
abbrev S256x64 : Shape := ⟨2, ![256, 64]⟩
abbrev S256 : Shape := ⟨1, ![256]⟩
abbrev S80x64 : Shape := ⟨2, ![80, 64]⟩
abbrev S80x16 : Shape := ⟨2, ![80, 16]⟩
abbrev S16 : Shape := ⟨1, ![16]⟩
abbrev S_ : Shape := ⟨0, ![]⟩
abbrev S1x16 : Shape := ⟨2, ![1, 16]⟩
abbrev S10000x64 : Shape := ⟨2, ![10000, 64]⟩
abbrev S10000x16 : Shape := ⟨2, ![10000, 16]⟩
abbrev S1x1 : Shape := ⟨2, ![1, 1]⟩
abbrev S10000x1 : Shape := ⟨2, ![10000, 1]⟩
abbrev S10000 : Shape := ⟨1, ![10000]⟩

abbrev nBuf : Table → Nat
  | .hbm => 26
  | .local .tc .vmem => 18
  | .local .scVector .vmem => 6
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S129x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x64, .f32⟩
  | .hbm, ⟨11, _⟩ => ⟨S1x64, .f32⟩
  | .hbm, ⟨12, _⟩ => ⟨S320000x64, .f32⟩
  | .hbm, ⟨13, _⟩ => ⟨S10240x64, .f32⟩
  | .hbm, ⟨14, _⟩ => ⟨S10240x64, .f32⟩
  | .hbm, ⟨15, _⟩ => ⟨S10240x16, .f32⟩
  | .hbm, ⟨16, _⟩ => ⟨S10000x64, .f32⟩
  | .hbm, ⟨17, _⟩ => ⟨S10000x64, .f32⟩
  | .hbm, ⟨18, _⟩ => ⟨S10000x16, .f32⟩
  | .hbm, ⟨19, _⟩ => ⟨S64x64, .f32⟩
  | .hbm, ⟨20, _⟩ => ⟨S64x64, .f32⟩
  | .hbm, ⟨21, _⟩ => ⟨S1x64, .f32⟩
  | .hbm, ⟨22, _⟩ => ⟨S1x64, .f32⟩
  | .hbm, ⟨23, _⟩ => ⟨S1x1, .f32⟩
  | .hbm, ⟨24, _⟩ => ⟨S10000x1, .f32⟩
  | .hbm, ⟨25, _⟩ => ⟨S10000, .f32⟩
  | .local .tc .vmem, ⟨0, _⟩ => ⟨S2560x128, .f32⟩
  | .local .tc .vmem, ⟨1, _⟩ => ⟨S2560x128, .f32⟩
  | .local .tc .vmem, ⟨2, _⟩ => ⟨S128x64, .f32⟩
  | .local .tc .vmem, ⟨3, _⟩ => ⟨S1x64, .f32⟩
  | .local .tc .vmem, ⟨4, _⟩ => ⟨S64x64, .f32⟩
  | .local .tc .vmem, ⟨5, _⟩ => ⟨S1x64, .f32⟩
  | .local .tc .vmem, ⟨6, _⟩ => ⟨S2560x64, .f32⟩
  | .local .tc .vmem, ⟨7, _⟩ => ⟨S2560x64, .f32⟩
  | .local .tc .vmem, ⟨8, _⟩ => ⟨S10000x64, .f32⟩
  | .local .tc .vmem, ⟨9, _⟩ => ⟨S10000x64, .f32⟩
  | .local .tc .vmem, ⟨10, _⟩ => ⟨S10000x16, .f32⟩
  | .local .tc .vmem, ⟨11, _⟩ => ⟨S64x64, .f32⟩
  | .local .tc .vmem, ⟨12, _⟩ => ⟨S64x64, .f32⟩
  | .local .tc .vmem, ⟨13, _⟩ => ⟨S1x64, .f32⟩
  | .local .tc .vmem, ⟨14, _⟩ => ⟨S1x64, .f32⟩
  | .local .tc .vmem, ⟨15, _⟩ => ⟨S64x1, .f32⟩
  | .local .tc .vmem, ⟨16, _⟩ => ⟨S1x1, .f32⟩
  | .local .tc .vmem, ⟨17, _⟩ => ⟨S10000x1, .f32⟩
  | .local .scVector .vmem, ⟨0, _⟩ => ⟨S256x64, .f32⟩
  | .local .scVector .vmem, ⟨1, _⟩ => ⟨S256, .i32⟩
  | .local .scVector .vmem, ⟨2, _⟩ => ⟨S80x64, .f32⟩
  | .local .scVector .vmem, ⟨3, _⟩ => ⟨S80x64, .f32⟩
  | .local .scVector .vmem, ⟨4, _⟩ => ⟨S80x16, .f32⟩
  | .local .scVector .vmem, ⟨5, _⟩ => ⟨S16, .i32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v2_scv : Ref sig .scVector := ⟨.hbm, 12, rfl⟩
abbrev main_arg1_scv : Ref sig .scVector := ⟨.hbm, 1, rfl⟩
abbrev main_v3_0_scv : Ref sig .scVector := ⟨.hbm, 13, rfl⟩
abbrev main_v3_1_scv : Ref sig .scVector := ⟨.hbm, 14, rfl⟩
abbrev main_v3_2_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc2_sem0_0 : DmaSem sig := 46
abbrev cc2_sem1_0 : DmaSem sig := 47
abbrev cc2_sem2_0 : DmaSem sig := 48
abbrev cc2_sem3_0 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem8_0 : DmaSem sig := 54
abbrev cc2_sem9_0 : DmaSem sig := 55
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2560x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

@[reducible] def k1_t1_loop : Scf.Loop 32 :=
  let c0_i32_1 : BitVec 32 := 0#32
  let c15_i32 : BitVec 32 := 15#32
  let v5 : BitVec 32 := Scalar.addi c0_i32_1 c15_i32
  let c1_i32 : BitVec 32 := 1#32
  ⟨c0_i32_1, v5, c1_i32⟩
def k1_mult1 (arg14 : BitVec 32) (arg15 : BitVec 32) : BitVec 32 :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  v519

def k1_off1 (arg14 : BitVec 32) (arg15 : BitVec 32) : Fin 1 → Nat :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  let v520 : BitVec 32 := v519
  ![v520.toNat]

def k1_chk1 (arg14 : BitVec 32) (arg15 : BitVec 32) : Prop :=
  (16 ∣ (k1_mult1 arg14 arg15).toNat) ∧
  (∀ a, (k1_off1 arg14 arg15) a + S16.size a ≤ S320000.size a)
theorem k1_mult1_dvd : ∀ (arg14 : BitVec 32) (arg15 : BitVec 32) (k1_hw1 : k1_chk1 arg14 arg15), 16 ∣ (k1_mult1 arg14 arg15).toNat := fun arg14 arg15 k1_hw1 => k1_hw1.1
theorem k1_off1_inb : ∀ (arg14 : BitVec 32) (arg15 : BitVec 32) (k1_hw1 : k1_chk1 arg14 arg15), ∀ a, (k1_off1 arg14 arg15) a + S16.size a ≤ S320000.size a := fun arg14 arg15 k1_hw1 => k1_hw1.2

def k1_mult2 (v6_0 : BitVec 32) : BitVec 32 :=
  let c16_i32 : BitVec 32 := 16#32
  let v7 : BitVec 32 := Scalar.muli v6_0 c16_i32
  v7

def k1_off2 (v6_0 : BitVec 32) : Fin 1 → Nat :=
  let c16_i32 : BitVec 32 := 16#32
  let v7 : BitVec 32 := Scalar.muli v6_0 c16_i32
  let v8 : BitVec 32 := v7
  ![v8.toNat]

def k1_chk2 (v6_0 : BitVec 32) : Prop :=
  (16 ∣ (k1_mult2 v6_0).toNat) ∧
  (∀ a, (k1_off2 v6_0) a + S16.size a ≤ S320000.size a)
theorem k1_mult2_dvd : ∀ (v6_0 : BitVec 32) (k1_hw2 : k1_chk2 v6_0), 16 ∣ (k1_mult2 v6_0).toNat := fun v6_0 k1_hw2 => k1_hw2.1
theorem k1_off2_inb : ∀ (v6_0 : BitVec 32) (k1_hw2 : k1_chk2 v6_0), ∀ a, (k1_off2 v6_0) a + S16.size a ≤ S320000.size a := fun v6_0 k1_hw2 => k1_hw2.2

@[reducible] def k1_t2_loop : Scf.Loop 32 :=
  let c0_i32_40 : BitVec 32 := 0#32
  let c15_i32_41 : BitVec 32 := 15#32
  let v97 : BitVec 32 := Scalar.addi c0_i32_40 c15_i32_41
  let c1_i32_42 : BitVec 32 := 1#32
  ⟨c0_i32_40, v97, c1_i32_42⟩
def k1_mult3 (arg14 : BitVec 32) (arg15 : BitVec 32) : BitVec 32 :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  v519

def k1_off3 (arg14 : BitVec 32) (arg15 : BitVec 32) : Fin 1 → Nat :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  let v520 : BitVec 32 := v519
  ![v520.toNat]

def k1_chk3 (arg14 : BitVec 32) (arg15 : BitVec 32) : Prop :=
  (16 ∣ (k1_mult3 arg14 arg15).toNat) ∧
  (∀ a, (k1_off3 arg14 arg15) a + S16.size a ≤ S320000.size a)
theorem k1_mult3_dvd : ∀ (arg14 : BitVec 32) (arg15 : BitVec 32) (k1_hw3 : k1_chk3 arg14 arg15), 16 ∣ (k1_mult3 arg14 arg15).toNat := fun arg14 arg15 k1_hw3 => k1_hw3.1
theorem k1_off3_inb : ∀ (arg14 : BitVec 32) (arg15 : BitVec 32) (k1_hw3 : k1_chk3 arg14 arg15), ∀ a, (k1_off3 arg14 arg15) a + S16.size a ≤ S320000.size a := fun arg14 arg15 k1_hw3 => k1_hw3.2

def k1_mult4 (v98_0 : BitVec 32) : BitVec 32 :=
  let c16_i32_44 : BitVec 32 := 16#32
  let v99 : BitVec 32 := Scalar.muli v98_0 c16_i32_44
  v99

def k1_off4 (v98_0 : BitVec 32) : Fin 1 → Nat :=
  let c16_i32_44 : BitVec 32 := 16#32
  let v99 : BitVec 32 := Scalar.muli v98_0 c16_i32_44
  let v100 : BitVec 32 := v99
  ![v100.toNat]

def k1_chk4 (v98_0 : BitVec 32) : Prop :=
  (16 ∣ (k1_mult4 v98_0).toNat) ∧
  (∀ a, (k1_off4 v98_0) a + S16.size a ≤ S320000.size a)
theorem k1_mult4_dvd : ∀ (v98_0 : BitVec 32) (k1_hw4 : k1_chk4 v98_0), 16 ∣ (k1_mult4 v98_0).toNat := fun v98_0 k1_hw4 => k1_hw4.1
theorem k1_off4_inb : ∀ (v98_0 : BitVec 32) (k1_hw4 : k1_chk4 v98_0), ∀ a, (k1_off4 v98_0) a + S16.size a ≤ S320000.size a := fun v98_0 k1_hw4 => k1_hw4.2

@[reducible] def k1_t3_loop : Scf.Loop 32 :=
  let c0_i32_81 : BitVec 32 := 0#32
  let c80_i32_82 : BitVec 32 := 80#32
  let v185 : BitVec 32 := Scalar.addi c0_i32_81 c80_i32_82
  let c1_i32_83 : BitVec 32 := 1#32
  ⟨c0_i32_81, v185, c1_i32_83⟩
def k1_off5 (k1_t3 : Fin k1_t3_loop.trips) : Fin 2 → Nat :=
  let c0_i32_81 : BitVec 32 := 0#32
  let c1_i32_83 : BitVec 32 := 1#32
  let arg13 : BitVec 32 := Scf.iv c0_i32_81 c1_i32_83 k1_t3
  let v517 : Index := Scalar.indexCast arg13
  let c0_263 : Index := 0#32
  ![v517.toNat, 0]
def k1_off6 (k1_t3 : Fin k1_t3_loop.trips) : Fin 2 → Nat :=
  let c0_i32_81 : BitVec 32 := 0#32
  let c1_i32_83 : BitVec 32 := 1#32
  let arg13 : BitVec 32 := Scf.iv c0_i32_81 c1_i32_83 k1_t3
  let v525 : Index := Scalar.indexCast arg13
  let c16 : Index := 16#32
  ![v525.toNat, 16]
def k1_off7 (k1_t3 : Fin k1_t3_loop.trips) : Fin 2 → Nat :=
  let c0_i32_81 : BitVec 32 := 0#32
  let c1_i32_83 : BitVec 32 := 1#32
  let arg13 : BitVec 32 := Scf.iv c0_i32_81 c1_i32_83 k1_t3
  let v533 : Index := Scalar.indexCast arg13
  let c32 : Index := 32#32
  ![v533.toNat, 32]
def k1_off8 (k1_t3 : Fin k1_t3_loop.trips) : Fin 2 → Nat :=
  let c0_i32_81 : BitVec 32 := 0#32
  let c1_i32_83 : BitVec 32 := 1#32
  let arg13 : BitVec 32 := Scf.iv c0_i32_81 c1_i32_83 k1_t3
  let v541 : Index := Scalar.indexCast arg13
  let c48 : Index := 48#32
  ![v541.toNat, 48]
def k1_off9 (k1_t3 : Fin k1_t3_loop.trips) : Fin 2 → Nat :=
  let c0_i32_81 : BitVec 32 := 0#32
  let c1_i32_83 : BitVec 32 := 1#32
  let arg13 : BitVec 32 := Scf.iv c0_i32_81 c1_i32_83 k1_t3
  let v549 : Index := Scalar.indexCast arg13
  let c0_268 : Index := 0#32
  ![v549.toNat, 0]
@[reducible] def k1_t4_loop (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) : Scf.Loop 32 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_89 : BitVec 32 := 1#32
  ⟨v187, v195, c1_i32_89⟩

def k1_mult5 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) : BitVec 32 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  v517
def k1_off10 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) : Fin 2 → Nat :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_270_r4 : BitVec 32 := 0#32
  ![v518.toNat, 0]
def k1_off11 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) : Fin 1 → Nat :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  ![v518.toNat]
@[reducible] def k1_t5_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off12 (k1_t5 : Fin k1_t5_loop.trips) : Fin 1 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v522 : Index := Scalar.indexCast v521
  ![v522.toNat]
def k1_off13 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off14 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond1 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v528 : BitVec 1 := Scalar.cmpi .slt v526 v184
  let v529 : BitVec 1 := Scalar.andi v527 v528
  let v530 : BitVec 32 := Scalar.extui v529
  let c0_i32_272 : BitVec 32 := 0#32
  let v531 : BitVec 1 := Scalar.cmpi .ne v530 c0_i32_272
  v531

def k1_off15 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off16 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off17 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off18 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off19 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off20 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off21 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk6 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off14 i v639) a + S1x16.size a ≤ S80x64.size a) ∧
  (∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off16 i v639) a + S1x16.size a ≤ S80x64.size a) ∧
  (∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off18 i v639) a + S1x16.size a ≤ S80x64.size a) ∧
  (∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off20 i v639) a + S1x16.size a ≤ S80x64.size a) ∧
  (∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off21 i v639) a + S1x16.size a ≤ S80x16.size a)
theorem k1_off14_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw6 : k1_chk6 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off14 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw6 k1_h1 => k1_hw6.1 k1_h1
theorem k1_off16_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw6 : k1_chk6 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off16 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw6 k1_h1 => k1_hw6.2.1 k1_h1
theorem k1_off18_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw6 : k1_chk6 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off18 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw6 k1_h1 => k1_hw6.2.2.1 k1_h1
theorem k1_off20_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw6 : k1_chk6 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off20 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw6 k1_h1 => k1_hw6.2.2.2.1 k1_h1
theorem k1_off21_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw6 : k1_chk6 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h1 : k1_cond1 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off21 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw6 k1_h1 => k1_hw6.2.2.2.2 k1_h1

def k1_off22 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off23 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond2 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v535 : BitVec 1 := Scalar.cmpi .slt v533 v184
  let v536 : BitVec 1 := Scalar.andi v534 v535
  let v537 : BitVec 32 := Scalar.extui v536
  let c0_i32_274 : BitVec 32 := 0#32
  let v538 : BitVec 1 := Scalar.cmpi .ne v537 c0_i32_274
  v538

def k1_off24 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off25 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off26 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off27 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off28 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off29 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off30 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk7 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off23 i v639) a + S1x16.size a ≤ S80x64.size a) ∧
  (∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off25 i v639) a + S1x16.size a ≤ S80x64.size a) ∧
  (∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off27 i v639) a + S1x16.size a ≤ S80x64.size a) ∧
  (∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off29 i v639) a + S1x16.size a ≤ S80x64.size a) ∧
  (∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off30 i v639) a + S1x16.size a ≤ S80x16.size a)
theorem k1_off23_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw7 : k1_chk7 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off23 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw7 k1_h2 => k1_hw7.1 k1_h2
theorem k1_off25_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw7 : k1_chk7 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off25 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw7 k1_h2 => k1_hw7.2.1 k1_h2
theorem k1_off27_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw7 : k1_chk7 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off27 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw7 k1_h2 => k1_hw7.2.2.1 k1_h2
theorem k1_off29_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw7 : k1_chk7 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off29 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw7 k1_h2 => k1_hw7.2.2.2.1 k1_h2
theorem k1_off30_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw7 : k1_chk7 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h2 : k1_cond2 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off30 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw7 k1_h2 => k1_hw7.2.2.2.2 k1_h2

def k1_off31 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off32 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond3 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v542 : BitVec 1 := Scalar.cmpi .slt v540 v184
  let v543 : BitVec 1 := Scalar.andi v541 v542
  let v544 : BitVec 32 := Scalar.extui v543
  let c0_i32_276 : BitVec 32 := 0#32
  let v545 : BitVec 1 := Scalar.cmpi .ne v544 c0_i32_276
  v545

def k1_off33 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off34 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off35 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off36 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off37 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off38 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off39 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk8 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off32 i v639) a + S1x16.size a ≤ S80x64.size a) ∧
  (∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off34 i v639) a + S1x16.size a ≤ S80x64.size a) ∧
  (∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off36 i v639) a + S1x16.size a ≤ S80x64.size a) ∧
  (∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off38 i v639) a + S1x16.size a ≤ S80x64.size a) ∧
  (∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off39 i v639) a + S1x16.size a ≤ S80x16.size a)
theorem k1_off32_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw8 : k1_chk8 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off32 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw8 k1_h3 => k1_hw8.1 k1_h3
theorem k1_off34_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw8 : k1_chk8 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off34 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw8 k1_h3 => k1_hw8.2.1 k1_h3
theorem k1_off36_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw8 : k1_chk8 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off36 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw8 k1_h3 => k1_hw8.2.2.1 k1_h3
theorem k1_off38_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw8 : k1_chk8 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off38 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw8 k1_h3 => k1_hw8.2.2.2.1 k1_h3
theorem k1_off39_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw8 : k1_chk8 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h3 : k1_cond3 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off39 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw8 k1_h3 => k1_hw8.2.2.2.2 k1_h3

def k1_off40 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off41 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond4 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v549 : BitVec 1 := Scalar.cmpi .slt v547 v184
  let v550 : BitVec 1 := Scalar.andi v548 v549
  let v551 : BitVec 32 := Scalar.extui v550
  let c0_i32_277 : BitVec 32 := 0#32
  let v552 : BitVec 1 := Scalar.cmpi .ne v551 c0_i32_277
  v552

def k1_off42 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off43 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off44 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off45 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off46 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off47 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off48 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk9 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off41 i v639) a + S1x16.size a ≤ S80x64.size a) ∧
  (∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off43 i v639) a + S1x16.size a ≤ S80x64.size a) ∧
  (∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off45 i v639) a + S1x16.size a ≤ S80x64.size a) ∧
  (∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off47 i v639) a + S1x16.size a ≤ S80x64.size a) ∧
  (∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off48 i v639) a + S1x16.size a ≤ S80x16.size a)
theorem k1_off41_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw9 : k1_chk9 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off41 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw9 k1_h4 => k1_hw9.1 k1_h4
theorem k1_off43_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw9 : k1_chk9 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off43 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw9 k1_h4 => k1_hw9.2.1 k1_h4
theorem k1_off45_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw9 : k1_chk9 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off45 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw9 k1_h4 => k1_hw9.2.2.1 k1_h4
theorem k1_off47_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw9 : k1_chk9 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off47 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw9 k1_h4 => k1_hw9.2.2.2.1 k1_h4
theorem k1_off48_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw9 : k1_chk9 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h4 : k1_cond4 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off48 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw9 k1_h4 => k1_hw9.2.2.2.2 k1_h4

def k1_off49 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off50 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond5 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v556 : BitVec 1 := Scalar.cmpi .slt v554 v184
  let v557 : BitVec 1 := Scalar.andi v555 v556
  let v558 : BitVec 32 := Scalar.extui v557
  let c0_i32_278 : BitVec 32 := 0#32
  let v559 : BitVec 1 := Scalar.cmpi .ne v558 c0_i32_278
  v559

def k1_off51 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off52 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off53 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off54 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off55 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off56 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off57 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk10 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off50 i v639) a + S1x16.size a ≤ S80x64.size a) ∧
  (∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off52 i v639) a + S1x16.size a ≤ S80x64.size a) ∧
  (∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off54 i v639) a + S1x16.size a ≤ S80x64.size a) ∧
  (∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off56 i v639) a + S1x16.size a ≤ S80x64.size a) ∧
  (∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off57 i v639) a + S1x16.size a ≤ S80x16.size a)
theorem k1_off50_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw10 : k1_chk10 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off50 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw10 k1_h5 => k1_hw10.1 k1_h5
theorem k1_off52_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw10 : k1_chk10 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off52 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw10 k1_h5 => k1_hw10.2.1 k1_h5
theorem k1_off54_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw10 : k1_chk10 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off54 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw10 k1_h5 => k1_hw10.2.2.1 k1_h5
theorem k1_off56_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw10 : k1_chk10 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off56 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw10 k1_h5 => k1_hw10.2.2.2.1 k1_h5
theorem k1_off57_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw10 : k1_chk10 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h5 : k1_cond5 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off57 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw10 k1_h5 => k1_hw10.2.2.2.2 k1_h5

def k1_off58 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off59 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond6 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v563 : BitVec 1 := Scalar.cmpi .slt v561 v184
  let v564 : BitVec 1 := Scalar.andi v562 v563
  let v565 : BitVec 32 := Scalar.extui v564
  let c0_i32_279 : BitVec 32 := 0#32
  let v566 : BitVec 1 := Scalar.cmpi .ne v565 c0_i32_279
  v566

def k1_off60 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off61 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off62 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off63 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off64 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off65 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off66 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk11 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off59 i v639) a + S1x16.size a ≤ S80x64.size a) ∧
  (∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off61 i v639) a + S1x16.size a ≤ S80x64.size a) ∧
  (∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off63 i v639) a + S1x16.size a ≤ S80x64.size a) ∧
  (∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off65 i v639) a + S1x16.size a ≤ S80x64.size a) ∧
  (∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off66 i v639) a + S1x16.size a ≤ S80x16.size a)
theorem k1_off59_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw11 : k1_chk11 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off59 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw11 k1_h6 => k1_hw11.1 k1_h6
theorem k1_off61_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw11 : k1_chk11 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off61 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw11 k1_h6 => k1_hw11.2.1 k1_h6
theorem k1_off63_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw11 : k1_chk11 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off63 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw11 k1_h6 => k1_hw11.2.2.1 k1_h6
theorem k1_off65_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw11 : k1_chk11 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off65 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw11 k1_h6 => k1_hw11.2.2.2.1 k1_h6
theorem k1_off66_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw11 : k1_chk11 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h6 : k1_cond6 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off66 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw11 k1_h6 => k1_hw11.2.2.2.2 k1_h6

def k1_off67 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off68 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond7 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v570 : BitVec 1 := Scalar.cmpi .slt v568 v184
  let v571 : BitVec 1 := Scalar.andi v569 v570
  let v572 : BitVec 32 := Scalar.extui v571
  let c0_i32_280 : BitVec 32 := 0#32
  let v573 : BitVec 1 := Scalar.cmpi .ne v572 c0_i32_280
  v573

def k1_off69 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off70 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off71 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off72 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off73 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off74 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off75 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk12 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off68 i v639) a + S1x16.size a ≤ S80x64.size a) ∧
  (∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off70 i v639) a + S1x16.size a ≤ S80x64.size a) ∧
  (∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off72 i v639) a + S1x16.size a ≤ S80x64.size a) ∧
  (∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off74 i v639) a + S1x16.size a ≤ S80x64.size a) ∧
  (∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off75 i v639) a + S1x16.size a ≤ S80x16.size a)
theorem k1_off68_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw12 : k1_chk12 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off68 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw12 k1_h7 => k1_hw12.1 k1_h7
theorem k1_off70_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw12 : k1_chk12 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off70 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw12 k1_h7 => k1_hw12.2.1 k1_h7
theorem k1_off72_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw12 : k1_chk12 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off72 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw12 k1_h7 => k1_hw12.2.2.1 k1_h7
theorem k1_off74_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw12 : k1_chk12 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off74 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw12 k1_h7 => k1_hw12.2.2.2.1 k1_h7
theorem k1_off75_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw12 : k1_chk12 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h7 : k1_cond7 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off75 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw12 k1_h7 => k1_hw12.2.2.2.2 k1_h7

def k1_off76 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off77 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond8 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v577 : BitVec 1 := Scalar.cmpi .slt v575 v184
  let v578 : BitVec 1 := Scalar.andi v576 v577
  let v579 : BitVec 32 := Scalar.extui v578
  let c0_i32_281 : BitVec 32 := 0#32
  let v580 : BitVec 1 := Scalar.cmpi .ne v579 c0_i32_281
  v580

def k1_off78 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off79 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off80 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off81 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off82 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off83 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off84 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk13 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off77 i v639) a + S1x16.size a ≤ S80x64.size a) ∧
  (∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off79 i v639) a + S1x16.size a ≤ S80x64.size a) ∧
  (∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off81 i v639) a + S1x16.size a ≤ S80x64.size a) ∧
  (∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off83 i v639) a + S1x16.size a ≤ S80x64.size a) ∧
  (∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off84 i v639) a + S1x16.size a ≤ S80x16.size a)
theorem k1_off77_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw13 : k1_chk13 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off77 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw13 k1_h8 => k1_hw13.1 k1_h8
theorem k1_off79_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw13 : k1_chk13 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off79 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw13 k1_h8 => k1_hw13.2.1 k1_h8
theorem k1_off81_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw13 : k1_chk13 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off81 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw13 k1_h8 => k1_hw13.2.2.1 k1_h8
theorem k1_off83_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw13 : k1_chk13 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off83 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw13 k1_h8 => k1_hw13.2.2.2.1 k1_h8
theorem k1_off84_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw13 : k1_chk13 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h8 : k1_cond8 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off84 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw13 k1_h8 => k1_hw13.2.2.2.2 k1_h8

def k1_off85 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off86 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond9 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v584 : BitVec 1 := Scalar.cmpi .slt v582 v184
  let v585 : BitVec 1 := Scalar.andi v583 v584
  let v586 : BitVec 32 := Scalar.extui v585
  let c0_i32_283 : BitVec 32 := 0#32
  let v587 : BitVec 1 := Scalar.cmpi .ne v586 c0_i32_283
  v587

def k1_off87 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off88 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off89 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off90 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off91 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off92 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off93 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk14 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off86 i v639) a + S1x16.size a ≤ S80x64.size a) ∧
  (∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off88 i v639) a + S1x16.size a ≤ S80x64.size a) ∧
  (∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off90 i v639) a + S1x16.size a ≤ S80x64.size a) ∧
  (∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off92 i v639) a + S1x16.size a ≤ S80x64.size a) ∧
  (∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off93 i v639) a + S1x16.size a ≤ S80x16.size a)
theorem k1_off86_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw14 : k1_chk14 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off86 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw14 k1_h9 => k1_hw14.1 k1_h9
theorem k1_off88_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw14 : k1_chk14 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off88 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw14 k1_h9 => k1_hw14.2.1 k1_h9
theorem k1_off90_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw14 : k1_chk14 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off90 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw14 k1_h9 => k1_hw14.2.2.1 k1_h9
theorem k1_off92_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw14 : k1_chk14 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off92 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw14 k1_h9 => k1_hw14.2.2.2.1 k1_h9
theorem k1_off93_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw14 : k1_chk14 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h9 : k1_cond9 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off93 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw14 k1_h9 => k1_hw14.2.2.2.2 k1_h9

def k1_off94 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off95 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond10 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v591 : BitVec 1 := Scalar.cmpi .slt v589 v184
  let v592 : BitVec 1 := Scalar.andi v590 v591
  let v593 : BitVec 32 := Scalar.extui v592
  let c0_i32_284 : BitVec 32 := 0#32
  let v594 : BitVec 1 := Scalar.cmpi .ne v593 c0_i32_284
  v594

def k1_off96 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off97 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off98 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off99 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off100 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off101 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off102 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk15 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off95 i v639) a + S1x16.size a ≤ S80x64.size a) ∧
  (∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off97 i v639) a + S1x16.size a ≤ S80x64.size a) ∧
  (∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off99 i v639) a + S1x16.size a ≤ S80x64.size a) ∧
  (∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off101 i v639) a + S1x16.size a ≤ S80x64.size a) ∧
  (∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off102 i v639) a + S1x16.size a ≤ S80x16.size a)
theorem k1_off95_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw15 : k1_chk15 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off95 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw15 k1_h10 => k1_hw15.1 k1_h10
theorem k1_off97_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw15 : k1_chk15 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off97 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw15 k1_h10 => k1_hw15.2.1 k1_h10
theorem k1_off99_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw15 : k1_chk15 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off99 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw15 k1_h10 => k1_hw15.2.2.1 k1_h10
theorem k1_off101_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw15 : k1_chk15 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off101 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw15 k1_h10 => k1_hw15.2.2.2.1 k1_h10
theorem k1_off102_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw15 : k1_chk15 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h10 : k1_cond10 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off102 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw15 k1_h10 => k1_hw15.2.2.2.2 k1_h10

def k1_off103 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off104 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond11 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v598 : BitVec 1 := Scalar.cmpi .slt v596 v184
  let v599 : BitVec 1 := Scalar.andi v597 v598
  let v600 : BitVec 32 := Scalar.extui v599
  let c0_i32_285 : BitVec 32 := 0#32
  let v601 : BitVec 1 := Scalar.cmpi .ne v600 c0_i32_285
  v601

def k1_off105 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off106 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off107 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off108 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off109 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off110 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off111 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk16 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off104 i v639) a + S1x16.size a ≤ S80x64.size a) ∧
  (∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off106 i v639) a + S1x16.size a ≤ S80x64.size a) ∧
  (∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off108 i v639) a + S1x16.size a ≤ S80x64.size a) ∧
  (∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off110 i v639) a + S1x16.size a ≤ S80x64.size a) ∧
  (∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off111 i v639) a + S1x16.size a ≤ S80x16.size a)
theorem k1_off104_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw16 : k1_chk16 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off104 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw16 k1_h11 => k1_hw16.1 k1_h11
theorem k1_off106_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw16 : k1_chk16 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off106 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw16 k1_h11 => k1_hw16.2.1 k1_h11
theorem k1_off108_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw16 : k1_chk16 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off108 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw16 k1_h11 => k1_hw16.2.2.1 k1_h11
theorem k1_off110_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw16 : k1_chk16 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off110 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw16 k1_h11 => k1_hw16.2.2.2.1 k1_h11
theorem k1_off111_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw16 : k1_chk16 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h11 : k1_cond11 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off111 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw16 k1_h11 => k1_hw16.2.2.2.2 k1_h11

def k1_off112 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off113 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond12 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v605 : BitVec 1 := Scalar.cmpi .slt v603 v184
  let v606 : BitVec 1 := Scalar.andi v604 v605
  let v607 : BitVec 32 := Scalar.extui v606
  let c0_i32_286 : BitVec 32 := 0#32
  let v608 : BitVec 1 := Scalar.cmpi .ne v607 c0_i32_286
  v608

def k1_off114 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off115 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off116 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off117 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off118 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off119 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off120 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk17 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off113 i v639) a + S1x16.size a ≤ S80x64.size a) ∧
  (∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off115 i v639) a + S1x16.size a ≤ S80x64.size a) ∧
  (∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off117 i v639) a + S1x16.size a ≤ S80x64.size a) ∧
  (∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off119 i v639) a + S1x16.size a ≤ S80x64.size a) ∧
  (∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off120 i v639) a + S1x16.size a ≤ S80x16.size a)
theorem k1_off113_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw17 : k1_chk17 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off113 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw17 k1_h12 => k1_hw17.1 k1_h12
theorem k1_off115_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw17 : k1_chk17 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off115 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw17 k1_h12 => k1_hw17.2.1 k1_h12
theorem k1_off117_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw17 : k1_chk17 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off117 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw17 k1_h12 => k1_hw17.2.2.1 k1_h12
theorem k1_off119_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw17 : k1_chk17 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off119 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw17 k1_h12 => k1_hw17.2.2.2.1 k1_h12
theorem k1_off120_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw17 : k1_chk17 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h12 : k1_cond12 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off120 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw17 k1_h12 => k1_hw17.2.2.2.2 k1_h12

def k1_off121 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off122 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond13 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v612 : BitVec 1 := Scalar.cmpi .slt v610 v184
  let v613 : BitVec 1 := Scalar.andi v611 v612
  let v614 : BitVec 32 := Scalar.extui v613
  let c0_i32_287 : BitVec 32 := 0#32
  let v615 : BitVec 1 := Scalar.cmpi .ne v614 c0_i32_287
  v615

def k1_off123 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off124 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off125 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off126 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off127 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off128 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off129 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk18 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off122 i v639) a + S1x16.size a ≤ S80x64.size a) ∧
  (∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off124 i v639) a + S1x16.size a ≤ S80x64.size a) ∧
  (∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off126 i v639) a + S1x16.size a ≤ S80x64.size a) ∧
  (∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off128 i v639) a + S1x16.size a ≤ S80x64.size a) ∧
  (∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off129 i v639) a + S1x16.size a ≤ S80x16.size a)
theorem k1_off122_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw18 : k1_chk18 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off122 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw18 k1_h13 => k1_hw18.1 k1_h13
theorem k1_off124_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw18 : k1_chk18 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off124 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw18 k1_h13 => k1_hw18.2.1 k1_h13
theorem k1_off126_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw18 : k1_chk18 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off126 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw18 k1_h13 => k1_hw18.2.2.1 k1_h13
theorem k1_off128_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw18 : k1_chk18 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off128 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw18 k1_h13 => k1_hw18.2.2.2.1 k1_h13
theorem k1_off129_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw18 : k1_chk18 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h13 : k1_cond13 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off129 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw18 k1_h13 => k1_hw18.2.2.2.2 k1_h13

def k1_off130 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off131 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond14 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v619 : BitVec 1 := Scalar.cmpi .slt v617 v184
  let v620 : BitVec 1 := Scalar.andi v618 v619
  let v621 : BitVec 32 := Scalar.extui v620
  let c0_i32_288 : BitVec 32 := 0#32
  let v622 : BitVec 1 := Scalar.cmpi .ne v621 c0_i32_288
  v622

def k1_off132 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off133 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off134 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off135 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off136 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off137 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off138 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk19 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off131 i v639) a + S1x16.size a ≤ S80x64.size a) ∧
  (∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off133 i v639) a + S1x16.size a ≤ S80x64.size a) ∧
  (∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off135 i v639) a + S1x16.size a ≤ S80x64.size a) ∧
  (∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off137 i v639) a + S1x16.size a ≤ S80x64.size a) ∧
  (∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off138 i v639) a + S1x16.size a ≤ S80x16.size a)
theorem k1_off131_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw19 : k1_chk19 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off131 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw19 k1_h14 => k1_hw19.1 k1_h14
theorem k1_off133_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw19 : k1_chk19 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off133 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw19 k1_h14 => k1_hw19.2.1 k1_h14
theorem k1_off135_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw19 : k1_chk19 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off135 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw19 k1_h14 => k1_hw19.2.2.1 k1_h14
theorem k1_off137_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw19 : k1_chk19 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off137 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw19 k1_h14 => k1_hw19.2.2.2.1 k1_h14
theorem k1_off138_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw19 : k1_chk19 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h14 : k1_cond14 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off138 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw19 k1_h14 => k1_hw19.2.2.2.2 k1_h14

def k1_off139 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off140 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond15 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v626 : BitVec 1 := Scalar.cmpi .slt v624 v184
  let v627 : BitVec 1 := Scalar.andi v625 v626
  let v628 : BitVec 32 := Scalar.extui v627
  let c0_i32_289 : BitVec 32 := 0#32
  let v629 : BitVec 1 := Scalar.cmpi .ne v628 c0_i32_289
  v629

def k1_off141 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off142 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off143 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off144 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off145 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off146 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off147 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk20 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off140 i v639) a + S1x16.size a ≤ S80x64.size a) ∧
  (∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off142 i v639) a + S1x16.size a ≤ S80x64.size a) ∧
  (∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off144 i v639) a + S1x16.size a ≤ S80x64.size a) ∧
  (∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off146 i v639) a + S1x16.size a ≤ S80x64.size a) ∧
  (∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off147 i v639) a + S1x16.size a ≤ S80x16.size a)
theorem k1_off140_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw20 : k1_chk20 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off140 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw20 k1_h15 => k1_hw20.1 k1_h15
theorem k1_off142_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw20 : k1_chk20 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off142 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw20 k1_h15 => k1_hw20.2.1 k1_h15
theorem k1_off144_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw20 : k1_chk20 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off144 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw20 k1_h15 => k1_hw20.2.2.1 k1_h15
theorem k1_off146_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw20 : k1_chk20 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off146 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw20 k1_h15 => k1_hw20.2.2.2.1 k1_h15
theorem k1_off147_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw20 : k1_chk20 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h15 : k1_cond15 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off147 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw20 k1_h15 => k1_hw20.2.2.2.2 k1_h15

def k1_off148 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off149 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond16 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c1_i32_89 : BitVec 32 := 1#32
  let arg13 : BitVec 32 := Scf.iv v187 c1_i32_89 k1_t4
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v92
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let v633 : BitVec 1 := Scalar.cmpi .slt v631 v184
  let v634 : BitVec 1 := Scalar.andi v632 v633
  let v635 : BitVec 32 := Scalar.extui v634
  let c0_i32_291 : BitVec 32 := 0#32
  let v636 : BitVec 1 := Scalar.cmpi .ne v635 c0_i32_291
  v636

def k1_off150 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off151 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off152 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off153 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off154 (k1_t5 : Fin k1_t5_loop.trips) : Fin 2 → Nat :=
  let c0_i32_265 : BitVec 32 := 0#32
  let c1_i32_267 : BitVec 32 := 1#32
  let arg15 : BitVec 32 := Scf.iv c0_i32_265 c1_i32_267 k1_t5
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off155 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off156 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk21 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) : Prop :=
  (∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off149 i v639) a + S1x16.size a ≤ S80x64.size a) ∧
  (∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off151 i v639) a + S1x16.size a ≤ S80x64.size a) ∧
  (∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off153 i v639) a + S1x16.size a ≤ S80x64.size a) ∧
  (∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off155 i v639) a + S1x16.size a ≤ S80x64.size a) ∧
  (∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off156 i v639) a + S1x16.size a ≤ S80x16.size a)
theorem k1_off149_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw21 : k1_chk21 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off149 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw21 k1_h16 => k1_hw21.1 k1_h16
theorem k1_off151_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw21 : k1_chk21 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off151 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw21 k1_h16 => k1_hw21.2.1 k1_h16
theorem k1_off153_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw21 : k1_chk21 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off153 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw21 k1_h16 => k1_hw21.2.2.1 k1_h16
theorem k1_off155_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw21 : k1_chk21 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off155 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw21 k1_h16 => k1_hw21.2.2.2.1 k1_h16
theorem k1_off156_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips) (k1_t5 : Fin k1_t5_loop.trips) (v639 : BitVec 32) (k1_hw21 : k1_chk21 i v6_0 v12 v17 v22 v27 v32 v37 v42 v47 v52 v57 v62 v67 v72 v77 v82 v87 v98_0 v104 v109 v114 v119 v124 v129 v134 v139 v144 v149 v154 v159 v164 v169 v174 v179 k1_t4 k1_t5 v639), ∀ (k1_h16 : k1_cond16 i v6_0 v12 v17 v22 v27 v32 v37 v42 v47 v52 v57 v62 v67 v72 v77 v82 v87 v98_0 v104 v109 v114 v119 v124 v129 v134 v139 v144 v149 v154 v159 v164 v169 v174 v179 k1_t4 k1_t5 = 1#1), ∀ a, (k1_off156 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t4 k1_t5 v639 k1_hw21 k1_h16 => k1_hw21.2.2.2.2 k1_h16

@[reducible] def k1_t6_loop (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) : Scf.Loop 32 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let v192 : BitVec 32 := Scalar.addi v187 v191
  let c1_i32_90 : BitVec 32 := 1#32
  ⟨v195, v192, c1_i32_90⟩
def k1_mult6 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) : BitVec 32 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  v517
def k1_off157 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) : Fin 2 → Nat :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_270_r6 : BitVec 32 := 0#32
  ![v518.toNat, 0]
def k1_off158 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) : Fin 1 → Nat :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  ![v518.toNat]

def k1_chk5 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) : Prop :=
  ((k1_t4_loop i v6_0 v12 v17 v22 v27 v32 v37 v42 v47 v52 v57 v62 v67 v72 v77 v82 v87 v98_0 v104 v109 v114 v119 v124 v129 v134 v139 v144 v149 v154 v159 v164 v169 v174 v179).OK) ∧
  (∀ k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips, 256 ∣ (k1_mult5 i v6_0 v12 v17 v22 v27 v32 v37 v42 v47 v52 v57 v62 v67 v72 v77 v82 v87 v98_0 v104 v109 v114 v119 v124 v129 v134 v139 v144 v149 v154 v159 v164 v169 v174 v179 k1_t4).toNat) ∧
  (∀ k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips, ∀ a, (k1_off10 i v6_0 v12 v17 v22 v27 v32 v37 v42 v47 v52 v57 v62 v67 v72 v77 v82 v87 v98_0 v104 v109 v114 v119 v124 v129 v134 v139 v144 v149 v154 v159 v164 v169 v174 v179 k1_t4) a + S256x64.size a ≤ S320000x64.size a) ∧
  (∀ k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips, ∀ a, (k1_off11 i v6_0 v12 v17 v22 v27 v32 v37 v42 v47 v52 v57 v62 v67 v72 v77 v82 v87 v98_0 v104 v109 v114 v119 v124 v129 v134 v139 v144 v149 v154 v159 v164 v169 v174 v179 k1_t4) a + S256.size a ≤ S320000.size a) ∧
  ((k1_t6_loop i v6_0 v12 v17 v22 v27 v32 v37 v42 v47 v52 v57 v62 v67 v72 v77 v82 v87 v98_0 v104 v109 v114 v119 v124 v129 v134 v139 v144 v149 v154 v159 v164 v169 v174 v179).OK) ∧
  (∀ k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips, 256 ∣ (k1_mult6 i v6_0 v12 v17 v22 v27 v32 v37 v42 v47 v52 v57 v62 v67 v72 v77 v82 v87 v98_0 v104 v109 v114 v119 v124 v129 v134 v139 v144 v149 v154 v159 v164 v169 v174 v179 k1_t6).toNat) ∧
  (∀ k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips, ∀ a, (k1_off157 i v6_0 v12 v17 v22 v27 v32 v37 v42 v47 v52 v57 v62 v67 v72 v77 v82 v87 v98_0 v104 v109 v114 v119 v124 v129 v134 v139 v144 v149 v154 v159 v164 v169 v174 v179 k1_t6) a + S256x64.size a ≤ S320000x64.size a) ∧
  (∀ k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips, ∀ a, (k1_off158 i v6_0 v12 v17 v22 v27 v32 v37 v42 v47 v52 v57 v62 v67 v72 v77 v82 v87 v98_0 v104 v109 v114 v119 v124 v129 v134 v139 v144 v149 v154 v159 v164 v169 v174 v179 k1_t6) a + S256.size a ≤ S320000.size a)
theorem k1_t4_ok : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179), (k1_t4_loop i v6_0 v12 v17 v22 v27 v32 v37 v42 v47 v52 v57 v62 v67 v72 v77 v82 v87 v98_0 v104 v109 v114 v119 v124 v129 v134 v139 v144 v149 v154 v159 v164 v169 v174 v179).OK := fun i v6_0 v12 v17 v22 v27 v32 v37 v42 v47 v52 v57 v62 v67 v72 v77 v82 v87 v98_0 v104 v109 v114 v119 v124 v129 v134 v139 v144 v149 v154 v159 v164 v169 v174 v179 k1_hw5 => k1_hw5.1
theorem k1_mult5_dvd : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips), 256 ∣ (k1_mult5 i v6_0 v12 v17 v22 v27 v32 v37 v42 v47 v52 v57 v62 v67 v72 v77 v82 v87 v98_0 v104 v109 v114 v119 v124 v129 v134 v139 v144 v149 v154 v159 v164 v169 v174 v179 k1_t4).toNat := fun i v6_0 v12 v17 v22 v27 v32 v37 v42 v47 v52 v57 v62 v67 v72 v77 v82 v87 v98_0 v104 v109 v114 v119 v124 v129 v134 v139 v144 v149 v154 v159 v164 v169 v174 v179 k1_hw5 k1_t4 => k1_hw5.2.1 k1_t4
theorem k1_off10_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips), ∀ a, (k1_off10 i v6_0 v12 v17 v22 v27 v32 v37 v42 v47 v52 v57 v62 v67 v72 v77 v82 v87 v98_0 v104 v109 v114 v119 v124 v129 v134 v139 v144 v149 v154 v159 v164 v169 v174 v179 k1_t4) a + S256x64.size a ≤ S320000x64.size a := fun i v6_0 v12 v17 v22 v27 v32 v37 v42 v47 v52 v57 v62 v67 v72 v77 v82 v87 v98_0 v104 v109 v114 v119 v124 v129 v134 v139 v144 v149 v154 v159 v164 v169 v174 v179 k1_hw5 k1_t4 => k1_hw5.2.2.1 k1_t4
theorem k1_off11_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179) (k1_t4 : Fin (k1_t4_loop i v6_0 v12 v17 v22 v27 v32 v37 v42 v47 v52 v57 v62 v67 v72 v77 v82 v87 v98_0 v104 v109 v114 v119 v124 v129 v134 v139 v144 v149 v154 v159 v164 v169 v174 v179).trips), ∀ a, (k1_off11 i v6_0 v12 v17 v22 v27 v32 v37 v42 v47 v52 v57 v62 v67 v72 v77 v82 v87 v98_0 v104 v109 v114 v119 v124 v129 v134 v139 v144 v149 v154 v159 v164 v169 v174 v179 k1_t4) a + S256.size a ≤ S320000.size a := fun i v6_0 v12 v17 v22 v27 v32 v37 v42 v47 v52 v57 v62 v67 v72 v77 v82 v87 v98_0 v104 v109 v114 v119 v124 v129 v134 v139 v144 v149 v154 v159 v164 v169 v174 v179 k1_hw5 k1_t4 => k1_hw5.2.2.2.1 k1_t4
theorem k1_t6_ok : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179), (k1_t6_loop i v6_0 v12 v17 v22 v27 v32 v37 v42 v47 v52 v57 v62 v67 v72 v77 v82 v87 v98_0 v104 v109 v114 v119 v124 v129 v134 v139 v144 v149 v154 v159 v164 v169 v174 v179).OK := fun i v6_0 v12 v17 v22 v27 v32 v37 v42 v47 v52 v57 v62 v67 v72 v77 v82 v87 v98_0 v104 v109 v114 v119 v124 v129 v134 v139 v144 v149 v154 v159 v164 v169 v174 v179 k1_hw5 => k1_hw5.2.2.2.2.1
theorem k1_mult6_dvd : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips), 256 ∣ (k1_mult6 i v6_0 v12 v17 v22 v27 v32 v37 v42 v47 v52 v57 v62 v67 v72 v77 v82 v87 v98_0 v104 v109 v114 v119 v124 v129 v134 v139 v144 v149 v154 v159 v164 v169 v174 v179 k1_t6).toNat := fun i v6_0 v12 v17 v22 v27 v32 v37 v42 v47 v52 v57 v62 v67 v72 v77 v82 v87 v98_0 v104 v109 v114 v119 v124 v129 v134 v139 v144 v149 v154 v159 v164 v169 v174 v179 k1_hw5 k1_t6 => k1_hw5.2.2.2.2.2.1 k1_t6
theorem k1_off157_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips), ∀ a, (k1_off157 i v6_0 v12 v17 v22 v27 v32 v37 v42 v47 v52 v57 v62 v67 v72 v77 v82 v87 v98_0 v104 v109 v114 v119 v124 v129 v134 v139 v144 v149 v154 v159 v164 v169 v174 v179 k1_t6) a + S256x64.size a ≤ S320000x64.size a := fun i v6_0 v12 v17 v22 v27 v32 v37 v42 v47 v52 v57 v62 v67 v72 v77 v82 v87 v98_0 v104 v109 v114 v119 v124 v129 v134 v139 v144 v149 v154 v159 v164 v169 v174 v179 k1_hw5 k1_t6 => k1_hw5.2.2.2.2.2.2.1 k1_t6
theorem k1_off158_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_hw5 : k1_chk5 i v6_0 v12 v17 v22 v27 v32 v37 v42 v47 v52 v57 v62 v67 v72 v77 v82 v87 v98_0 v104 v109 v114 v119 v124 v129 v134 v139 v144 v149 v154 v159 v164 v169 v174 v179) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips), ∀ a, (k1_off158 i v6_0 v12 v17 v22 v27 v32 v37 v42 v47 v52 v57 v62 v67 v72 v77 v82 v87 v98_0 v104 v109 v114 v119 v124 v129 v134 v139 v144 v149 v154 v159 v164 v169 v174 v179 k1_t6) a + S256.size a ≤ S320000.size a := fun i v6_0 v12 v17 v22 v27 v32 v37 v42 v47 v52 v57 v62 v67 v72 v77 v82 v87 v98_0 v104 v109 v114 v119 v124 v129 v134 v139 v144 v149 v154 v159 v164 v169 v174 v179 k1_hw5 k1_t6 => k1_hw5.2.2.2.2.2.2.2 k1_t6

@[reducible] def k1_t7_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off159 (k1_t7 : Fin k1_t7_loop.trips) : Fin 1 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v522 : Index := Scalar.indexCast v521
  ![v522.toNat]
def k1_off160 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off161 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond17 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v92
  let v528 : BitVec 1 := Scalar.cmpi .slt v526 v184
  let v529 : BitVec 1 := Scalar.andi v527 v528
  let v530 : BitVec 32 := Scalar.extui v529
  let c0_i32_272 : BitVec 32 := 0#32
  let v531 : BitVec 1 := Scalar.cmpi .ne v530 c0_i32_272
  v531

def k1_off162 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off163 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off164 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off165 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off166 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off167 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off168 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk22 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off161 i v639) a + S1x16.size a ≤ S80x64.size a) ∧
  (∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off163 i v639) a + S1x16.size a ≤ S80x64.size a) ∧
  (∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off165 i v639) a + S1x16.size a ≤ S80x64.size a) ∧
  (∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off167 i v639) a + S1x16.size a ≤ S80x64.size a) ∧
  (∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off168 i v639) a + S1x16.size a ≤ S80x16.size a)
theorem k1_off161_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw22 : k1_chk22 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off161 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw22 k1_h17 => k1_hw22.1 k1_h17
theorem k1_off163_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw22 : k1_chk22 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off163 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw22 k1_h17 => k1_hw22.2.1 k1_h17
theorem k1_off165_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw22 : k1_chk22 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off165 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw22 k1_h17 => k1_hw22.2.2.1 k1_h17
theorem k1_off167_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw22 : k1_chk22 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off167 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw22 k1_h17 => k1_hw22.2.2.2.1 k1_h17
theorem k1_off168_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw22 : k1_chk22 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h17 : k1_cond17 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off168 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw22 k1_h17 => k1_hw22.2.2.2.2 k1_h17

def k1_off169 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off170 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond18 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v92
  let v535 : BitVec 1 := Scalar.cmpi .slt v533 v184
  let v536 : BitVec 1 := Scalar.andi v534 v535
  let v537 : BitVec 32 := Scalar.extui v536
  let c0_i32_274 : BitVec 32 := 0#32
  let v538 : BitVec 1 := Scalar.cmpi .ne v537 c0_i32_274
  v538

def k1_off171 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off172 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off173 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off174 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off175 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off176 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off177 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk23 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off170 i v639) a + S1x16.size a ≤ S80x64.size a) ∧
  (∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off172 i v639) a + S1x16.size a ≤ S80x64.size a) ∧
  (∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off174 i v639) a + S1x16.size a ≤ S80x64.size a) ∧
  (∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off176 i v639) a + S1x16.size a ≤ S80x64.size a) ∧
  (∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off177 i v639) a + S1x16.size a ≤ S80x16.size a)
theorem k1_off170_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw23 : k1_chk23 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off170 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw23 k1_h18 => k1_hw23.1 k1_h18
theorem k1_off172_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw23 : k1_chk23 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off172 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw23 k1_h18 => k1_hw23.2.1 k1_h18
theorem k1_off174_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw23 : k1_chk23 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off174 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw23 k1_h18 => k1_hw23.2.2.1 k1_h18
theorem k1_off176_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw23 : k1_chk23 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off176 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw23 k1_h18 => k1_hw23.2.2.2.1 k1_h18
theorem k1_off177_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw23 : k1_chk23 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h18 : k1_cond18 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off177 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw23 k1_h18 => k1_hw23.2.2.2.2 k1_h18

def k1_off178 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off179 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond19 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v92
  let v542 : BitVec 1 := Scalar.cmpi .slt v540 v184
  let v543 : BitVec 1 := Scalar.andi v541 v542
  let v544 : BitVec 32 := Scalar.extui v543
  let c0_i32_276 : BitVec 32 := 0#32
  let v545 : BitVec 1 := Scalar.cmpi .ne v544 c0_i32_276
  v545

def k1_off180 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off181 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off182 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off183 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off184 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off185 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off186 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk24 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off179 i v639) a + S1x16.size a ≤ S80x64.size a) ∧
  (∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off181 i v639) a + S1x16.size a ≤ S80x64.size a) ∧
  (∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off183 i v639) a + S1x16.size a ≤ S80x64.size a) ∧
  (∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off185 i v639) a + S1x16.size a ≤ S80x64.size a) ∧
  (∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off186 i v639) a + S1x16.size a ≤ S80x16.size a)
theorem k1_off179_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw24 : k1_chk24 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off179 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw24 k1_h19 => k1_hw24.1 k1_h19
theorem k1_off181_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw24 : k1_chk24 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off181 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw24 k1_h19 => k1_hw24.2.1 k1_h19
theorem k1_off183_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw24 : k1_chk24 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off183 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw24 k1_h19 => k1_hw24.2.2.1 k1_h19
theorem k1_off185_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw24 : k1_chk24 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off185 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw24 k1_h19 => k1_hw24.2.2.2.1 k1_h19
theorem k1_off186_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw24 : k1_chk24 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h19 : k1_cond19 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off186 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw24 k1_h19 => k1_hw24.2.2.2.2 k1_h19

def k1_off187 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off188 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond20 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v92
  let v549 : BitVec 1 := Scalar.cmpi .slt v547 v184
  let v550 : BitVec 1 := Scalar.andi v548 v549
  let v551 : BitVec 32 := Scalar.extui v550
  let c0_i32_277 : BitVec 32 := 0#32
  let v552 : BitVec 1 := Scalar.cmpi .ne v551 c0_i32_277
  v552

def k1_off189 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off190 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off191 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off192 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off193 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off194 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off195 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk25 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off188 i v639) a + S1x16.size a ≤ S80x64.size a) ∧
  (∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off190 i v639) a + S1x16.size a ≤ S80x64.size a) ∧
  (∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off192 i v639) a + S1x16.size a ≤ S80x64.size a) ∧
  (∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off194 i v639) a + S1x16.size a ≤ S80x64.size a) ∧
  (∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off195 i v639) a + S1x16.size a ≤ S80x16.size a)
theorem k1_off188_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw25 : k1_chk25 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off188 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw25 k1_h20 => k1_hw25.1 k1_h20
theorem k1_off190_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw25 : k1_chk25 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off190 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw25 k1_h20 => k1_hw25.2.1 k1_h20
theorem k1_off192_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw25 : k1_chk25 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off192 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw25 k1_h20 => k1_hw25.2.2.1 k1_h20
theorem k1_off194_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw25 : k1_chk25 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off194 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw25 k1_h20 => k1_hw25.2.2.2.1 k1_h20
theorem k1_off195_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw25 : k1_chk25 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h20 : k1_cond20 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off195 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw25 k1_h20 => k1_hw25.2.2.2.2 k1_h20

def k1_off196 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off197 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond21 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v92
  let v556 : BitVec 1 := Scalar.cmpi .slt v554 v184
  let v557 : BitVec 1 := Scalar.andi v555 v556
  let v558 : BitVec 32 := Scalar.extui v557
  let c0_i32_278 : BitVec 32 := 0#32
  let v559 : BitVec 1 := Scalar.cmpi .ne v558 c0_i32_278
  v559

def k1_off198 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off199 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off200 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off201 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off202 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off203 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off204 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk26 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off197 i v639) a + S1x16.size a ≤ S80x64.size a) ∧
  (∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off199 i v639) a + S1x16.size a ≤ S80x64.size a) ∧
  (∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off201 i v639) a + S1x16.size a ≤ S80x64.size a) ∧
  (∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off203 i v639) a + S1x16.size a ≤ S80x64.size a) ∧
  (∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off204 i v639) a + S1x16.size a ≤ S80x16.size a)
theorem k1_off197_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw26 : k1_chk26 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off197 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw26 k1_h21 => k1_hw26.1 k1_h21
theorem k1_off199_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw26 : k1_chk26 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off199 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw26 k1_h21 => k1_hw26.2.1 k1_h21
theorem k1_off201_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw26 : k1_chk26 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off201 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw26 k1_h21 => k1_hw26.2.2.1 k1_h21
theorem k1_off203_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw26 : k1_chk26 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off203 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw26 k1_h21 => k1_hw26.2.2.2.1 k1_h21
theorem k1_off204_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw26 : k1_chk26 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h21 : k1_cond21 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off204 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw26 k1_h21 => k1_hw26.2.2.2.2 k1_h21

def k1_off205 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off206 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond22 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v92
  let v563 : BitVec 1 := Scalar.cmpi .slt v561 v184
  let v564 : BitVec 1 := Scalar.andi v562 v563
  let v565 : BitVec 32 := Scalar.extui v564
  let c0_i32_279 : BitVec 32 := 0#32
  let v566 : BitVec 1 := Scalar.cmpi .ne v565 c0_i32_279
  v566

def k1_off207 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off208 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off209 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off210 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off211 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off212 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off213 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk27 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off206 i v639) a + S1x16.size a ≤ S80x64.size a) ∧
  (∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off208 i v639) a + S1x16.size a ≤ S80x64.size a) ∧
  (∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off210 i v639) a + S1x16.size a ≤ S80x64.size a) ∧
  (∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off212 i v639) a + S1x16.size a ≤ S80x64.size a) ∧
  (∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off213 i v639) a + S1x16.size a ≤ S80x16.size a)
theorem k1_off206_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw27 : k1_chk27 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off206 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw27 k1_h22 => k1_hw27.1 k1_h22
theorem k1_off208_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw27 : k1_chk27 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off208 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw27 k1_h22 => k1_hw27.2.1 k1_h22
theorem k1_off210_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw27 : k1_chk27 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off210 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw27 k1_h22 => k1_hw27.2.2.1 k1_h22
theorem k1_off212_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw27 : k1_chk27 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off212 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw27 k1_h22 => k1_hw27.2.2.2.1 k1_h22
theorem k1_off213_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw27 : k1_chk27 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h22 : k1_cond22 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off213 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw27 k1_h22 => k1_hw27.2.2.2.2 k1_h22

def k1_off214 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off215 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond23 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v92
  let v570 : BitVec 1 := Scalar.cmpi .slt v568 v184
  let v571 : BitVec 1 := Scalar.andi v569 v570
  let v572 : BitVec 32 := Scalar.extui v571
  let c0_i32_280 : BitVec 32 := 0#32
  let v573 : BitVec 1 := Scalar.cmpi .ne v572 c0_i32_280
  v573

def k1_off216 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off217 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off218 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off219 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off220 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off221 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off222 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk28 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off215 i v639) a + S1x16.size a ≤ S80x64.size a) ∧
  (∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off217 i v639) a + S1x16.size a ≤ S80x64.size a) ∧
  (∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off219 i v639) a + S1x16.size a ≤ S80x64.size a) ∧
  (∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off221 i v639) a + S1x16.size a ≤ S80x64.size a) ∧
  (∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off222 i v639) a + S1x16.size a ≤ S80x16.size a)
theorem k1_off215_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw28 : k1_chk28 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off215 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw28 k1_h23 => k1_hw28.1 k1_h23
theorem k1_off217_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw28 : k1_chk28 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off217 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw28 k1_h23 => k1_hw28.2.1 k1_h23
theorem k1_off219_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw28 : k1_chk28 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off219 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw28 k1_h23 => k1_hw28.2.2.1 k1_h23
theorem k1_off221_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw28 : k1_chk28 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off221 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw28 k1_h23 => k1_hw28.2.2.2.1 k1_h23
theorem k1_off222_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw28 : k1_chk28 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h23 : k1_cond23 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off222 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw28 k1_h23 => k1_hw28.2.2.2.2 k1_h23

def k1_off223 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off224 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond24 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v92
  let v577 : BitVec 1 := Scalar.cmpi .slt v575 v184
  let v578 : BitVec 1 := Scalar.andi v576 v577
  let v579 : BitVec 32 := Scalar.extui v578
  let c0_i32_281 : BitVec 32 := 0#32
  let v580 : BitVec 1 := Scalar.cmpi .ne v579 c0_i32_281
  v580

def k1_off225 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off226 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off227 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off228 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off229 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off230 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off231 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk29 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off224 i v639) a + S1x16.size a ≤ S80x64.size a) ∧
  (∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off226 i v639) a + S1x16.size a ≤ S80x64.size a) ∧
  (∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off228 i v639) a + S1x16.size a ≤ S80x64.size a) ∧
  (∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off230 i v639) a + S1x16.size a ≤ S80x64.size a) ∧
  (∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off231 i v639) a + S1x16.size a ≤ S80x16.size a)
theorem k1_off224_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw29 : k1_chk29 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off224 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw29 k1_h24 => k1_hw29.1 k1_h24
theorem k1_off226_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw29 : k1_chk29 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off226 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw29 k1_h24 => k1_hw29.2.1 k1_h24
theorem k1_off228_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw29 : k1_chk29 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off228 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw29 k1_h24 => k1_hw29.2.2.1 k1_h24
theorem k1_off230_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw29 : k1_chk29 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off230 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw29 k1_h24 => k1_hw29.2.2.2.1 k1_h24
theorem k1_off231_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw29 : k1_chk29 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h24 : k1_cond24 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off231 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw29 k1_h24 => k1_hw29.2.2.2.2 k1_h24

def k1_off232 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off233 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond25 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v92
  let v584 : BitVec 1 := Scalar.cmpi .slt v582 v184
  let v585 : BitVec 1 := Scalar.andi v583 v584
  let v586 : BitVec 32 := Scalar.extui v585
  let c0_i32_283 : BitVec 32 := 0#32
  let v587 : BitVec 1 := Scalar.cmpi .ne v586 c0_i32_283
  v587

def k1_off234 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off235 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off236 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off237 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off238 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off239 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off240 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk30 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off233 i v639) a + S1x16.size a ≤ S80x64.size a) ∧
  (∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off235 i v639) a + S1x16.size a ≤ S80x64.size a) ∧
  (∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off237 i v639) a + S1x16.size a ≤ S80x64.size a) ∧
  (∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off239 i v639) a + S1x16.size a ≤ S80x64.size a) ∧
  (∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off240 i v639) a + S1x16.size a ≤ S80x16.size a)
theorem k1_off233_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw30 : k1_chk30 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off233 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw30 k1_h25 => k1_hw30.1 k1_h25
theorem k1_off235_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw30 : k1_chk30 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off235 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw30 k1_h25 => k1_hw30.2.1 k1_h25
theorem k1_off237_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw30 : k1_chk30 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off237 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw30 k1_h25 => k1_hw30.2.2.1 k1_h25
theorem k1_off239_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw30 : k1_chk30 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off239 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw30 k1_h25 => k1_hw30.2.2.2.1 k1_h25
theorem k1_off240_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw30 : k1_chk30 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h25 : k1_cond25 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off240 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw30 k1_h25 => k1_hw30.2.2.2.2 k1_h25

def k1_off241 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off242 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond26 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v92
  let v591 : BitVec 1 := Scalar.cmpi .slt v589 v184
  let v592 : BitVec 1 := Scalar.andi v590 v591
  let v593 : BitVec 32 := Scalar.extui v592
  let c0_i32_284 : BitVec 32 := 0#32
  let v594 : BitVec 1 := Scalar.cmpi .ne v593 c0_i32_284
  v594

def k1_off243 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off244 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off245 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off246 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off247 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off248 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off249 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk31 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off242 i v639) a + S1x16.size a ≤ S80x64.size a) ∧
  (∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off244 i v639) a + S1x16.size a ≤ S80x64.size a) ∧
  (∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off246 i v639) a + S1x16.size a ≤ S80x64.size a) ∧
  (∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off248 i v639) a + S1x16.size a ≤ S80x64.size a) ∧
  (∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off249 i v639) a + S1x16.size a ≤ S80x16.size a)
theorem k1_off242_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw31 : k1_chk31 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off242 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw31 k1_h26 => k1_hw31.1 k1_h26
theorem k1_off244_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw31 : k1_chk31 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off244 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw31 k1_h26 => k1_hw31.2.1 k1_h26
theorem k1_off246_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw31 : k1_chk31 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off246 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw31 k1_h26 => k1_hw31.2.2.1 k1_h26
theorem k1_off248_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw31 : k1_chk31 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off248 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw31 k1_h26 => k1_hw31.2.2.2.1 k1_h26
theorem k1_off249_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw31 : k1_chk31 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h26 : k1_cond26 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off249 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw31 k1_h26 => k1_hw31.2.2.2.2 k1_h26

def k1_off250 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off251 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond27 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v92
  let v598 : BitVec 1 := Scalar.cmpi .slt v596 v184
  let v599 : BitVec 1 := Scalar.andi v597 v598
  let v600 : BitVec 32 := Scalar.extui v599
  let c0_i32_285 : BitVec 32 := 0#32
  let v601 : BitVec 1 := Scalar.cmpi .ne v600 c0_i32_285
  v601

def k1_off252 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off253 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off254 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off255 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off256 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off257 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off258 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk32 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off251 i v639) a + S1x16.size a ≤ S80x64.size a) ∧
  (∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off253 i v639) a + S1x16.size a ≤ S80x64.size a) ∧
  (∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off255 i v639) a + S1x16.size a ≤ S80x64.size a) ∧
  (∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off257 i v639) a + S1x16.size a ≤ S80x64.size a) ∧
  (∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off258 i v639) a + S1x16.size a ≤ S80x16.size a)
theorem k1_off251_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw32 : k1_chk32 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off251 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw32 k1_h27 => k1_hw32.1 k1_h27
theorem k1_off253_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw32 : k1_chk32 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off253 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw32 k1_h27 => k1_hw32.2.1 k1_h27
theorem k1_off255_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw32 : k1_chk32 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off255 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw32 k1_h27 => k1_hw32.2.2.1 k1_h27
theorem k1_off257_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw32 : k1_chk32 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off257 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw32 k1_h27 => k1_hw32.2.2.2.1 k1_h27
theorem k1_off258_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw32 : k1_chk32 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h27 : k1_cond27 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off258 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw32 k1_h27 => k1_hw32.2.2.2.2 k1_h27

def k1_off259 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off260 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond28 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v92
  let v605 : BitVec 1 := Scalar.cmpi .slt v603 v184
  let v606 : BitVec 1 := Scalar.andi v604 v605
  let v607 : BitVec 32 := Scalar.extui v606
  let c0_i32_286 : BitVec 32 := 0#32
  let v608 : BitVec 1 := Scalar.cmpi .ne v607 c0_i32_286
  v608

def k1_off261 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off262 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off263 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off264 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off265 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off266 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off267 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk33 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off260 i v639) a + S1x16.size a ≤ S80x64.size a) ∧
  (∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off262 i v639) a + S1x16.size a ≤ S80x64.size a) ∧
  (∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off264 i v639) a + S1x16.size a ≤ S80x64.size a) ∧
  (∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off266 i v639) a + S1x16.size a ≤ S80x64.size a) ∧
  (∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off267 i v639) a + S1x16.size a ≤ S80x16.size a)
theorem k1_off260_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw33 : k1_chk33 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off260 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw33 k1_h28 => k1_hw33.1 k1_h28
theorem k1_off262_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw33 : k1_chk33 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off262 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw33 k1_h28 => k1_hw33.2.1 k1_h28
theorem k1_off264_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw33 : k1_chk33 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off264 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw33 k1_h28 => k1_hw33.2.2.1 k1_h28
theorem k1_off266_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw33 : k1_chk33 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off266 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw33 k1_h28 => k1_hw33.2.2.2.1 k1_h28
theorem k1_off267_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw33 : k1_chk33 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h28 : k1_cond28 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off267 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw33 k1_h28 => k1_hw33.2.2.2.2 k1_h28

def k1_off268 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off269 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond29 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v92
  let v612 : BitVec 1 := Scalar.cmpi .slt v610 v184
  let v613 : BitVec 1 := Scalar.andi v611 v612
  let v614 : BitVec 32 := Scalar.extui v613
  let c0_i32_287 : BitVec 32 := 0#32
  let v615 : BitVec 1 := Scalar.cmpi .ne v614 c0_i32_287
  v615

def k1_off270 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off271 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off272 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off273 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off274 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off275 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off276 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk34 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off269 i v639) a + S1x16.size a ≤ S80x64.size a) ∧
  (∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off271 i v639) a + S1x16.size a ≤ S80x64.size a) ∧
  (∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off273 i v639) a + S1x16.size a ≤ S80x64.size a) ∧
  (∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off275 i v639) a + S1x16.size a ≤ S80x64.size a) ∧
  (∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off276 i v639) a + S1x16.size a ≤ S80x16.size a)
theorem k1_off269_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw34 : k1_chk34 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off269 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw34 k1_h29 => k1_hw34.1 k1_h29
theorem k1_off271_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw34 : k1_chk34 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off271 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw34 k1_h29 => k1_hw34.2.1 k1_h29
theorem k1_off273_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw34 : k1_chk34 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off273 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw34 k1_h29 => k1_hw34.2.2.1 k1_h29
theorem k1_off275_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw34 : k1_chk34 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off275 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw34 k1_h29 => k1_hw34.2.2.2.1 k1_h29
theorem k1_off276_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw34 : k1_chk34 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h29 : k1_cond29 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off276 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw34 k1_h29 => k1_hw34.2.2.2.2 k1_h29

def k1_off277 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off278 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond30 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v92
  let v619 : BitVec 1 := Scalar.cmpi .slt v617 v184
  let v620 : BitVec 1 := Scalar.andi v618 v619
  let v621 : BitVec 32 := Scalar.extui v620
  let c0_i32_288 : BitVec 32 := 0#32
  let v622 : BitVec 1 := Scalar.cmpi .ne v621 c0_i32_288
  v622

def k1_off279 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off280 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off281 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off282 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off283 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off284 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off285 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk35 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off278 i v639) a + S1x16.size a ≤ S80x64.size a) ∧
  (∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off280 i v639) a + S1x16.size a ≤ S80x64.size a) ∧
  (∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off282 i v639) a + S1x16.size a ≤ S80x64.size a) ∧
  (∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off284 i v639) a + S1x16.size a ≤ S80x64.size a) ∧
  (∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off285 i v639) a + S1x16.size a ≤ S80x16.size a)
theorem k1_off278_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw35 : k1_chk35 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off278 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw35 k1_h30 => k1_hw35.1 k1_h30
theorem k1_off280_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw35 : k1_chk35 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off280 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw35 k1_h30 => k1_hw35.2.1 k1_h30
theorem k1_off282_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw35 : k1_chk35 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off282 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw35 k1_h30 => k1_hw35.2.2.1 k1_h30
theorem k1_off284_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw35 : k1_chk35 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off284 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw35 k1_h30 => k1_hw35.2.2.2.1 k1_h30
theorem k1_off285_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw35 : k1_chk35 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h30 : k1_cond30 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off285 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw35 k1_h30 => k1_hw35.2.2.2.2 k1_h30

def k1_off286 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off287 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond31 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v92
  let v626 : BitVec 1 := Scalar.cmpi .slt v624 v184
  let v627 : BitVec 1 := Scalar.andi v625 v626
  let v628 : BitVec 32 := Scalar.extui v627
  let c0_i32_289 : BitVec 32 := 0#32
  let v629 : BitVec 1 := Scalar.cmpi .ne v628 c0_i32_289
  v629

def k1_off288 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off289 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off290 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off291 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off292 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off293 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off294 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk36 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off287 i v639) a + S1x16.size a ≤ S80x64.size a) ∧
  (∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off289 i v639) a + S1x16.size a ≤ S80x64.size a) ∧
  (∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off291 i v639) a + S1x16.size a ≤ S80x64.size a) ∧
  (∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off293 i v639) a + S1x16.size a ≤ S80x64.size a) ∧
  (∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off294 i v639) a + S1x16.size a ≤ S80x16.size a)
theorem k1_off287_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw36 : k1_chk36 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off287 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw36 k1_h31 => k1_hw36.1 k1_h31
theorem k1_off289_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw36 : k1_chk36 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off289 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw36 k1_h31 => k1_hw36.2.1 k1_h31
theorem k1_off291_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw36 : k1_chk36 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off291 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw36 k1_h31 => k1_hw36.2.2.1 k1_h31
theorem k1_off293_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw36 : k1_chk36 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off293 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw36 k1_h31 => k1_hw36.2.2.2.1 k1_h31
theorem k1_off294_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw36 : k1_chk36 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h31 : k1_cond31 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off294 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw36 k1_h31 => k1_hw36.2.2.2.2 k1_h31

def k1_off295 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off296 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v644 : Index := Scalar.indexCast v640
  let c0_295 : Index := 0#32
  ![v644.toNat, 0]
def k1_cond32 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) : BitVec 1 :=
  let c16_i32_36 : BitVec 32 := 16#32
  let v91 : BitVec 32 := Scalar.muli v6_0 c16_i32_36
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v13 : BitVec 1 := Scalar.cmpi .slt v12 v2
  let c1_i32_3 : BitVec 32 := 1#32
  let c0_i32_4 : BitVec 32 := 0#32
  let v14 : BitVec 32 := Scalar.select v13 c1_i32_3 c0_i32_4
  let v15 : BitVec 32 := Scalar.addi c0_i32_5 v14
  let v18 : BitVec 1 := Scalar.cmpi .slt v17 v2
  let c1_i32_6 : BitVec 32 := 1#32
  let c0_i32_7 : BitVec 32 := 0#32
  let v19 : BitVec 32 := Scalar.select v18 c1_i32_6 c0_i32_7
  let v20 : BitVec 32 := Scalar.addi v15 v19
  let v23 : BitVec 1 := Scalar.cmpi .slt v22 v2
  let c1_i32_8 : BitVec 32 := 1#32
  let c0_i32_9 : BitVec 32 := 0#32
  let v24 : BitVec 32 := Scalar.select v23 c1_i32_8 c0_i32_9
  let v25 : BitVec 32 := Scalar.addi v20 v24
  let v28 : BitVec 1 := Scalar.cmpi .slt v27 v2
  let c1_i32_10 : BitVec 32 := 1#32
  let c0_i32_11 : BitVec 32 := 0#32
  let v29 : BitVec 32 := Scalar.select v28 c1_i32_10 c0_i32_11
  let v30 : BitVec 32 := Scalar.addi v25 v29
  let v33 : BitVec 1 := Scalar.cmpi .slt v32 v2
  let c1_i32_12 : BitVec 32 := 1#32
  let c0_i32_13 : BitVec 32 := 0#32
  let v34 : BitVec 32 := Scalar.select v33 c1_i32_12 c0_i32_13
  let v35 : BitVec 32 := Scalar.addi v30 v34
  let v38 : BitVec 1 := Scalar.cmpi .slt v37 v2
  let c1_i32_14 : BitVec 32 := 1#32
  let c0_i32_15 : BitVec 32 := 0#32
  let v39 : BitVec 32 := Scalar.select v38 c1_i32_14 c0_i32_15
  let v40 : BitVec 32 := Scalar.addi v35 v39
  let v43 : BitVec 1 := Scalar.cmpi .slt v42 v2
  let c1_i32_16 : BitVec 32 := 1#32
  let c0_i32_17 : BitVec 32 := 0#32
  let v44 : BitVec 32 := Scalar.select v43 c1_i32_16 c0_i32_17
  let v45 : BitVec 32 := Scalar.addi v40 v44
  let v48 : BitVec 1 := Scalar.cmpi .slt v47 v2
  let c1_i32_18 : BitVec 32 := 1#32
  let c0_i32_19 : BitVec 32 := 0#32
  let v49 : BitVec 32 := Scalar.select v48 c1_i32_18 c0_i32_19
  let v50 : BitVec 32 := Scalar.addi v45 v49
  let v53 : BitVec 1 := Scalar.cmpi .slt v52 v2
  let c1_i32_20 : BitVec 32 := 1#32
  let c0_i32_21 : BitVec 32 := 0#32
  let v54 : BitVec 32 := Scalar.select v53 c1_i32_20 c0_i32_21
  let v55 : BitVec 32 := Scalar.addi v50 v54
  let v58 : BitVec 1 := Scalar.cmpi .slt v57 v2
  let c1_i32_22 : BitVec 32 := 1#32
  let c0_i32_23 : BitVec 32 := 0#32
  let v59 : BitVec 32 := Scalar.select v58 c1_i32_22 c0_i32_23
  let v60 : BitVec 32 := Scalar.addi v55 v59
  let v63 : BitVec 1 := Scalar.cmpi .slt v62 v2
  let c1_i32_24 : BitVec 32 := 1#32
  let c0_i32_25 : BitVec 32 := 0#32
  let v64 : BitVec 32 := Scalar.select v63 c1_i32_24 c0_i32_25
  let v65 : BitVec 32 := Scalar.addi v60 v64
  let v68 : BitVec 1 := Scalar.cmpi .slt v67 v2
  let c1_i32_26 : BitVec 32 := 1#32
  let c0_i32_27 : BitVec 32 := 0#32
  let v69 : BitVec 32 := Scalar.select v68 c1_i32_26 c0_i32_27
  let v70 : BitVec 32 := Scalar.addi v65 v69
  let v73 : BitVec 1 := Scalar.cmpi .slt v72 v2
  let c1_i32_28 : BitVec 32 := 1#32
  let c0_i32_29 : BitVec 32 := 0#32
  let v74 : BitVec 32 := Scalar.select v73 c1_i32_28 c0_i32_29
  let v75 : BitVec 32 := Scalar.addi v70 v74
  let v78 : BitVec 1 := Scalar.cmpi .slt v77 v2
  let c1_i32_30 : BitVec 32 := 1#32
  let c0_i32_31 : BitVec 32 := 0#32
  let v79 : BitVec 32 := Scalar.select v78 c1_i32_30 c0_i32_31
  let v80 : BitVec 32 := Scalar.addi v75 v79
  let v83 : BitVec 1 := Scalar.cmpi .slt v82 v2
  let c1_i32_32 : BitVec 32 := 1#32
  let c0_i32_33 : BitVec 32 := 0#32
  let v84 : BitVec 32 := Scalar.select v83 c1_i32_32 c0_i32_33
  let v85 : BitVec 32 := Scalar.addi v80 v84
  let v88 : BitVec 1 := Scalar.cmpi .slt v87 v2
  let c1_i32_34 : BitVec 32 := 1#32
  let c0_i32_35 : BitVec 32 := 0#32
  let v89 : BitVec 32 := Scalar.select v88 c1_i32_34 c0_i32_35
  let v90 : BitVec 32 := Scalar.addi v85 v89
  let v92 : BitVec 32 := Scalar.addi v91 v90
  let c8_i32 : BitVec 32 := 8#32
  let v187 : BitVec 32 := Scalar.shrsi v92 c8_i32
  let c16_i32_79 : BitVec 32 := 16#32
  let v183 : BitVec 32 := Scalar.muli v98_0 c16_i32_79
  let c0_i32_48 : BitVec 32 := 0#32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c256_i32 : BitVec 32 := 256#32
  let v188 : BitVec 32 := Scalar.addi v184 c256_i32
  let c1_i32_85 : BitVec 32 := 1#32
  let v189 : BitVec 32 := Scalar.subi v188 c1_i32_85
  let c8_i32_86 : BitVec 32 := 8#32
  let v190 : BitVec 32 := Scalar.shrsi v189 c8_i32_86
  let v191 : BitVec 32 := Scalar.subi v190 v187
  let c1_i32_88 : BitVec 32 := 1#32
  let v193 : BitVec 32 := Scalar.divsi v191 c1_i32_88
  let v194 : BitVec 32 := Scalar.muli v193 c1_i32_88
  let v195 : BitVec 32 := Scalar.addi v187 v194
  let c1_i32_90 : BitVec 32 := 1#32
  let arg13 : BitVec 32 := Scf.iv v195 c1_i32_90 k1_t6
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v92
  let v633 : BitVec 1 := Scalar.cmpi .slt v631 v184
  let v634 : BitVec 1 := Scalar.andi v632 v633
  let v635 : BitVec 32 := Scalar.extui v634
  let c0_i32_291 : BitVec 32 := 0#32
  let v636 : BitVec 1 := Scalar.cmpi .ne v635 c0_i32_291
  v636

def k1_off297 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off298 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v663 : Index := Scalar.indexCast v640
  let c16_299 : Index := 16#32
  ![v663.toNat, 16]
def k1_off299 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off300 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v682 : Index := Scalar.indexCast v640
  let c32_303 : Index := 32#32
  ![v682.toNat, 32]
def k1_off301 (k1_t7 : Fin k1_t7_loop.trips) : Fin 2 → Nat :=
  let c0_i32_265 : BitVec 32 := 0#32
  let c1_i32_267 : BitVec 32 := 1#32
  let arg15 : BitVec 32 := Scf.iv c0_i32_265 c1_i32_267 k1_t7
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off302 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v701 : Index := Scalar.indexCast v640
  let c48_307 : Index := 48#32
  ![v701.toNat, 48]
def k1_off303 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v640 : BitVec 32 := Scalar.subi v639 v93
  let v717 : Index := Scalar.indexCast v640
  let c0_311 : Index := 0#32
  ![v717.toNat, 0]

def k1_chk37 (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) : Prop :=
  (∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off296 i v639) a + S1x16.size a ≤ S80x64.size a) ∧
  (∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off298 i v639) a + S1x16.size a ≤ S80x64.size a) ∧
  (∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off300 i v639) a + S1x16.size a ≤ S80x64.size a) ∧
  (∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off302 i v639) a + S1x16.size a ≤ S80x64.size a) ∧
  (∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off303 i v639) a + S1x16.size a ≤ S80x16.size a)
theorem k1_off296_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw37 : k1_chk37 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off296 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw37 k1_h32 => k1_hw37.1 k1_h32
theorem k1_off298_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw37 : k1_chk37 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off298 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw37 k1_h32 => k1_hw37.2.1 k1_h32
theorem k1_off300_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw37 : k1_chk37 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off300 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw37 k1_h32 => k1_hw37.2.2.1 k1_h32
theorem k1_off302_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw37 : k1_chk37 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off302 i v639) a + S1x16.size a ≤ S80x64.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw37 k1_h32 => k1_hw37.2.2.2.1 k1_h32
theorem k1_off303_inb : ∀ (i : grid1.Coords) (v6_0 : BitVec 32) (v12 : BitVec 32) (v17 : BitVec 32) (v22 : BitVec 32) (v27 : BitVec 32) (v32 : BitVec 32) (v37 : BitVec 32) (v42 : BitVec 32) (v47 : BitVec 32) (v52 : BitVec 32) (v57 : BitVec 32) (v62 : BitVec 32) (v67 : BitVec 32) (v72 : BitVec 32) (v77 : BitVec 32) (v82 : BitVec 32) (v87 : BitVec 32) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (k1_t6 : Fin (k1_t6_loop i v6_0 v12 v17 v22 v27 v32 v37 v42 v47 v52 v57 v62 v67 v72 v77 v82 v87 v98_0 v104 v109 v114 v119 v124 v129 v134 v139 v144 v149 v154 v159 v164 v169 v174 v179).trips) (k1_t7 : Fin k1_t7_loop.trips) (v639 : BitVec 32) (k1_hw37 : k1_chk37 i v6_0 v12 v17 v22 v27 v32 v37 v42 v47 v52 v57 v62 v67 v72 v77 v82 v87 v98_0 v104 v109 v114 v119 v124 v129 v134 v139 v144 v149 v154 v159 v164 v169 v174 v179 k1_t6 k1_t7 v639), ∀ (k1_h32 : k1_cond32 i v6_0 v12 v17 v22 v27 v32 v37 v42 v47 v52 v57 v62 v67 v72 v77 v82 v87 v98_0 v104 v109 v114 v119 v124 v129 v134 v139 v144 v149 v154 v159 v164 v169 v174 v179 k1_t6 k1_t7 = 1#1), ∀ a, (k1_off303 i v639) a + S1x16.size a ≤ S80x16.size a := fun i v6_0 v12 v17 v22 v27 v32 v37 v42 v47 v52 v57 v62 v67 v72 v77 v82 v87 v98_0 v104 v109 v114 v119 v124 v129 v134 v139 v144 v149 v154 v159 v164 v169 v174 v179 k1_t6 k1_t7 v639 k1_hw37 k1_h32 => k1_hw37.2.2.2.2 k1_h32

def k1_mult7 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  v93
def k1_off304 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v198 : BitVec 32 := v93
  let c0_i32_265_r8 : BitVec 32 := 0#32
  ![v198.toNat, 0]
def k1_off305 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let v198 : BitVec 32 := v93
  let c0_i32_265_r10 : BitVec 32 := 0#32
  ![v198.toNat, 0]
@[reducible] def k1_t8_loop : Scf.Loop 32 :=
  let c0_i32_96 : BitVec 32 := 0#32
  let c15_i32_97 : BitVec 32 := 15#32
  let v203 : BitVec 32 := Scalar.addi c0_i32_96 c15_i32_97
  let c1_i32_98 : BitVec 32 := 1#32
  ⟨c0_i32_96, v203, c1_i32_98⟩
def k1_mult8 (arg14 : BitVec 32) (arg15 : BitVec 32) : BitVec 32 :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  v519

def k1_off306 (arg14 : BitVec 32) (arg15 : BitVec 32) : Fin 1 → Nat :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  let v520 : BitVec 32 := v519
  ![v520.toNat]

def k1_chk38 (arg14 : BitVec 32) (arg15 : BitVec 32) : Prop :=
  (16 ∣ (k1_mult8 arg14 arg15).toNat) ∧
  (∀ a, (k1_off306 arg14 arg15) a + S16.size a ≤ S320000.size a)
theorem k1_mult8_dvd : ∀ (arg14 : BitVec 32) (arg15 : BitVec 32) (k1_hw38 : k1_chk38 arg14 arg15), 16 ∣ (k1_mult8 arg14 arg15).toNat := fun arg14 arg15 k1_hw38 => k1_hw38.1
theorem k1_off306_inb : ∀ (arg14 : BitVec 32) (arg15 : BitVec 32) (k1_hw38 : k1_chk38 arg14 arg15), ∀ a, (k1_off306 arg14 arg15) a + S16.size a ≤ S320000.size a := fun arg14 arg15 k1_hw38 => k1_hw38.2

def k1_mult9 (v204_0 : BitVec 32) : BitVec 32 :=
  let c16_i32_100 : BitVec 32 := 16#32
  let v205 : BitVec 32 := Scalar.muli v204_0 c16_i32_100
  v205

def k1_off307 (v204_0 : BitVec 32) : Fin 1 → Nat :=
  let c16_i32_100 : BitVec 32 := 16#32
  let v205 : BitVec 32 := Scalar.muli v204_0 c16_i32_100
  let v206 : BitVec 32 := v205
  ![v206.toNat]

def k1_chk39 (v204_0 : BitVec 32) : Prop :=
  (16 ∣ (k1_mult9 v204_0).toNat) ∧
  (∀ a, (k1_off307 v204_0) a + S16.size a ≤ S320000.size a)
theorem k1_mult9_dvd : ∀ (v204_0 : BitVec 32) (k1_hw39 : k1_chk39 v204_0), 16 ∣ (k1_mult9 v204_0).toNat := fun v204_0 k1_hw39 => k1_hw39.1
theorem k1_off307_inb : ∀ (v204_0 : BitVec 32) (k1_hw39 : k1_chk39 v204_0), ∀ a, (k1_off307 v204_0) a + S16.size a ≤ S320000.size a := fun v204_0 k1_hw39 => k1_hw39.2

@[reducible] def k1_t9_loop : Scf.Loop 32 :=
  let c0_i32_137 : BitVec 32 := 0#32
  let c80_i32_138 : BitVec 32 := 80#32
  let v291 : BitVec 32 := Scalar.addi c0_i32_137 c80_i32_138
  let c1_i32_139 : BitVec 32 := 1#32
  ⟨c0_i32_137, v291, c1_i32_139⟩
def k1_off308 (k1_t9 : Fin k1_t9_loop.trips) : Fin 2 → Nat :=
  let c0_i32_137 : BitVec 32 := 0#32
  let c1_i32_139 : BitVec 32 := 1#32
  let arg13 : BitVec 32 := Scf.iv c0_i32_137 c1_i32_139 k1_t9
  let v517 : Index := Scalar.indexCast arg13
  let c0_263 : Index := 0#32
  ![v517.toNat, 0]
def k1_off309 (k1_t9 : Fin k1_t9_loop.trips) : Fin 2 → Nat :=
  let c0_i32_137 : BitVec 32 := 0#32
  let c1_i32_139 : BitVec 32 := 1#32
  let arg13 : BitVec 32 := Scf.iv c0_i32_137 c1_i32_139 k1_t9
  let v525 : Index := Scalar.indexCast arg13
  let c16 : Index := 16#32
  ![v525.toNat, 16]
def k1_off310 (k1_t9 : Fin k1_t9_loop.trips) : Fin 2 → Nat :=
  let c0_i32_137 : BitVec 32 := 0#32
  let c1_i32_139 : BitVec 32 := 1#32
  let arg13 : BitVec 32 := Scf.iv c0_i32_137 c1_i32_139 k1_t9
  let v533 : Index := Scalar.indexCast arg13
  let c32 : Index := 32#32
  ![v533.toNat, 32]
def k1_off311 (k1_t9 : Fin k1_t9_loop.trips) : Fin 2 → Nat :=
  let c0_i32_137 : BitVec 32 := 0#32
  let c1_i32_139 : BitVec 32 := 1#32
  let arg13 : BitVec 32 := Scf.iv c0_i32_137 c1_i32_139 k1_t9
  let v541 : Index := Scalar.indexCast arg13
  let c48 : Index := 48#32
  ![v541.toNat, 48]
def k1_off312 (k1_t9 : Fin k1_t9_loop.trips) : Fin 2 → Nat :=
  let c0_i32_137 : BitVec 32 := 0#32
  let c1_i32_139 : BitVec 32 := 1#32
  let arg13 : BitVec 32 := Scf.iv c0_i32_137 c1_i32_139 k1_t9
  let v549 : Index := Scalar.indexCast arg13
  let c0_268 : Index := 0#32
  ![v549.toNat, 0]
@[reducible] def k1_t10_loop (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) : Scf.Loop 32 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_147 : BitVec 32 := 1#32
  ⟨v293, v301, c1_i32_147⟩

def k1_mult10 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) : BitVec 32 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  v517
def k1_off313 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) : Fin 2 → Nat :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_270_r13 : BitVec 32 := 0#32
  ![v518.toNat, 0]
def k1_off314 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) : Fin 1 → Nat :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  ![v518.toNat]
@[reducible] def k1_t11_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off315 (k1_t11 : Fin k1_t11_loop.trips) : Fin 1 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v522 : Index := Scalar.indexCast v521
  ![v522.toNat]
def k1_off316 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off317 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond33 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v528 : BitVec 1 := Scalar.cmpi .slt v526 v290
  let v529 : BitVec 1 := Scalar.andi v527 v528
  let v530 : BitVec 32 := Scalar.extui v529
  let c0_i32_272 : BitVec 32 := 0#32
  let v531 : BitVec 1 := Scalar.cmpi .ne v530 c0_i32_272
  v531

def k1_off318 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off319 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off320 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off321 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off322 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off323 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off324 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk41 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off317 i v639) a + S1x16.size a ≤ S80x64.size a) ∧
  (∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off319 i v639) a + S1x16.size a ≤ S80x64.size a) ∧
  (∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off321 i v639) a + S1x16.size a ≤ S80x64.size a) ∧
  (∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off323 i v639) a + S1x16.size a ≤ S80x64.size a) ∧
  (∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off324 i v639) a + S1x16.size a ≤ S80x16.size a)
theorem k1_off317_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw41 : k1_chk41 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off317 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw41 k1_h33 => k1_hw41.1 k1_h33
theorem k1_off319_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw41 : k1_chk41 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off319 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw41 k1_h33 => k1_hw41.2.1 k1_h33
theorem k1_off321_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw41 : k1_chk41 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off321 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw41 k1_h33 => k1_hw41.2.2.1 k1_h33
theorem k1_off323_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw41 : k1_chk41 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off323 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw41 k1_h33 => k1_hw41.2.2.2.1 k1_h33
theorem k1_off324_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw41 : k1_chk41 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h33 : k1_cond33 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off324 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw41 k1_h33 => k1_hw41.2.2.2.2 k1_h33

def k1_off325 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off326 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond34 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v535 : BitVec 1 := Scalar.cmpi .slt v533 v290
  let v536 : BitVec 1 := Scalar.andi v534 v535
  let v537 : BitVec 32 := Scalar.extui v536
  let c0_i32_274 : BitVec 32 := 0#32
  let v538 : BitVec 1 := Scalar.cmpi .ne v537 c0_i32_274
  v538

def k1_off327 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off328 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off329 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off330 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off331 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off332 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off333 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk42 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off326 i v639) a + S1x16.size a ≤ S80x64.size a) ∧
  (∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off328 i v639) a + S1x16.size a ≤ S80x64.size a) ∧
  (∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off330 i v639) a + S1x16.size a ≤ S80x64.size a) ∧
  (∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off332 i v639) a + S1x16.size a ≤ S80x64.size a) ∧
  (∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off333 i v639) a + S1x16.size a ≤ S80x16.size a)
theorem k1_off326_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw42 : k1_chk42 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off326 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw42 k1_h34 => k1_hw42.1 k1_h34
theorem k1_off328_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw42 : k1_chk42 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off328 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw42 k1_h34 => k1_hw42.2.1 k1_h34
theorem k1_off330_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw42 : k1_chk42 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off330 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw42 k1_h34 => k1_hw42.2.2.1 k1_h34
theorem k1_off332_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw42 : k1_chk42 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off332 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw42 k1_h34 => k1_hw42.2.2.2.1 k1_h34
theorem k1_off333_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw42 : k1_chk42 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h34 : k1_cond34 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off333 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw42 k1_h34 => k1_hw42.2.2.2.2 k1_h34

def k1_off334 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off335 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond35 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v542 : BitVec 1 := Scalar.cmpi .slt v540 v290
  let v543 : BitVec 1 := Scalar.andi v541 v542
  let v544 : BitVec 32 := Scalar.extui v543
  let c0_i32_276 : BitVec 32 := 0#32
  let v545 : BitVec 1 := Scalar.cmpi .ne v544 c0_i32_276
  v545

def k1_off336 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off337 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off338 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off339 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off340 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off341 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off342 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk43 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off335 i v639) a + S1x16.size a ≤ S80x64.size a) ∧
  (∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off337 i v639) a + S1x16.size a ≤ S80x64.size a) ∧
  (∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off339 i v639) a + S1x16.size a ≤ S80x64.size a) ∧
  (∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off341 i v639) a + S1x16.size a ≤ S80x64.size a) ∧
  (∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off342 i v639) a + S1x16.size a ≤ S80x16.size a)
theorem k1_off335_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw43 : k1_chk43 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off335 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw43 k1_h35 => k1_hw43.1 k1_h35
theorem k1_off337_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw43 : k1_chk43 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off337 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw43 k1_h35 => k1_hw43.2.1 k1_h35
theorem k1_off339_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw43 : k1_chk43 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off339 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw43 k1_h35 => k1_hw43.2.2.1 k1_h35
theorem k1_off341_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw43 : k1_chk43 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off341 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw43 k1_h35 => k1_hw43.2.2.2.1 k1_h35
theorem k1_off342_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw43 : k1_chk43 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h35 : k1_cond35 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off342 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw43 k1_h35 => k1_hw43.2.2.2.2 k1_h35

def k1_off343 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off344 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond36 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v549 : BitVec 1 := Scalar.cmpi .slt v547 v290
  let v550 : BitVec 1 := Scalar.andi v548 v549
  let v551 : BitVec 32 := Scalar.extui v550
  let c0_i32_277 : BitVec 32 := 0#32
  let v552 : BitVec 1 := Scalar.cmpi .ne v551 c0_i32_277
  v552

def k1_off345 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off346 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off347 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off348 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off349 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off350 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off351 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk44 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off344 i v639) a + S1x16.size a ≤ S80x64.size a) ∧
  (∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off346 i v639) a + S1x16.size a ≤ S80x64.size a) ∧
  (∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off348 i v639) a + S1x16.size a ≤ S80x64.size a) ∧
  (∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off350 i v639) a + S1x16.size a ≤ S80x64.size a) ∧
  (∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off351 i v639) a + S1x16.size a ≤ S80x16.size a)
theorem k1_off344_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw44 : k1_chk44 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off344 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw44 k1_h36 => k1_hw44.1 k1_h36
theorem k1_off346_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw44 : k1_chk44 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off346 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw44 k1_h36 => k1_hw44.2.1 k1_h36
theorem k1_off348_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw44 : k1_chk44 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off348 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw44 k1_h36 => k1_hw44.2.2.1 k1_h36
theorem k1_off350_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw44 : k1_chk44 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off350 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw44 k1_h36 => k1_hw44.2.2.2.1 k1_h36
theorem k1_off351_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw44 : k1_chk44 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h36 : k1_cond36 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off351 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw44 k1_h36 => k1_hw44.2.2.2.2 k1_h36

def k1_off352 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off353 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond37 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v556 : BitVec 1 := Scalar.cmpi .slt v554 v290
  let v557 : BitVec 1 := Scalar.andi v555 v556
  let v558 : BitVec 32 := Scalar.extui v557
  let c0_i32_278 : BitVec 32 := 0#32
  let v559 : BitVec 1 := Scalar.cmpi .ne v558 c0_i32_278
  v559

def k1_off354 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off355 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off356 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off357 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off358 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off359 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off360 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk45 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off353 i v639) a + S1x16.size a ≤ S80x64.size a) ∧
  (∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off355 i v639) a + S1x16.size a ≤ S80x64.size a) ∧
  (∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off357 i v639) a + S1x16.size a ≤ S80x64.size a) ∧
  (∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off359 i v639) a + S1x16.size a ≤ S80x64.size a) ∧
  (∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off360 i v639) a + S1x16.size a ≤ S80x16.size a)
theorem k1_off353_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw45 : k1_chk45 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off353 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw45 k1_h37 => k1_hw45.1 k1_h37
theorem k1_off355_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw45 : k1_chk45 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off355 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw45 k1_h37 => k1_hw45.2.1 k1_h37
theorem k1_off357_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw45 : k1_chk45 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off357 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw45 k1_h37 => k1_hw45.2.2.1 k1_h37
theorem k1_off359_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw45 : k1_chk45 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off359 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw45 k1_h37 => k1_hw45.2.2.2.1 k1_h37
theorem k1_off360_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw45 : k1_chk45 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h37 : k1_cond37 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off360 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw45 k1_h37 => k1_hw45.2.2.2.2 k1_h37

def k1_off361 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off362 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond38 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v563 : BitVec 1 := Scalar.cmpi .slt v561 v290
  let v564 : BitVec 1 := Scalar.andi v562 v563
  let v565 : BitVec 32 := Scalar.extui v564
  let c0_i32_279 : BitVec 32 := 0#32
  let v566 : BitVec 1 := Scalar.cmpi .ne v565 c0_i32_279
  v566

def k1_off363 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off364 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off365 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off366 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off367 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off368 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off369 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk46 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off362 i v639) a + S1x16.size a ≤ S80x64.size a) ∧
  (∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off364 i v639) a + S1x16.size a ≤ S80x64.size a) ∧
  (∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off366 i v639) a + S1x16.size a ≤ S80x64.size a) ∧
  (∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off368 i v639) a + S1x16.size a ≤ S80x64.size a) ∧
  (∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off369 i v639) a + S1x16.size a ≤ S80x16.size a)
theorem k1_off362_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw46 : k1_chk46 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off362 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw46 k1_h38 => k1_hw46.1 k1_h38
theorem k1_off364_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw46 : k1_chk46 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off364 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw46 k1_h38 => k1_hw46.2.1 k1_h38
theorem k1_off366_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw46 : k1_chk46 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off366 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw46 k1_h38 => k1_hw46.2.2.1 k1_h38
theorem k1_off368_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw46 : k1_chk46 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off368 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw46 k1_h38 => k1_hw46.2.2.2.1 k1_h38
theorem k1_off369_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw46 : k1_chk46 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h38 : k1_cond38 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off369 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw46 k1_h38 => k1_hw46.2.2.2.2 k1_h38

def k1_off370 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off371 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond39 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v570 : BitVec 1 := Scalar.cmpi .slt v568 v290
  let v571 : BitVec 1 := Scalar.andi v569 v570
  let v572 : BitVec 32 := Scalar.extui v571
  let c0_i32_280 : BitVec 32 := 0#32
  let v573 : BitVec 1 := Scalar.cmpi .ne v572 c0_i32_280
  v573

def k1_off372 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off373 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off374 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off375 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off376 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off377 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off378 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk47 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off371 i v639) a + S1x16.size a ≤ S80x64.size a) ∧
  (∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off373 i v639) a + S1x16.size a ≤ S80x64.size a) ∧
  (∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off375 i v639) a + S1x16.size a ≤ S80x64.size a) ∧
  (∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off377 i v639) a + S1x16.size a ≤ S80x64.size a) ∧
  (∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off378 i v639) a + S1x16.size a ≤ S80x16.size a)
theorem k1_off371_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw47 : k1_chk47 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off371 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw47 k1_h39 => k1_hw47.1 k1_h39
theorem k1_off373_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw47 : k1_chk47 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off373 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw47 k1_h39 => k1_hw47.2.1 k1_h39
theorem k1_off375_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw47 : k1_chk47 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off375 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw47 k1_h39 => k1_hw47.2.2.1 k1_h39
theorem k1_off377_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw47 : k1_chk47 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off377 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw47 k1_h39 => k1_hw47.2.2.2.1 k1_h39
theorem k1_off378_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw47 : k1_chk47 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h39 : k1_cond39 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off378 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw47 k1_h39 => k1_hw47.2.2.2.2 k1_h39

def k1_off379 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off380 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond40 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v577 : BitVec 1 := Scalar.cmpi .slt v575 v290
  let v578 : BitVec 1 := Scalar.andi v576 v577
  let v579 : BitVec 32 := Scalar.extui v578
  let c0_i32_281 : BitVec 32 := 0#32
  let v580 : BitVec 1 := Scalar.cmpi .ne v579 c0_i32_281
  v580

def k1_off381 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off382 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off383 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off384 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off385 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off386 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off387 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk48 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off380 i v639) a + S1x16.size a ≤ S80x64.size a) ∧
  (∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off382 i v639) a + S1x16.size a ≤ S80x64.size a) ∧
  (∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off384 i v639) a + S1x16.size a ≤ S80x64.size a) ∧
  (∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off386 i v639) a + S1x16.size a ≤ S80x64.size a) ∧
  (∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off387 i v639) a + S1x16.size a ≤ S80x16.size a)
theorem k1_off380_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw48 : k1_chk48 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off380 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw48 k1_h40 => k1_hw48.1 k1_h40
theorem k1_off382_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw48 : k1_chk48 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off382 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw48 k1_h40 => k1_hw48.2.1 k1_h40
theorem k1_off384_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw48 : k1_chk48 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off384 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw48 k1_h40 => k1_hw48.2.2.1 k1_h40
theorem k1_off386_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw48 : k1_chk48 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off386 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw48 k1_h40 => k1_hw48.2.2.2.1 k1_h40
theorem k1_off387_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw48 : k1_chk48 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h40 : k1_cond40 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off387 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw48 k1_h40 => k1_hw48.2.2.2.2 k1_h40

def k1_off388 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off389 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond41 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v584 : BitVec 1 := Scalar.cmpi .slt v582 v290
  let v585 : BitVec 1 := Scalar.andi v583 v584
  let v586 : BitVec 32 := Scalar.extui v585
  let c0_i32_283 : BitVec 32 := 0#32
  let v587 : BitVec 1 := Scalar.cmpi .ne v586 c0_i32_283
  v587

def k1_off390 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off391 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off392 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off393 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off394 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off395 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off396 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk49 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off389 i v639) a + S1x16.size a ≤ S80x64.size a) ∧
  (∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off391 i v639) a + S1x16.size a ≤ S80x64.size a) ∧
  (∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off393 i v639) a + S1x16.size a ≤ S80x64.size a) ∧
  (∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off395 i v639) a + S1x16.size a ≤ S80x64.size a) ∧
  (∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off396 i v639) a + S1x16.size a ≤ S80x16.size a)
theorem k1_off389_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw49 : k1_chk49 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off389 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw49 k1_h41 => k1_hw49.1 k1_h41
theorem k1_off391_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw49 : k1_chk49 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off391 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw49 k1_h41 => k1_hw49.2.1 k1_h41
theorem k1_off393_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw49 : k1_chk49 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off393 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw49 k1_h41 => k1_hw49.2.2.1 k1_h41
theorem k1_off395_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw49 : k1_chk49 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off395 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw49 k1_h41 => k1_hw49.2.2.2.1 k1_h41
theorem k1_off396_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw49 : k1_chk49 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h41 : k1_cond41 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off396 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw49 k1_h41 => k1_hw49.2.2.2.2 k1_h41

def k1_off397 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off398 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond42 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v591 : BitVec 1 := Scalar.cmpi .slt v589 v290
  let v592 : BitVec 1 := Scalar.andi v590 v591
  let v593 : BitVec 32 := Scalar.extui v592
  let c0_i32_284 : BitVec 32 := 0#32
  let v594 : BitVec 1 := Scalar.cmpi .ne v593 c0_i32_284
  v594

def k1_off399 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off400 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off401 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off402 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off403 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off404 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off405 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk50 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off398 i v639) a + S1x16.size a ≤ S80x64.size a) ∧
  (∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off400 i v639) a + S1x16.size a ≤ S80x64.size a) ∧
  (∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off402 i v639) a + S1x16.size a ≤ S80x64.size a) ∧
  (∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off404 i v639) a + S1x16.size a ≤ S80x64.size a) ∧
  (∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off405 i v639) a + S1x16.size a ≤ S80x16.size a)
theorem k1_off398_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw50 : k1_chk50 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off398 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw50 k1_h42 => k1_hw50.1 k1_h42
theorem k1_off400_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw50 : k1_chk50 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off400 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw50 k1_h42 => k1_hw50.2.1 k1_h42
theorem k1_off402_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw50 : k1_chk50 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off402 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw50 k1_h42 => k1_hw50.2.2.1 k1_h42
theorem k1_off404_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw50 : k1_chk50 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off404 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw50 k1_h42 => k1_hw50.2.2.2.1 k1_h42
theorem k1_off405_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw50 : k1_chk50 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h42 : k1_cond42 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off405 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw50 k1_h42 => k1_hw50.2.2.2.2 k1_h42

def k1_off406 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off407 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond43 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v598 : BitVec 1 := Scalar.cmpi .slt v596 v290
  let v599 : BitVec 1 := Scalar.andi v597 v598
  let v600 : BitVec 32 := Scalar.extui v599
  let c0_i32_285 : BitVec 32 := 0#32
  let v601 : BitVec 1 := Scalar.cmpi .ne v600 c0_i32_285
  v601

def k1_off408 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off409 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off410 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off411 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off412 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off413 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off414 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk51 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off407 i v639) a + S1x16.size a ≤ S80x64.size a) ∧
  (∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off409 i v639) a + S1x16.size a ≤ S80x64.size a) ∧
  (∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off411 i v639) a + S1x16.size a ≤ S80x64.size a) ∧
  (∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off413 i v639) a + S1x16.size a ≤ S80x64.size a) ∧
  (∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off414 i v639) a + S1x16.size a ≤ S80x16.size a)
theorem k1_off407_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw51 : k1_chk51 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off407 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw51 k1_h43 => k1_hw51.1 k1_h43
theorem k1_off409_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw51 : k1_chk51 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off409 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw51 k1_h43 => k1_hw51.2.1 k1_h43
theorem k1_off411_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw51 : k1_chk51 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off411 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw51 k1_h43 => k1_hw51.2.2.1 k1_h43
theorem k1_off413_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw51 : k1_chk51 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off413 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw51 k1_h43 => k1_hw51.2.2.2.1 k1_h43
theorem k1_off414_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw51 : k1_chk51 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h43 : k1_cond43 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off414 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw51 k1_h43 => k1_hw51.2.2.2.2 k1_h43

def k1_off415 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off416 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond44 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v605 : BitVec 1 := Scalar.cmpi .slt v603 v290
  let v606 : BitVec 1 := Scalar.andi v604 v605
  let v607 : BitVec 32 := Scalar.extui v606
  let c0_i32_286 : BitVec 32 := 0#32
  let v608 : BitVec 1 := Scalar.cmpi .ne v607 c0_i32_286
  v608

def k1_off417 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off418 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off419 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off420 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off421 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off422 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off423 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk52 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off416 i v639) a + S1x16.size a ≤ S80x64.size a) ∧
  (∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off418 i v639) a + S1x16.size a ≤ S80x64.size a) ∧
  (∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off420 i v639) a + S1x16.size a ≤ S80x64.size a) ∧
  (∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off422 i v639) a + S1x16.size a ≤ S80x64.size a) ∧
  (∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off423 i v639) a + S1x16.size a ≤ S80x16.size a)
theorem k1_off416_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw52 : k1_chk52 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off416 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw52 k1_h44 => k1_hw52.1 k1_h44
theorem k1_off418_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw52 : k1_chk52 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off418 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw52 k1_h44 => k1_hw52.2.1 k1_h44
theorem k1_off420_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw52 : k1_chk52 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off420 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw52 k1_h44 => k1_hw52.2.2.1 k1_h44
theorem k1_off422_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw52 : k1_chk52 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off422 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw52 k1_h44 => k1_hw52.2.2.2.1 k1_h44
theorem k1_off423_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw52 : k1_chk52 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h44 : k1_cond44 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off423 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw52 k1_h44 => k1_hw52.2.2.2.2 k1_h44

def k1_off424 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off425 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond45 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v612 : BitVec 1 := Scalar.cmpi .slt v610 v290
  let v613 : BitVec 1 := Scalar.andi v611 v612
  let v614 : BitVec 32 := Scalar.extui v613
  let c0_i32_287 : BitVec 32 := 0#32
  let v615 : BitVec 1 := Scalar.cmpi .ne v614 c0_i32_287
  v615

def k1_off426 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off427 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off428 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off429 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off430 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off431 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off432 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk53 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off425 i v639) a + S1x16.size a ≤ S80x64.size a) ∧
  (∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off427 i v639) a + S1x16.size a ≤ S80x64.size a) ∧
  (∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off429 i v639) a + S1x16.size a ≤ S80x64.size a) ∧
  (∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off431 i v639) a + S1x16.size a ≤ S80x64.size a) ∧
  (∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off432 i v639) a + S1x16.size a ≤ S80x16.size a)
theorem k1_off425_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw53 : k1_chk53 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off425 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw53 k1_h45 => k1_hw53.1 k1_h45
theorem k1_off427_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw53 : k1_chk53 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off427 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw53 k1_h45 => k1_hw53.2.1 k1_h45
theorem k1_off429_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw53 : k1_chk53 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off429 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw53 k1_h45 => k1_hw53.2.2.1 k1_h45
theorem k1_off431_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw53 : k1_chk53 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off431 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw53 k1_h45 => k1_hw53.2.2.2.1 k1_h45
theorem k1_off432_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw53 : k1_chk53 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h45 : k1_cond45 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off432 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw53 k1_h45 => k1_hw53.2.2.2.2 k1_h45

def k1_off433 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off434 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond46 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v619 : BitVec 1 := Scalar.cmpi .slt v617 v290
  let v620 : BitVec 1 := Scalar.andi v618 v619
  let v621 : BitVec 32 := Scalar.extui v620
  let c0_i32_288 : BitVec 32 := 0#32
  let v622 : BitVec 1 := Scalar.cmpi .ne v621 c0_i32_288
  v622

def k1_off435 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off436 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off437 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off438 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off439 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off440 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off441 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk54 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off434 i v639) a + S1x16.size a ≤ S80x64.size a) ∧
  (∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off436 i v639) a + S1x16.size a ≤ S80x64.size a) ∧
  (∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off438 i v639) a + S1x16.size a ≤ S80x64.size a) ∧
  (∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off440 i v639) a + S1x16.size a ≤ S80x64.size a) ∧
  (∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off441 i v639) a + S1x16.size a ≤ S80x16.size a)
theorem k1_off434_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw54 : k1_chk54 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off434 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw54 k1_h46 => k1_hw54.1 k1_h46
theorem k1_off436_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw54 : k1_chk54 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off436 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw54 k1_h46 => k1_hw54.2.1 k1_h46
theorem k1_off438_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw54 : k1_chk54 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off438 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw54 k1_h46 => k1_hw54.2.2.1 k1_h46
theorem k1_off440_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw54 : k1_chk54 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off440 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw54 k1_h46 => k1_hw54.2.2.2.1 k1_h46
theorem k1_off441_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw54 : k1_chk54 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h46 : k1_cond46 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off441 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw54 k1_h46 => k1_hw54.2.2.2.2 k1_h46

def k1_off442 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off443 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond47 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v626 : BitVec 1 := Scalar.cmpi .slt v624 v290
  let v627 : BitVec 1 := Scalar.andi v625 v626
  let v628 : BitVec 32 := Scalar.extui v627
  let c0_i32_289 : BitVec 32 := 0#32
  let v629 : BitVec 1 := Scalar.cmpi .ne v628 c0_i32_289
  v629

def k1_off444 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off445 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off446 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off447 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off448 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off449 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off450 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk55 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off443 i v639) a + S1x16.size a ≤ S80x64.size a) ∧
  (∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off445 i v639) a + S1x16.size a ≤ S80x64.size a) ∧
  (∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off447 i v639) a + S1x16.size a ≤ S80x64.size a) ∧
  (∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off449 i v639) a + S1x16.size a ≤ S80x64.size a) ∧
  (∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off450 i v639) a + S1x16.size a ≤ S80x16.size a)
theorem k1_off443_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw55 : k1_chk55 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off443 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw55 k1_h47 => k1_hw55.1 k1_h47
theorem k1_off445_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw55 : k1_chk55 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off445 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw55 k1_h47 => k1_hw55.2.1 k1_h47
theorem k1_off447_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw55 : k1_chk55 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off447 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw55 k1_h47 => k1_hw55.2.2.1 k1_h47
theorem k1_off449_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw55 : k1_chk55 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off449 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw55 k1_h47 => k1_hw55.2.2.2.1 k1_h47
theorem k1_off450_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw55 : k1_chk55 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h47 : k1_cond47 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off450 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw55 k1_h47 => k1_hw55.2.2.2.2 k1_h47

def k1_off451 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off452 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond48 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c1_i32_147 : BitVec 32 := 1#32
  let arg13 : BitVec 32 := Scf.iv v293 c1_i32_147 k1_t10
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v184
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let v633 : BitVec 1 := Scalar.cmpi .slt v631 v290
  let v634 : BitVec 1 := Scalar.andi v632 v633
  let v635 : BitVec 32 := Scalar.extui v634
  let c0_i32_291 : BitVec 32 := 0#32
  let v636 : BitVec 1 := Scalar.cmpi .ne v635 c0_i32_291
  v636

def k1_off453 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off454 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off455 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off456 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off457 (k1_t11 : Fin k1_t11_loop.trips) : Fin 2 → Nat :=
  let c0_i32_265 : BitVec 32 := 0#32
  let c1_i32_267 : BitVec 32 := 1#32
  let arg15 : BitVec 32 := Scf.iv c0_i32_265 c1_i32_267 k1_t11
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off458 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off459 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk56 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) : Prop :=
  (∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off452 i v639) a + S1x16.size a ≤ S80x64.size a) ∧
  (∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off454 i v639) a + S1x16.size a ≤ S80x64.size a) ∧
  (∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off456 i v639) a + S1x16.size a ≤ S80x64.size a) ∧
  (∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off458 i v639) a + S1x16.size a ≤ S80x64.size a) ∧
  (∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off459 i v639) a + S1x16.size a ≤ S80x16.size a)
theorem k1_off452_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw56 : k1_chk56 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off452 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw56 k1_h48 => k1_hw56.1 k1_h48
theorem k1_off454_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw56 : k1_chk56 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off454 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw56 k1_h48 => k1_hw56.2.1 k1_h48
theorem k1_off456_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw56 : k1_chk56 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off456 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw56 k1_h48 => k1_hw56.2.2.1 k1_h48
theorem k1_off458_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw56 : k1_chk56 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off458 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw56 k1_h48 => k1_hw56.2.2.2.1 k1_h48
theorem k1_off459_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips) (k1_t11 : Fin k1_t11_loop.trips) (v639 : BitVec 32) (k1_hw56 : k1_chk56 i v98_0 v104 v109 v114 v119 v124 v129 v134 v139 v144 v149 v154 v159 v164 v169 v174 v179 v204_0 v210 v215 v220 v225 v230 v235 v240 v245 v250 v255 v260 v265 v270 v275 v280 v285 k1_t10 k1_t11 v639), ∀ (k1_h48 : k1_cond48 i v98_0 v104 v109 v114 v119 v124 v129 v134 v139 v144 v149 v154 v159 v164 v169 v174 v179 v204_0 v210 v215 v220 v225 v230 v235 v240 v245 v250 v255 v260 v265 v270 v275 v280 v285 k1_t10 k1_t11 = 1#1), ∀ a, (k1_off459 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t10 k1_t11 v639 k1_hw56 k1_h48 => k1_hw56.2.2.2.2 k1_h48

@[reducible] def k1_t12_loop (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) : Scf.Loop 32 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let v298 : BitVec 32 := Scalar.addi v293 v297
  let c1_i32_148 : BitVec 32 := 1#32
  ⟨v301, v298, c1_i32_148⟩
def k1_mult11 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) : BitVec 32 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  v517
def k1_off460 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) : Fin 2 → Nat :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_270_r15 : BitVec 32 := 0#32
  ![v518.toNat, 0]
def k1_off461 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) : Fin 1 → Nat :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  ![v518.toNat]

def k1_chk40 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) : Prop :=
  ((k1_t10_loop i v98_0 v104 v109 v114 v119 v124 v129 v134 v139 v144 v149 v154 v159 v164 v169 v174 v179 v204_0 v210 v215 v220 v225 v230 v235 v240 v245 v250 v255 v260 v265 v270 v275 v280 v285).OK) ∧
  (∀ k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips, 256 ∣ (k1_mult10 i v98_0 v104 v109 v114 v119 v124 v129 v134 v139 v144 v149 v154 v159 v164 v169 v174 v179 v204_0 v210 v215 v220 v225 v230 v235 v240 v245 v250 v255 v260 v265 v270 v275 v280 v285 k1_t10).toNat) ∧
  (∀ k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips, ∀ a, (k1_off313 i v98_0 v104 v109 v114 v119 v124 v129 v134 v139 v144 v149 v154 v159 v164 v169 v174 v179 v204_0 v210 v215 v220 v225 v230 v235 v240 v245 v250 v255 v260 v265 v270 v275 v280 v285 k1_t10) a + S256x64.size a ≤ S320000x64.size a) ∧
  (∀ k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips, ∀ a, (k1_off314 i v98_0 v104 v109 v114 v119 v124 v129 v134 v139 v144 v149 v154 v159 v164 v169 v174 v179 v204_0 v210 v215 v220 v225 v230 v235 v240 v245 v250 v255 v260 v265 v270 v275 v280 v285 k1_t10) a + S256.size a ≤ S320000.size a) ∧
  ((k1_t12_loop i v98_0 v104 v109 v114 v119 v124 v129 v134 v139 v144 v149 v154 v159 v164 v169 v174 v179 v204_0 v210 v215 v220 v225 v230 v235 v240 v245 v250 v255 v260 v265 v270 v275 v280 v285).OK) ∧
  (∀ k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips, 256 ∣ (k1_mult11 i v98_0 v104 v109 v114 v119 v124 v129 v134 v139 v144 v149 v154 v159 v164 v169 v174 v179 v204_0 v210 v215 v220 v225 v230 v235 v240 v245 v250 v255 v260 v265 v270 v275 v280 v285 k1_t12).toNat) ∧
  (∀ k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips, ∀ a, (k1_off460 i v98_0 v104 v109 v114 v119 v124 v129 v134 v139 v144 v149 v154 v159 v164 v169 v174 v179 v204_0 v210 v215 v220 v225 v230 v235 v240 v245 v250 v255 v260 v265 v270 v275 v280 v285 k1_t12) a + S256x64.size a ≤ S320000x64.size a) ∧
  (∀ k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips, ∀ a, (k1_off461 i v98_0 v104 v109 v114 v119 v124 v129 v134 v139 v144 v149 v154 v159 v164 v169 v174 v179 v204_0 v210 v215 v220 v225 v230 v235 v240 v245 v250 v255 v260 v265 v270 v275 v280 v285 k1_t12) a + S256.size a ≤ S320000.size a)
theorem k1_t10_ok : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285), (k1_t10_loop i v98_0 v104 v109 v114 v119 v124 v129 v134 v139 v144 v149 v154 v159 v164 v169 v174 v179 v204_0 v210 v215 v220 v225 v230 v235 v240 v245 v250 v255 v260 v265 v270 v275 v280 v285).OK := fun i v98_0 v104 v109 v114 v119 v124 v129 v134 v139 v144 v149 v154 v159 v164 v169 v174 v179 v204_0 v210 v215 v220 v225 v230 v235 v240 v245 v250 v255 v260 v265 v270 v275 v280 v285 k1_hw40 => k1_hw40.1
theorem k1_mult10_dvd : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips), 256 ∣ (k1_mult10 i v98_0 v104 v109 v114 v119 v124 v129 v134 v139 v144 v149 v154 v159 v164 v169 v174 v179 v204_0 v210 v215 v220 v225 v230 v235 v240 v245 v250 v255 v260 v265 v270 v275 v280 v285 k1_t10).toNat := fun i v98_0 v104 v109 v114 v119 v124 v129 v134 v139 v144 v149 v154 v159 v164 v169 v174 v179 v204_0 v210 v215 v220 v225 v230 v235 v240 v245 v250 v255 v260 v265 v270 v275 v280 v285 k1_hw40 k1_t10 => k1_hw40.2.1 k1_t10
theorem k1_off313_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips), ∀ a, (k1_off313 i v98_0 v104 v109 v114 v119 v124 v129 v134 v139 v144 v149 v154 v159 v164 v169 v174 v179 v204_0 v210 v215 v220 v225 v230 v235 v240 v245 v250 v255 v260 v265 v270 v275 v280 v285 k1_t10) a + S256x64.size a ≤ S320000x64.size a := fun i v98_0 v104 v109 v114 v119 v124 v129 v134 v139 v144 v149 v154 v159 v164 v169 v174 v179 v204_0 v210 v215 v220 v225 v230 v235 v240 v245 v250 v255 v260 v265 v270 v275 v280 v285 k1_hw40 k1_t10 => k1_hw40.2.2.1 k1_t10
theorem k1_off314_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285) (k1_t10 : Fin (k1_t10_loop i v98_0 v104 v109 v114 v119 v124 v129 v134 v139 v144 v149 v154 v159 v164 v169 v174 v179 v204_0 v210 v215 v220 v225 v230 v235 v240 v245 v250 v255 v260 v265 v270 v275 v280 v285).trips), ∀ a, (k1_off314 i v98_0 v104 v109 v114 v119 v124 v129 v134 v139 v144 v149 v154 v159 v164 v169 v174 v179 v204_0 v210 v215 v220 v225 v230 v235 v240 v245 v250 v255 v260 v265 v270 v275 v280 v285 k1_t10) a + S256.size a ≤ S320000.size a := fun i v98_0 v104 v109 v114 v119 v124 v129 v134 v139 v144 v149 v154 v159 v164 v169 v174 v179 v204_0 v210 v215 v220 v225 v230 v235 v240 v245 v250 v255 v260 v265 v270 v275 v280 v285 k1_hw40 k1_t10 => k1_hw40.2.2.2.1 k1_t10
theorem k1_t12_ok : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285), (k1_t12_loop i v98_0 v104 v109 v114 v119 v124 v129 v134 v139 v144 v149 v154 v159 v164 v169 v174 v179 v204_0 v210 v215 v220 v225 v230 v235 v240 v245 v250 v255 v260 v265 v270 v275 v280 v285).OK := fun i v98_0 v104 v109 v114 v119 v124 v129 v134 v139 v144 v149 v154 v159 v164 v169 v174 v179 v204_0 v210 v215 v220 v225 v230 v235 v240 v245 v250 v255 v260 v265 v270 v275 v280 v285 k1_hw40 => k1_hw40.2.2.2.2.1
theorem k1_mult11_dvd : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips), 256 ∣ (k1_mult11 i v98_0 v104 v109 v114 v119 v124 v129 v134 v139 v144 v149 v154 v159 v164 v169 v174 v179 v204_0 v210 v215 v220 v225 v230 v235 v240 v245 v250 v255 v260 v265 v270 v275 v280 v285 k1_t12).toNat := fun i v98_0 v104 v109 v114 v119 v124 v129 v134 v139 v144 v149 v154 v159 v164 v169 v174 v179 v204_0 v210 v215 v220 v225 v230 v235 v240 v245 v250 v255 v260 v265 v270 v275 v280 v285 k1_hw40 k1_t12 => k1_hw40.2.2.2.2.2.1 k1_t12
theorem k1_off460_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips), ∀ a, (k1_off460 i v98_0 v104 v109 v114 v119 v124 v129 v134 v139 v144 v149 v154 v159 v164 v169 v174 v179 v204_0 v210 v215 v220 v225 v230 v235 v240 v245 v250 v255 v260 v265 v270 v275 v280 v285 k1_t12) a + S256x64.size a ≤ S320000x64.size a := fun i v98_0 v104 v109 v114 v119 v124 v129 v134 v139 v144 v149 v154 v159 v164 v169 v174 v179 v204_0 v210 v215 v220 v225 v230 v235 v240 v245 v250 v255 v260 v265 v270 v275 v280 v285 k1_hw40 k1_t12 => k1_hw40.2.2.2.2.2.2.1 k1_t12
theorem k1_off461_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_hw40 : k1_chk40 i v98_0 v104 v109 v114 v119 v124 v129 v134 v139 v144 v149 v154 v159 v164 v169 v174 v179 v204_0 v210 v215 v220 v225 v230 v235 v240 v245 v250 v255 v260 v265 v270 v275 v280 v285) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips), ∀ a, (k1_off461 i v98_0 v104 v109 v114 v119 v124 v129 v134 v139 v144 v149 v154 v159 v164 v169 v174 v179 v204_0 v210 v215 v220 v225 v230 v235 v240 v245 v250 v255 v260 v265 v270 v275 v280 v285 k1_t12) a + S256.size a ≤ S320000.size a := fun i v98_0 v104 v109 v114 v119 v124 v129 v134 v139 v144 v149 v154 v159 v164 v169 v174 v179 v204_0 v210 v215 v220 v225 v230 v235 v240 v245 v250 v255 v260 v265 v270 v275 v280 v285 k1_hw40 k1_t12 => k1_hw40.2.2.2.2.2.2.2 k1_t12

@[reducible] def k1_t13_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off462 (k1_t13 : Fin k1_t13_loop.trips) : Fin 1 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v522 : Index := Scalar.indexCast v521
  ![v522.toNat]
def k1_off463 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off464 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond49 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v184
  let v528 : BitVec 1 := Scalar.cmpi .slt v526 v290
  let v529 : BitVec 1 := Scalar.andi v527 v528
  let v530 : BitVec 32 := Scalar.extui v529
  let c0_i32_272 : BitVec 32 := 0#32
  let v531 : BitVec 1 := Scalar.cmpi .ne v530 c0_i32_272
  v531

def k1_off465 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off466 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off467 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off468 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off469 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off470 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off471 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk57 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off464 i v639) a + S1x16.size a ≤ S80x64.size a) ∧
  (∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off466 i v639) a + S1x16.size a ≤ S80x64.size a) ∧
  (∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off468 i v639) a + S1x16.size a ≤ S80x64.size a) ∧
  (∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off470 i v639) a + S1x16.size a ≤ S80x64.size a) ∧
  (∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off471 i v639) a + S1x16.size a ≤ S80x16.size a)
theorem k1_off464_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw57 : k1_chk57 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off464 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw57 k1_h49 => k1_hw57.1 k1_h49
theorem k1_off466_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw57 : k1_chk57 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off466 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw57 k1_h49 => k1_hw57.2.1 k1_h49
theorem k1_off468_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw57 : k1_chk57 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off468 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw57 k1_h49 => k1_hw57.2.2.1 k1_h49
theorem k1_off470_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw57 : k1_chk57 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off470 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw57 k1_h49 => k1_hw57.2.2.2.1 k1_h49
theorem k1_off471_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw57 : k1_chk57 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h49 : k1_cond49 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off471 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw57 k1_h49 => k1_hw57.2.2.2.2 k1_h49

def k1_off472 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off473 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond50 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v184
  let v535 : BitVec 1 := Scalar.cmpi .slt v533 v290
  let v536 : BitVec 1 := Scalar.andi v534 v535
  let v537 : BitVec 32 := Scalar.extui v536
  let c0_i32_274 : BitVec 32 := 0#32
  let v538 : BitVec 1 := Scalar.cmpi .ne v537 c0_i32_274
  v538

def k1_off474 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off475 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off476 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off477 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off478 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off479 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off480 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk58 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off473 i v639) a + S1x16.size a ≤ S80x64.size a) ∧
  (∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off475 i v639) a + S1x16.size a ≤ S80x64.size a) ∧
  (∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off477 i v639) a + S1x16.size a ≤ S80x64.size a) ∧
  (∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off479 i v639) a + S1x16.size a ≤ S80x64.size a) ∧
  (∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off480 i v639) a + S1x16.size a ≤ S80x16.size a)
theorem k1_off473_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw58 : k1_chk58 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off473 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw58 k1_h50 => k1_hw58.1 k1_h50
theorem k1_off475_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw58 : k1_chk58 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off475 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw58 k1_h50 => k1_hw58.2.1 k1_h50
theorem k1_off477_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw58 : k1_chk58 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off477 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw58 k1_h50 => k1_hw58.2.2.1 k1_h50
theorem k1_off479_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw58 : k1_chk58 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off479 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw58 k1_h50 => k1_hw58.2.2.2.1 k1_h50
theorem k1_off480_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw58 : k1_chk58 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h50 : k1_cond50 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off480 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw58 k1_h50 => k1_hw58.2.2.2.2 k1_h50

def k1_off481 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off482 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond51 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v184
  let v542 : BitVec 1 := Scalar.cmpi .slt v540 v290
  let v543 : BitVec 1 := Scalar.andi v541 v542
  let v544 : BitVec 32 := Scalar.extui v543
  let c0_i32_276 : BitVec 32 := 0#32
  let v545 : BitVec 1 := Scalar.cmpi .ne v544 c0_i32_276
  v545

def k1_off483 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off484 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off485 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off486 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off487 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off488 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off489 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk59 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off482 i v639) a + S1x16.size a ≤ S80x64.size a) ∧
  (∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off484 i v639) a + S1x16.size a ≤ S80x64.size a) ∧
  (∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off486 i v639) a + S1x16.size a ≤ S80x64.size a) ∧
  (∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off488 i v639) a + S1x16.size a ≤ S80x64.size a) ∧
  (∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off489 i v639) a + S1x16.size a ≤ S80x16.size a)
theorem k1_off482_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw59 : k1_chk59 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off482 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw59 k1_h51 => k1_hw59.1 k1_h51
theorem k1_off484_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw59 : k1_chk59 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off484 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw59 k1_h51 => k1_hw59.2.1 k1_h51
theorem k1_off486_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw59 : k1_chk59 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off486 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw59 k1_h51 => k1_hw59.2.2.1 k1_h51
theorem k1_off488_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw59 : k1_chk59 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off488 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw59 k1_h51 => k1_hw59.2.2.2.1 k1_h51
theorem k1_off489_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw59 : k1_chk59 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h51 : k1_cond51 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off489 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw59 k1_h51 => k1_hw59.2.2.2.2 k1_h51

def k1_off490 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off491 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond52 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v184
  let v549 : BitVec 1 := Scalar.cmpi .slt v547 v290
  let v550 : BitVec 1 := Scalar.andi v548 v549
  let v551 : BitVec 32 := Scalar.extui v550
  let c0_i32_277 : BitVec 32 := 0#32
  let v552 : BitVec 1 := Scalar.cmpi .ne v551 c0_i32_277
  v552

def k1_off492 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off493 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off494 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off495 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off496 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off497 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off498 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk60 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off491 i v639) a + S1x16.size a ≤ S80x64.size a) ∧
  (∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off493 i v639) a + S1x16.size a ≤ S80x64.size a) ∧
  (∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off495 i v639) a + S1x16.size a ≤ S80x64.size a) ∧
  (∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off497 i v639) a + S1x16.size a ≤ S80x64.size a) ∧
  (∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off498 i v639) a + S1x16.size a ≤ S80x16.size a)
theorem k1_off491_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw60 : k1_chk60 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off491 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw60 k1_h52 => k1_hw60.1 k1_h52
theorem k1_off493_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw60 : k1_chk60 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off493 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw60 k1_h52 => k1_hw60.2.1 k1_h52
theorem k1_off495_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw60 : k1_chk60 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off495 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw60 k1_h52 => k1_hw60.2.2.1 k1_h52
theorem k1_off497_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw60 : k1_chk60 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off497 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw60 k1_h52 => k1_hw60.2.2.2.1 k1_h52
theorem k1_off498_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw60 : k1_chk60 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h52 : k1_cond52 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off498 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw60 k1_h52 => k1_hw60.2.2.2.2 k1_h52

def k1_off499 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off500 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond53 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v184
  let v556 : BitVec 1 := Scalar.cmpi .slt v554 v290
  let v557 : BitVec 1 := Scalar.andi v555 v556
  let v558 : BitVec 32 := Scalar.extui v557
  let c0_i32_278 : BitVec 32 := 0#32
  let v559 : BitVec 1 := Scalar.cmpi .ne v558 c0_i32_278
  v559

def k1_off501 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off502 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off503 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off504 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off505 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off506 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off507 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk61 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off500 i v639) a + S1x16.size a ≤ S80x64.size a) ∧
  (∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off502 i v639) a + S1x16.size a ≤ S80x64.size a) ∧
  (∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off504 i v639) a + S1x16.size a ≤ S80x64.size a) ∧
  (∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off506 i v639) a + S1x16.size a ≤ S80x64.size a) ∧
  (∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off507 i v639) a + S1x16.size a ≤ S80x16.size a)
theorem k1_off500_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw61 : k1_chk61 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off500 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw61 k1_h53 => k1_hw61.1 k1_h53
theorem k1_off502_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw61 : k1_chk61 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off502 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw61 k1_h53 => k1_hw61.2.1 k1_h53
theorem k1_off504_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw61 : k1_chk61 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off504 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw61 k1_h53 => k1_hw61.2.2.1 k1_h53
theorem k1_off506_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw61 : k1_chk61 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off506 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw61 k1_h53 => k1_hw61.2.2.2.1 k1_h53
theorem k1_off507_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw61 : k1_chk61 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h53 : k1_cond53 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off507 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw61 k1_h53 => k1_hw61.2.2.2.2 k1_h53

def k1_off508 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off509 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond54 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v184
  let v563 : BitVec 1 := Scalar.cmpi .slt v561 v290
  let v564 : BitVec 1 := Scalar.andi v562 v563
  let v565 : BitVec 32 := Scalar.extui v564
  let c0_i32_279 : BitVec 32 := 0#32
  let v566 : BitVec 1 := Scalar.cmpi .ne v565 c0_i32_279
  v566

def k1_off510 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off511 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off512 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off513 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off514 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off515 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off516 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk62 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off509 i v639) a + S1x16.size a ≤ S80x64.size a) ∧
  (∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off511 i v639) a + S1x16.size a ≤ S80x64.size a) ∧
  (∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off513 i v639) a + S1x16.size a ≤ S80x64.size a) ∧
  (∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off515 i v639) a + S1x16.size a ≤ S80x64.size a) ∧
  (∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off516 i v639) a + S1x16.size a ≤ S80x16.size a)
theorem k1_off509_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw62 : k1_chk62 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off509 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw62 k1_h54 => k1_hw62.1 k1_h54
theorem k1_off511_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw62 : k1_chk62 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off511 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw62 k1_h54 => k1_hw62.2.1 k1_h54
theorem k1_off513_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw62 : k1_chk62 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off513 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw62 k1_h54 => k1_hw62.2.2.1 k1_h54
theorem k1_off515_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw62 : k1_chk62 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off515 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw62 k1_h54 => k1_hw62.2.2.2.1 k1_h54
theorem k1_off516_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw62 : k1_chk62 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h54 : k1_cond54 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off516 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw62 k1_h54 => k1_hw62.2.2.2.2 k1_h54

def k1_off517 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off518 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond55 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v184
  let v570 : BitVec 1 := Scalar.cmpi .slt v568 v290
  let v571 : BitVec 1 := Scalar.andi v569 v570
  let v572 : BitVec 32 := Scalar.extui v571
  let c0_i32_280 : BitVec 32 := 0#32
  let v573 : BitVec 1 := Scalar.cmpi .ne v572 c0_i32_280
  v573

def k1_off519 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off520 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off521 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off522 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off523 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off524 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off525 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk63 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off518 i v639) a + S1x16.size a ≤ S80x64.size a) ∧
  (∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off520 i v639) a + S1x16.size a ≤ S80x64.size a) ∧
  (∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off522 i v639) a + S1x16.size a ≤ S80x64.size a) ∧
  (∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off524 i v639) a + S1x16.size a ≤ S80x64.size a) ∧
  (∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off525 i v639) a + S1x16.size a ≤ S80x16.size a)
theorem k1_off518_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw63 : k1_chk63 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off518 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw63 k1_h55 => k1_hw63.1 k1_h55
theorem k1_off520_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw63 : k1_chk63 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off520 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw63 k1_h55 => k1_hw63.2.1 k1_h55
theorem k1_off522_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw63 : k1_chk63 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off522 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw63 k1_h55 => k1_hw63.2.2.1 k1_h55
theorem k1_off524_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw63 : k1_chk63 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off524 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw63 k1_h55 => k1_hw63.2.2.2.1 k1_h55
theorem k1_off525_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw63 : k1_chk63 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h55 : k1_cond55 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off525 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw63 k1_h55 => k1_hw63.2.2.2.2 k1_h55

def k1_off526 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off527 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond56 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v184
  let v577 : BitVec 1 := Scalar.cmpi .slt v575 v290
  let v578 : BitVec 1 := Scalar.andi v576 v577
  let v579 : BitVec 32 := Scalar.extui v578
  let c0_i32_281 : BitVec 32 := 0#32
  let v580 : BitVec 1 := Scalar.cmpi .ne v579 c0_i32_281
  v580

def k1_off528 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off529 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off530 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off531 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off532 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off533 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off534 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk64 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off527 i v639) a + S1x16.size a ≤ S80x64.size a) ∧
  (∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off529 i v639) a + S1x16.size a ≤ S80x64.size a) ∧
  (∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off531 i v639) a + S1x16.size a ≤ S80x64.size a) ∧
  (∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off533 i v639) a + S1x16.size a ≤ S80x64.size a) ∧
  (∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off534 i v639) a + S1x16.size a ≤ S80x16.size a)
theorem k1_off527_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw64 : k1_chk64 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off527 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw64 k1_h56 => k1_hw64.1 k1_h56
theorem k1_off529_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw64 : k1_chk64 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off529 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw64 k1_h56 => k1_hw64.2.1 k1_h56
theorem k1_off531_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw64 : k1_chk64 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off531 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw64 k1_h56 => k1_hw64.2.2.1 k1_h56
theorem k1_off533_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw64 : k1_chk64 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off533 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw64 k1_h56 => k1_hw64.2.2.2.1 k1_h56
theorem k1_off534_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw64 : k1_chk64 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h56 : k1_cond56 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off534 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw64 k1_h56 => k1_hw64.2.2.2.2 k1_h56

def k1_off535 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off536 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond57 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v184
  let v584 : BitVec 1 := Scalar.cmpi .slt v582 v290
  let v585 : BitVec 1 := Scalar.andi v583 v584
  let v586 : BitVec 32 := Scalar.extui v585
  let c0_i32_283 : BitVec 32 := 0#32
  let v587 : BitVec 1 := Scalar.cmpi .ne v586 c0_i32_283
  v587

def k1_off537 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off538 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off539 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off540 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off541 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off542 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off543 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk65 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off536 i v639) a + S1x16.size a ≤ S80x64.size a) ∧
  (∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off538 i v639) a + S1x16.size a ≤ S80x64.size a) ∧
  (∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off540 i v639) a + S1x16.size a ≤ S80x64.size a) ∧
  (∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off542 i v639) a + S1x16.size a ≤ S80x64.size a) ∧
  (∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off543 i v639) a + S1x16.size a ≤ S80x16.size a)
theorem k1_off536_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw65 : k1_chk65 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off536 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw65 k1_h57 => k1_hw65.1 k1_h57
theorem k1_off538_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw65 : k1_chk65 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off538 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw65 k1_h57 => k1_hw65.2.1 k1_h57
theorem k1_off540_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw65 : k1_chk65 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off540 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw65 k1_h57 => k1_hw65.2.2.1 k1_h57
theorem k1_off542_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw65 : k1_chk65 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off542 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw65 k1_h57 => k1_hw65.2.2.2.1 k1_h57
theorem k1_off543_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw65 : k1_chk65 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h57 : k1_cond57 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off543 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw65 k1_h57 => k1_hw65.2.2.2.2 k1_h57

def k1_off544 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off545 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond58 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v184
  let v591 : BitVec 1 := Scalar.cmpi .slt v589 v290
  let v592 : BitVec 1 := Scalar.andi v590 v591
  let v593 : BitVec 32 := Scalar.extui v592
  let c0_i32_284 : BitVec 32 := 0#32
  let v594 : BitVec 1 := Scalar.cmpi .ne v593 c0_i32_284
  v594

def k1_off546 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off547 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off548 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off549 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off550 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off551 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off552 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk66 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off545 i v639) a + S1x16.size a ≤ S80x64.size a) ∧
  (∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off547 i v639) a + S1x16.size a ≤ S80x64.size a) ∧
  (∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off549 i v639) a + S1x16.size a ≤ S80x64.size a) ∧
  (∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off551 i v639) a + S1x16.size a ≤ S80x64.size a) ∧
  (∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off552 i v639) a + S1x16.size a ≤ S80x16.size a)
theorem k1_off545_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw66 : k1_chk66 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off545 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw66 k1_h58 => k1_hw66.1 k1_h58
theorem k1_off547_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw66 : k1_chk66 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off547 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw66 k1_h58 => k1_hw66.2.1 k1_h58
theorem k1_off549_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw66 : k1_chk66 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off549 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw66 k1_h58 => k1_hw66.2.2.1 k1_h58
theorem k1_off551_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw66 : k1_chk66 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off551 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw66 k1_h58 => k1_hw66.2.2.2.1 k1_h58
theorem k1_off552_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw66 : k1_chk66 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h58 : k1_cond58 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off552 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw66 k1_h58 => k1_hw66.2.2.2.2 k1_h58

def k1_off553 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off554 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond59 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v184
  let v598 : BitVec 1 := Scalar.cmpi .slt v596 v290
  let v599 : BitVec 1 := Scalar.andi v597 v598
  let v600 : BitVec 32 := Scalar.extui v599
  let c0_i32_285 : BitVec 32 := 0#32
  let v601 : BitVec 1 := Scalar.cmpi .ne v600 c0_i32_285
  v601

def k1_off555 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off556 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off557 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off558 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off559 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off560 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off561 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk67 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off554 i v639) a + S1x16.size a ≤ S80x64.size a) ∧
  (∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off556 i v639) a + S1x16.size a ≤ S80x64.size a) ∧
  (∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off558 i v639) a + S1x16.size a ≤ S80x64.size a) ∧
  (∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off560 i v639) a + S1x16.size a ≤ S80x64.size a) ∧
  (∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off561 i v639) a + S1x16.size a ≤ S80x16.size a)
theorem k1_off554_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw67 : k1_chk67 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off554 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw67 k1_h59 => k1_hw67.1 k1_h59
theorem k1_off556_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw67 : k1_chk67 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off556 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw67 k1_h59 => k1_hw67.2.1 k1_h59
theorem k1_off558_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw67 : k1_chk67 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off558 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw67 k1_h59 => k1_hw67.2.2.1 k1_h59
theorem k1_off560_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw67 : k1_chk67 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off560 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw67 k1_h59 => k1_hw67.2.2.2.1 k1_h59
theorem k1_off561_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw67 : k1_chk67 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h59 : k1_cond59 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off561 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw67 k1_h59 => k1_hw67.2.2.2.2 k1_h59

def k1_off562 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off563 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]

variable {F : FTy → Type} [FloatOps F]

def k1_cond60 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v184
  let v605 : BitVec 1 := Scalar.cmpi .slt v603 v290
  let v606 : BitVec 1 := Scalar.andi v604 v605
  let v607 : BitVec 32 := Scalar.extui v606
  let c0_i32_286 : BitVec 32 := 0#32
  let v608 : BitVec 1 := Scalar.cmpi .ne v607 c0_i32_286
  v608

def k1_off564 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off565 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off566 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off567 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off568 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off569 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off570 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk68 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off563 i v639) a + S1x16.size a ≤ S80x64.size a) ∧
  (∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off565 i v639) a + S1x16.size a ≤ S80x64.size a) ∧
  (∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off567 i v639) a + S1x16.size a ≤ S80x64.size a) ∧
  (∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off569 i v639) a + S1x16.size a ≤ S80x64.size a) ∧
  (∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off570 i v639) a + S1x16.size a ≤ S80x16.size a)
theorem k1_off563_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw68 : k1_chk68 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off563 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw68 k1_h60 => k1_hw68.1 k1_h60
theorem k1_off565_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw68 : k1_chk68 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off565 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw68 k1_h60 => k1_hw68.2.1 k1_h60
theorem k1_off567_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw68 : k1_chk68 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off567 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw68 k1_h60 => k1_hw68.2.2.1 k1_h60
theorem k1_off569_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw68 : k1_chk68 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off569 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw68 k1_h60 => k1_hw68.2.2.2.1 k1_h60
theorem k1_off570_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw68 : k1_chk68 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h60 : k1_cond60 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off570 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw68 k1_h60 => k1_hw68.2.2.2.2 k1_h60

def k1_off571 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off572 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond61 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v184
  let v612 : BitVec 1 := Scalar.cmpi .slt v610 v290
  let v613 : BitVec 1 := Scalar.andi v611 v612
  let v614 : BitVec 32 := Scalar.extui v613
  let c0_i32_287 : BitVec 32 := 0#32
  let v615 : BitVec 1 := Scalar.cmpi .ne v614 c0_i32_287
  v615

def k1_off573 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off574 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off575 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off576 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off577 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off578 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off579 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk69 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off572 i v639) a + S1x16.size a ≤ S80x64.size a) ∧
  (∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off574 i v639) a + S1x16.size a ≤ S80x64.size a) ∧
  (∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off576 i v639) a + S1x16.size a ≤ S80x64.size a) ∧
  (∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off578 i v639) a + S1x16.size a ≤ S80x64.size a) ∧
  (∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off579 i v639) a + S1x16.size a ≤ S80x16.size a)
theorem k1_off572_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw69 : k1_chk69 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off572 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw69 k1_h61 => k1_hw69.1 k1_h61
theorem k1_off574_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw69 : k1_chk69 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off574 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw69 k1_h61 => k1_hw69.2.1 k1_h61
theorem k1_off576_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw69 : k1_chk69 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off576 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw69 k1_h61 => k1_hw69.2.2.1 k1_h61
theorem k1_off578_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw69 : k1_chk69 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off578 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw69 k1_h61 => k1_hw69.2.2.2.1 k1_h61
theorem k1_off579_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw69 : k1_chk69 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h61 : k1_cond61 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off579 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw69 k1_h61 => k1_hw69.2.2.2.2 k1_h61

def k1_off580 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off581 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond62 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v184
  let v619 : BitVec 1 := Scalar.cmpi .slt v617 v290
  let v620 : BitVec 1 := Scalar.andi v618 v619
  let v621 : BitVec 32 := Scalar.extui v620
  let c0_i32_288 : BitVec 32 := 0#32
  let v622 : BitVec 1 := Scalar.cmpi .ne v621 c0_i32_288
  v622

def k1_off582 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off583 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off584 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off585 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off586 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off587 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off588 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk70 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off581 i v639) a + S1x16.size a ≤ S80x64.size a) ∧
  (∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off583 i v639) a + S1x16.size a ≤ S80x64.size a) ∧
  (∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off585 i v639) a + S1x16.size a ≤ S80x64.size a) ∧
  (∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off587 i v639) a + S1x16.size a ≤ S80x64.size a) ∧
  (∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off588 i v639) a + S1x16.size a ≤ S80x16.size a)
theorem k1_off581_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw70 : k1_chk70 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off581 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw70 k1_h62 => k1_hw70.1 k1_h62
theorem k1_off583_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw70 : k1_chk70 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off583 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw70 k1_h62 => k1_hw70.2.1 k1_h62
theorem k1_off585_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw70 : k1_chk70 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off585 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw70 k1_h62 => k1_hw70.2.2.1 k1_h62
theorem k1_off587_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw70 : k1_chk70 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off587 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw70 k1_h62 => k1_hw70.2.2.2.1 k1_h62
theorem k1_off588_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw70 : k1_chk70 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h62 : k1_cond62 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off588 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw70 k1_h62 => k1_hw70.2.2.2.2 k1_h62

def k1_off589 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off590 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond63 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v184
  let v626 : BitVec 1 := Scalar.cmpi .slt v624 v290
  let v627 : BitVec 1 := Scalar.andi v625 v626
  let v628 : BitVec 32 := Scalar.extui v627
  let c0_i32_289 : BitVec 32 := 0#32
  let v629 : BitVec 1 := Scalar.cmpi .ne v628 c0_i32_289
  v629

def k1_off591 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off592 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off593 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off594 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off595 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off596 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off597 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk71 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off590 i v639) a + S1x16.size a ≤ S80x64.size a) ∧
  (∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off592 i v639) a + S1x16.size a ≤ S80x64.size a) ∧
  (∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off594 i v639) a + S1x16.size a ≤ S80x64.size a) ∧
  (∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off596 i v639) a + S1x16.size a ≤ S80x64.size a) ∧
  (∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off597 i v639) a + S1x16.size a ≤ S80x16.size a)
theorem k1_off590_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw71 : k1_chk71 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off590 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw71 k1_h63 => k1_hw71.1 k1_h63
theorem k1_off592_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw71 : k1_chk71 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off592 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw71 k1_h63 => k1_hw71.2.1 k1_h63
theorem k1_off594_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw71 : k1_chk71 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off594 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw71 k1_h63 => k1_hw71.2.2.1 k1_h63
theorem k1_off596_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw71 : k1_chk71 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off596 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw71 k1_h63 => k1_hw71.2.2.2.1 k1_h63
theorem k1_off597_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw71 : k1_chk71 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h63 : k1_cond63 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off597 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw71 k1_h63 => k1_hw71.2.2.2.2 k1_h63

def k1_off598 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off599 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v644 : Index := Scalar.indexCast v640
  let c0_295 : Index := 0#32
  ![v644.toNat, 0]
def k1_cond64 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) : BitVec 1 :=
  let c16_i32_79 : BitVec 32 := 16#32
  let v183 : BitVec 32 := Scalar.muli v98_0 c16_i32_79
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_37 : BitVec 32 := 0#32
  let v93 : BitVec 32 := Scalar.addi v2 c0_i32_37
  let c80_i32 : BitVec 32 := 80#32
  let v94 : BitVec 32 := Scalar.addi v93 c80_i32
  let c10000_i32 : BitVec 32 := 10000#32
  let v95 : BitVec 32 := Scalar.minsi v94 c10000_i32
  let v96 : BitVec 32 := Scalar.maxsi v95 v93
  let v105 : BitVec 1 := Scalar.cmpi .slt v104 v96
  let c1_i32_46 : BitVec 32 := 1#32
  let c0_i32_47 : BitVec 32 := 0#32
  let v106 : BitVec 32 := Scalar.select v105 c1_i32_46 c0_i32_47
  let v107 : BitVec 32 := Scalar.addi c0_i32_48 v106
  let v110 : BitVec 1 := Scalar.cmpi .slt v109 v96
  let c1_i32_49 : BitVec 32 := 1#32
  let c0_i32_50 : BitVec 32 := 0#32
  let v111 : BitVec 32 := Scalar.select v110 c1_i32_49 c0_i32_50
  let v112 : BitVec 32 := Scalar.addi v107 v111
  let v115 : BitVec 1 := Scalar.cmpi .slt v114 v96
  let c1_i32_51 : BitVec 32 := 1#32
  let c0_i32_52 : BitVec 32 := 0#32
  let v116 : BitVec 32 := Scalar.select v115 c1_i32_51 c0_i32_52
  let v117 : BitVec 32 := Scalar.addi v112 v116
  let v120 : BitVec 1 := Scalar.cmpi .slt v119 v96
  let c1_i32_53 : BitVec 32 := 1#32
  let c0_i32_54 : BitVec 32 := 0#32
  let v121 : BitVec 32 := Scalar.select v120 c1_i32_53 c0_i32_54
  let v122 : BitVec 32 := Scalar.addi v117 v121
  let v125 : BitVec 1 := Scalar.cmpi .slt v124 v96
  let c1_i32_55 : BitVec 32 := 1#32
  let c0_i32_56 : BitVec 32 := 0#32
  let v126 : BitVec 32 := Scalar.select v125 c1_i32_55 c0_i32_56
  let v127 : BitVec 32 := Scalar.addi v122 v126
  let v130 : BitVec 1 := Scalar.cmpi .slt v129 v96
  let c1_i32_57 : BitVec 32 := 1#32
  let c0_i32_58 : BitVec 32 := 0#32
  let v131 : BitVec 32 := Scalar.select v130 c1_i32_57 c0_i32_58
  let v132 : BitVec 32 := Scalar.addi v127 v131
  let v135 : BitVec 1 := Scalar.cmpi .slt v134 v96
  let c1_i32_59 : BitVec 32 := 1#32
  let c0_i32_60 : BitVec 32 := 0#32
  let v136 : BitVec 32 := Scalar.select v135 c1_i32_59 c0_i32_60
  let v137 : BitVec 32 := Scalar.addi v132 v136
  let v140 : BitVec 1 := Scalar.cmpi .slt v139 v96
  let c1_i32_61 : BitVec 32 := 1#32
  let c0_i32_62 : BitVec 32 := 0#32
  let v141 : BitVec 32 := Scalar.select v140 c1_i32_61 c0_i32_62
  let v142 : BitVec 32 := Scalar.addi v137 v141
  let v145 : BitVec 1 := Scalar.cmpi .slt v144 v96
  let c1_i32_63 : BitVec 32 := 1#32
  let c0_i32_64 : BitVec 32 := 0#32
  let v146 : BitVec 32 := Scalar.select v145 c1_i32_63 c0_i32_64
  let v147 : BitVec 32 := Scalar.addi v142 v146
  let v150 : BitVec 1 := Scalar.cmpi .slt v149 v96
  let c1_i32_65 : BitVec 32 := 1#32
  let c0_i32_66 : BitVec 32 := 0#32
  let v151 : BitVec 32 := Scalar.select v150 c1_i32_65 c0_i32_66
  let v152 : BitVec 32 := Scalar.addi v147 v151
  let v155 : BitVec 1 := Scalar.cmpi .slt v154 v96
  let c1_i32_67 : BitVec 32 := 1#32
  let c0_i32_68 : BitVec 32 := 0#32
  let v156 : BitVec 32 := Scalar.select v155 c1_i32_67 c0_i32_68
  let v157 : BitVec 32 := Scalar.addi v152 v156
  let v160 : BitVec 1 := Scalar.cmpi .slt v159 v96
  let c1_i32_69 : BitVec 32 := 1#32
  let c0_i32_70 : BitVec 32 := 0#32
  let v161 : BitVec 32 := Scalar.select v160 c1_i32_69 c0_i32_70
  let v162 : BitVec 32 := Scalar.addi v157 v161
  let v165 : BitVec 1 := Scalar.cmpi .slt v164 v96
  let c1_i32_71 : BitVec 32 := 1#32
  let c0_i32_72 : BitVec 32 := 0#32
  let v166 : BitVec 32 := Scalar.select v165 c1_i32_71 c0_i32_72
  let v167 : BitVec 32 := Scalar.addi v162 v166
  let v170 : BitVec 1 := Scalar.cmpi .slt v169 v96
  let c1_i32_73 : BitVec 32 := 1#32
  let c0_i32_74 : BitVec 32 := 0#32
  let v171 : BitVec 32 := Scalar.select v170 c1_i32_73 c0_i32_74
  let v172 : BitVec 32 := Scalar.addi v167 v171
  let v175 : BitVec 1 := Scalar.cmpi .slt v174 v96
  let c1_i32_75 : BitVec 32 := 1#32
  let c0_i32_76 : BitVec 32 := 0#32
  let v176 : BitVec 32 := Scalar.select v175 c1_i32_75 c0_i32_76
  let v177 : BitVec 32 := Scalar.addi v172 v176
  let v180 : BitVec 1 := Scalar.cmpi .slt v179 v96
  let c1_i32_77 : BitVec 32 := 1#32
  let c0_i32_78 : BitVec 32 := 0#32
  let v181 : BitVec 32 := Scalar.select v180 c1_i32_77 c0_i32_78
  let v182 : BitVec 32 := Scalar.addi v177 v181
  let v184 : BitVec 32 := Scalar.addi v183 v182
  let c8_i32_141 : BitVec 32 := 8#32
  let v293 : BitVec 32 := Scalar.shrsi v184 c8_i32_141
  let c16_i32_135 : BitVec 32 := 16#32
  let v289 : BitVec 32 := Scalar.muli v204_0 c16_i32_135
  let c0_i32_104 : BitVec 32 := 0#32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c256_i32_142 : BitVec 32 := 256#32
  let v294 : BitVec 32 := Scalar.addi v290 c256_i32_142
  let c1_i32_143 : BitVec 32 := 1#32
  let v295 : BitVec 32 := Scalar.subi v294 c1_i32_143
  let c8_i32_144 : BitVec 32 := 8#32
  let v296 : BitVec 32 := Scalar.shrsi v295 c8_i32_144
  let v297 : BitVec 32 := Scalar.subi v296 v293
  let c1_i32_146 : BitVec 32 := 1#32
  let v299 : BitVec 32 := Scalar.divsi v297 c1_i32_146
  let v300 : BitVec 32 := Scalar.muli v299 c1_i32_146
  let v301 : BitVec 32 := Scalar.addi v293 v300
  let c1_i32_148 : BitVec 32 := 1#32
  let arg13 : BitVec 32 := Scf.iv v301 c1_i32_148 k1_t12
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v184
  let v633 : BitVec 1 := Scalar.cmpi .slt v631 v290
  let v634 : BitVec 1 := Scalar.andi v632 v633
  let v635 : BitVec 32 := Scalar.extui v634
  let c0_i32_291 : BitVec 32 := 0#32
  let v636 : BitVec 1 := Scalar.cmpi .ne v635 c0_i32_291
  v636

def k1_off600 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off601 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v663 : Index := Scalar.indexCast v640
  let c16_299 : Index := 16#32
  ![v663.toNat, 16]
def k1_off602 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off603 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v682 : Index := Scalar.indexCast v640
  let c32_303 : Index := 32#32
  ![v682.toNat, 32]
def k1_off604 (k1_t13 : Fin k1_t13_loop.trips) : Fin 2 → Nat :=
  let c0_i32_265 : BitVec 32 := 0#32
  let c1_i32_267 : BitVec 32 := 1#32
  let arg15 : BitVec 32 := Scf.iv c0_i32_265 c1_i32_267 k1_t13
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off605 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v701 : Index := Scalar.indexCast v640
  let c48_307 : Index := 48#32
  ![v701.toNat, 48]
def k1_off606 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v640 : BitVec 32 := Scalar.subi v639 v199
  let v717 : Index := Scalar.indexCast v640
  let c0_311 : Index := 0#32
  ![v717.toNat, 0]

def k1_chk72 (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) : Prop :=
  (∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off599 i v639) a + S1x16.size a ≤ S80x64.size a) ∧
  (∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off601 i v639) a + S1x16.size a ≤ S80x64.size a) ∧
  (∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off603 i v639) a + S1x16.size a ≤ S80x64.size a) ∧
  (∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off605 i v639) a + S1x16.size a ≤ S80x64.size a) ∧
  (∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off606 i v639) a + S1x16.size a ≤ S80x16.size a)
theorem k1_off599_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw72 : k1_chk72 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off599 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw72 k1_h64 => k1_hw72.1 k1_h64
theorem k1_off601_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw72 : k1_chk72 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off601 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw72 k1_h64 => k1_hw72.2.1 k1_h64
theorem k1_off603_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw72 : k1_chk72 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off603 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw72 k1_h64 => k1_hw72.2.2.1 k1_h64
theorem k1_off605_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw72 : k1_chk72 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off605 i v639) a + S1x16.size a ≤ S80x64.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw72 k1_h64 => k1_hw72.2.2.2.1 k1_h64
theorem k1_off606_inb : ∀ (i : grid1.Coords) (v98_0 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v154 : BitVec 32) (v159 : BitVec 32) (v164 : BitVec 32) (v169 : BitVec 32) (v174 : BitVec 32) (v179 : BitVec 32) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (k1_t12 : Fin (k1_t12_loop i v98_0 v104 v109 v114 v119 v124 v129 v134 v139 v144 v149 v154 v159 v164 v169 v174 v179 v204_0 v210 v215 v220 v225 v230 v235 v240 v245 v250 v255 v260 v265 v270 v275 v280 v285).trips) (k1_t13 : Fin k1_t13_loop.trips) (v639 : BitVec 32) (k1_hw72 : k1_chk72 i v98_0 v104 v109 v114 v119 v124 v129 v134 v139 v144 v149 v154 v159 v164 v169 v174 v179 v204_0 v210 v215 v220 v225 v230 v235 v240 v245 v250 v255 v260 v265 v270 v275 v280 v285 k1_t12 k1_t13 v639), ∀ (k1_h64 : k1_cond64 i v98_0 v104 v109 v114 v119 v124 v129 v134 v139 v144 v149 v154 v159 v164 v169 v174 v179 v204_0 v210 v215 v220 v225 v230 v235 v240 v245 v250 v255 v260 v265 v270 v275 v280 v285 k1_t12 k1_t13 = 1#1), ∀ a, (k1_off606 i v639) a + S1x16.size a ≤ S80x16.size a := fun i v98_0 v104 v109 v114 v119 v124 v129 v134 v139 v144 v149 v154 v159 v164 v169 v174 v179 v204_0 v210 v215 v220 v225 v230 v235 v240 v245 v250 v255 v260 v265 v270 v275 v280 v285 k1_t12 k1_t13 v639 k1_hw72 k1_h64 => k1_hw72.2.2.2.2 k1_h64

def k1_mult12 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  v199
def k1_off607 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v304 : BitVec 32 := v199
  let c0_i32_265_r17 : BitVec 32 := 0#32
  ![v304.toNat, 0]
def k1_off608 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let v304 : BitVec 32 := v199
  let c0_i32_265_r19 : BitVec 32 := 0#32
  ![v304.toNat, 0]
@[reducible] def k1_t14_loop : Scf.Loop 32 :=
  let c0_i32_153 : BitVec 32 := 0#32
  let c15_i32_154 : BitVec 32 := 15#32
  let v309 : BitVec 32 := Scalar.addi c0_i32_153 c15_i32_154
  let c1_i32_155 : BitVec 32 := 1#32
  ⟨c0_i32_153, v309, c1_i32_155⟩
def k1_mult13 (arg14 : BitVec 32) (arg15 : BitVec 32) : BitVec 32 :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  v519

def k1_off609 (arg14 : BitVec 32) (arg15 : BitVec 32) : Fin 1 → Nat :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  let v520 : BitVec 32 := v519
  ![v520.toNat]

def k1_chk73 (arg14 : BitVec 32) (arg15 : BitVec 32) : Prop :=
  (16 ∣ (k1_mult13 arg14 arg15).toNat) ∧
  (∀ a, (k1_off609 arg14 arg15) a + S16.size a ≤ S320000.size a)
theorem k1_mult13_dvd : ∀ (arg14 : BitVec 32) (arg15 : BitVec 32) (k1_hw73 : k1_chk73 arg14 arg15), 16 ∣ (k1_mult13 arg14 arg15).toNat := fun arg14 arg15 k1_hw73 => k1_hw73.1
theorem k1_off609_inb : ∀ (arg14 : BitVec 32) (arg15 : BitVec 32) (k1_hw73 : k1_chk73 arg14 arg15), ∀ a, (k1_off609 arg14 arg15) a + S16.size a ≤ S320000.size a := fun arg14 arg15 k1_hw73 => k1_hw73.2

def k1_mult14 (v310_0 : BitVec 32) : BitVec 32 :=
  let c16_i32_157 : BitVec 32 := 16#32
  let v311 : BitVec 32 := Scalar.muli v310_0 c16_i32_157
  v311

def k1_off610 (v310_0 : BitVec 32) : Fin 1 → Nat :=
  let c16_i32_157 : BitVec 32 := 16#32
  let v311 : BitVec 32 := Scalar.muli v310_0 c16_i32_157
  let v312 : BitVec 32 := v311
  ![v312.toNat]

def k1_chk74 (v310_0 : BitVec 32) : Prop :=
  (16 ∣ (k1_mult14 v310_0).toNat) ∧
  (∀ a, (k1_off610 v310_0) a + S16.size a ≤ S320000.size a)
theorem k1_mult14_dvd : ∀ (v310_0 : BitVec 32) (k1_hw74 : k1_chk74 v310_0), 16 ∣ (k1_mult14 v310_0).toNat := fun v310_0 k1_hw74 => k1_hw74.1
theorem k1_off610_inb : ∀ (v310_0 : BitVec 32) (k1_hw74 : k1_chk74 v310_0), ∀ a, (k1_off610 v310_0) a + S16.size a ≤ S320000.size a := fun v310_0 k1_hw74 => k1_hw74.2

@[reducible] def k1_t15_loop : Scf.Loop 32 :=
  let c0_i32_194 : BitVec 32 := 0#32
  let c80_i32_195 : BitVec 32 := 80#32
  let v397 : BitVec 32 := Scalar.addi c0_i32_194 c80_i32_195
  let c1_i32_196 : BitVec 32 := 1#32
  ⟨c0_i32_194, v397, c1_i32_196⟩
def k1_off611 (k1_t15 : Fin k1_t15_loop.trips) : Fin 2 → Nat :=
  let c0_i32_194 : BitVec 32 := 0#32
  let c1_i32_196 : BitVec 32 := 1#32
  let arg13 : BitVec 32 := Scf.iv c0_i32_194 c1_i32_196 k1_t15
  let v517 : Index := Scalar.indexCast arg13
  let c0_263 : Index := 0#32
  ![v517.toNat, 0]
def k1_off612 (k1_t15 : Fin k1_t15_loop.trips) : Fin 2 → Nat :=
  let c0_i32_194 : BitVec 32 := 0#32
  let c1_i32_196 : BitVec 32 := 1#32
  let arg13 : BitVec 32 := Scf.iv c0_i32_194 c1_i32_196 k1_t15
  let v525 : Index := Scalar.indexCast arg13
  let c16 : Index := 16#32
  ![v525.toNat, 16]
def k1_off613 (k1_t15 : Fin k1_t15_loop.trips) : Fin 2 → Nat :=
  let c0_i32_194 : BitVec 32 := 0#32
  let c1_i32_196 : BitVec 32 := 1#32
  let arg13 : BitVec 32 := Scf.iv c0_i32_194 c1_i32_196 k1_t15
  let v533 : Index := Scalar.indexCast arg13
  let c32 : Index := 32#32
  ![v533.toNat, 32]
def k1_off614 (k1_t15 : Fin k1_t15_loop.trips) : Fin 2 → Nat :=
  let c0_i32_194 : BitVec 32 := 0#32
  let c1_i32_196 : BitVec 32 := 1#32
  let arg13 : BitVec 32 := Scf.iv c0_i32_194 c1_i32_196 k1_t15
  let v541 : Index := Scalar.indexCast arg13
  let c48 : Index := 48#32
  ![v541.toNat, 48]
def k1_off615 (k1_t15 : Fin k1_t15_loop.trips) : Fin 2 → Nat :=
  let c0_i32_194 : BitVec 32 := 0#32
  let c1_i32_196 : BitVec 32 := 1#32
  let arg13 : BitVec 32 := Scf.iv c0_i32_194 c1_i32_196 k1_t15
  let v549 : Index := Scalar.indexCast arg13
  let c0_268 : Index := 0#32
  ![v549.toNat, 0]
@[reducible] def k1_t16_loop (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) : Scf.Loop 32 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_204 : BitVec 32 := 1#32
  ⟨v399, v407, c1_i32_204⟩

def k1_mult15 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) : BitVec 32 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  v517
def k1_off616 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) : Fin 2 → Nat :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_270_r22 : BitVec 32 := 0#32
  ![v518.toNat, 0]
def k1_off617 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) : Fin 1 → Nat :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  ![v518.toNat]
@[reducible] def k1_t17_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off618 (k1_t17 : Fin k1_t17_loop.trips) : Fin 1 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v522 : Index := Scalar.indexCast v521
  ![v522.toNat]
def k1_off619 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off620 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond65 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v528 : BitVec 1 := Scalar.cmpi .slt v526 v396
  let v529 : BitVec 1 := Scalar.andi v527 v528
  let v530 : BitVec 32 := Scalar.extui v529
  let c0_i32_272 : BitVec 32 := 0#32
  let v531 : BitVec 1 := Scalar.cmpi .ne v530 c0_i32_272
  v531

def k1_off621 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off622 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off623 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off624 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off625 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off626 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off627 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk76 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off620 i v639) a + S1x16.size a ≤ S80x64.size a) ∧
  (∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off622 i v639) a + S1x16.size a ≤ S80x64.size a) ∧
  (∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off624 i v639) a + S1x16.size a ≤ S80x64.size a) ∧
  (∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off626 i v639) a + S1x16.size a ≤ S80x64.size a) ∧
  (∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off627 i v639) a + S1x16.size a ≤ S80x16.size a)
theorem k1_off620_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw76 : k1_chk76 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off620 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw76 k1_h65 => k1_hw76.1 k1_h65
theorem k1_off622_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw76 : k1_chk76 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off622 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw76 k1_h65 => k1_hw76.2.1 k1_h65
theorem k1_off624_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw76 : k1_chk76 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off624 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw76 k1_h65 => k1_hw76.2.2.1 k1_h65
theorem k1_off626_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw76 : k1_chk76 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off626 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw76 k1_h65 => k1_hw76.2.2.2.1 k1_h65
theorem k1_off627_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw76 : k1_chk76 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h65 : k1_cond65 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off627 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw76 k1_h65 => k1_hw76.2.2.2.2 k1_h65

def k1_off628 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off629 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond66 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v535 : BitVec 1 := Scalar.cmpi .slt v533 v396
  let v536 : BitVec 1 := Scalar.andi v534 v535
  let v537 : BitVec 32 := Scalar.extui v536
  let c0_i32_274 : BitVec 32 := 0#32
  let v538 : BitVec 1 := Scalar.cmpi .ne v537 c0_i32_274
  v538

def k1_off630 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off631 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off632 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off633 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off634 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off635 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off636 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk77 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off629 i v639) a + S1x16.size a ≤ S80x64.size a) ∧
  (∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off631 i v639) a + S1x16.size a ≤ S80x64.size a) ∧
  (∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off633 i v639) a + S1x16.size a ≤ S80x64.size a) ∧
  (∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off635 i v639) a + S1x16.size a ≤ S80x64.size a) ∧
  (∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off636 i v639) a + S1x16.size a ≤ S80x16.size a)
theorem k1_off629_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw77 : k1_chk77 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off629 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw77 k1_h66 => k1_hw77.1 k1_h66
theorem k1_off631_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw77 : k1_chk77 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off631 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw77 k1_h66 => k1_hw77.2.1 k1_h66
theorem k1_off633_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw77 : k1_chk77 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off633 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw77 k1_h66 => k1_hw77.2.2.1 k1_h66
theorem k1_off635_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw77 : k1_chk77 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off635 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw77 k1_h66 => k1_hw77.2.2.2.1 k1_h66
theorem k1_off636_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw77 : k1_chk77 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h66 : k1_cond66 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off636 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw77 k1_h66 => k1_hw77.2.2.2.2 k1_h66

def k1_off637 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off638 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond67 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v542 : BitVec 1 := Scalar.cmpi .slt v540 v396
  let v543 : BitVec 1 := Scalar.andi v541 v542
  let v544 : BitVec 32 := Scalar.extui v543
  let c0_i32_276 : BitVec 32 := 0#32
  let v545 : BitVec 1 := Scalar.cmpi .ne v544 c0_i32_276
  v545

def k1_off639 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off640 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off641 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off642 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off643 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off644 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off645 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk78 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off638 i v639) a + S1x16.size a ≤ S80x64.size a) ∧
  (∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off640 i v639) a + S1x16.size a ≤ S80x64.size a) ∧
  (∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off642 i v639) a + S1x16.size a ≤ S80x64.size a) ∧
  (∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off644 i v639) a + S1x16.size a ≤ S80x64.size a) ∧
  (∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off645 i v639) a + S1x16.size a ≤ S80x16.size a)
theorem k1_off638_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw78 : k1_chk78 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off638 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw78 k1_h67 => k1_hw78.1 k1_h67
theorem k1_off640_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw78 : k1_chk78 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off640 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw78 k1_h67 => k1_hw78.2.1 k1_h67
theorem k1_off642_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw78 : k1_chk78 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off642 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw78 k1_h67 => k1_hw78.2.2.1 k1_h67
theorem k1_off644_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw78 : k1_chk78 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off644 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw78 k1_h67 => k1_hw78.2.2.2.1 k1_h67
theorem k1_off645_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw78 : k1_chk78 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h67 : k1_cond67 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off645 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw78 k1_h67 => k1_hw78.2.2.2.2 k1_h67

def k1_off646 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off647 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond68 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v549 : BitVec 1 := Scalar.cmpi .slt v547 v396
  let v550 : BitVec 1 := Scalar.andi v548 v549
  let v551 : BitVec 32 := Scalar.extui v550
  let c0_i32_277 : BitVec 32 := 0#32
  let v552 : BitVec 1 := Scalar.cmpi .ne v551 c0_i32_277
  v552

def k1_off648 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off649 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off650 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off651 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off652 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off653 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off654 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk79 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off647 i v639) a + S1x16.size a ≤ S80x64.size a) ∧
  (∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off649 i v639) a + S1x16.size a ≤ S80x64.size a) ∧
  (∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off651 i v639) a + S1x16.size a ≤ S80x64.size a) ∧
  (∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off653 i v639) a + S1x16.size a ≤ S80x64.size a) ∧
  (∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off654 i v639) a + S1x16.size a ≤ S80x16.size a)
theorem k1_off647_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw79 : k1_chk79 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off647 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw79 k1_h68 => k1_hw79.1 k1_h68
theorem k1_off649_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw79 : k1_chk79 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off649 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw79 k1_h68 => k1_hw79.2.1 k1_h68
theorem k1_off651_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw79 : k1_chk79 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off651 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw79 k1_h68 => k1_hw79.2.2.1 k1_h68
theorem k1_off653_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw79 : k1_chk79 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off653 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw79 k1_h68 => k1_hw79.2.2.2.1 k1_h68
theorem k1_off654_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw79 : k1_chk79 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h68 : k1_cond68 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off654 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw79 k1_h68 => k1_hw79.2.2.2.2 k1_h68

def k1_off655 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off656 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond69 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v556 : BitVec 1 := Scalar.cmpi .slt v554 v396
  let v557 : BitVec 1 := Scalar.andi v555 v556
  let v558 : BitVec 32 := Scalar.extui v557
  let c0_i32_278 : BitVec 32 := 0#32
  let v559 : BitVec 1 := Scalar.cmpi .ne v558 c0_i32_278
  v559

def k1_off657 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off658 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off659 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off660 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off661 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off662 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off663 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk80 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off656 i v639) a + S1x16.size a ≤ S80x64.size a) ∧
  (∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off658 i v639) a + S1x16.size a ≤ S80x64.size a) ∧
  (∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off660 i v639) a + S1x16.size a ≤ S80x64.size a) ∧
  (∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off662 i v639) a + S1x16.size a ≤ S80x64.size a) ∧
  (∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off663 i v639) a + S1x16.size a ≤ S80x16.size a)
theorem k1_off656_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw80 : k1_chk80 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off656 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw80 k1_h69 => k1_hw80.1 k1_h69
theorem k1_off658_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw80 : k1_chk80 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off658 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw80 k1_h69 => k1_hw80.2.1 k1_h69
theorem k1_off660_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw80 : k1_chk80 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off660 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw80 k1_h69 => k1_hw80.2.2.1 k1_h69
theorem k1_off662_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw80 : k1_chk80 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off662 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw80 k1_h69 => k1_hw80.2.2.2.1 k1_h69
theorem k1_off663_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw80 : k1_chk80 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h69 : k1_cond69 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off663 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw80 k1_h69 => k1_hw80.2.2.2.2 k1_h69

def k1_off664 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off665 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond70 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v563 : BitVec 1 := Scalar.cmpi .slt v561 v396
  let v564 : BitVec 1 := Scalar.andi v562 v563
  let v565 : BitVec 32 := Scalar.extui v564
  let c0_i32_279 : BitVec 32 := 0#32
  let v566 : BitVec 1 := Scalar.cmpi .ne v565 c0_i32_279
  v566

def k1_off666 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off667 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off668 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off669 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off670 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off671 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off672 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk81 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off665 i v639) a + S1x16.size a ≤ S80x64.size a) ∧
  (∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off667 i v639) a + S1x16.size a ≤ S80x64.size a) ∧
  (∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off669 i v639) a + S1x16.size a ≤ S80x64.size a) ∧
  (∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off671 i v639) a + S1x16.size a ≤ S80x64.size a) ∧
  (∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off672 i v639) a + S1x16.size a ≤ S80x16.size a)
theorem k1_off665_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw81 : k1_chk81 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off665 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw81 k1_h70 => k1_hw81.1 k1_h70
theorem k1_off667_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw81 : k1_chk81 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off667 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw81 k1_h70 => k1_hw81.2.1 k1_h70
theorem k1_off669_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw81 : k1_chk81 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off669 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw81 k1_h70 => k1_hw81.2.2.1 k1_h70
theorem k1_off671_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw81 : k1_chk81 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off671 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw81 k1_h70 => k1_hw81.2.2.2.1 k1_h70
theorem k1_off672_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw81 : k1_chk81 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h70 : k1_cond70 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off672 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw81 k1_h70 => k1_hw81.2.2.2.2 k1_h70

def k1_off673 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off674 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond71 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v570 : BitVec 1 := Scalar.cmpi .slt v568 v396
  let v571 : BitVec 1 := Scalar.andi v569 v570
  let v572 : BitVec 32 := Scalar.extui v571
  let c0_i32_280 : BitVec 32 := 0#32
  let v573 : BitVec 1 := Scalar.cmpi .ne v572 c0_i32_280
  v573

def k1_off675 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off676 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off677 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off678 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off679 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off680 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off681 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk82 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off674 i v639) a + S1x16.size a ≤ S80x64.size a) ∧
  (∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off676 i v639) a + S1x16.size a ≤ S80x64.size a) ∧
  (∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off678 i v639) a + S1x16.size a ≤ S80x64.size a) ∧
  (∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off680 i v639) a + S1x16.size a ≤ S80x64.size a) ∧
  (∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off681 i v639) a + S1x16.size a ≤ S80x16.size a)
theorem k1_off674_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw82 : k1_chk82 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off674 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw82 k1_h71 => k1_hw82.1 k1_h71
theorem k1_off676_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw82 : k1_chk82 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off676 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw82 k1_h71 => k1_hw82.2.1 k1_h71
theorem k1_off678_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw82 : k1_chk82 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off678 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw82 k1_h71 => k1_hw82.2.2.1 k1_h71
theorem k1_off680_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw82 : k1_chk82 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off680 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw82 k1_h71 => k1_hw82.2.2.2.1 k1_h71
theorem k1_off681_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw82 : k1_chk82 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h71 : k1_cond71 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off681 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw82 k1_h71 => k1_hw82.2.2.2.2 k1_h71

def k1_off682 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off683 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond72 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v577 : BitVec 1 := Scalar.cmpi .slt v575 v396
  let v578 : BitVec 1 := Scalar.andi v576 v577
  let v579 : BitVec 32 := Scalar.extui v578
  let c0_i32_281 : BitVec 32 := 0#32
  let v580 : BitVec 1 := Scalar.cmpi .ne v579 c0_i32_281
  v580

def k1_off684 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off685 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off686 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off687 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off688 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off689 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off690 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk83 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off683 i v639) a + S1x16.size a ≤ S80x64.size a) ∧
  (∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off685 i v639) a + S1x16.size a ≤ S80x64.size a) ∧
  (∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off687 i v639) a + S1x16.size a ≤ S80x64.size a) ∧
  (∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off689 i v639) a + S1x16.size a ≤ S80x64.size a) ∧
  (∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off690 i v639) a + S1x16.size a ≤ S80x16.size a)
theorem k1_off683_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw83 : k1_chk83 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off683 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw83 k1_h72 => k1_hw83.1 k1_h72
theorem k1_off685_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw83 : k1_chk83 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off685 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw83 k1_h72 => k1_hw83.2.1 k1_h72
theorem k1_off687_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw83 : k1_chk83 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off687 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw83 k1_h72 => k1_hw83.2.2.1 k1_h72
theorem k1_off689_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw83 : k1_chk83 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off689 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw83 k1_h72 => k1_hw83.2.2.2.1 k1_h72
theorem k1_off690_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw83 : k1_chk83 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h72 : k1_cond72 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off690 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw83 k1_h72 => k1_hw83.2.2.2.2 k1_h72

def k1_off691 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off692 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond73 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v584 : BitVec 1 := Scalar.cmpi .slt v582 v396
  let v585 : BitVec 1 := Scalar.andi v583 v584
  let v586 : BitVec 32 := Scalar.extui v585
  let c0_i32_283 : BitVec 32 := 0#32
  let v587 : BitVec 1 := Scalar.cmpi .ne v586 c0_i32_283
  v587

def k1_off693 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off694 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off695 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off696 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off697 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off698 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off699 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk84 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off692 i v639) a + S1x16.size a ≤ S80x64.size a) ∧
  (∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off694 i v639) a + S1x16.size a ≤ S80x64.size a) ∧
  (∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off696 i v639) a + S1x16.size a ≤ S80x64.size a) ∧
  (∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off698 i v639) a + S1x16.size a ≤ S80x64.size a) ∧
  (∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off699 i v639) a + S1x16.size a ≤ S80x16.size a)
theorem k1_off692_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw84 : k1_chk84 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off692 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw84 k1_h73 => k1_hw84.1 k1_h73
theorem k1_off694_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw84 : k1_chk84 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off694 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw84 k1_h73 => k1_hw84.2.1 k1_h73
theorem k1_off696_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw84 : k1_chk84 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off696 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw84 k1_h73 => k1_hw84.2.2.1 k1_h73
theorem k1_off698_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw84 : k1_chk84 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off698 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw84 k1_h73 => k1_hw84.2.2.2.1 k1_h73
theorem k1_off699_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw84 : k1_chk84 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h73 : k1_cond73 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off699 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw84 k1_h73 => k1_hw84.2.2.2.2 k1_h73

def k1_off700 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off701 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond74 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v591 : BitVec 1 := Scalar.cmpi .slt v589 v396
  let v592 : BitVec 1 := Scalar.andi v590 v591
  let v593 : BitVec 32 := Scalar.extui v592
  let c0_i32_284 : BitVec 32 := 0#32
  let v594 : BitVec 1 := Scalar.cmpi .ne v593 c0_i32_284
  v594

def k1_off702 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off703 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off704 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off705 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off706 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off707 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off708 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk85 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off701 i v639) a + S1x16.size a ≤ S80x64.size a) ∧
  (∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off703 i v639) a + S1x16.size a ≤ S80x64.size a) ∧
  (∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off705 i v639) a + S1x16.size a ≤ S80x64.size a) ∧
  (∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off707 i v639) a + S1x16.size a ≤ S80x64.size a) ∧
  (∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off708 i v639) a + S1x16.size a ≤ S80x16.size a)
theorem k1_off701_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw85 : k1_chk85 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off701 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw85 k1_h74 => k1_hw85.1 k1_h74
theorem k1_off703_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw85 : k1_chk85 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off703 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw85 k1_h74 => k1_hw85.2.1 k1_h74
theorem k1_off705_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw85 : k1_chk85 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off705 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw85 k1_h74 => k1_hw85.2.2.1 k1_h74
theorem k1_off707_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw85 : k1_chk85 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off707 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw85 k1_h74 => k1_hw85.2.2.2.1 k1_h74
theorem k1_off708_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw85 : k1_chk85 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h74 : k1_cond74 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off708 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw85 k1_h74 => k1_hw85.2.2.2.2 k1_h74

def k1_off709 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off710 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond75 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v598 : BitVec 1 := Scalar.cmpi .slt v596 v396
  let v599 : BitVec 1 := Scalar.andi v597 v598
  let v600 : BitVec 32 := Scalar.extui v599
  let c0_i32_285 : BitVec 32 := 0#32
  let v601 : BitVec 1 := Scalar.cmpi .ne v600 c0_i32_285
  v601

def k1_off711 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off712 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off713 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off714 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off715 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off716 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off717 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk86 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off710 i v639) a + S1x16.size a ≤ S80x64.size a) ∧
  (∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off712 i v639) a + S1x16.size a ≤ S80x64.size a) ∧
  (∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off714 i v639) a + S1x16.size a ≤ S80x64.size a) ∧
  (∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off716 i v639) a + S1x16.size a ≤ S80x64.size a) ∧
  (∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off717 i v639) a + S1x16.size a ≤ S80x16.size a)
theorem k1_off710_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw86 : k1_chk86 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off710 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw86 k1_h75 => k1_hw86.1 k1_h75
theorem k1_off712_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw86 : k1_chk86 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off712 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw86 k1_h75 => k1_hw86.2.1 k1_h75
theorem k1_off714_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw86 : k1_chk86 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off714 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw86 k1_h75 => k1_hw86.2.2.1 k1_h75
theorem k1_off716_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw86 : k1_chk86 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off716 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw86 k1_h75 => k1_hw86.2.2.2.1 k1_h75
theorem k1_off717_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw86 : k1_chk86 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h75 : k1_cond75 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off717 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw86 k1_h75 => k1_hw86.2.2.2.2 k1_h75

def k1_off718 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off719 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond76 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v605 : BitVec 1 := Scalar.cmpi .slt v603 v396
  let v606 : BitVec 1 := Scalar.andi v604 v605
  let v607 : BitVec 32 := Scalar.extui v606
  let c0_i32_286 : BitVec 32 := 0#32
  let v608 : BitVec 1 := Scalar.cmpi .ne v607 c0_i32_286
  v608

def k1_off720 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off721 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off722 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off723 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off724 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off725 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off726 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk87 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off719 i v639) a + S1x16.size a ≤ S80x64.size a) ∧
  (∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off721 i v639) a + S1x16.size a ≤ S80x64.size a) ∧
  (∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off723 i v639) a + S1x16.size a ≤ S80x64.size a) ∧
  (∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off725 i v639) a + S1x16.size a ≤ S80x64.size a) ∧
  (∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off726 i v639) a + S1x16.size a ≤ S80x16.size a)
theorem k1_off719_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw87 : k1_chk87 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off719 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw87 k1_h76 => k1_hw87.1 k1_h76
theorem k1_off721_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw87 : k1_chk87 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off721 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw87 k1_h76 => k1_hw87.2.1 k1_h76
theorem k1_off723_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw87 : k1_chk87 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off723 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw87 k1_h76 => k1_hw87.2.2.1 k1_h76
theorem k1_off725_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw87 : k1_chk87 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off725 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw87 k1_h76 => k1_hw87.2.2.2.1 k1_h76
theorem k1_off726_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw87 : k1_chk87 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h76 : k1_cond76 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off726 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw87 k1_h76 => k1_hw87.2.2.2.2 k1_h76

def k1_off727 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off728 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond77 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v612 : BitVec 1 := Scalar.cmpi .slt v610 v396
  let v613 : BitVec 1 := Scalar.andi v611 v612
  let v614 : BitVec 32 := Scalar.extui v613
  let c0_i32_287 : BitVec 32 := 0#32
  let v615 : BitVec 1 := Scalar.cmpi .ne v614 c0_i32_287
  v615

def k1_off729 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off730 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off731 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off732 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off733 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off734 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off735 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk88 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off728 i v639) a + S1x16.size a ≤ S80x64.size a) ∧
  (∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off730 i v639) a + S1x16.size a ≤ S80x64.size a) ∧
  (∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off732 i v639) a + S1x16.size a ≤ S80x64.size a) ∧
  (∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off734 i v639) a + S1x16.size a ≤ S80x64.size a) ∧
  (∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off735 i v639) a + S1x16.size a ≤ S80x16.size a)
theorem k1_off728_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw88 : k1_chk88 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off728 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw88 k1_h77 => k1_hw88.1 k1_h77
theorem k1_off730_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw88 : k1_chk88 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off730 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw88 k1_h77 => k1_hw88.2.1 k1_h77
theorem k1_off732_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw88 : k1_chk88 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off732 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw88 k1_h77 => k1_hw88.2.2.1 k1_h77
theorem k1_off734_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw88 : k1_chk88 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off734 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw88 k1_h77 => k1_hw88.2.2.2.1 k1_h77
theorem k1_off735_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw88 : k1_chk88 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h77 : k1_cond77 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off735 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw88 k1_h77 => k1_hw88.2.2.2.2 k1_h77

def k1_off736 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off737 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond78 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v619 : BitVec 1 := Scalar.cmpi .slt v617 v396
  let v620 : BitVec 1 := Scalar.andi v618 v619
  let v621 : BitVec 32 := Scalar.extui v620
  let c0_i32_288 : BitVec 32 := 0#32
  let v622 : BitVec 1 := Scalar.cmpi .ne v621 c0_i32_288
  v622

def k1_off738 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off739 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off740 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off741 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off742 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off743 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off744 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk89 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off737 i v639) a + S1x16.size a ≤ S80x64.size a) ∧
  (∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off739 i v639) a + S1x16.size a ≤ S80x64.size a) ∧
  (∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off741 i v639) a + S1x16.size a ≤ S80x64.size a) ∧
  (∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off743 i v639) a + S1x16.size a ≤ S80x64.size a) ∧
  (∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off744 i v639) a + S1x16.size a ≤ S80x16.size a)
theorem k1_off737_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw89 : k1_chk89 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off737 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw89 k1_h78 => k1_hw89.1 k1_h78
theorem k1_off739_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw89 : k1_chk89 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off739 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw89 k1_h78 => k1_hw89.2.1 k1_h78
theorem k1_off741_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw89 : k1_chk89 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off741 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw89 k1_h78 => k1_hw89.2.2.1 k1_h78
theorem k1_off743_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw89 : k1_chk89 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off743 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw89 k1_h78 => k1_hw89.2.2.2.1 k1_h78
theorem k1_off744_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw89 : k1_chk89 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h78 : k1_cond78 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off744 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw89 k1_h78 => k1_hw89.2.2.2.2 k1_h78

def k1_off745 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off746 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond79 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v626 : BitVec 1 := Scalar.cmpi .slt v624 v396
  let v627 : BitVec 1 := Scalar.andi v625 v626
  let v628 : BitVec 32 := Scalar.extui v627
  let c0_i32_289 : BitVec 32 := 0#32
  let v629 : BitVec 1 := Scalar.cmpi .ne v628 c0_i32_289
  v629

def k1_off747 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off748 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off749 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off750 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off751 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off752 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off753 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk90 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off746 i v639) a + S1x16.size a ≤ S80x64.size a) ∧
  (∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off748 i v639) a + S1x16.size a ≤ S80x64.size a) ∧
  (∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off750 i v639) a + S1x16.size a ≤ S80x64.size a) ∧
  (∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off752 i v639) a + S1x16.size a ≤ S80x64.size a) ∧
  (∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off753 i v639) a + S1x16.size a ≤ S80x16.size a)
theorem k1_off746_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw90 : k1_chk90 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off746 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw90 k1_h79 => k1_hw90.1 k1_h79
theorem k1_off748_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw90 : k1_chk90 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off748 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw90 k1_h79 => k1_hw90.2.1 k1_h79
theorem k1_off750_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw90 : k1_chk90 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off750 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw90 k1_h79 => k1_hw90.2.2.1 k1_h79
theorem k1_off752_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw90 : k1_chk90 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off752 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw90 k1_h79 => k1_hw90.2.2.2.1 k1_h79
theorem k1_off753_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw90 : k1_chk90 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h79 : k1_cond79 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off753 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw90 k1_h79 => k1_hw90.2.2.2.2 k1_h79

def k1_off754 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off755 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond80 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c1_i32_204 : BitVec 32 := 1#32
  let arg13 : BitVec 32 := Scf.iv v399 c1_i32_204 k1_t16
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v290
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let v633 : BitVec 1 := Scalar.cmpi .slt v631 v396
  let v634 : BitVec 1 := Scalar.andi v632 v633
  let v635 : BitVec 32 := Scalar.extui v634
  let c0_i32_291 : BitVec 32 := 0#32
  let v636 : BitVec 1 := Scalar.cmpi .ne v635 c0_i32_291
  v636

def k1_off756 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off757 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off758 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off759 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off760 (k1_t17 : Fin k1_t17_loop.trips) : Fin 2 → Nat :=
  let c0_i32_265 : BitVec 32 := 0#32
  let c1_i32_267 : BitVec 32 := 1#32
  let arg15 : BitVec 32 := Scf.iv c0_i32_265 c1_i32_267 k1_t17
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off761 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off762 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk91 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) : Prop :=
  (∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off755 i v639) a + S1x16.size a ≤ S80x64.size a) ∧
  (∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off757 i v639) a + S1x16.size a ≤ S80x64.size a) ∧
  (∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off759 i v639) a + S1x16.size a ≤ S80x64.size a) ∧
  (∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off761 i v639) a + S1x16.size a ≤ S80x64.size a) ∧
  (∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off762 i v639) a + S1x16.size a ≤ S80x16.size a)
theorem k1_off755_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw91 : k1_chk91 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off755 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw91 k1_h80 => k1_hw91.1 k1_h80
theorem k1_off757_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw91 : k1_chk91 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off757 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw91 k1_h80 => k1_hw91.2.1 k1_h80
theorem k1_off759_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw91 : k1_chk91 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off759 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw91 k1_h80 => k1_hw91.2.2.1 k1_h80
theorem k1_off761_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw91 : k1_chk91 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off761 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw91 k1_h80 => k1_hw91.2.2.2.1 k1_h80
theorem k1_off762_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips) (k1_t17 : Fin k1_t17_loop.trips) (v639 : BitVec 32) (k1_hw91 : k1_chk91 i v204_0 v210 v215 v220 v225 v230 v235 v240 v245 v250 v255 v260 v265 v270 v275 v280 v285 v310_0 v316 v321 v326 v331 v336 v341 v346 v351 v356 v361 v366 v371 v376 v381 v386 v391 k1_t16 k1_t17 v639), ∀ (k1_h80 : k1_cond80 i v204_0 v210 v215 v220 v225 v230 v235 v240 v245 v250 v255 v260 v265 v270 v275 v280 v285 v310_0 v316 v321 v326 v331 v336 v341 v346 v351 v356 v361 v366 v371 v376 v381 v386 v391 k1_t16 k1_t17 = 1#1), ∀ a, (k1_off762 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t16 k1_t17 v639 k1_hw91 k1_h80 => k1_hw91.2.2.2.2 k1_h80

@[reducible] def k1_t18_loop (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) : Scf.Loop 32 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let v404 : BitVec 32 := Scalar.addi v399 v403
  let c1_i32_205 : BitVec 32 := 1#32
  ⟨v407, v404, c1_i32_205⟩
def k1_mult16 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) : BitVec 32 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  v517
def k1_off763 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) : Fin 2 → Nat :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_270_r24 : BitVec 32 := 0#32
  ![v518.toNat, 0]
def k1_off764 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) : Fin 1 → Nat :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  ![v518.toNat]

def k1_chk75 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) : Prop :=
  ((k1_t16_loop i v204_0 v210 v215 v220 v225 v230 v235 v240 v245 v250 v255 v260 v265 v270 v275 v280 v285 v310_0 v316 v321 v326 v331 v336 v341 v346 v351 v356 v361 v366 v371 v376 v381 v386 v391).OK) ∧
  (∀ k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips, 256 ∣ (k1_mult15 i v204_0 v210 v215 v220 v225 v230 v235 v240 v245 v250 v255 v260 v265 v270 v275 v280 v285 v310_0 v316 v321 v326 v331 v336 v341 v346 v351 v356 v361 v366 v371 v376 v381 v386 v391 k1_t16).toNat) ∧
  (∀ k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips, ∀ a, (k1_off616 i v204_0 v210 v215 v220 v225 v230 v235 v240 v245 v250 v255 v260 v265 v270 v275 v280 v285 v310_0 v316 v321 v326 v331 v336 v341 v346 v351 v356 v361 v366 v371 v376 v381 v386 v391 k1_t16) a + S256x64.size a ≤ S320000x64.size a) ∧
  (∀ k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips, ∀ a, (k1_off617 i v204_0 v210 v215 v220 v225 v230 v235 v240 v245 v250 v255 v260 v265 v270 v275 v280 v285 v310_0 v316 v321 v326 v331 v336 v341 v346 v351 v356 v361 v366 v371 v376 v381 v386 v391 k1_t16) a + S256.size a ≤ S320000.size a) ∧
  ((k1_t18_loop i v204_0 v210 v215 v220 v225 v230 v235 v240 v245 v250 v255 v260 v265 v270 v275 v280 v285 v310_0 v316 v321 v326 v331 v336 v341 v346 v351 v356 v361 v366 v371 v376 v381 v386 v391).OK) ∧
  (∀ k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips, 256 ∣ (k1_mult16 i v204_0 v210 v215 v220 v225 v230 v235 v240 v245 v250 v255 v260 v265 v270 v275 v280 v285 v310_0 v316 v321 v326 v331 v336 v341 v346 v351 v356 v361 v366 v371 v376 v381 v386 v391 k1_t18).toNat) ∧
  (∀ k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips, ∀ a, (k1_off763 i v204_0 v210 v215 v220 v225 v230 v235 v240 v245 v250 v255 v260 v265 v270 v275 v280 v285 v310_0 v316 v321 v326 v331 v336 v341 v346 v351 v356 v361 v366 v371 v376 v381 v386 v391 k1_t18) a + S256x64.size a ≤ S320000x64.size a) ∧
  (∀ k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips, ∀ a, (k1_off764 i v204_0 v210 v215 v220 v225 v230 v235 v240 v245 v250 v255 v260 v265 v270 v275 v280 v285 v310_0 v316 v321 v326 v331 v336 v341 v346 v351 v356 v361 v366 v371 v376 v381 v386 v391 k1_t18) a + S256.size a ≤ S320000.size a)
theorem k1_t16_ok : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391), (k1_t16_loop i v204_0 v210 v215 v220 v225 v230 v235 v240 v245 v250 v255 v260 v265 v270 v275 v280 v285 v310_0 v316 v321 v326 v331 v336 v341 v346 v351 v356 v361 v366 v371 v376 v381 v386 v391).OK := fun i v204_0 v210 v215 v220 v225 v230 v235 v240 v245 v250 v255 v260 v265 v270 v275 v280 v285 v310_0 v316 v321 v326 v331 v336 v341 v346 v351 v356 v361 v366 v371 v376 v381 v386 v391 k1_hw75 => k1_hw75.1
theorem k1_mult15_dvd : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips), 256 ∣ (k1_mult15 i v204_0 v210 v215 v220 v225 v230 v235 v240 v245 v250 v255 v260 v265 v270 v275 v280 v285 v310_0 v316 v321 v326 v331 v336 v341 v346 v351 v356 v361 v366 v371 v376 v381 v386 v391 k1_t16).toNat := fun i v204_0 v210 v215 v220 v225 v230 v235 v240 v245 v250 v255 v260 v265 v270 v275 v280 v285 v310_0 v316 v321 v326 v331 v336 v341 v346 v351 v356 v361 v366 v371 v376 v381 v386 v391 k1_hw75 k1_t16 => k1_hw75.2.1 k1_t16
theorem k1_off616_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips), ∀ a, (k1_off616 i v204_0 v210 v215 v220 v225 v230 v235 v240 v245 v250 v255 v260 v265 v270 v275 v280 v285 v310_0 v316 v321 v326 v331 v336 v341 v346 v351 v356 v361 v366 v371 v376 v381 v386 v391 k1_t16) a + S256x64.size a ≤ S320000x64.size a := fun i v204_0 v210 v215 v220 v225 v230 v235 v240 v245 v250 v255 v260 v265 v270 v275 v280 v285 v310_0 v316 v321 v326 v331 v336 v341 v346 v351 v356 v361 v366 v371 v376 v381 v386 v391 k1_hw75 k1_t16 => k1_hw75.2.2.1 k1_t16
theorem k1_off617_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391) (k1_t16 : Fin (k1_t16_loop i v204_0 v210 v215 v220 v225 v230 v235 v240 v245 v250 v255 v260 v265 v270 v275 v280 v285 v310_0 v316 v321 v326 v331 v336 v341 v346 v351 v356 v361 v366 v371 v376 v381 v386 v391).trips), ∀ a, (k1_off617 i v204_0 v210 v215 v220 v225 v230 v235 v240 v245 v250 v255 v260 v265 v270 v275 v280 v285 v310_0 v316 v321 v326 v331 v336 v341 v346 v351 v356 v361 v366 v371 v376 v381 v386 v391 k1_t16) a + S256.size a ≤ S320000.size a := fun i v204_0 v210 v215 v220 v225 v230 v235 v240 v245 v250 v255 v260 v265 v270 v275 v280 v285 v310_0 v316 v321 v326 v331 v336 v341 v346 v351 v356 v361 v366 v371 v376 v381 v386 v391 k1_hw75 k1_t16 => k1_hw75.2.2.2.1 k1_t16
theorem k1_t18_ok : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391), (k1_t18_loop i v204_0 v210 v215 v220 v225 v230 v235 v240 v245 v250 v255 v260 v265 v270 v275 v280 v285 v310_0 v316 v321 v326 v331 v336 v341 v346 v351 v356 v361 v366 v371 v376 v381 v386 v391).OK := fun i v204_0 v210 v215 v220 v225 v230 v235 v240 v245 v250 v255 v260 v265 v270 v275 v280 v285 v310_0 v316 v321 v326 v331 v336 v341 v346 v351 v356 v361 v366 v371 v376 v381 v386 v391 k1_hw75 => k1_hw75.2.2.2.2.1
theorem k1_mult16_dvd : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips), 256 ∣ (k1_mult16 i v204_0 v210 v215 v220 v225 v230 v235 v240 v245 v250 v255 v260 v265 v270 v275 v280 v285 v310_0 v316 v321 v326 v331 v336 v341 v346 v351 v356 v361 v366 v371 v376 v381 v386 v391 k1_t18).toNat := fun i v204_0 v210 v215 v220 v225 v230 v235 v240 v245 v250 v255 v260 v265 v270 v275 v280 v285 v310_0 v316 v321 v326 v331 v336 v341 v346 v351 v356 v361 v366 v371 v376 v381 v386 v391 k1_hw75 k1_t18 => k1_hw75.2.2.2.2.2.1 k1_t18
theorem k1_off763_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips), ∀ a, (k1_off763 i v204_0 v210 v215 v220 v225 v230 v235 v240 v245 v250 v255 v260 v265 v270 v275 v280 v285 v310_0 v316 v321 v326 v331 v336 v341 v346 v351 v356 v361 v366 v371 v376 v381 v386 v391 k1_t18) a + S256x64.size a ≤ S320000x64.size a := fun i v204_0 v210 v215 v220 v225 v230 v235 v240 v245 v250 v255 v260 v265 v270 v275 v280 v285 v310_0 v316 v321 v326 v331 v336 v341 v346 v351 v356 v361 v366 v371 v376 v381 v386 v391 k1_hw75 k1_t18 => k1_hw75.2.2.2.2.2.2.1 k1_t18
theorem k1_off764_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_hw75 : k1_chk75 i v204_0 v210 v215 v220 v225 v230 v235 v240 v245 v250 v255 v260 v265 v270 v275 v280 v285 v310_0 v316 v321 v326 v331 v336 v341 v346 v351 v356 v361 v366 v371 v376 v381 v386 v391) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips), ∀ a, (k1_off764 i v204_0 v210 v215 v220 v225 v230 v235 v240 v245 v250 v255 v260 v265 v270 v275 v280 v285 v310_0 v316 v321 v326 v331 v336 v341 v346 v351 v356 v361 v366 v371 v376 v381 v386 v391 k1_t18) a + S256.size a ≤ S320000.size a := fun i v204_0 v210 v215 v220 v225 v230 v235 v240 v245 v250 v255 v260 v265 v270 v275 v280 v285 v310_0 v316 v321 v326 v331 v336 v341 v346 v351 v356 v361 v366 v371 v376 v381 v386 v391 k1_hw75 k1_t18 => k1_hw75.2.2.2.2.2.2.2 k1_t18

@[reducible] def k1_t19_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off765 (k1_t19 : Fin k1_t19_loop.trips) : Fin 1 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v522 : Index := Scalar.indexCast v521
  ![v522.toNat]
def k1_off766 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off767 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond81 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v290
  let v528 : BitVec 1 := Scalar.cmpi .slt v526 v396
  let v529 : BitVec 1 := Scalar.andi v527 v528
  let v530 : BitVec 32 := Scalar.extui v529
  let c0_i32_272 : BitVec 32 := 0#32
  let v531 : BitVec 1 := Scalar.cmpi .ne v530 c0_i32_272
  v531

def k1_off768 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off769 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off770 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off771 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off772 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off773 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off774 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk92 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off767 i v639) a + S1x16.size a ≤ S80x64.size a) ∧
  (∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off769 i v639) a + S1x16.size a ≤ S80x64.size a) ∧
  (∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off771 i v639) a + S1x16.size a ≤ S80x64.size a) ∧
  (∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off773 i v639) a + S1x16.size a ≤ S80x64.size a) ∧
  (∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off774 i v639) a + S1x16.size a ≤ S80x16.size a)
theorem k1_off767_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw92 : k1_chk92 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off767 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw92 k1_h81 => k1_hw92.1 k1_h81
theorem k1_off769_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw92 : k1_chk92 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off769 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw92 k1_h81 => k1_hw92.2.1 k1_h81
theorem k1_off771_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw92 : k1_chk92 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off771 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw92 k1_h81 => k1_hw92.2.2.1 k1_h81
theorem k1_off773_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw92 : k1_chk92 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off773 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw92 k1_h81 => k1_hw92.2.2.2.1 k1_h81
theorem k1_off774_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw92 : k1_chk92 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h81 : k1_cond81 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off774 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw92 k1_h81 => k1_hw92.2.2.2.2 k1_h81

def k1_off775 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off776 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond82 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v290
  let v535 : BitVec 1 := Scalar.cmpi .slt v533 v396
  let v536 : BitVec 1 := Scalar.andi v534 v535
  let v537 : BitVec 32 := Scalar.extui v536
  let c0_i32_274 : BitVec 32 := 0#32
  let v538 : BitVec 1 := Scalar.cmpi .ne v537 c0_i32_274
  v538

def k1_off777 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off778 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off779 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off780 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off781 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off782 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off783 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk93 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off776 i v639) a + S1x16.size a ≤ S80x64.size a) ∧
  (∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off778 i v639) a + S1x16.size a ≤ S80x64.size a) ∧
  (∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off780 i v639) a + S1x16.size a ≤ S80x64.size a) ∧
  (∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off782 i v639) a + S1x16.size a ≤ S80x64.size a) ∧
  (∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off783 i v639) a + S1x16.size a ≤ S80x16.size a)
theorem k1_off776_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw93 : k1_chk93 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off776 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw93 k1_h82 => k1_hw93.1 k1_h82
theorem k1_off778_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw93 : k1_chk93 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off778 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw93 k1_h82 => k1_hw93.2.1 k1_h82
theorem k1_off780_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw93 : k1_chk93 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off780 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw93 k1_h82 => k1_hw93.2.2.1 k1_h82
theorem k1_off782_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw93 : k1_chk93 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off782 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw93 k1_h82 => k1_hw93.2.2.2.1 k1_h82
theorem k1_off783_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw93 : k1_chk93 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h82 : k1_cond82 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off783 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw93 k1_h82 => k1_hw93.2.2.2.2 k1_h82

def k1_off784 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off785 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond83 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v290
  let v542 : BitVec 1 := Scalar.cmpi .slt v540 v396
  let v543 : BitVec 1 := Scalar.andi v541 v542
  let v544 : BitVec 32 := Scalar.extui v543
  let c0_i32_276 : BitVec 32 := 0#32
  let v545 : BitVec 1 := Scalar.cmpi .ne v544 c0_i32_276
  v545

def k1_off786 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off787 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off788 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off789 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off790 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off791 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off792 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk94 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off785 i v639) a + S1x16.size a ≤ S80x64.size a) ∧
  (∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off787 i v639) a + S1x16.size a ≤ S80x64.size a) ∧
  (∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off789 i v639) a + S1x16.size a ≤ S80x64.size a) ∧
  (∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off791 i v639) a + S1x16.size a ≤ S80x64.size a) ∧
  (∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off792 i v639) a + S1x16.size a ≤ S80x16.size a)
theorem k1_off785_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw94 : k1_chk94 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off785 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw94 k1_h83 => k1_hw94.1 k1_h83
theorem k1_off787_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw94 : k1_chk94 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off787 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw94 k1_h83 => k1_hw94.2.1 k1_h83
theorem k1_off789_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw94 : k1_chk94 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off789 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw94 k1_h83 => k1_hw94.2.2.1 k1_h83
theorem k1_off791_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw94 : k1_chk94 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off791 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw94 k1_h83 => k1_hw94.2.2.2.1 k1_h83
theorem k1_off792_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw94 : k1_chk94 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h83 : k1_cond83 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off792 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw94 k1_h83 => k1_hw94.2.2.2.2 k1_h83

def k1_off793 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off794 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond84 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v290
  let v549 : BitVec 1 := Scalar.cmpi .slt v547 v396
  let v550 : BitVec 1 := Scalar.andi v548 v549
  let v551 : BitVec 32 := Scalar.extui v550
  let c0_i32_277 : BitVec 32 := 0#32
  let v552 : BitVec 1 := Scalar.cmpi .ne v551 c0_i32_277
  v552

def k1_off795 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off796 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off797 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off798 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off799 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off800 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off801 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk95 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off794 i v639) a + S1x16.size a ≤ S80x64.size a) ∧
  (∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off796 i v639) a + S1x16.size a ≤ S80x64.size a) ∧
  (∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off798 i v639) a + S1x16.size a ≤ S80x64.size a) ∧
  (∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off800 i v639) a + S1x16.size a ≤ S80x64.size a) ∧
  (∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off801 i v639) a + S1x16.size a ≤ S80x16.size a)
theorem k1_off794_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw95 : k1_chk95 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off794 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw95 k1_h84 => k1_hw95.1 k1_h84
theorem k1_off796_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw95 : k1_chk95 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off796 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw95 k1_h84 => k1_hw95.2.1 k1_h84
theorem k1_off798_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw95 : k1_chk95 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off798 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw95 k1_h84 => k1_hw95.2.2.1 k1_h84
theorem k1_off800_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw95 : k1_chk95 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off800 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw95 k1_h84 => k1_hw95.2.2.2.1 k1_h84
theorem k1_off801_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw95 : k1_chk95 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h84 : k1_cond84 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off801 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw95 k1_h84 => k1_hw95.2.2.2.2 k1_h84

def k1_off802 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off803 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond85 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v290
  let v556 : BitVec 1 := Scalar.cmpi .slt v554 v396
  let v557 : BitVec 1 := Scalar.andi v555 v556
  let v558 : BitVec 32 := Scalar.extui v557
  let c0_i32_278 : BitVec 32 := 0#32
  let v559 : BitVec 1 := Scalar.cmpi .ne v558 c0_i32_278
  v559

def k1_off804 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off805 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off806 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off807 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off808 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off809 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off810 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk96 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off803 i v639) a + S1x16.size a ≤ S80x64.size a) ∧
  (∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off805 i v639) a + S1x16.size a ≤ S80x64.size a) ∧
  (∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off807 i v639) a + S1x16.size a ≤ S80x64.size a) ∧
  (∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off809 i v639) a + S1x16.size a ≤ S80x64.size a) ∧
  (∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off810 i v639) a + S1x16.size a ≤ S80x16.size a)
theorem k1_off803_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw96 : k1_chk96 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off803 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw96 k1_h85 => k1_hw96.1 k1_h85
theorem k1_off805_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw96 : k1_chk96 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off805 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw96 k1_h85 => k1_hw96.2.1 k1_h85
theorem k1_off807_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw96 : k1_chk96 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off807 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw96 k1_h85 => k1_hw96.2.2.1 k1_h85
theorem k1_off809_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw96 : k1_chk96 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off809 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw96 k1_h85 => k1_hw96.2.2.2.1 k1_h85
theorem k1_off810_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw96 : k1_chk96 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h85 : k1_cond85 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off810 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw96 k1_h85 => k1_hw96.2.2.2.2 k1_h85

def k1_off811 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off812 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond86 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v290
  let v563 : BitVec 1 := Scalar.cmpi .slt v561 v396
  let v564 : BitVec 1 := Scalar.andi v562 v563
  let v565 : BitVec 32 := Scalar.extui v564
  let c0_i32_279 : BitVec 32 := 0#32
  let v566 : BitVec 1 := Scalar.cmpi .ne v565 c0_i32_279
  v566

def k1_off813 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off814 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off815 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off816 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off817 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off818 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off819 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk97 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off812 i v639) a + S1x16.size a ≤ S80x64.size a) ∧
  (∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off814 i v639) a + S1x16.size a ≤ S80x64.size a) ∧
  (∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off816 i v639) a + S1x16.size a ≤ S80x64.size a) ∧
  (∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off818 i v639) a + S1x16.size a ≤ S80x64.size a) ∧
  (∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off819 i v639) a + S1x16.size a ≤ S80x16.size a)
theorem k1_off812_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw97 : k1_chk97 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off812 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw97 k1_h86 => k1_hw97.1 k1_h86
theorem k1_off814_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw97 : k1_chk97 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off814 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw97 k1_h86 => k1_hw97.2.1 k1_h86
theorem k1_off816_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw97 : k1_chk97 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off816 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw97 k1_h86 => k1_hw97.2.2.1 k1_h86
theorem k1_off818_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw97 : k1_chk97 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off818 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw97 k1_h86 => k1_hw97.2.2.2.1 k1_h86
theorem k1_off819_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw97 : k1_chk97 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h86 : k1_cond86 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off819 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw97 k1_h86 => k1_hw97.2.2.2.2 k1_h86

def k1_off820 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off821 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond87 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v290
  let v570 : BitVec 1 := Scalar.cmpi .slt v568 v396
  let v571 : BitVec 1 := Scalar.andi v569 v570
  let v572 : BitVec 32 := Scalar.extui v571
  let c0_i32_280 : BitVec 32 := 0#32
  let v573 : BitVec 1 := Scalar.cmpi .ne v572 c0_i32_280
  v573

def k1_off822 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off823 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off824 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off825 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off826 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off827 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off828 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk98 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off821 i v639) a + S1x16.size a ≤ S80x64.size a) ∧
  (∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off823 i v639) a + S1x16.size a ≤ S80x64.size a) ∧
  (∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off825 i v639) a + S1x16.size a ≤ S80x64.size a) ∧
  (∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off827 i v639) a + S1x16.size a ≤ S80x64.size a) ∧
  (∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off828 i v639) a + S1x16.size a ≤ S80x16.size a)
theorem k1_off821_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw98 : k1_chk98 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off821 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw98 k1_h87 => k1_hw98.1 k1_h87
theorem k1_off823_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw98 : k1_chk98 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off823 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw98 k1_h87 => k1_hw98.2.1 k1_h87
theorem k1_off825_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw98 : k1_chk98 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off825 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw98 k1_h87 => k1_hw98.2.2.1 k1_h87
theorem k1_off827_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw98 : k1_chk98 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off827 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw98 k1_h87 => k1_hw98.2.2.2.1 k1_h87
theorem k1_off828_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw98 : k1_chk98 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h87 : k1_cond87 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off828 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw98 k1_h87 => k1_hw98.2.2.2.2 k1_h87

def k1_off829 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off830 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond88 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v290
  let v577 : BitVec 1 := Scalar.cmpi .slt v575 v396
  let v578 : BitVec 1 := Scalar.andi v576 v577
  let v579 : BitVec 32 := Scalar.extui v578
  let c0_i32_281 : BitVec 32 := 0#32
  let v580 : BitVec 1 := Scalar.cmpi .ne v579 c0_i32_281
  v580

def k1_off831 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off832 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off833 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off834 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off835 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off836 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off837 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk99 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off830 i v639) a + S1x16.size a ≤ S80x64.size a) ∧
  (∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off832 i v639) a + S1x16.size a ≤ S80x64.size a) ∧
  (∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off834 i v639) a + S1x16.size a ≤ S80x64.size a) ∧
  (∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off836 i v639) a + S1x16.size a ≤ S80x64.size a) ∧
  (∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off837 i v639) a + S1x16.size a ≤ S80x16.size a)
theorem k1_off830_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw99 : k1_chk99 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off830 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw99 k1_h88 => k1_hw99.1 k1_h88
theorem k1_off832_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw99 : k1_chk99 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off832 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw99 k1_h88 => k1_hw99.2.1 k1_h88
theorem k1_off834_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw99 : k1_chk99 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off834 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw99 k1_h88 => k1_hw99.2.2.1 k1_h88
theorem k1_off836_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw99 : k1_chk99 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off836 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw99 k1_h88 => k1_hw99.2.2.2.1 k1_h88
theorem k1_off837_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw99 : k1_chk99 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h88 : k1_cond88 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off837 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw99 k1_h88 => k1_hw99.2.2.2.2 k1_h88

def k1_off838 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off839 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond89 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v290
  let v584 : BitVec 1 := Scalar.cmpi .slt v582 v396
  let v585 : BitVec 1 := Scalar.andi v583 v584
  let v586 : BitVec 32 := Scalar.extui v585
  let c0_i32_283 : BitVec 32 := 0#32
  let v587 : BitVec 1 := Scalar.cmpi .ne v586 c0_i32_283
  v587

def k1_off840 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off841 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off842 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off843 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off844 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off845 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off846 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk100 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off839 i v639) a + S1x16.size a ≤ S80x64.size a) ∧
  (∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off841 i v639) a + S1x16.size a ≤ S80x64.size a) ∧
  (∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off843 i v639) a + S1x16.size a ≤ S80x64.size a) ∧
  (∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off845 i v639) a + S1x16.size a ≤ S80x64.size a) ∧
  (∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off846 i v639) a + S1x16.size a ≤ S80x16.size a)
theorem k1_off839_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw100 : k1_chk100 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off839 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw100 k1_h89 => k1_hw100.1 k1_h89
theorem k1_off841_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw100 : k1_chk100 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off841 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw100 k1_h89 => k1_hw100.2.1 k1_h89
theorem k1_off843_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw100 : k1_chk100 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off843 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw100 k1_h89 => k1_hw100.2.2.1 k1_h89
theorem k1_off845_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw100 : k1_chk100 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off845 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw100 k1_h89 => k1_hw100.2.2.2.1 k1_h89
theorem k1_off846_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw100 : k1_chk100 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h89 : k1_cond89 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off846 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw100 k1_h89 => k1_hw100.2.2.2.2 k1_h89

def k1_off847 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off848 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond90 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v290
  let v591 : BitVec 1 := Scalar.cmpi .slt v589 v396
  let v592 : BitVec 1 := Scalar.andi v590 v591
  let v593 : BitVec 32 := Scalar.extui v592
  let c0_i32_284 : BitVec 32 := 0#32
  let v594 : BitVec 1 := Scalar.cmpi .ne v593 c0_i32_284
  v594

def k1_off849 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off850 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off851 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off852 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off853 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off854 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off855 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk101 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off848 i v639) a + S1x16.size a ≤ S80x64.size a) ∧
  (∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off850 i v639) a + S1x16.size a ≤ S80x64.size a) ∧
  (∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off852 i v639) a + S1x16.size a ≤ S80x64.size a) ∧
  (∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off854 i v639) a + S1x16.size a ≤ S80x64.size a) ∧
  (∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off855 i v639) a + S1x16.size a ≤ S80x16.size a)
theorem k1_off848_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw101 : k1_chk101 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off848 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw101 k1_h90 => k1_hw101.1 k1_h90
theorem k1_off850_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw101 : k1_chk101 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off850 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw101 k1_h90 => k1_hw101.2.1 k1_h90
theorem k1_off852_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw101 : k1_chk101 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off852 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw101 k1_h90 => k1_hw101.2.2.1 k1_h90
theorem k1_off854_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw101 : k1_chk101 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off854 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw101 k1_h90 => k1_hw101.2.2.2.1 k1_h90
theorem k1_off855_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw101 : k1_chk101 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h90 : k1_cond90 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off855 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw101 k1_h90 => k1_hw101.2.2.2.2 k1_h90

def k1_off856 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off857 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond91 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v290
  let v598 : BitVec 1 := Scalar.cmpi .slt v596 v396
  let v599 : BitVec 1 := Scalar.andi v597 v598
  let v600 : BitVec 32 := Scalar.extui v599
  let c0_i32_285 : BitVec 32 := 0#32
  let v601 : BitVec 1 := Scalar.cmpi .ne v600 c0_i32_285
  v601

def k1_off858 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off859 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off860 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off861 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off862 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off863 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off864 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk102 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off857 i v639) a + S1x16.size a ≤ S80x64.size a) ∧
  (∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off859 i v639) a + S1x16.size a ≤ S80x64.size a) ∧
  (∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off861 i v639) a + S1x16.size a ≤ S80x64.size a) ∧
  (∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off863 i v639) a + S1x16.size a ≤ S80x64.size a) ∧
  (∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off864 i v639) a + S1x16.size a ≤ S80x16.size a)
theorem k1_off857_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw102 : k1_chk102 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off857 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw102 k1_h91 => k1_hw102.1 k1_h91
theorem k1_off859_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw102 : k1_chk102 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off859 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw102 k1_h91 => k1_hw102.2.1 k1_h91
theorem k1_off861_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw102 : k1_chk102 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off861 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw102 k1_h91 => k1_hw102.2.2.1 k1_h91
theorem k1_off863_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw102 : k1_chk102 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off863 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw102 k1_h91 => k1_hw102.2.2.2.1 k1_h91
theorem k1_off864_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw102 : k1_chk102 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h91 : k1_cond91 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off864 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw102 k1_h91 => k1_hw102.2.2.2.2 k1_h91

def k1_off865 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off866 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond92 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v290
  let v605 : BitVec 1 := Scalar.cmpi .slt v603 v396
  let v606 : BitVec 1 := Scalar.andi v604 v605
  let v607 : BitVec 32 := Scalar.extui v606
  let c0_i32_286 : BitVec 32 := 0#32
  let v608 : BitVec 1 := Scalar.cmpi .ne v607 c0_i32_286
  v608

def k1_off867 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off868 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off869 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off870 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off871 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off872 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off873 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk103 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off866 i v639) a + S1x16.size a ≤ S80x64.size a) ∧
  (∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off868 i v639) a + S1x16.size a ≤ S80x64.size a) ∧
  (∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off870 i v639) a + S1x16.size a ≤ S80x64.size a) ∧
  (∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off872 i v639) a + S1x16.size a ≤ S80x64.size a) ∧
  (∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off873 i v639) a + S1x16.size a ≤ S80x16.size a)
theorem k1_off866_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw103 : k1_chk103 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off866 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw103 k1_h92 => k1_hw103.1 k1_h92
theorem k1_off868_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw103 : k1_chk103 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off868 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw103 k1_h92 => k1_hw103.2.1 k1_h92
theorem k1_off870_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw103 : k1_chk103 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off870 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw103 k1_h92 => k1_hw103.2.2.1 k1_h92
theorem k1_off872_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw103 : k1_chk103 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off872 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw103 k1_h92 => k1_hw103.2.2.2.1 k1_h92
theorem k1_off873_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw103 : k1_chk103 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h92 : k1_cond92 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off873 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw103 k1_h92 => k1_hw103.2.2.2.2 k1_h92

def k1_off874 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off875 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond93 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v290
  let v612 : BitVec 1 := Scalar.cmpi .slt v610 v396
  let v613 : BitVec 1 := Scalar.andi v611 v612
  let v614 : BitVec 32 := Scalar.extui v613
  let c0_i32_287 : BitVec 32 := 0#32
  let v615 : BitVec 1 := Scalar.cmpi .ne v614 c0_i32_287
  v615

def k1_off876 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off877 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off878 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off879 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off880 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off881 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off882 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk104 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off875 i v639) a + S1x16.size a ≤ S80x64.size a) ∧
  (∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off877 i v639) a + S1x16.size a ≤ S80x64.size a) ∧
  (∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off879 i v639) a + S1x16.size a ≤ S80x64.size a) ∧
  (∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off881 i v639) a + S1x16.size a ≤ S80x64.size a) ∧
  (∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off882 i v639) a + S1x16.size a ≤ S80x16.size a)
theorem k1_off875_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw104 : k1_chk104 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off875 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw104 k1_h93 => k1_hw104.1 k1_h93
theorem k1_off877_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw104 : k1_chk104 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off877 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw104 k1_h93 => k1_hw104.2.1 k1_h93
theorem k1_off879_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw104 : k1_chk104 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off879 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw104 k1_h93 => k1_hw104.2.2.1 k1_h93
theorem k1_off881_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw104 : k1_chk104 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off881 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw104 k1_h93 => k1_hw104.2.2.2.1 k1_h93
theorem k1_off882_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw104 : k1_chk104 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h93 : k1_cond93 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off882 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw104 k1_h93 => k1_hw104.2.2.2.2 k1_h93

def k1_off883 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off884 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond94 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v290
  let v619 : BitVec 1 := Scalar.cmpi .slt v617 v396
  let v620 : BitVec 1 := Scalar.andi v618 v619
  let v621 : BitVec 32 := Scalar.extui v620
  let c0_i32_288 : BitVec 32 := 0#32
  let v622 : BitVec 1 := Scalar.cmpi .ne v621 c0_i32_288
  v622

def k1_off885 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off886 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off887 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off888 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off889 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off890 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off891 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk105 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off884 i v639) a + S1x16.size a ≤ S80x64.size a) ∧
  (∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off886 i v639) a + S1x16.size a ≤ S80x64.size a) ∧
  (∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off888 i v639) a + S1x16.size a ≤ S80x64.size a) ∧
  (∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off890 i v639) a + S1x16.size a ≤ S80x64.size a) ∧
  (∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off891 i v639) a + S1x16.size a ≤ S80x16.size a)
theorem k1_off884_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw105 : k1_chk105 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off884 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw105 k1_h94 => k1_hw105.1 k1_h94
theorem k1_off886_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw105 : k1_chk105 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off886 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw105 k1_h94 => k1_hw105.2.1 k1_h94
theorem k1_off888_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw105 : k1_chk105 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off888 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw105 k1_h94 => k1_hw105.2.2.1 k1_h94
theorem k1_off890_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw105 : k1_chk105 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off890 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw105 k1_h94 => k1_hw105.2.2.2.1 k1_h94
theorem k1_off891_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw105 : k1_chk105 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h94 : k1_cond94 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off891 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw105 k1_h94 => k1_hw105.2.2.2.2 k1_h94

def k1_off892 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off893 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond95 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v290
  let v626 : BitVec 1 := Scalar.cmpi .slt v624 v396
  let v627 : BitVec 1 := Scalar.andi v625 v626
  let v628 : BitVec 32 := Scalar.extui v627
  let c0_i32_289 : BitVec 32 := 0#32
  let v629 : BitVec 1 := Scalar.cmpi .ne v628 c0_i32_289
  v629

def k1_off894 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off895 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off896 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off897 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off898 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off899 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off900 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk106 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off893 i v639) a + S1x16.size a ≤ S80x64.size a) ∧
  (∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off895 i v639) a + S1x16.size a ≤ S80x64.size a) ∧
  (∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off897 i v639) a + S1x16.size a ≤ S80x64.size a) ∧
  (∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off899 i v639) a + S1x16.size a ≤ S80x64.size a) ∧
  (∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off900 i v639) a + S1x16.size a ≤ S80x16.size a)
theorem k1_off893_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw106 : k1_chk106 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off893 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw106 k1_h95 => k1_hw106.1 k1_h95
theorem k1_off895_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw106 : k1_chk106 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off895 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw106 k1_h95 => k1_hw106.2.1 k1_h95
theorem k1_off897_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw106 : k1_chk106 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off897 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw106 k1_h95 => k1_hw106.2.2.1 k1_h95
theorem k1_off899_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw106 : k1_chk106 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off899 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw106 k1_h95 => k1_hw106.2.2.2.1 k1_h95
theorem k1_off900_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw106 : k1_chk106 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h95 : k1_cond95 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off900 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw106 k1_h95 => k1_hw106.2.2.2.2 k1_h95

def k1_off901 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off902 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v644 : Index := Scalar.indexCast v640
  let c0_295 : Index := 0#32
  ![v644.toNat, 0]
def k1_cond96 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) : BitVec 1 :=
  let c16_i32_135 : BitVec 32 := 16#32
  let v289 : BitVec 32 := Scalar.muli v204_0 c16_i32_135
  let c0_i32_104 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c80_i32_91 : BitVec 32 := 80#32
  let v199 : BitVec 32 := Scalar.addi v2 c80_i32_91
  let c80_i32_92 : BitVec 32 := 80#32
  let v200 : BitVec 32 := Scalar.addi v199 c80_i32_92
  let c10000_i32_93 : BitVec 32 := 10000#32
  let v201 : BitVec 32 := Scalar.minsi v200 c10000_i32_93
  let v202 : BitVec 32 := Scalar.maxsi v201 v199
  let v211 : BitVec 1 := Scalar.cmpi .slt v210 v202
  let c1_i32_102 : BitVec 32 := 1#32
  let c0_i32_103 : BitVec 32 := 0#32
  let v212 : BitVec 32 := Scalar.select v211 c1_i32_102 c0_i32_103
  let v213 : BitVec 32 := Scalar.addi c0_i32_104 v212
  let v216 : BitVec 1 := Scalar.cmpi .slt v215 v202
  let c1_i32_105 : BitVec 32 := 1#32
  let c0_i32_106 : BitVec 32 := 0#32
  let v217 : BitVec 32 := Scalar.select v216 c1_i32_105 c0_i32_106
  let v218 : BitVec 32 := Scalar.addi v213 v217
  let v221 : BitVec 1 := Scalar.cmpi .slt v220 v202
  let c1_i32_107 : BitVec 32 := 1#32
  let c0_i32_108 : BitVec 32 := 0#32
  let v222 : BitVec 32 := Scalar.select v221 c1_i32_107 c0_i32_108
  let v223 : BitVec 32 := Scalar.addi v218 v222
  let v226 : BitVec 1 := Scalar.cmpi .slt v225 v202
  let c1_i32_109 : BitVec 32 := 1#32
  let c0_i32_110 : BitVec 32 := 0#32
  let v227 : BitVec 32 := Scalar.select v226 c1_i32_109 c0_i32_110
  let v228 : BitVec 32 := Scalar.addi v223 v227
  let v231 : BitVec 1 := Scalar.cmpi .slt v230 v202
  let c1_i32_111 : BitVec 32 := 1#32
  let c0_i32_112 : BitVec 32 := 0#32
  let v232 : BitVec 32 := Scalar.select v231 c1_i32_111 c0_i32_112
  let v233 : BitVec 32 := Scalar.addi v228 v232
  let v236 : BitVec 1 := Scalar.cmpi .slt v235 v202
  let c1_i32_113 : BitVec 32 := 1#32
  let c0_i32_114 : BitVec 32 := 0#32
  let v237 : BitVec 32 := Scalar.select v236 c1_i32_113 c0_i32_114
  let v238 : BitVec 32 := Scalar.addi v233 v237
  let v241 : BitVec 1 := Scalar.cmpi .slt v240 v202
  let c1_i32_115 : BitVec 32 := 1#32
  let c0_i32_116 : BitVec 32 := 0#32
  let v242 : BitVec 32 := Scalar.select v241 c1_i32_115 c0_i32_116
  let v243 : BitVec 32 := Scalar.addi v238 v242
  let v246 : BitVec 1 := Scalar.cmpi .slt v245 v202
  let c1_i32_117 : BitVec 32 := 1#32
  let c0_i32_118 : BitVec 32 := 0#32
  let v247 : BitVec 32 := Scalar.select v246 c1_i32_117 c0_i32_118
  let v248 : BitVec 32 := Scalar.addi v243 v247
  let v251 : BitVec 1 := Scalar.cmpi .slt v250 v202
  let c1_i32_119 : BitVec 32 := 1#32
  let c0_i32_120 : BitVec 32 := 0#32
  let v252 : BitVec 32 := Scalar.select v251 c1_i32_119 c0_i32_120
  let v253 : BitVec 32 := Scalar.addi v248 v252
  let v256 : BitVec 1 := Scalar.cmpi .slt v255 v202
  let c1_i32_121 : BitVec 32 := 1#32
  let c0_i32_122 : BitVec 32 := 0#32
  let v257 : BitVec 32 := Scalar.select v256 c1_i32_121 c0_i32_122
  let v258 : BitVec 32 := Scalar.addi v253 v257
  let v261 : BitVec 1 := Scalar.cmpi .slt v260 v202
  let c1_i32_123 : BitVec 32 := 1#32
  let c0_i32_124 : BitVec 32 := 0#32
  let v262 : BitVec 32 := Scalar.select v261 c1_i32_123 c0_i32_124
  let v263 : BitVec 32 := Scalar.addi v258 v262
  let v266 : BitVec 1 := Scalar.cmpi .slt v265 v202
  let c1_i32_125 : BitVec 32 := 1#32
  let c0_i32_126 : BitVec 32 := 0#32
  let v267 : BitVec 32 := Scalar.select v266 c1_i32_125 c0_i32_126
  let v268 : BitVec 32 := Scalar.addi v263 v267
  let v271 : BitVec 1 := Scalar.cmpi .slt v270 v202
  let c1_i32_127 : BitVec 32 := 1#32
  let c0_i32_128 : BitVec 32 := 0#32
  let v272 : BitVec 32 := Scalar.select v271 c1_i32_127 c0_i32_128
  let v273 : BitVec 32 := Scalar.addi v268 v272
  let v276 : BitVec 1 := Scalar.cmpi .slt v275 v202
  let c1_i32_129 : BitVec 32 := 1#32
  let c0_i32_130 : BitVec 32 := 0#32
  let v277 : BitVec 32 := Scalar.select v276 c1_i32_129 c0_i32_130
  let v278 : BitVec 32 := Scalar.addi v273 v277
  let v281 : BitVec 1 := Scalar.cmpi .slt v280 v202
  let c1_i32_131 : BitVec 32 := 1#32
  let c0_i32_132 : BitVec 32 := 0#32
  let v282 : BitVec 32 := Scalar.select v281 c1_i32_131 c0_i32_132
  let v283 : BitVec 32 := Scalar.addi v278 v282
  let v286 : BitVec 1 := Scalar.cmpi .slt v285 v202
  let c1_i32_133 : BitVec 32 := 1#32
  let c0_i32_134 : BitVec 32 := 0#32
  let v287 : BitVec 32 := Scalar.select v286 c1_i32_133 c0_i32_134
  let v288 : BitVec 32 := Scalar.addi v283 v287
  let v290 : BitVec 32 := Scalar.addi v289 v288
  let c8_i32_198 : BitVec 32 := 8#32
  let v399 : BitVec 32 := Scalar.shrsi v290 c8_i32_198
  let c16_i32_192 : BitVec 32 := 16#32
  let v395 : BitVec 32 := Scalar.muli v310_0 c16_i32_192
  let c0_i32_161 : BitVec 32 := 0#32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c256_i32_199 : BitVec 32 := 256#32
  let v400 : BitVec 32 := Scalar.addi v396 c256_i32_199
  let c1_i32_200 : BitVec 32 := 1#32
  let v401 : BitVec 32 := Scalar.subi v400 c1_i32_200
  let c8_i32_201 : BitVec 32 := 8#32
  let v402 : BitVec 32 := Scalar.shrsi v401 c8_i32_201
  let v403 : BitVec 32 := Scalar.subi v402 v399
  let c1_i32_203 : BitVec 32 := 1#32
  let v405 : BitVec 32 := Scalar.divsi v403 c1_i32_203
  let v406 : BitVec 32 := Scalar.muli v405 c1_i32_203
  let v407 : BitVec 32 := Scalar.addi v399 v406
  let c1_i32_205 : BitVec 32 := 1#32
  let arg13 : BitVec 32 := Scf.iv v407 c1_i32_205 k1_t18
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v290
  let v633 : BitVec 1 := Scalar.cmpi .slt v631 v396
  let v634 : BitVec 1 := Scalar.andi v632 v633
  let v635 : BitVec 32 := Scalar.extui v634
  let c0_i32_291 : BitVec 32 := 0#32
  let v636 : BitVec 1 := Scalar.cmpi .ne v635 c0_i32_291
  v636

def k1_off903 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off904 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v663 : Index := Scalar.indexCast v640
  let c16_299 : Index := 16#32
  ![v663.toNat, 16]
def k1_off905 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off906 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v682 : Index := Scalar.indexCast v640
  let c32_303 : Index := 32#32
  ![v682.toNat, 32]
def k1_off907 (k1_t19 : Fin k1_t19_loop.trips) : Fin 2 → Nat :=
  let c0_i32_265 : BitVec 32 := 0#32
  let c1_i32_267 : BitVec 32 := 1#32
  let arg15 : BitVec 32 := Scf.iv c0_i32_265 c1_i32_267 k1_t19
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off908 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v701 : Index := Scalar.indexCast v640
  let c48_307 : Index := 48#32
  ![v701.toNat, 48]
def k1_off909 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v640 : BitVec 32 := Scalar.subi v639 v305
  let v717 : Index := Scalar.indexCast v640
  let c0_311 : Index := 0#32
  ![v717.toNat, 0]

def k1_chk107 (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) : Prop :=
  (∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off902 i v639) a + S1x16.size a ≤ S80x64.size a) ∧
  (∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off904 i v639) a + S1x16.size a ≤ S80x64.size a) ∧
  (∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off906 i v639) a + S1x16.size a ≤ S80x64.size a) ∧
  (∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off908 i v639) a + S1x16.size a ≤ S80x64.size a) ∧
  (∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off909 i v639) a + S1x16.size a ≤ S80x16.size a)
theorem k1_off902_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw107 : k1_chk107 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off902 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw107 k1_h96 => k1_hw107.1 k1_h96
theorem k1_off904_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw107 : k1_chk107 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off904 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw107 k1_h96 => k1_hw107.2.1 k1_h96
theorem k1_off906_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw107 : k1_chk107 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off906 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw107 k1_h96 => k1_hw107.2.2.1 k1_h96
theorem k1_off908_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw107 : k1_chk107 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off908 i v639) a + S1x16.size a ≤ S80x64.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw107 k1_h96 => k1_hw107.2.2.2.1 k1_h96
theorem k1_off909_inb : ∀ (i : grid1.Coords) (v204_0 : BitVec 32) (v210 : BitVec 32) (v215 : BitVec 32) (v220 : BitVec 32) (v225 : BitVec 32) (v230 : BitVec 32) (v235 : BitVec 32) (v240 : BitVec 32) (v245 : BitVec 32) (v250 : BitVec 32) (v255 : BitVec 32) (v260 : BitVec 32) (v265 : BitVec 32) (v270 : BitVec 32) (v275 : BitVec 32) (v280 : BitVec 32) (v285 : BitVec 32) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (k1_t18 : Fin (k1_t18_loop i v204_0 v210 v215 v220 v225 v230 v235 v240 v245 v250 v255 v260 v265 v270 v275 v280 v285 v310_0 v316 v321 v326 v331 v336 v341 v346 v351 v356 v361 v366 v371 v376 v381 v386 v391).trips) (k1_t19 : Fin k1_t19_loop.trips) (v639 : BitVec 32) (k1_hw107 : k1_chk107 i v204_0 v210 v215 v220 v225 v230 v235 v240 v245 v250 v255 v260 v265 v270 v275 v280 v285 v310_0 v316 v321 v326 v331 v336 v341 v346 v351 v356 v361 v366 v371 v376 v381 v386 v391 k1_t18 k1_t19 v639), ∀ (k1_h96 : k1_cond96 i v204_0 v210 v215 v220 v225 v230 v235 v240 v245 v250 v255 v260 v265 v270 v275 v280 v285 v310_0 v316 v321 v326 v331 v336 v341 v346 v351 v356 v361 v366 v371 v376 v381 v386 v391 k1_t18 k1_t19 = 1#1), ∀ a, (k1_off909 i v639) a + S1x16.size a ≤ S80x16.size a := fun i v204_0 v210 v215 v220 v225 v230 v235 v240 v245 v250 v255 v260 v265 v270 v275 v280 v285 v310_0 v316 v321 v326 v331 v336 v341 v346 v351 v356 v361 v366 v371 v376 v381 v386 v391 k1_t18 k1_t19 v639 k1_hw107 k1_h96 => k1_hw107.2.2.2.2 k1_h96

def k1_mult17 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  v305
def k1_off910 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v410 : BitVec 32 := v305
  let c0_i32_265_r26 : BitVec 32 := 0#32
  ![v410.toNat, 0]
def k1_off911 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let v410 : BitVec 32 := v305
  let c0_i32_265_r28 : BitVec 32 := 0#32
  ![v410.toNat, 0]
@[reducible] def k1_t20_loop : Scf.Loop 32 :=
  let c0_i32_210 : BitVec 32 := 0#32
  let c15_i32_211 : BitVec 32 := 15#32
  let v415 : BitVec 32 := Scalar.addi c0_i32_210 c15_i32_211
  let c1_i32_212 : BitVec 32 := 1#32
  ⟨c0_i32_210, v415, c1_i32_212⟩
def k1_mult18 (arg14 : BitVec 32) (arg15 : BitVec 32) : BitVec 32 :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  v519

def k1_off912 (arg14 : BitVec 32) (arg15 : BitVec 32) : Fin 1 → Nat :=
  let v517 : BitVec 32 := Scalar.addi arg14 arg15
  let c1_i32_263 : BitVec 32 := 1#32
  let v518 : BitVec 32 := Scalar.shrsi v517 c1_i32_263
  let c16_i32_264 : BitVec 32 := 16#32
  let v519 : BitVec 32 := Scalar.muli v518 c16_i32_264
  let v520 : BitVec 32 := v519
  ![v520.toNat]

def k1_chk108 (arg14 : BitVec 32) (arg15 : BitVec 32) : Prop :=
  (16 ∣ (k1_mult18 arg14 arg15).toNat) ∧
  (∀ a, (k1_off912 arg14 arg15) a + S16.size a ≤ S320000.size a)
theorem k1_mult18_dvd : ∀ (arg14 : BitVec 32) (arg15 : BitVec 32) (k1_hw108 : k1_chk108 arg14 arg15), 16 ∣ (k1_mult18 arg14 arg15).toNat := fun arg14 arg15 k1_hw108 => k1_hw108.1
theorem k1_off912_inb : ∀ (arg14 : BitVec 32) (arg15 : BitVec 32) (k1_hw108 : k1_chk108 arg14 arg15), ∀ a, (k1_off912 arg14 arg15) a + S16.size a ≤ S320000.size a := fun arg14 arg15 k1_hw108 => k1_hw108.2

def k1_mult19 (v416_0 : BitVec 32) : BitVec 32 :=
  let c16_i32_214 : BitVec 32 := 16#32
  let v417 : BitVec 32 := Scalar.muli v416_0 c16_i32_214
  v417

def k1_off913 (v416_0 : BitVec 32) : Fin 1 → Nat :=
  let c16_i32_214 : BitVec 32 := 16#32
  let v417 : BitVec 32 := Scalar.muli v416_0 c16_i32_214
  let v418 : BitVec 32 := v417
  ![v418.toNat]

def k1_chk109 (v416_0 : BitVec 32) : Prop :=
  (16 ∣ (k1_mult19 v416_0).toNat) ∧
  (∀ a, (k1_off913 v416_0) a + S16.size a ≤ S320000.size a)
theorem k1_mult19_dvd : ∀ (v416_0 : BitVec 32) (k1_hw109 : k1_chk109 v416_0), 16 ∣ (k1_mult19 v416_0).toNat := fun v416_0 k1_hw109 => k1_hw109.1
theorem k1_off913_inb : ∀ (v416_0 : BitVec 32) (k1_hw109 : k1_chk109 v416_0), ∀ a, (k1_off913 v416_0) a + S16.size a ≤ S320000.size a := fun v416_0 k1_hw109 => k1_hw109.2

@[reducible] def k1_t21_loop : Scf.Loop 32 :=
  let c0_i32_251 : BitVec 32 := 0#32
  let c80_i32_252 : BitVec 32 := 80#32
  let v503 : BitVec 32 := Scalar.addi c0_i32_251 c80_i32_252
  let c1_i32_253 : BitVec 32 := 1#32
  ⟨c0_i32_251, v503, c1_i32_253⟩
def k1_off914 (k1_t21 : Fin k1_t21_loop.trips) : Fin 2 → Nat :=
  let c0_i32_251 : BitVec 32 := 0#32
  let c1_i32_253 : BitVec 32 := 1#32
  let arg13 : BitVec 32 := Scf.iv c0_i32_251 c1_i32_253 k1_t21
  let v517 : Index := Scalar.indexCast arg13
  let c0_263 : Index := 0#32
  ![v517.toNat, 0]
def k1_off915 (k1_t21 : Fin k1_t21_loop.trips) : Fin 2 → Nat :=
  let c0_i32_251 : BitVec 32 := 0#32
  let c1_i32_253 : BitVec 32 := 1#32
  let arg13 : BitVec 32 := Scf.iv c0_i32_251 c1_i32_253 k1_t21
  let v525 : Index := Scalar.indexCast arg13
  let c16 : Index := 16#32
  ![v525.toNat, 16]
def k1_off916 (k1_t21 : Fin k1_t21_loop.trips) : Fin 2 → Nat :=
  let c0_i32_251 : BitVec 32 := 0#32
  let c1_i32_253 : BitVec 32 := 1#32
  let arg13 : BitVec 32 := Scf.iv c0_i32_251 c1_i32_253 k1_t21
  let v533 : Index := Scalar.indexCast arg13
  let c32 : Index := 32#32
  ![v533.toNat, 32]
def k1_off917 (k1_t21 : Fin k1_t21_loop.trips) : Fin 2 → Nat :=
  let c0_i32_251 : BitVec 32 := 0#32
  let c1_i32_253 : BitVec 32 := 1#32
  let arg13 : BitVec 32 := Scf.iv c0_i32_251 c1_i32_253 k1_t21
  let v541 : Index := Scalar.indexCast arg13
  let c48 : Index := 48#32
  ![v541.toNat, 48]
def k1_off918 (k1_t21 : Fin k1_t21_loop.trips) : Fin 2 → Nat :=
  let c0_i32_251 : BitVec 32 := 0#32
  let c1_i32_253 : BitVec 32 := 1#32
  let arg13 : BitVec 32 := Scf.iv c0_i32_251 c1_i32_253 k1_t21
  let v549 : Index := Scalar.indexCast arg13
  let c0_268 : Index := 0#32
  ![v549.toNat, 0]
@[reducible] def k1_t22_loop (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) : Scf.Loop 32 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_261 : BitVec 32 := 1#32
  ⟨v505, v513, c1_i32_261⟩

def k1_mult20 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) : BitVec 32 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  v517
def k1_off919 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) : Fin 2 → Nat :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_270_r31 : BitVec 32 := 0#32
  ![v518.toNat, 0]
def k1_off920 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) : Fin 1 → Nat :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  ![v518.toNat]
@[reducible] def k1_t23_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off921 (k1_t23 : Fin k1_t23_loop.trips) : Fin 1 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v522 : Index := Scalar.indexCast v521
  ![v522.toNat]
def k1_off922 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off923 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond97 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v528 : BitVec 1 := Scalar.cmpi .slt v526 v502
  let v529 : BitVec 1 := Scalar.andi v527 v528
  let v530 : BitVec 32 := Scalar.extui v529
  let c0_i32_272 : BitVec 32 := 0#32
  let v531 : BitVec 1 := Scalar.cmpi .ne v530 c0_i32_272
  v531

def k1_off924 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off925 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off926 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off927 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off928 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off929 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off930 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk111 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off923 i v639) a + S1x16.size a ≤ S80x64.size a) ∧
  (∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off925 i v639) a + S1x16.size a ≤ S80x64.size a) ∧
  (∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off927 i v639) a + S1x16.size a ≤ S80x64.size a) ∧
  (∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off929 i v639) a + S1x16.size a ≤ S80x64.size a) ∧
  (∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off930 i v639) a + S1x16.size a ≤ S80x16.size a)
theorem k1_off923_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw111 : k1_chk111 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off923 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw111 k1_h97 => k1_hw111.1 k1_h97
theorem k1_off925_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw111 : k1_chk111 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off925 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw111 k1_h97 => k1_hw111.2.1 k1_h97
theorem k1_off927_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw111 : k1_chk111 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off927 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw111 k1_h97 => k1_hw111.2.2.1 k1_h97
theorem k1_off929_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw111 : k1_chk111 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off929 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw111 k1_h97 => k1_hw111.2.2.2.1 k1_h97
theorem k1_off930_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw111 : k1_chk111 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h97 : k1_cond97 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off930 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw111 k1_h97 => k1_hw111.2.2.2.2 k1_h97

def k1_off931 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off932 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond98 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v535 : BitVec 1 := Scalar.cmpi .slt v533 v502
  let v536 : BitVec 1 := Scalar.andi v534 v535
  let v537 : BitVec 32 := Scalar.extui v536
  let c0_i32_274 : BitVec 32 := 0#32
  let v538 : BitVec 1 := Scalar.cmpi .ne v537 c0_i32_274
  v538

def k1_off933 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off934 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off935 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off936 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off937 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off938 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off939 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk112 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off932 i v639) a + S1x16.size a ≤ S80x64.size a) ∧
  (∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off934 i v639) a + S1x16.size a ≤ S80x64.size a) ∧
  (∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off936 i v639) a + S1x16.size a ≤ S80x64.size a) ∧
  (∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off938 i v639) a + S1x16.size a ≤ S80x64.size a) ∧
  (∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off939 i v639) a + S1x16.size a ≤ S80x16.size a)
theorem k1_off932_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw112 : k1_chk112 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off932 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw112 k1_h98 => k1_hw112.1 k1_h98
theorem k1_off934_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw112 : k1_chk112 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off934 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw112 k1_h98 => k1_hw112.2.1 k1_h98
theorem k1_off936_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw112 : k1_chk112 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off936 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw112 k1_h98 => k1_hw112.2.2.1 k1_h98
theorem k1_off938_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw112 : k1_chk112 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off938 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw112 k1_h98 => k1_hw112.2.2.2.1 k1_h98
theorem k1_off939_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw112 : k1_chk112 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h98 : k1_cond98 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off939 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw112 k1_h98 => k1_hw112.2.2.2.2 k1_h98

def k1_off940 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off941 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond99 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v542 : BitVec 1 := Scalar.cmpi .slt v540 v502
  let v543 : BitVec 1 := Scalar.andi v541 v542
  let v544 : BitVec 32 := Scalar.extui v543
  let c0_i32_276 : BitVec 32 := 0#32
  let v545 : BitVec 1 := Scalar.cmpi .ne v544 c0_i32_276
  v545

def k1_off942 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off943 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off944 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off945 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off946 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off947 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off948 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk113 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off941 i v639) a + S1x16.size a ≤ S80x64.size a) ∧
  (∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off943 i v639) a + S1x16.size a ≤ S80x64.size a) ∧
  (∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off945 i v639) a + S1x16.size a ≤ S80x64.size a) ∧
  (∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off947 i v639) a + S1x16.size a ≤ S80x64.size a) ∧
  (∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off948 i v639) a + S1x16.size a ≤ S80x16.size a)
theorem k1_off941_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw113 : k1_chk113 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off941 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw113 k1_h99 => k1_hw113.1 k1_h99
theorem k1_off943_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw113 : k1_chk113 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off943 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw113 k1_h99 => k1_hw113.2.1 k1_h99
theorem k1_off945_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw113 : k1_chk113 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off945 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw113 k1_h99 => k1_hw113.2.2.1 k1_h99
theorem k1_off947_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw113 : k1_chk113 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off947 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw113 k1_h99 => k1_hw113.2.2.2.1 k1_h99
theorem k1_off948_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw113 : k1_chk113 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h99 : k1_cond99 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off948 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw113 k1_h99 => k1_hw113.2.2.2.2 k1_h99

def k1_off949 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off950 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond100 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v549 : BitVec 1 := Scalar.cmpi .slt v547 v502
  let v550 : BitVec 1 := Scalar.andi v548 v549
  let v551 : BitVec 32 := Scalar.extui v550
  let c0_i32_277 : BitVec 32 := 0#32
  let v552 : BitVec 1 := Scalar.cmpi .ne v551 c0_i32_277
  v552

def k1_off951 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off952 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off953 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off954 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off955 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off956 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off957 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk114 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off950 i v639) a + S1x16.size a ≤ S80x64.size a) ∧
  (∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off952 i v639) a + S1x16.size a ≤ S80x64.size a) ∧
  (∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off954 i v639) a + S1x16.size a ≤ S80x64.size a) ∧
  (∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off956 i v639) a + S1x16.size a ≤ S80x64.size a) ∧
  (∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off957 i v639) a + S1x16.size a ≤ S80x16.size a)
theorem k1_off950_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw114 : k1_chk114 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off950 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw114 k1_h100 => k1_hw114.1 k1_h100
theorem k1_off952_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw114 : k1_chk114 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off952 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw114 k1_h100 => k1_hw114.2.1 k1_h100
theorem k1_off954_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw114 : k1_chk114 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off954 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw114 k1_h100 => k1_hw114.2.2.1 k1_h100
theorem k1_off956_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw114 : k1_chk114 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off956 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw114 k1_h100 => k1_hw114.2.2.2.1 k1_h100
theorem k1_off957_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw114 : k1_chk114 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h100 : k1_cond100 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off957 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw114 k1_h100 => k1_hw114.2.2.2.2 k1_h100

def k1_off958 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off959 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond101 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v556 : BitVec 1 := Scalar.cmpi .slt v554 v502
  let v557 : BitVec 1 := Scalar.andi v555 v556
  let v558 : BitVec 32 := Scalar.extui v557
  let c0_i32_278 : BitVec 32 := 0#32
  let v559 : BitVec 1 := Scalar.cmpi .ne v558 c0_i32_278
  v559

def k1_off960 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off961 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off962 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off963 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off964 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off965 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off966 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk115 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off959 i v639) a + S1x16.size a ≤ S80x64.size a) ∧
  (∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off961 i v639) a + S1x16.size a ≤ S80x64.size a) ∧
  (∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off963 i v639) a + S1x16.size a ≤ S80x64.size a) ∧
  (∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off965 i v639) a + S1x16.size a ≤ S80x64.size a) ∧
  (∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off966 i v639) a + S1x16.size a ≤ S80x16.size a)
theorem k1_off959_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw115 : k1_chk115 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off959 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw115 k1_h101 => k1_hw115.1 k1_h101
theorem k1_off961_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw115 : k1_chk115 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off961 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw115 k1_h101 => k1_hw115.2.1 k1_h101
theorem k1_off963_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw115 : k1_chk115 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off963 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw115 k1_h101 => k1_hw115.2.2.1 k1_h101
theorem k1_off965_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw115 : k1_chk115 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off965 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw115 k1_h101 => k1_hw115.2.2.2.1 k1_h101
theorem k1_off966_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw115 : k1_chk115 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h101 : k1_cond101 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off966 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw115 k1_h101 => k1_hw115.2.2.2.2 k1_h101

def k1_off967 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off968 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond102 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v563 : BitVec 1 := Scalar.cmpi .slt v561 v502
  let v564 : BitVec 1 := Scalar.andi v562 v563
  let v565 : BitVec 32 := Scalar.extui v564
  let c0_i32_279 : BitVec 32 := 0#32
  let v566 : BitVec 1 := Scalar.cmpi .ne v565 c0_i32_279
  v566

def k1_off969 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off970 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off971 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off972 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off973 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off974 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off975 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk116 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off968 i v639) a + S1x16.size a ≤ S80x64.size a) ∧
  (∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off970 i v639) a + S1x16.size a ≤ S80x64.size a) ∧
  (∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off972 i v639) a + S1x16.size a ≤ S80x64.size a) ∧
  (∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off974 i v639) a + S1x16.size a ≤ S80x64.size a) ∧
  (∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off975 i v639) a + S1x16.size a ≤ S80x16.size a)
theorem k1_off968_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw116 : k1_chk116 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off968 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw116 k1_h102 => k1_hw116.1 k1_h102
theorem k1_off970_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw116 : k1_chk116 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off970 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw116 k1_h102 => k1_hw116.2.1 k1_h102
theorem k1_off972_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw116 : k1_chk116 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off972 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw116 k1_h102 => k1_hw116.2.2.1 k1_h102
theorem k1_off974_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw116 : k1_chk116 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off974 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw116 k1_h102 => k1_hw116.2.2.2.1 k1_h102
theorem k1_off975_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw116 : k1_chk116 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h102 : k1_cond102 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off975 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw116 k1_h102 => k1_hw116.2.2.2.2 k1_h102

def k1_off976 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off977 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond103 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v570 : BitVec 1 := Scalar.cmpi .slt v568 v502
  let v571 : BitVec 1 := Scalar.andi v569 v570
  let v572 : BitVec 32 := Scalar.extui v571
  let c0_i32_280 : BitVec 32 := 0#32
  let v573 : BitVec 1 := Scalar.cmpi .ne v572 c0_i32_280
  v573

def k1_off978 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off979 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off980 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off981 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off982 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off983 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off984 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk117 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off977 i v639) a + S1x16.size a ≤ S80x64.size a) ∧
  (∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off979 i v639) a + S1x16.size a ≤ S80x64.size a) ∧
  (∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off981 i v639) a + S1x16.size a ≤ S80x64.size a) ∧
  (∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off983 i v639) a + S1x16.size a ≤ S80x64.size a) ∧
  (∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off984 i v639) a + S1x16.size a ≤ S80x16.size a)
theorem k1_off977_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw117 : k1_chk117 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off977 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw117 k1_h103 => k1_hw117.1 k1_h103
theorem k1_off979_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw117 : k1_chk117 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off979 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw117 k1_h103 => k1_hw117.2.1 k1_h103
theorem k1_off981_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw117 : k1_chk117 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off981 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw117 k1_h103 => k1_hw117.2.2.1 k1_h103
theorem k1_off983_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw117 : k1_chk117 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off983 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw117 k1_h103 => k1_hw117.2.2.2.1 k1_h103
theorem k1_off984_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw117 : k1_chk117 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h103 : k1_cond103 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off984 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw117 k1_h103 => k1_hw117.2.2.2.2 k1_h103

def k1_off985 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off986 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond104 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v577 : BitVec 1 := Scalar.cmpi .slt v575 v502
  let v578 : BitVec 1 := Scalar.andi v576 v577
  let v579 : BitVec 32 := Scalar.extui v578
  let c0_i32_281 : BitVec 32 := 0#32
  let v580 : BitVec 1 := Scalar.cmpi .ne v579 c0_i32_281
  v580

def k1_off987 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off988 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off989 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off990 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off991 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off992 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off993 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk118 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off986 i v639) a + S1x16.size a ≤ S80x64.size a) ∧
  (∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off988 i v639) a + S1x16.size a ≤ S80x64.size a) ∧
  (∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off990 i v639) a + S1x16.size a ≤ S80x64.size a) ∧
  (∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off992 i v639) a + S1x16.size a ≤ S80x64.size a) ∧
  (∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off993 i v639) a + S1x16.size a ≤ S80x16.size a)
theorem k1_off986_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw118 : k1_chk118 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off986 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw118 k1_h104 => k1_hw118.1 k1_h104
theorem k1_off988_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw118 : k1_chk118 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off988 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw118 k1_h104 => k1_hw118.2.1 k1_h104
theorem k1_off990_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw118 : k1_chk118 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off990 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw118 k1_h104 => k1_hw118.2.2.1 k1_h104
theorem k1_off992_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw118 : k1_chk118 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off992 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw118 k1_h104 => k1_hw118.2.2.2.1 k1_h104
theorem k1_off993_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw118 : k1_chk118 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h104 : k1_cond104 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off993 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw118 k1_h104 => k1_hw118.2.2.2.2 k1_h104

def k1_off994 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off995 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond105 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v584 : BitVec 1 := Scalar.cmpi .slt v582 v502
  let v585 : BitVec 1 := Scalar.andi v583 v584
  let v586 : BitVec 32 := Scalar.extui v585
  let c0_i32_283 : BitVec 32 := 0#32
  let v587 : BitVec 1 := Scalar.cmpi .ne v586 c0_i32_283
  v587

def k1_off996 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off997 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off998 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off999 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1000 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off1001 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1002 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk119 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off995 i v639) a + S1x16.size a ≤ S80x64.size a) ∧
  (∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off997 i v639) a + S1x16.size a ≤ S80x64.size a) ∧
  (∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off999 i v639) a + S1x16.size a ≤ S80x64.size a) ∧
  (∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1001 i v639) a + S1x16.size a ≤ S80x64.size a) ∧
  (∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1002 i v639) a + S1x16.size a ≤ S80x16.size a)
theorem k1_off995_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw119 : k1_chk119 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off995 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw119 k1_h105 => k1_hw119.1 k1_h105
theorem k1_off997_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw119 : k1_chk119 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off997 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw119 k1_h105 => k1_hw119.2.1 k1_h105
theorem k1_off999_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw119 : k1_chk119 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off999 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw119 k1_h105 => k1_hw119.2.2.1 k1_h105
theorem k1_off1001_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw119 : k1_chk119 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1001 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw119 k1_h105 => k1_hw119.2.2.2.1 k1_h105
theorem k1_off1002_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw119 : k1_chk119 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h105 : k1_cond105 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1002 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw119 k1_h105 => k1_hw119.2.2.2.2 k1_h105

def k1_off1003 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off1004 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond106 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v591 : BitVec 1 := Scalar.cmpi .slt v589 v502
  let v592 : BitVec 1 := Scalar.andi v590 v591
  let v593 : BitVec 32 := Scalar.extui v592
  let c0_i32_284 : BitVec 32 := 0#32
  let v594 : BitVec 1 := Scalar.cmpi .ne v593 c0_i32_284
  v594

def k1_off1005 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off1006 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1007 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off1008 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1009 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off1010 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1011 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk120 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1004 i v639) a + S1x16.size a ≤ S80x64.size a) ∧
  (∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1006 i v639) a + S1x16.size a ≤ S80x64.size a) ∧
  (∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1008 i v639) a + S1x16.size a ≤ S80x64.size a) ∧
  (∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1010 i v639) a + S1x16.size a ≤ S80x64.size a) ∧
  (∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1011 i v639) a + S1x16.size a ≤ S80x16.size a)
theorem k1_off1004_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw120 : k1_chk120 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1004 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw120 k1_h106 => k1_hw120.1 k1_h106
theorem k1_off1006_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw120 : k1_chk120 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1006 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw120 k1_h106 => k1_hw120.2.1 k1_h106
theorem k1_off1008_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw120 : k1_chk120 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1008 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw120 k1_h106 => k1_hw120.2.2.1 k1_h106
theorem k1_off1010_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw120 : k1_chk120 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1010 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw120 k1_h106 => k1_hw120.2.2.2.1 k1_h106
theorem k1_off1011_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw120 : k1_chk120 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h106 : k1_cond106 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1011 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw120 k1_h106 => k1_hw120.2.2.2.2 k1_h106

def k1_off1012 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off1013 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond107 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v598 : BitVec 1 := Scalar.cmpi .slt v596 v502
  let v599 : BitVec 1 := Scalar.andi v597 v598
  let v600 : BitVec 32 := Scalar.extui v599
  let c0_i32_285 : BitVec 32 := 0#32
  let v601 : BitVec 1 := Scalar.cmpi .ne v600 c0_i32_285
  v601

def k1_off1014 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off1015 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1016 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off1017 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1018 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off1019 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1020 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk121 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1013 i v639) a + S1x16.size a ≤ S80x64.size a) ∧
  (∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1015 i v639) a + S1x16.size a ≤ S80x64.size a) ∧
  (∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1017 i v639) a + S1x16.size a ≤ S80x64.size a) ∧
  (∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1019 i v639) a + S1x16.size a ≤ S80x64.size a) ∧
  (∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1020 i v639) a + S1x16.size a ≤ S80x16.size a)
theorem k1_off1013_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw121 : k1_chk121 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1013 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw121 k1_h107 => k1_hw121.1 k1_h107
theorem k1_off1015_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw121 : k1_chk121 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1015 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw121 k1_h107 => k1_hw121.2.1 k1_h107
theorem k1_off1017_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw121 : k1_chk121 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1017 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw121 k1_h107 => k1_hw121.2.2.1 k1_h107
theorem k1_off1019_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw121 : k1_chk121 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1019 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw121 k1_h107 => k1_hw121.2.2.2.1 k1_h107
theorem k1_off1020_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw121 : k1_chk121 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h107 : k1_cond107 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1020 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw121 k1_h107 => k1_hw121.2.2.2.2 k1_h107

def k1_off1021 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off1022 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond108 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v605 : BitVec 1 := Scalar.cmpi .slt v603 v502
  let v606 : BitVec 1 := Scalar.andi v604 v605
  let v607 : BitVec 32 := Scalar.extui v606
  let c0_i32_286 : BitVec 32 := 0#32
  let v608 : BitVec 1 := Scalar.cmpi .ne v607 c0_i32_286
  v608

def k1_off1023 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off1024 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1025 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off1026 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1027 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off1028 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1029 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk122 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1022 i v639) a + S1x16.size a ≤ S80x64.size a) ∧
  (∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1024 i v639) a + S1x16.size a ≤ S80x64.size a) ∧
  (∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1026 i v639) a + S1x16.size a ≤ S80x64.size a) ∧
  (∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1028 i v639) a + S1x16.size a ≤ S80x64.size a) ∧
  (∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1029 i v639) a + S1x16.size a ≤ S80x16.size a)
theorem k1_off1022_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw122 : k1_chk122 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1022 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw122 k1_h108 => k1_hw122.1 k1_h108
theorem k1_off1024_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw122 : k1_chk122 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1024 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw122 k1_h108 => k1_hw122.2.1 k1_h108
theorem k1_off1026_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw122 : k1_chk122 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1026 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw122 k1_h108 => k1_hw122.2.2.1 k1_h108
theorem k1_off1028_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw122 : k1_chk122 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1028 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw122 k1_h108 => k1_hw122.2.2.2.1 k1_h108
theorem k1_off1029_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw122 : k1_chk122 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h108 : k1_cond108 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1029 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw122 k1_h108 => k1_hw122.2.2.2.2 k1_h108

def k1_off1030 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off1031 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond109 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v612 : BitVec 1 := Scalar.cmpi .slt v610 v502
  let v613 : BitVec 1 := Scalar.andi v611 v612
  let v614 : BitVec 32 := Scalar.extui v613
  let c0_i32_287 : BitVec 32 := 0#32
  let v615 : BitVec 1 := Scalar.cmpi .ne v614 c0_i32_287
  v615

def k1_off1032 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off1033 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1034 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off1035 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1036 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off1037 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1038 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk123 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1031 i v639) a + S1x16.size a ≤ S80x64.size a) ∧
  (∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1033 i v639) a + S1x16.size a ≤ S80x64.size a) ∧
  (∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1035 i v639) a + S1x16.size a ≤ S80x64.size a) ∧
  (∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1037 i v639) a + S1x16.size a ≤ S80x64.size a) ∧
  (∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1038 i v639) a + S1x16.size a ≤ S80x16.size a)
theorem k1_off1031_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw123 : k1_chk123 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1031 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw123 k1_h109 => k1_hw123.1 k1_h109
theorem k1_off1033_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw123 : k1_chk123 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1033 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw123 k1_h109 => k1_hw123.2.1 k1_h109
theorem k1_off1035_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw123 : k1_chk123 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1035 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw123 k1_h109 => k1_hw123.2.2.1 k1_h109
theorem k1_off1037_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw123 : k1_chk123 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1037 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw123 k1_h109 => k1_hw123.2.2.2.1 k1_h109
theorem k1_off1038_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw123 : k1_chk123 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h109 : k1_cond109 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1038 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw123 k1_h109 => k1_hw123.2.2.2.2 k1_h109

def k1_off1039 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off1040 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond110 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v619 : BitVec 1 := Scalar.cmpi .slt v617 v502
  let v620 : BitVec 1 := Scalar.andi v618 v619
  let v621 : BitVec 32 := Scalar.extui v620
  let c0_i32_288 : BitVec 32 := 0#32
  let v622 : BitVec 1 := Scalar.cmpi .ne v621 c0_i32_288
  v622

def k1_off1041 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off1042 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1043 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off1044 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1045 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off1046 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1047 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk124 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1040 i v639) a + S1x16.size a ≤ S80x64.size a) ∧
  (∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1042 i v639) a + S1x16.size a ≤ S80x64.size a) ∧
  (∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1044 i v639) a + S1x16.size a ≤ S80x64.size a) ∧
  (∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1046 i v639) a + S1x16.size a ≤ S80x64.size a) ∧
  (∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1047 i v639) a + S1x16.size a ≤ S80x16.size a)
theorem k1_off1040_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw124 : k1_chk124 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1040 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw124 k1_h110 => k1_hw124.1 k1_h110
theorem k1_off1042_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw124 : k1_chk124 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1042 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw124 k1_h110 => k1_hw124.2.1 k1_h110
theorem k1_off1044_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw124 : k1_chk124 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1044 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw124 k1_h110 => k1_hw124.2.2.1 k1_h110
theorem k1_off1046_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw124 : k1_chk124 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1046 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw124 k1_h110 => k1_hw124.2.2.2.1 k1_h110
theorem k1_off1047_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw124 : k1_chk124 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h110 : k1_cond110 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1047 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw124 k1_h110 => k1_hw124.2.2.2.2 k1_h110

def k1_off1048 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off1049 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond111 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v626 : BitVec 1 := Scalar.cmpi .slt v624 v502
  let v627 : BitVec 1 := Scalar.andi v625 v626
  let v628 : BitVec 32 := Scalar.extui v627
  let c0_i32_289 : BitVec 32 := 0#32
  let v629 : BitVec 1 := Scalar.cmpi .ne v628 c0_i32_289
  v629

def k1_off1050 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off1051 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1052 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off1053 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1054 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off1055 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1056 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk125 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1049 i v639) a + S1x16.size a ≤ S80x64.size a) ∧
  (∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1051 i v639) a + S1x16.size a ≤ S80x64.size a) ∧
  (∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1053 i v639) a + S1x16.size a ≤ S80x64.size a) ∧
  (∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1055 i v639) a + S1x16.size a ≤ S80x64.size a) ∧
  (∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1056 i v639) a + S1x16.size a ≤ S80x16.size a)
theorem k1_off1049_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw125 : k1_chk125 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1049 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw125 k1_h111 => k1_hw125.1 k1_h111
theorem k1_off1051_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw125 : k1_chk125 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1051 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw125 k1_h111 => k1_hw125.2.1 k1_h111
theorem k1_off1053_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw125 : k1_chk125 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1053 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw125 k1_h111 => k1_hw125.2.2.1 k1_h111
theorem k1_off1055_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw125 : k1_chk125 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1055 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw125 k1_h111 => k1_hw125.2.2.2.1 k1_h111
theorem k1_off1056_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw125 : k1_chk125 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h111 : k1_cond111 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1056 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw125 k1_h111 => k1_hw125.2.2.2.2 k1_h111

def k1_off1057 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off1058 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond112 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c1_i32_261 : BitVec 32 := 1#32
  let arg13 : BitVec 32 := Scf.iv v505 c1_i32_261 k1_t22
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v396
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let v633 : BitVec 1 := Scalar.cmpi .slt v631 v502
  let v634 : BitVec 1 := Scalar.andi v632 v633
  let v635 : BitVec 32 := Scalar.extui v634
  let c0_i32_291 : BitVec 32 := 0#32
  let v636 : BitVec 1 := Scalar.cmpi .ne v635 c0_i32_291
  v636

def k1_off1059 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off1060 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1061 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off1062 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1063 (k1_t23 : Fin k1_t23_loop.trips) : Fin 2 → Nat :=
  let c0_i32_265 : BitVec 32 := 0#32
  let c1_i32_267 : BitVec 32 := 1#32
  let arg15 : BitVec 32 := Scf.iv c0_i32_265 c1_i32_267 k1_t23
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off1064 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1065 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk126 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) : Prop :=
  (∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1058 i v639) a + S1x16.size a ≤ S80x64.size a) ∧
  (∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1060 i v639) a + S1x16.size a ≤ S80x64.size a) ∧
  (∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1062 i v639) a + S1x16.size a ≤ S80x64.size a) ∧
  (∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1064 i v639) a + S1x16.size a ≤ S80x64.size a) ∧
  (∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1065 i v639) a + S1x16.size a ≤ S80x16.size a)
theorem k1_off1058_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw126 : k1_chk126 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1058 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw126 k1_h112 => k1_hw126.1 k1_h112
theorem k1_off1060_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw126 : k1_chk126 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1060 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw126 k1_h112 => k1_hw126.2.1 k1_h112
theorem k1_off1062_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw126 : k1_chk126 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1062 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw126 k1_h112 => k1_hw126.2.2.1 k1_h112
theorem k1_off1064_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw126 : k1_chk126 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1064 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw126 k1_h112 => k1_hw126.2.2.2.1 k1_h112
theorem k1_off1065_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips) (k1_t23 : Fin k1_t23_loop.trips) (v639 : BitVec 32) (k1_hw126 : k1_chk126 i v310_0 v316 v321 v326 v331 v336 v341 v346 v351 v356 v361 v366 v371 v376 v381 v386 v391 v416_0 v422 v427 v432 v437 v442 v447 v452 v457 v462 v467 v472 v477 v482 v487 v492 v497 k1_t22 k1_t23 v639), ∀ (k1_h112 : k1_cond112 i v310_0 v316 v321 v326 v331 v336 v341 v346 v351 v356 v361 v366 v371 v376 v381 v386 v391 v416_0 v422 v427 v432 v437 v442 v447 v452 v457 v462 v467 v472 v477 v482 v487 v492 v497 k1_t22 k1_t23 = 1#1), ∀ a, (k1_off1065 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t22 k1_t23 v639 k1_hw126 k1_h112 => k1_hw126.2.2.2.2 k1_h112

@[reducible] def k1_t24_loop (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) : Scf.Loop 32 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let v510 : BitVec 32 := Scalar.addi v505 v509
  let c1_i32_262 : BitVec 32 := 1#32
  ⟨v513, v510, c1_i32_262⟩
def k1_mult21 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) : BitVec 32 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  v517
def k1_off1066 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) : Fin 2 → Nat :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_270_r33 : BitVec 32 := 0#32
  ![v518.toNat, 0]
def k1_off1067 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) : Fin 1 → Nat :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  ![v518.toNat]

def k1_chk110 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) : Prop :=
  ((k1_t22_loop i v310_0 v316 v321 v326 v331 v336 v341 v346 v351 v356 v361 v366 v371 v376 v381 v386 v391 v416_0 v422 v427 v432 v437 v442 v447 v452 v457 v462 v467 v472 v477 v482 v487 v492 v497).OK) ∧
  (∀ k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips, 256 ∣ (k1_mult20 i v310_0 v316 v321 v326 v331 v336 v341 v346 v351 v356 v361 v366 v371 v376 v381 v386 v391 v416_0 v422 v427 v432 v437 v442 v447 v452 v457 v462 v467 v472 v477 v482 v487 v492 v497 k1_t22).toNat) ∧
  (∀ k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips, ∀ a, (k1_off919 i v310_0 v316 v321 v326 v331 v336 v341 v346 v351 v356 v361 v366 v371 v376 v381 v386 v391 v416_0 v422 v427 v432 v437 v442 v447 v452 v457 v462 v467 v472 v477 v482 v487 v492 v497 k1_t22) a + S256x64.size a ≤ S320000x64.size a) ∧
  (∀ k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips, ∀ a, (k1_off920 i v310_0 v316 v321 v326 v331 v336 v341 v346 v351 v356 v361 v366 v371 v376 v381 v386 v391 v416_0 v422 v427 v432 v437 v442 v447 v452 v457 v462 v467 v472 v477 v482 v487 v492 v497 k1_t22) a + S256.size a ≤ S320000.size a) ∧
  ((k1_t24_loop i v310_0 v316 v321 v326 v331 v336 v341 v346 v351 v356 v361 v366 v371 v376 v381 v386 v391 v416_0 v422 v427 v432 v437 v442 v447 v452 v457 v462 v467 v472 v477 v482 v487 v492 v497).OK) ∧
  (∀ k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips, 256 ∣ (k1_mult21 i v310_0 v316 v321 v326 v331 v336 v341 v346 v351 v356 v361 v366 v371 v376 v381 v386 v391 v416_0 v422 v427 v432 v437 v442 v447 v452 v457 v462 v467 v472 v477 v482 v487 v492 v497 k1_t24).toNat) ∧
  (∀ k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips, ∀ a, (k1_off1066 i v310_0 v316 v321 v326 v331 v336 v341 v346 v351 v356 v361 v366 v371 v376 v381 v386 v391 v416_0 v422 v427 v432 v437 v442 v447 v452 v457 v462 v467 v472 v477 v482 v487 v492 v497 k1_t24) a + S256x64.size a ≤ S320000x64.size a) ∧
  (∀ k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips, ∀ a, (k1_off1067 i v310_0 v316 v321 v326 v331 v336 v341 v346 v351 v356 v361 v366 v371 v376 v381 v386 v391 v416_0 v422 v427 v432 v437 v442 v447 v452 v457 v462 v467 v472 v477 v482 v487 v492 v497 k1_t24) a + S256.size a ≤ S320000.size a)
theorem k1_t22_ok : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497), (k1_t22_loop i v310_0 v316 v321 v326 v331 v336 v341 v346 v351 v356 v361 v366 v371 v376 v381 v386 v391 v416_0 v422 v427 v432 v437 v442 v447 v452 v457 v462 v467 v472 v477 v482 v487 v492 v497).OK := fun i v310_0 v316 v321 v326 v331 v336 v341 v346 v351 v356 v361 v366 v371 v376 v381 v386 v391 v416_0 v422 v427 v432 v437 v442 v447 v452 v457 v462 v467 v472 v477 v482 v487 v492 v497 k1_hw110 => k1_hw110.1
theorem k1_mult20_dvd : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips), 256 ∣ (k1_mult20 i v310_0 v316 v321 v326 v331 v336 v341 v346 v351 v356 v361 v366 v371 v376 v381 v386 v391 v416_0 v422 v427 v432 v437 v442 v447 v452 v457 v462 v467 v472 v477 v482 v487 v492 v497 k1_t22).toNat := fun i v310_0 v316 v321 v326 v331 v336 v341 v346 v351 v356 v361 v366 v371 v376 v381 v386 v391 v416_0 v422 v427 v432 v437 v442 v447 v452 v457 v462 v467 v472 v477 v482 v487 v492 v497 k1_hw110 k1_t22 => k1_hw110.2.1 k1_t22
theorem k1_off919_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips), ∀ a, (k1_off919 i v310_0 v316 v321 v326 v331 v336 v341 v346 v351 v356 v361 v366 v371 v376 v381 v386 v391 v416_0 v422 v427 v432 v437 v442 v447 v452 v457 v462 v467 v472 v477 v482 v487 v492 v497 k1_t22) a + S256x64.size a ≤ S320000x64.size a := fun i v310_0 v316 v321 v326 v331 v336 v341 v346 v351 v356 v361 v366 v371 v376 v381 v386 v391 v416_0 v422 v427 v432 v437 v442 v447 v452 v457 v462 v467 v472 v477 v482 v487 v492 v497 k1_hw110 k1_t22 => k1_hw110.2.2.1 k1_t22
theorem k1_off920_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497) (k1_t22 : Fin (k1_t22_loop i v310_0 v316 v321 v326 v331 v336 v341 v346 v351 v356 v361 v366 v371 v376 v381 v386 v391 v416_0 v422 v427 v432 v437 v442 v447 v452 v457 v462 v467 v472 v477 v482 v487 v492 v497).trips), ∀ a, (k1_off920 i v310_0 v316 v321 v326 v331 v336 v341 v346 v351 v356 v361 v366 v371 v376 v381 v386 v391 v416_0 v422 v427 v432 v437 v442 v447 v452 v457 v462 v467 v472 v477 v482 v487 v492 v497 k1_t22) a + S256.size a ≤ S320000.size a := fun i v310_0 v316 v321 v326 v331 v336 v341 v346 v351 v356 v361 v366 v371 v376 v381 v386 v391 v416_0 v422 v427 v432 v437 v442 v447 v452 v457 v462 v467 v472 v477 v482 v487 v492 v497 k1_hw110 k1_t22 => k1_hw110.2.2.2.1 k1_t22
theorem k1_t24_ok : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497), (k1_t24_loop i v310_0 v316 v321 v326 v331 v336 v341 v346 v351 v356 v361 v366 v371 v376 v381 v386 v391 v416_0 v422 v427 v432 v437 v442 v447 v452 v457 v462 v467 v472 v477 v482 v487 v492 v497).OK := fun i v310_0 v316 v321 v326 v331 v336 v341 v346 v351 v356 v361 v366 v371 v376 v381 v386 v391 v416_0 v422 v427 v432 v437 v442 v447 v452 v457 v462 v467 v472 v477 v482 v487 v492 v497 k1_hw110 => k1_hw110.2.2.2.2.1
theorem k1_mult21_dvd : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips), 256 ∣ (k1_mult21 i v310_0 v316 v321 v326 v331 v336 v341 v346 v351 v356 v361 v366 v371 v376 v381 v386 v391 v416_0 v422 v427 v432 v437 v442 v447 v452 v457 v462 v467 v472 v477 v482 v487 v492 v497 k1_t24).toNat := fun i v310_0 v316 v321 v326 v331 v336 v341 v346 v351 v356 v361 v366 v371 v376 v381 v386 v391 v416_0 v422 v427 v432 v437 v442 v447 v452 v457 v462 v467 v472 v477 v482 v487 v492 v497 k1_hw110 k1_t24 => k1_hw110.2.2.2.2.2.1 k1_t24
theorem k1_off1066_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips), ∀ a, (k1_off1066 i v310_0 v316 v321 v326 v331 v336 v341 v346 v351 v356 v361 v366 v371 v376 v381 v386 v391 v416_0 v422 v427 v432 v437 v442 v447 v452 v457 v462 v467 v472 v477 v482 v487 v492 v497 k1_t24) a + S256x64.size a ≤ S320000x64.size a := fun i v310_0 v316 v321 v326 v331 v336 v341 v346 v351 v356 v361 v366 v371 v376 v381 v386 v391 v416_0 v422 v427 v432 v437 v442 v447 v452 v457 v462 v467 v472 v477 v482 v487 v492 v497 k1_hw110 k1_t24 => k1_hw110.2.2.2.2.2.2.1 k1_t24
theorem k1_off1067_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_hw110 : k1_chk110 i v310_0 v316 v321 v326 v331 v336 v341 v346 v351 v356 v361 v366 v371 v376 v381 v386 v391 v416_0 v422 v427 v432 v437 v442 v447 v452 v457 v462 v467 v472 v477 v482 v487 v492 v497) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips), ∀ a, (k1_off1067 i v310_0 v316 v321 v326 v331 v336 v341 v346 v351 v356 v361 v366 v371 v376 v381 v386 v391 v416_0 v422 v427 v432 v437 v442 v447 v452 v457 v462 v467 v472 v477 v482 v487 v492 v497 k1_t24) a + S256.size a ≤ S320000.size a := fun i v310_0 v316 v321 v326 v331 v336 v341 v346 v351 v356 v361 v366 v371 v376 v381 v386 v391 v416_0 v422 v427 v432 v437 v442 v447 v452 v457 v462 v467 v472 v477 v482 v487 v492 v497 k1_hw110 k1_t24 => k1_hw110.2.2.2.2.2.2.2 k1_t24

@[reducible] def k1_t25_loop : Scf.Loop 32 :=
  let c0_i32_265 : BitVec 32 := 0#32
  let c16_i32_266 : BitVec 32 := 16#32
  let v519 : BitVec 32 := Scalar.addi c0_i32_265 c16_i32_266
  let c1_i32_267 : BitVec 32 := 1#32
  ⟨c0_i32_265, v519, c1_i32_267⟩
def k1_off1068 (k1_t25 : Fin k1_t25_loop.trips) : Fin 1 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v522 : Index := Scalar.indexCast v521
  ![v522.toNat]
def k1_off1069 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c0_i32_293 : BitVec 32 := 0#32
  let v637 : BitVec 32 := Scalar.addi v521 c0_i32_293
  let v641 : Index := Scalar.indexCast v637
  let c0_294 : Index := 0#32
  ![v641.toNat, 0]
def k1_off1070 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond113 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v525 : BitVec 32 := Scalar.addi v518 v521
  let c0_i32_271 : BitVec 32 := 0#32
  let v526 : BitVec 32 := Scalar.addi v525 c0_i32_271
  let v527 : BitVec 1 := Scalar.cmpi .sge v526 v396
  let v528 : BitVec 1 := Scalar.cmpi .slt v526 v502
  let v529 : BitVec 1 := Scalar.andi v527 v528
  let v530 : BitVec 32 := Scalar.extui v529
  let c0_i32_272 : BitVec 32 := 0#32
  let v531 : BitVec 1 := Scalar.cmpi .ne v530 c0_i32_272
  v531

def k1_off1071 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c0_i32_293 : BitVec 32 := 0#32
  let v637 : BitVec 32 := Scalar.addi v521 c0_i32_293
  let v660 : Index := Scalar.indexCast v637
  let c16 : Index := 16#32
  ![v660.toNat, 16]
def k1_off1072 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1073 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c0_i32_293 : BitVec 32 := 0#32
  let v637 : BitVec 32 := Scalar.addi v521 c0_i32_293
  let v679 : Index := Scalar.indexCast v637
  let c32 : Index := 32#32
  ![v679.toNat, 32]
def k1_off1074 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1075 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c0_i32_293 : BitVec 32 := 0#32
  let v637 : BitVec 32 := Scalar.addi v521 c0_i32_293
  let v698 : Index := Scalar.indexCast v637
  let c48 : Index := 48#32
  ![v698.toNat, 48]
def k1_off1076 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1077 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk127 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1070 i v639) a + S1x16.size a ≤ S80x64.size a) ∧
  (∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1072 i v639) a + S1x16.size a ≤ S80x64.size a) ∧
  (∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1074 i v639) a + S1x16.size a ≤ S80x64.size a) ∧
  (∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1076 i v639) a + S1x16.size a ≤ S80x64.size a) ∧
  (∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1077 i v639) a + S1x16.size a ≤ S80x16.size a)
theorem k1_off1070_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw127 : k1_chk127 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1070 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw127 k1_h113 => k1_hw127.1 k1_h113
theorem k1_off1072_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw127 : k1_chk127 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1072 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw127 k1_h113 => k1_hw127.2.1 k1_h113
theorem k1_off1074_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw127 : k1_chk127 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1074 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw127 k1_h113 => k1_hw127.2.2.1 k1_h113
theorem k1_off1076_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw127 : k1_chk127 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1076 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw127 k1_h113 => k1_hw127.2.2.2.1 k1_h113
theorem k1_off1077_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw127 : k1_chk127 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h113 : k1_cond113 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1077 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw127 k1_h113 => k1_hw127.2.2.2.2 k1_h113

def k1_off1078 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c1_i32_293 : BitVec 32 := 1#32
  let v637 : BitVec 32 := Scalar.addi v521 c1_i32_293
  let v641 : Index := Scalar.indexCast v637
  let c0_294 : Index := 0#32
  ![v641.toNat, 0]
def k1_off1079 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond114 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v532 : BitVec 32 := Scalar.addi v518 v521
  let c1_i32_273 : BitVec 32 := 1#32
  let v533 : BitVec 32 := Scalar.addi v532 c1_i32_273
  let v534 : BitVec 1 := Scalar.cmpi .sge v533 v396
  let v535 : BitVec 1 := Scalar.cmpi .slt v533 v502
  let v536 : BitVec 1 := Scalar.andi v534 v535
  let v537 : BitVec 32 := Scalar.extui v536
  let c0_i32_274 : BitVec 32 := 0#32
  let v538 : BitVec 1 := Scalar.cmpi .ne v537 c0_i32_274
  v538

def k1_off1080 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c1_i32_293 : BitVec 32 := 1#32
  let v637 : BitVec 32 := Scalar.addi v521 c1_i32_293
  let v660 : Index := Scalar.indexCast v637
  let c16 : Index := 16#32
  ![v660.toNat, 16]
def k1_off1081 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1082 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c1_i32_293 : BitVec 32 := 1#32
  let v637 : BitVec 32 := Scalar.addi v521 c1_i32_293
  let v679 : Index := Scalar.indexCast v637
  let c32 : Index := 32#32
  ![v679.toNat, 32]
def k1_off1083 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1084 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c1_i32_293 : BitVec 32 := 1#32
  let v637 : BitVec 32 := Scalar.addi v521 c1_i32_293
  let v698 : Index := Scalar.indexCast v637
  let c48 : Index := 48#32
  ![v698.toNat, 48]
def k1_off1085 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1086 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk128 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1079 i v639) a + S1x16.size a ≤ S80x64.size a) ∧
  (∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1081 i v639) a + S1x16.size a ≤ S80x64.size a) ∧
  (∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1083 i v639) a + S1x16.size a ≤ S80x64.size a) ∧
  (∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1085 i v639) a + S1x16.size a ≤ S80x64.size a) ∧
  (∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1086 i v639) a + S1x16.size a ≤ S80x16.size a)
theorem k1_off1079_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw128 : k1_chk128 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1079 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw128 k1_h114 => k1_hw128.1 k1_h114
theorem k1_off1081_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw128 : k1_chk128 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1081 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw128 k1_h114 => k1_hw128.2.1 k1_h114
theorem k1_off1083_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw128 : k1_chk128 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1083 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw128 k1_h114 => k1_hw128.2.2.1 k1_h114
theorem k1_off1085_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw128 : k1_chk128 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1085 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw128 k1_h114 => k1_hw128.2.2.2.1 k1_h114
theorem k1_off1086_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw128 : k1_chk128 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h114 : k1_cond114 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1086 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw128 k1_h114 => k1_hw128.2.2.2.2 k1_h114

def k1_off1087 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c2_i32_293 : BitVec 32 := 2#32
  let v637 : BitVec 32 := Scalar.addi v521 c2_i32_293
  let v641 : Index := Scalar.indexCast v637
  let c0_294 : Index := 0#32
  ![v641.toNat, 0]
def k1_off1088 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond115 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v539 : BitVec 32 := Scalar.addi v518 v521
  let c2_i32_275 : BitVec 32 := 2#32
  let v540 : BitVec 32 := Scalar.addi v539 c2_i32_275
  let v541 : BitVec 1 := Scalar.cmpi .sge v540 v396
  let v542 : BitVec 1 := Scalar.cmpi .slt v540 v502
  let v543 : BitVec 1 := Scalar.andi v541 v542
  let v544 : BitVec 32 := Scalar.extui v543
  let c0_i32_276 : BitVec 32 := 0#32
  let v545 : BitVec 1 := Scalar.cmpi .ne v544 c0_i32_276
  v545

def k1_off1089 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c2_i32_293 : BitVec 32 := 2#32
  let v637 : BitVec 32 := Scalar.addi v521 c2_i32_293
  let v660 : Index := Scalar.indexCast v637
  let c16 : Index := 16#32
  ![v660.toNat, 16]
def k1_off1090 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1091 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c2_i32_293 : BitVec 32 := 2#32
  let v637 : BitVec 32 := Scalar.addi v521 c2_i32_293
  let v679 : Index := Scalar.indexCast v637
  let c32 : Index := 32#32
  ![v679.toNat, 32]
def k1_off1092 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1093 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c2_i32_293 : BitVec 32 := 2#32
  let v637 : BitVec 32 := Scalar.addi v521 c2_i32_293
  let v698 : Index := Scalar.indexCast v637
  let c48 : Index := 48#32
  ![v698.toNat, 48]
def k1_off1094 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1095 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk129 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1088 i v639) a + S1x16.size a ≤ S80x64.size a) ∧
  (∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1090 i v639) a + S1x16.size a ≤ S80x64.size a) ∧
  (∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1092 i v639) a + S1x16.size a ≤ S80x64.size a) ∧
  (∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1094 i v639) a + S1x16.size a ≤ S80x64.size a) ∧
  (∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1095 i v639) a + S1x16.size a ≤ S80x16.size a)
theorem k1_off1088_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw129 : k1_chk129 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1088 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw129 k1_h115 => k1_hw129.1 k1_h115
theorem k1_off1090_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw129 : k1_chk129 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1090 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw129 k1_h115 => k1_hw129.2.1 k1_h115
theorem k1_off1092_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw129 : k1_chk129 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1092 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw129 k1_h115 => k1_hw129.2.2.1 k1_h115
theorem k1_off1094_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw129 : k1_chk129 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1094 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw129 k1_h115 => k1_hw129.2.2.2.1 k1_h115
theorem k1_off1095_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw129 : k1_chk129 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h115 : k1_cond115 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1095 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw129 k1_h115 => k1_hw129.2.2.2.2 k1_h115

def k1_off1096 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c3_i32_293 : BitVec 32 := 3#32
  let v637 : BitVec 32 := Scalar.addi v521 c3_i32_293
  let v641 : Index := Scalar.indexCast v637
  let c0_294 : Index := 0#32
  ![v641.toNat, 0]
def k1_off1097 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond116 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v546 : BitVec 32 := Scalar.addi v518 v521
  let c3_i32 : BitVec 32 := 3#32
  let v547 : BitVec 32 := Scalar.addi v546 c3_i32
  let v548 : BitVec 1 := Scalar.cmpi .sge v547 v396
  let v549 : BitVec 1 := Scalar.cmpi .slt v547 v502
  let v550 : BitVec 1 := Scalar.andi v548 v549
  let v551 : BitVec 32 := Scalar.extui v550
  let c0_i32_277 : BitVec 32 := 0#32
  let v552 : BitVec 1 := Scalar.cmpi .ne v551 c0_i32_277
  v552

def k1_off1098 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c3_i32_293 : BitVec 32 := 3#32
  let v637 : BitVec 32 := Scalar.addi v521 c3_i32_293
  let v660 : Index := Scalar.indexCast v637
  let c16 : Index := 16#32
  ![v660.toNat, 16]
def k1_off1099 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1100 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c3_i32_293 : BitVec 32 := 3#32
  let v637 : BitVec 32 := Scalar.addi v521 c3_i32_293
  let v679 : Index := Scalar.indexCast v637
  let c32 : Index := 32#32
  ![v679.toNat, 32]
def k1_off1101 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1102 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c3_i32_293 : BitVec 32 := 3#32
  let v637 : BitVec 32 := Scalar.addi v521 c3_i32_293
  let v698 : Index := Scalar.indexCast v637
  let c48 : Index := 48#32
  ![v698.toNat, 48]
def k1_off1103 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1104 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk130 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1097 i v639) a + S1x16.size a ≤ S80x64.size a) ∧
  (∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1099 i v639) a + S1x16.size a ≤ S80x64.size a) ∧
  (∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1101 i v639) a + S1x16.size a ≤ S80x64.size a) ∧
  (∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1103 i v639) a + S1x16.size a ≤ S80x64.size a) ∧
  (∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1104 i v639) a + S1x16.size a ≤ S80x16.size a)
theorem k1_off1097_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw130 : k1_chk130 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1097 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw130 k1_h116 => k1_hw130.1 k1_h116
theorem k1_off1099_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw130 : k1_chk130 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1099 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw130 k1_h116 => k1_hw130.2.1 k1_h116
theorem k1_off1101_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw130 : k1_chk130 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1101 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw130 k1_h116 => k1_hw130.2.2.1 k1_h116
theorem k1_off1103_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw130 : k1_chk130 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1103 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw130 k1_h116 => k1_hw130.2.2.2.1 k1_h116
theorem k1_off1104_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw130 : k1_chk130 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h116 : k1_cond116 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1104 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw130 k1_h116 => k1_hw130.2.2.2.2 k1_h116

def k1_off1105 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c4_i32_293 : BitVec 32 := 4#32
  let v637 : BitVec 32 := Scalar.addi v521 c4_i32_293
  let v641 : Index := Scalar.indexCast v637
  let c0_294 : Index := 0#32
  ![v641.toNat, 0]
def k1_off1106 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond117 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v553 : BitVec 32 := Scalar.addi v518 v521
  let c4_i32 : BitVec 32 := 4#32
  let v554 : BitVec 32 := Scalar.addi v553 c4_i32
  let v555 : BitVec 1 := Scalar.cmpi .sge v554 v396
  let v556 : BitVec 1 := Scalar.cmpi .slt v554 v502
  let v557 : BitVec 1 := Scalar.andi v555 v556
  let v558 : BitVec 32 := Scalar.extui v557
  let c0_i32_278 : BitVec 32 := 0#32
  let v559 : BitVec 1 := Scalar.cmpi .ne v558 c0_i32_278
  v559

def k1_off1107 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c4_i32_293 : BitVec 32 := 4#32
  let v637 : BitVec 32 := Scalar.addi v521 c4_i32_293
  let v660 : Index := Scalar.indexCast v637
  let c16 : Index := 16#32
  ![v660.toNat, 16]
def k1_off1108 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1109 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c4_i32_293 : BitVec 32 := 4#32
  let v637 : BitVec 32 := Scalar.addi v521 c4_i32_293
  let v679 : Index := Scalar.indexCast v637
  let c32 : Index := 32#32
  ![v679.toNat, 32]
def k1_off1110 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1111 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c4_i32_293 : BitVec 32 := 4#32
  let v637 : BitVec 32 := Scalar.addi v521 c4_i32_293
  let v698 : Index := Scalar.indexCast v637
  let c48 : Index := 48#32
  ![v698.toNat, 48]
def k1_off1112 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1113 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk131 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1106 i v639) a + S1x16.size a ≤ S80x64.size a) ∧
  (∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1108 i v639) a + S1x16.size a ≤ S80x64.size a) ∧
  (∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1110 i v639) a + S1x16.size a ≤ S80x64.size a) ∧
  (∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1112 i v639) a + S1x16.size a ≤ S80x64.size a) ∧
  (∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1113 i v639) a + S1x16.size a ≤ S80x16.size a)
theorem k1_off1106_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw131 : k1_chk131 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1106 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw131 k1_h117 => k1_hw131.1 k1_h117
theorem k1_off1108_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw131 : k1_chk131 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1108 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw131 k1_h117 => k1_hw131.2.1 k1_h117
theorem k1_off1110_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw131 : k1_chk131 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1110 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw131 k1_h117 => k1_hw131.2.2.1 k1_h117
theorem k1_off1112_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw131 : k1_chk131 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1112 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw131 k1_h117 => k1_hw131.2.2.2.1 k1_h117
theorem k1_off1113_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw131 : k1_chk131 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h117 : k1_cond117 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1113 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw131 k1_h117 => k1_hw131.2.2.2.2 k1_h117

def k1_off1114 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c5_i32_293 : BitVec 32 := 5#32
  let v637 : BitVec 32 := Scalar.addi v521 c5_i32_293
  let v641 : Index := Scalar.indexCast v637
  let c0_294 : Index := 0#32
  ![v641.toNat, 0]
def k1_off1115 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond118 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v560 : BitVec 32 := Scalar.addi v518 v521
  let c5_i32 : BitVec 32 := 5#32
  let v561 : BitVec 32 := Scalar.addi v560 c5_i32
  let v562 : BitVec 1 := Scalar.cmpi .sge v561 v396
  let v563 : BitVec 1 := Scalar.cmpi .slt v561 v502
  let v564 : BitVec 1 := Scalar.andi v562 v563
  let v565 : BitVec 32 := Scalar.extui v564
  let c0_i32_279 : BitVec 32 := 0#32
  let v566 : BitVec 1 := Scalar.cmpi .ne v565 c0_i32_279
  v566

def k1_off1116 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c5_i32_293 : BitVec 32 := 5#32
  let v637 : BitVec 32 := Scalar.addi v521 c5_i32_293
  let v660 : Index := Scalar.indexCast v637
  let c16 : Index := 16#32
  ![v660.toNat, 16]
def k1_off1117 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1118 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c5_i32_293 : BitVec 32 := 5#32
  let v637 : BitVec 32 := Scalar.addi v521 c5_i32_293
  let v679 : Index := Scalar.indexCast v637
  let c32 : Index := 32#32
  ![v679.toNat, 32]
def k1_off1119 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1120 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c5_i32_293 : BitVec 32 := 5#32
  let v637 : BitVec 32 := Scalar.addi v521 c5_i32_293
  let v698 : Index := Scalar.indexCast v637
  let c48 : Index := 48#32
  ![v698.toNat, 48]
def k1_off1121 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1122 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

variable {F : FTy → Type} [FloatOps F]

def k1_chk132 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1115 i v639) a + S1x16.size a ≤ S80x64.size a) ∧
  (∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1117 i v639) a + S1x16.size a ≤ S80x64.size a) ∧
  (∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1119 i v639) a + S1x16.size a ≤ S80x64.size a) ∧
  (∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1121 i v639) a + S1x16.size a ≤ S80x64.size a) ∧
  (∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1122 i v639) a + S1x16.size a ≤ S80x16.size a)
theorem k1_off1115_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw132 : k1_chk132 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1115 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw132 k1_h118 => k1_hw132.1 k1_h118
theorem k1_off1117_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw132 : k1_chk132 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1117 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw132 k1_h118 => k1_hw132.2.1 k1_h118
theorem k1_off1119_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw132 : k1_chk132 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1119 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw132 k1_h118 => k1_hw132.2.2.1 k1_h118
theorem k1_off1121_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw132 : k1_chk132 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1121 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw132 k1_h118 => k1_hw132.2.2.2.1 k1_h118
theorem k1_off1122_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw132 : k1_chk132 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h118 : k1_cond118 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1122 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw132 k1_h118 => k1_hw132.2.2.2.2 k1_h118

def k1_off1123 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c6_i32_293 : BitVec 32 := 6#32
  let v637 : BitVec 32 := Scalar.addi v521 c6_i32_293
  let v641 : Index := Scalar.indexCast v637
  let c0_294 : Index := 0#32
  ![v641.toNat, 0]
def k1_off1124 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond119 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v567 : BitVec 32 := Scalar.addi v518 v521
  let c6_i32 : BitVec 32 := 6#32
  let v568 : BitVec 32 := Scalar.addi v567 c6_i32
  let v569 : BitVec 1 := Scalar.cmpi .sge v568 v396
  let v570 : BitVec 1 := Scalar.cmpi .slt v568 v502
  let v571 : BitVec 1 := Scalar.andi v569 v570
  let v572 : BitVec 32 := Scalar.extui v571
  let c0_i32_280 : BitVec 32 := 0#32
  let v573 : BitVec 1 := Scalar.cmpi .ne v572 c0_i32_280
  v573

def k1_off1125 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c6_i32_293 : BitVec 32 := 6#32
  let v637 : BitVec 32 := Scalar.addi v521 c6_i32_293
  let v660 : Index := Scalar.indexCast v637
  let c16 : Index := 16#32
  ![v660.toNat, 16]
def k1_off1126 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1127 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c6_i32_293 : BitVec 32 := 6#32
  let v637 : BitVec 32 := Scalar.addi v521 c6_i32_293
  let v679 : Index := Scalar.indexCast v637
  let c32 : Index := 32#32
  ![v679.toNat, 32]
def k1_off1128 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1129 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c6_i32_293 : BitVec 32 := 6#32
  let v637 : BitVec 32 := Scalar.addi v521 c6_i32_293
  let v698 : Index := Scalar.indexCast v637
  let c48 : Index := 48#32
  ![v698.toNat, 48]
def k1_off1130 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1131 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk133 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1124 i v639) a + S1x16.size a ≤ S80x64.size a) ∧
  (∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1126 i v639) a + S1x16.size a ≤ S80x64.size a) ∧
  (∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1128 i v639) a + S1x16.size a ≤ S80x64.size a) ∧
  (∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1130 i v639) a + S1x16.size a ≤ S80x64.size a) ∧
  (∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1131 i v639) a + S1x16.size a ≤ S80x16.size a)
theorem k1_off1124_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw133 : k1_chk133 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1124 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw133 k1_h119 => k1_hw133.1 k1_h119
theorem k1_off1126_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw133 : k1_chk133 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1126 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw133 k1_h119 => k1_hw133.2.1 k1_h119
theorem k1_off1128_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw133 : k1_chk133 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1128 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw133 k1_h119 => k1_hw133.2.2.1 k1_h119
theorem k1_off1130_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw133 : k1_chk133 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1130 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw133 k1_h119 => k1_hw133.2.2.2.1 k1_h119
theorem k1_off1131_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw133 : k1_chk133 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h119 : k1_cond119 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1131 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw133 k1_h119 => k1_hw133.2.2.2.2 k1_h119

def k1_off1132 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c7_i32_293 : BitVec 32 := 7#32
  let v637 : BitVec 32 := Scalar.addi v521 c7_i32_293
  let v641 : Index := Scalar.indexCast v637
  let c0_294 : Index := 0#32
  ![v641.toNat, 0]
def k1_off1133 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond120 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v574 : BitVec 32 := Scalar.addi v518 v521
  let c7_i32 : BitVec 32 := 7#32
  let v575 : BitVec 32 := Scalar.addi v574 c7_i32
  let v576 : BitVec 1 := Scalar.cmpi .sge v575 v396
  let v577 : BitVec 1 := Scalar.cmpi .slt v575 v502
  let v578 : BitVec 1 := Scalar.andi v576 v577
  let v579 : BitVec 32 := Scalar.extui v578
  let c0_i32_281 : BitVec 32 := 0#32
  let v580 : BitVec 1 := Scalar.cmpi .ne v579 c0_i32_281
  v580

def k1_off1134 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c7_i32_293 : BitVec 32 := 7#32
  let v637 : BitVec 32 := Scalar.addi v521 c7_i32_293
  let v660 : Index := Scalar.indexCast v637
  let c16 : Index := 16#32
  ![v660.toNat, 16]
def k1_off1135 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1136 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c7_i32_293 : BitVec 32 := 7#32
  let v637 : BitVec 32 := Scalar.addi v521 c7_i32_293
  let v679 : Index := Scalar.indexCast v637
  let c32 : Index := 32#32
  ![v679.toNat, 32]
def k1_off1137 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1138 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c7_i32_293 : BitVec 32 := 7#32
  let v637 : BitVec 32 := Scalar.addi v521 c7_i32_293
  let v698 : Index := Scalar.indexCast v637
  let c48 : Index := 48#32
  ![v698.toNat, 48]
def k1_off1139 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1140 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk134 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1133 i v639) a + S1x16.size a ≤ S80x64.size a) ∧
  (∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1135 i v639) a + S1x16.size a ≤ S80x64.size a) ∧
  (∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1137 i v639) a + S1x16.size a ≤ S80x64.size a) ∧
  (∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1139 i v639) a + S1x16.size a ≤ S80x64.size a) ∧
  (∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1140 i v639) a + S1x16.size a ≤ S80x16.size a)
theorem k1_off1133_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw134 : k1_chk134 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1133 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw134 k1_h120 => k1_hw134.1 k1_h120
theorem k1_off1135_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw134 : k1_chk134 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1135 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw134 k1_h120 => k1_hw134.2.1 k1_h120
theorem k1_off1137_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw134 : k1_chk134 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1137 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw134 k1_h120 => k1_hw134.2.2.1 k1_h120
theorem k1_off1139_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw134 : k1_chk134 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1139 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw134 k1_h120 => k1_hw134.2.2.2.1 k1_h120
theorem k1_off1140_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw134 : k1_chk134 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h120 : k1_cond120 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1140 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw134 k1_h120 => k1_hw134.2.2.2.2 k1_h120

def k1_off1141 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c8_i32_293 : BitVec 32 := 8#32
  let v637 : BitVec 32 := Scalar.addi v521 c8_i32_293
  let v641 : Index := Scalar.indexCast v637
  let c0_294 : Index := 0#32
  ![v641.toNat, 0]
def k1_off1142 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond121 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v581 : BitVec 32 := Scalar.addi v518 v521
  let c8_i32_282 : BitVec 32 := 8#32
  let v582 : BitVec 32 := Scalar.addi v581 c8_i32_282
  let v583 : BitVec 1 := Scalar.cmpi .sge v582 v396
  let v584 : BitVec 1 := Scalar.cmpi .slt v582 v502
  let v585 : BitVec 1 := Scalar.andi v583 v584
  let v586 : BitVec 32 := Scalar.extui v585
  let c0_i32_283 : BitVec 32 := 0#32
  let v587 : BitVec 1 := Scalar.cmpi .ne v586 c0_i32_283
  v587

def k1_off1143 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c8_i32_293 : BitVec 32 := 8#32
  let v637 : BitVec 32 := Scalar.addi v521 c8_i32_293
  let v660 : Index := Scalar.indexCast v637
  let c16 : Index := 16#32
  ![v660.toNat, 16]
def k1_off1144 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1145 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c8_i32_293 : BitVec 32 := 8#32
  let v637 : BitVec 32 := Scalar.addi v521 c8_i32_293
  let v679 : Index := Scalar.indexCast v637
  let c32 : Index := 32#32
  ![v679.toNat, 32]
def k1_off1146 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1147 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c8_i32_293 : BitVec 32 := 8#32
  let v637 : BitVec 32 := Scalar.addi v521 c8_i32_293
  let v698 : Index := Scalar.indexCast v637
  let c48 : Index := 48#32
  ![v698.toNat, 48]
def k1_off1148 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1149 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk135 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1142 i v639) a + S1x16.size a ≤ S80x64.size a) ∧
  (∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1144 i v639) a + S1x16.size a ≤ S80x64.size a) ∧
  (∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1146 i v639) a + S1x16.size a ≤ S80x64.size a) ∧
  (∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1148 i v639) a + S1x16.size a ≤ S80x64.size a) ∧
  (∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1149 i v639) a + S1x16.size a ≤ S80x16.size a)
theorem k1_off1142_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw135 : k1_chk135 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1142 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw135 k1_h121 => k1_hw135.1 k1_h121
theorem k1_off1144_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw135 : k1_chk135 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1144 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw135 k1_h121 => k1_hw135.2.1 k1_h121
theorem k1_off1146_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw135 : k1_chk135 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1146 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw135 k1_h121 => k1_hw135.2.2.1 k1_h121
theorem k1_off1148_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw135 : k1_chk135 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1148 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw135 k1_h121 => k1_hw135.2.2.2.1 k1_h121
theorem k1_off1149_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw135 : k1_chk135 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h121 : k1_cond121 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1149 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw135 k1_h121 => k1_hw135.2.2.2.2 k1_h121

def k1_off1150 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c9_i32_293 : BitVec 32 := 9#32
  let v637 : BitVec 32 := Scalar.addi v521 c9_i32_293
  let v641 : Index := Scalar.indexCast v637
  let c0_294 : Index := 0#32
  ![v641.toNat, 0]
def k1_off1151 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond122 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v588 : BitVec 32 := Scalar.addi v518 v521
  let c9_i32 : BitVec 32 := 9#32
  let v589 : BitVec 32 := Scalar.addi v588 c9_i32
  let v590 : BitVec 1 := Scalar.cmpi .sge v589 v396
  let v591 : BitVec 1 := Scalar.cmpi .slt v589 v502
  let v592 : BitVec 1 := Scalar.andi v590 v591
  let v593 : BitVec 32 := Scalar.extui v592
  let c0_i32_284 : BitVec 32 := 0#32
  let v594 : BitVec 1 := Scalar.cmpi .ne v593 c0_i32_284
  v594

def k1_off1152 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c9_i32_293 : BitVec 32 := 9#32
  let v637 : BitVec 32 := Scalar.addi v521 c9_i32_293
  let v660 : Index := Scalar.indexCast v637
  let c16 : Index := 16#32
  ![v660.toNat, 16]
def k1_off1153 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1154 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c9_i32_293 : BitVec 32 := 9#32
  let v637 : BitVec 32 := Scalar.addi v521 c9_i32_293
  let v679 : Index := Scalar.indexCast v637
  let c32 : Index := 32#32
  ![v679.toNat, 32]
def k1_off1155 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1156 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c9_i32_293 : BitVec 32 := 9#32
  let v637 : BitVec 32 := Scalar.addi v521 c9_i32_293
  let v698 : Index := Scalar.indexCast v637
  let c48 : Index := 48#32
  ![v698.toNat, 48]
def k1_off1157 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1158 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk136 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1151 i v639) a + S1x16.size a ≤ S80x64.size a) ∧
  (∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1153 i v639) a + S1x16.size a ≤ S80x64.size a) ∧
  (∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1155 i v639) a + S1x16.size a ≤ S80x64.size a) ∧
  (∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1157 i v639) a + S1x16.size a ≤ S80x64.size a) ∧
  (∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1158 i v639) a + S1x16.size a ≤ S80x16.size a)
theorem k1_off1151_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw136 : k1_chk136 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1151 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw136 k1_h122 => k1_hw136.1 k1_h122
theorem k1_off1153_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw136 : k1_chk136 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1153 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw136 k1_h122 => k1_hw136.2.1 k1_h122
theorem k1_off1155_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw136 : k1_chk136 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1155 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw136 k1_h122 => k1_hw136.2.2.1 k1_h122
theorem k1_off1157_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw136 : k1_chk136 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1157 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw136 k1_h122 => k1_hw136.2.2.2.1 k1_h122
theorem k1_off1158_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw136 : k1_chk136 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h122 : k1_cond122 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1158 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw136 k1_h122 => k1_hw136.2.2.2.2 k1_h122

def k1_off1159 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c10_i32_293 : BitVec 32 := 10#32
  let v637 : BitVec 32 := Scalar.addi v521 c10_i32_293
  let v641 : Index := Scalar.indexCast v637
  let c0_294 : Index := 0#32
  ![v641.toNat, 0]
def k1_off1160 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond123 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v595 : BitVec 32 := Scalar.addi v518 v521
  let c10_i32 : BitVec 32 := 10#32
  let v596 : BitVec 32 := Scalar.addi v595 c10_i32
  let v597 : BitVec 1 := Scalar.cmpi .sge v596 v396
  let v598 : BitVec 1 := Scalar.cmpi .slt v596 v502
  let v599 : BitVec 1 := Scalar.andi v597 v598
  let v600 : BitVec 32 := Scalar.extui v599
  let c0_i32_285 : BitVec 32 := 0#32
  let v601 : BitVec 1 := Scalar.cmpi .ne v600 c0_i32_285
  v601

def k1_off1161 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c10_i32_293 : BitVec 32 := 10#32
  let v637 : BitVec 32 := Scalar.addi v521 c10_i32_293
  let v660 : Index := Scalar.indexCast v637
  let c16 : Index := 16#32
  ![v660.toNat, 16]
def k1_off1162 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1163 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c10_i32_293 : BitVec 32 := 10#32
  let v637 : BitVec 32 := Scalar.addi v521 c10_i32_293
  let v679 : Index := Scalar.indexCast v637
  let c32 : Index := 32#32
  ![v679.toNat, 32]
def k1_off1164 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1165 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c10_i32_293 : BitVec 32 := 10#32
  let v637 : BitVec 32 := Scalar.addi v521 c10_i32_293
  let v698 : Index := Scalar.indexCast v637
  let c48 : Index := 48#32
  ![v698.toNat, 48]
def k1_off1166 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1167 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk137 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1160 i v639) a + S1x16.size a ≤ S80x64.size a) ∧
  (∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1162 i v639) a + S1x16.size a ≤ S80x64.size a) ∧
  (∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1164 i v639) a + S1x16.size a ≤ S80x64.size a) ∧
  (∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1166 i v639) a + S1x16.size a ≤ S80x64.size a) ∧
  (∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1167 i v639) a + S1x16.size a ≤ S80x16.size a)
theorem k1_off1160_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw137 : k1_chk137 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1160 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw137 k1_h123 => k1_hw137.1 k1_h123
theorem k1_off1162_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw137 : k1_chk137 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1162 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw137 k1_h123 => k1_hw137.2.1 k1_h123
theorem k1_off1164_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw137 : k1_chk137 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1164 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw137 k1_h123 => k1_hw137.2.2.1 k1_h123
theorem k1_off1166_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw137 : k1_chk137 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1166 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw137 k1_h123 => k1_hw137.2.2.2.1 k1_h123
theorem k1_off1167_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw137 : k1_chk137 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h123 : k1_cond123 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1167 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw137 k1_h123 => k1_hw137.2.2.2.2 k1_h123

def k1_off1168 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c11_i32_293 : BitVec 32 := 11#32
  let v637 : BitVec 32 := Scalar.addi v521 c11_i32_293
  let v641 : Index := Scalar.indexCast v637
  let c0_294 : Index := 0#32
  ![v641.toNat, 0]
def k1_off1169 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond124 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v602 : BitVec 32 := Scalar.addi v518 v521
  let c11_i32 : BitVec 32 := 11#32
  let v603 : BitVec 32 := Scalar.addi v602 c11_i32
  let v604 : BitVec 1 := Scalar.cmpi .sge v603 v396
  let v605 : BitVec 1 := Scalar.cmpi .slt v603 v502
  let v606 : BitVec 1 := Scalar.andi v604 v605
  let v607 : BitVec 32 := Scalar.extui v606
  let c0_i32_286 : BitVec 32 := 0#32
  let v608 : BitVec 1 := Scalar.cmpi .ne v607 c0_i32_286
  v608

def k1_off1170 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c11_i32_293 : BitVec 32 := 11#32
  let v637 : BitVec 32 := Scalar.addi v521 c11_i32_293
  let v660 : Index := Scalar.indexCast v637
  let c16 : Index := 16#32
  ![v660.toNat, 16]
def k1_off1171 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1172 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c11_i32_293 : BitVec 32 := 11#32
  let v637 : BitVec 32 := Scalar.addi v521 c11_i32_293
  let v679 : Index := Scalar.indexCast v637
  let c32 : Index := 32#32
  ![v679.toNat, 32]
def k1_off1173 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1174 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c11_i32_293 : BitVec 32 := 11#32
  let v637 : BitVec 32 := Scalar.addi v521 c11_i32_293
  let v698 : Index := Scalar.indexCast v637
  let c48 : Index := 48#32
  ![v698.toNat, 48]
def k1_off1175 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1176 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk138 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1169 i v639) a + S1x16.size a ≤ S80x64.size a) ∧
  (∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1171 i v639) a + S1x16.size a ≤ S80x64.size a) ∧
  (∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1173 i v639) a + S1x16.size a ≤ S80x64.size a) ∧
  (∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1175 i v639) a + S1x16.size a ≤ S80x64.size a) ∧
  (∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1176 i v639) a + S1x16.size a ≤ S80x16.size a)
theorem k1_off1169_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw138 : k1_chk138 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1169 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw138 k1_h124 => k1_hw138.1 k1_h124
theorem k1_off1171_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw138 : k1_chk138 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1171 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw138 k1_h124 => k1_hw138.2.1 k1_h124
theorem k1_off1173_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw138 : k1_chk138 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1173 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw138 k1_h124 => k1_hw138.2.2.1 k1_h124
theorem k1_off1175_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw138 : k1_chk138 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1175 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw138 k1_h124 => k1_hw138.2.2.2.1 k1_h124
theorem k1_off1176_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw138 : k1_chk138 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h124 : k1_cond124 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1176 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw138 k1_h124 => k1_hw138.2.2.2.2 k1_h124

def k1_off1177 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c12_i32_293 : BitVec 32 := 12#32
  let v637 : BitVec 32 := Scalar.addi v521 c12_i32_293
  let v641 : Index := Scalar.indexCast v637
  let c0_294 : Index := 0#32
  ![v641.toNat, 0]
def k1_off1178 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond125 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v609 : BitVec 32 := Scalar.addi v518 v521
  let c12_i32 : BitVec 32 := 12#32
  let v610 : BitVec 32 := Scalar.addi v609 c12_i32
  let v611 : BitVec 1 := Scalar.cmpi .sge v610 v396
  let v612 : BitVec 1 := Scalar.cmpi .slt v610 v502
  let v613 : BitVec 1 := Scalar.andi v611 v612
  let v614 : BitVec 32 := Scalar.extui v613
  let c0_i32_287 : BitVec 32 := 0#32
  let v615 : BitVec 1 := Scalar.cmpi .ne v614 c0_i32_287
  v615

def k1_off1179 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c12_i32_293 : BitVec 32 := 12#32
  let v637 : BitVec 32 := Scalar.addi v521 c12_i32_293
  let v660 : Index := Scalar.indexCast v637
  let c16 : Index := 16#32
  ![v660.toNat, 16]
def k1_off1180 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1181 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c12_i32_293 : BitVec 32 := 12#32
  let v637 : BitVec 32 := Scalar.addi v521 c12_i32_293
  let v679 : Index := Scalar.indexCast v637
  let c32 : Index := 32#32
  ![v679.toNat, 32]
def k1_off1182 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1183 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c12_i32_293 : BitVec 32 := 12#32
  let v637 : BitVec 32 := Scalar.addi v521 c12_i32_293
  let v698 : Index := Scalar.indexCast v637
  let c48 : Index := 48#32
  ![v698.toNat, 48]
def k1_off1184 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1185 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk139 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1178 i v639) a + S1x16.size a ≤ S80x64.size a) ∧
  (∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1180 i v639) a + S1x16.size a ≤ S80x64.size a) ∧
  (∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1182 i v639) a + S1x16.size a ≤ S80x64.size a) ∧
  (∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1184 i v639) a + S1x16.size a ≤ S80x64.size a) ∧
  (∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1185 i v639) a + S1x16.size a ≤ S80x16.size a)
theorem k1_off1178_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw139 : k1_chk139 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1178 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw139 k1_h125 => k1_hw139.1 k1_h125
theorem k1_off1180_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw139 : k1_chk139 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1180 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw139 k1_h125 => k1_hw139.2.1 k1_h125
theorem k1_off1182_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw139 : k1_chk139 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1182 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw139 k1_h125 => k1_hw139.2.2.1 k1_h125
theorem k1_off1184_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw139 : k1_chk139 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1184 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw139 k1_h125 => k1_hw139.2.2.2.1 k1_h125
theorem k1_off1185_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw139 : k1_chk139 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h125 : k1_cond125 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1185 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw139 k1_h125 => k1_hw139.2.2.2.2 k1_h125

def k1_off1186 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c13_i32_293 : BitVec 32 := 13#32
  let v637 : BitVec 32 := Scalar.addi v521 c13_i32_293
  let v641 : Index := Scalar.indexCast v637
  let c0_294 : Index := 0#32
  ![v641.toNat, 0]
def k1_off1187 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond126 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v616 : BitVec 32 := Scalar.addi v518 v521
  let c13_i32 : BitVec 32 := 13#32
  let v617 : BitVec 32 := Scalar.addi v616 c13_i32
  let v618 : BitVec 1 := Scalar.cmpi .sge v617 v396
  let v619 : BitVec 1 := Scalar.cmpi .slt v617 v502
  let v620 : BitVec 1 := Scalar.andi v618 v619
  let v621 : BitVec 32 := Scalar.extui v620
  let c0_i32_288 : BitVec 32 := 0#32
  let v622 : BitVec 1 := Scalar.cmpi .ne v621 c0_i32_288
  v622

def k1_off1188 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c13_i32_293 : BitVec 32 := 13#32
  let v637 : BitVec 32 := Scalar.addi v521 c13_i32_293
  let v660 : Index := Scalar.indexCast v637
  let c16 : Index := 16#32
  ![v660.toNat, 16]
def k1_off1189 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1190 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c13_i32_293 : BitVec 32 := 13#32
  let v637 : BitVec 32 := Scalar.addi v521 c13_i32_293
  let v679 : Index := Scalar.indexCast v637
  let c32 : Index := 32#32
  ![v679.toNat, 32]
def k1_off1191 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1192 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c13_i32_293 : BitVec 32 := 13#32
  let v637 : BitVec 32 := Scalar.addi v521 c13_i32_293
  let v698 : Index := Scalar.indexCast v637
  let c48 : Index := 48#32
  ![v698.toNat, 48]
def k1_off1193 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1194 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk140 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1187 i v639) a + S1x16.size a ≤ S80x64.size a) ∧
  (∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1189 i v639) a + S1x16.size a ≤ S80x64.size a) ∧
  (∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1191 i v639) a + S1x16.size a ≤ S80x64.size a) ∧
  (∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1193 i v639) a + S1x16.size a ≤ S80x64.size a) ∧
  (∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1194 i v639) a + S1x16.size a ≤ S80x16.size a)
theorem k1_off1187_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw140 : k1_chk140 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1187 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw140 k1_h126 => k1_hw140.1 k1_h126
theorem k1_off1189_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw140 : k1_chk140 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1189 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw140 k1_h126 => k1_hw140.2.1 k1_h126
theorem k1_off1191_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw140 : k1_chk140 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1191 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw140 k1_h126 => k1_hw140.2.2.1 k1_h126
theorem k1_off1193_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw140 : k1_chk140 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1193 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw140 k1_h126 => k1_hw140.2.2.2.1 k1_h126
theorem k1_off1194_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw140 : k1_chk140 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h126 : k1_cond126 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1194 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw140 k1_h126 => k1_hw140.2.2.2.2 k1_h126

def k1_off1195 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c14_i32_293 : BitVec 32 := 14#32
  let v637 : BitVec 32 := Scalar.addi v521 c14_i32_293
  let v641 : Index := Scalar.indexCast v637
  let c0_294 : Index := 0#32
  ![v641.toNat, 0]
def k1_off1196 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond127 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v623 : BitVec 32 := Scalar.addi v518 v521
  let c14_i32 : BitVec 32 := 14#32
  let v624 : BitVec 32 := Scalar.addi v623 c14_i32
  let v625 : BitVec 1 := Scalar.cmpi .sge v624 v396
  let v626 : BitVec 1 := Scalar.cmpi .slt v624 v502
  let v627 : BitVec 1 := Scalar.andi v625 v626
  let v628 : BitVec 32 := Scalar.extui v627
  let c0_i32_289 : BitVec 32 := 0#32
  let v629 : BitVec 1 := Scalar.cmpi .ne v628 c0_i32_289
  v629

def k1_off1197 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c14_i32_293 : BitVec 32 := 14#32
  let v637 : BitVec 32 := Scalar.addi v521 c14_i32_293
  let v660 : Index := Scalar.indexCast v637
  let c16 : Index := 16#32
  ![v660.toNat, 16]
def k1_off1198 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1199 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c14_i32_293 : BitVec 32 := 14#32
  let v637 : BitVec 32 := Scalar.addi v521 c14_i32_293
  let v679 : Index := Scalar.indexCast v637
  let c32 : Index := 32#32
  ![v679.toNat, 32]
def k1_off1200 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1201 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c14_i32_293 : BitVec 32 := 14#32
  let v637 : BitVec 32 := Scalar.addi v521 c14_i32_293
  let v698 : Index := Scalar.indexCast v637
  let c48 : Index := 48#32
  ![v698.toNat, 48]
def k1_off1202 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1203 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk141 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1196 i v639) a + S1x16.size a ≤ S80x64.size a) ∧
  (∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1198 i v639) a + S1x16.size a ≤ S80x64.size a) ∧
  (∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1200 i v639) a + S1x16.size a ≤ S80x64.size a) ∧
  (∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1202 i v639) a + S1x16.size a ≤ S80x64.size a) ∧
  (∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1203 i v639) a + S1x16.size a ≤ S80x16.size a)
theorem k1_off1196_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw141 : k1_chk141 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1196 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw141 k1_h127 => k1_hw141.1 k1_h127
theorem k1_off1198_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw141 : k1_chk141 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1198 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw141 k1_h127 => k1_hw141.2.1 k1_h127
theorem k1_off1200_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw141 : k1_chk141 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1200 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw141 k1_h127 => k1_hw141.2.2.1 k1_h127
theorem k1_off1202_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw141 : k1_chk141 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1202 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw141 k1_h127 => k1_hw141.2.2.2.1 k1_h127
theorem k1_off1203_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw141 : k1_chk141 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h127 : k1_cond127 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1203 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw141 k1_h127 => k1_hw141.2.2.2.2 k1_h127

def k1_off1204 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c15_i32_293 : BitVec 32 := 15#32
  let v637 : BitVec 32 := Scalar.addi v521 c15_i32_293
  let v641 : Index := Scalar.indexCast v637
  let c0_294 : Index := 0#32
  ![v641.toNat, 0]
def k1_off1205 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v644 : Index := Scalar.indexCast v640
  let c0_295 : Index := 0#32
  ![v644.toNat, 0]
def k1_cond128 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) : BitVec 1 :=
  let c16_i32_192 : BitVec 32 := 16#32
  let v395 : BitVec 32 := Scalar.muli v310_0 c16_i32_192
  let c0_i32_161 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c160_i32 : BitVec 32 := 160#32
  let v305 : BitVec 32 := Scalar.addi v2 c160_i32
  let c80_i32_149 : BitVec 32 := 80#32
  let v306 : BitVec 32 := Scalar.addi v305 c80_i32_149
  let c10000_i32_150 : BitVec 32 := 10000#32
  let v307 : BitVec 32 := Scalar.minsi v306 c10000_i32_150
  let v308 : BitVec 32 := Scalar.maxsi v307 v305
  let v317 : BitVec 1 := Scalar.cmpi .slt v316 v308
  let c1_i32_159 : BitVec 32 := 1#32
  let c0_i32_160 : BitVec 32 := 0#32
  let v318 : BitVec 32 := Scalar.select v317 c1_i32_159 c0_i32_160
  let v319 : BitVec 32 := Scalar.addi c0_i32_161 v318
  let v322 : BitVec 1 := Scalar.cmpi .slt v321 v308
  let c1_i32_162 : BitVec 32 := 1#32
  let c0_i32_163 : BitVec 32 := 0#32
  let v323 : BitVec 32 := Scalar.select v322 c1_i32_162 c0_i32_163
  let v324 : BitVec 32 := Scalar.addi v319 v323
  let v327 : BitVec 1 := Scalar.cmpi .slt v326 v308
  let c1_i32_164 : BitVec 32 := 1#32
  let c0_i32_165 : BitVec 32 := 0#32
  let v328 : BitVec 32 := Scalar.select v327 c1_i32_164 c0_i32_165
  let v329 : BitVec 32 := Scalar.addi v324 v328
  let v332 : BitVec 1 := Scalar.cmpi .slt v331 v308
  let c1_i32_166 : BitVec 32 := 1#32
  let c0_i32_167 : BitVec 32 := 0#32
  let v333 : BitVec 32 := Scalar.select v332 c1_i32_166 c0_i32_167
  let v334 : BitVec 32 := Scalar.addi v329 v333
  let v337 : BitVec 1 := Scalar.cmpi .slt v336 v308
  let c1_i32_168 : BitVec 32 := 1#32
  let c0_i32_169 : BitVec 32 := 0#32
  let v338 : BitVec 32 := Scalar.select v337 c1_i32_168 c0_i32_169
  let v339 : BitVec 32 := Scalar.addi v334 v338
  let v342 : BitVec 1 := Scalar.cmpi .slt v341 v308
  let c1_i32_170 : BitVec 32 := 1#32
  let c0_i32_171 : BitVec 32 := 0#32
  let v343 : BitVec 32 := Scalar.select v342 c1_i32_170 c0_i32_171
  let v344 : BitVec 32 := Scalar.addi v339 v343
  let v347 : BitVec 1 := Scalar.cmpi .slt v346 v308
  let c1_i32_172 : BitVec 32 := 1#32
  let c0_i32_173 : BitVec 32 := 0#32
  let v348 : BitVec 32 := Scalar.select v347 c1_i32_172 c0_i32_173
  let v349 : BitVec 32 := Scalar.addi v344 v348
  let v352 : BitVec 1 := Scalar.cmpi .slt v351 v308
  let c1_i32_174 : BitVec 32 := 1#32
  let c0_i32_175 : BitVec 32 := 0#32
  let v353 : BitVec 32 := Scalar.select v352 c1_i32_174 c0_i32_175
  let v354 : BitVec 32 := Scalar.addi v349 v353
  let v357 : BitVec 1 := Scalar.cmpi .slt v356 v308
  let c1_i32_176 : BitVec 32 := 1#32
  let c0_i32_177 : BitVec 32 := 0#32
  let v358 : BitVec 32 := Scalar.select v357 c1_i32_176 c0_i32_177
  let v359 : BitVec 32 := Scalar.addi v354 v358
  let v362 : BitVec 1 := Scalar.cmpi .slt v361 v308
  let c1_i32_178 : BitVec 32 := 1#32
  let c0_i32_179 : BitVec 32 := 0#32
  let v363 : BitVec 32 := Scalar.select v362 c1_i32_178 c0_i32_179
  let v364 : BitVec 32 := Scalar.addi v359 v363
  let v367 : BitVec 1 := Scalar.cmpi .slt v366 v308
  let c1_i32_180 : BitVec 32 := 1#32
  let c0_i32_181 : BitVec 32 := 0#32
  let v368 : BitVec 32 := Scalar.select v367 c1_i32_180 c0_i32_181
  let v369 : BitVec 32 := Scalar.addi v364 v368
  let v372 : BitVec 1 := Scalar.cmpi .slt v371 v308
  let c1_i32_182 : BitVec 32 := 1#32
  let c0_i32_183 : BitVec 32 := 0#32
  let v373 : BitVec 32 := Scalar.select v372 c1_i32_182 c0_i32_183
  let v374 : BitVec 32 := Scalar.addi v369 v373
  let v377 : BitVec 1 := Scalar.cmpi .slt v376 v308
  let c1_i32_184 : BitVec 32 := 1#32
  let c0_i32_185 : BitVec 32 := 0#32
  let v378 : BitVec 32 := Scalar.select v377 c1_i32_184 c0_i32_185
  let v379 : BitVec 32 := Scalar.addi v374 v378
  let v382 : BitVec 1 := Scalar.cmpi .slt v381 v308
  let c1_i32_186 : BitVec 32 := 1#32
  let c0_i32_187 : BitVec 32 := 0#32
  let v383 : BitVec 32 := Scalar.select v382 c1_i32_186 c0_i32_187
  let v384 : BitVec 32 := Scalar.addi v379 v383
  let v387 : BitVec 1 := Scalar.cmpi .slt v386 v308
  let c1_i32_188 : BitVec 32 := 1#32
  let c0_i32_189 : BitVec 32 := 0#32
  let v388 : BitVec 32 := Scalar.select v387 c1_i32_188 c0_i32_189
  let v389 : BitVec 32 := Scalar.addi v384 v388
  let v392 : BitVec 1 := Scalar.cmpi .slt v391 v308
  let c1_i32_190 : BitVec 32 := 1#32
  let c0_i32_191 : BitVec 32 := 0#32
  let v393 : BitVec 32 := Scalar.select v392 c1_i32_190 c0_i32_191
  let v394 : BitVec 32 := Scalar.addi v389 v393
  let v396 : BitVec 32 := Scalar.addi v395 v394
  let c8_i32_255 : BitVec 32 := 8#32
  let v505 : BitVec 32 := Scalar.shrsi v396 c8_i32_255
  let c16_i32_249 : BitVec 32 := 16#32
  let v501 : BitVec 32 := Scalar.muli v416_0 c16_i32_249
  let c0_i32_218 : BitVec 32 := 0#32
  let c240_i32 : BitVec 32 := 240#32
  let v411 : BitVec 32 := Scalar.addi v2 c240_i32
  let c80_i32_206 : BitVec 32 := 80#32
  let v412 : BitVec 32 := Scalar.addi v411 c80_i32_206
  let c10000_i32_207 : BitVec 32 := 10000#32
  let v413 : BitVec 32 := Scalar.minsi v412 c10000_i32_207
  let v414 : BitVec 32 := Scalar.maxsi v413 v411
  let v423 : BitVec 1 := Scalar.cmpi .slt v422 v414
  let c1_i32_216 : BitVec 32 := 1#32
  let c0_i32_217 : BitVec 32 := 0#32
  let v424 : BitVec 32 := Scalar.select v423 c1_i32_216 c0_i32_217
  let v425 : BitVec 32 := Scalar.addi c0_i32_218 v424
  let v428 : BitVec 1 := Scalar.cmpi .slt v427 v414
  let c1_i32_219 : BitVec 32 := 1#32
  let c0_i32_220 : BitVec 32 := 0#32
  let v429 : BitVec 32 := Scalar.select v428 c1_i32_219 c0_i32_220
  let v430 : BitVec 32 := Scalar.addi v425 v429
  let v433 : BitVec 1 := Scalar.cmpi .slt v432 v414
  let c1_i32_221 : BitVec 32 := 1#32
  let c0_i32_222 : BitVec 32 := 0#32
  let v434 : BitVec 32 := Scalar.select v433 c1_i32_221 c0_i32_222
  let v435 : BitVec 32 := Scalar.addi v430 v434
  let v438 : BitVec 1 := Scalar.cmpi .slt v437 v414
  let c1_i32_223 : BitVec 32 := 1#32
  let c0_i32_224 : BitVec 32 := 0#32
  let v439 : BitVec 32 := Scalar.select v438 c1_i32_223 c0_i32_224
  let v440 : BitVec 32 := Scalar.addi v435 v439
  let v443 : BitVec 1 := Scalar.cmpi .slt v442 v414
  let c1_i32_225 : BitVec 32 := 1#32
  let c0_i32_226 : BitVec 32 := 0#32
  let v444 : BitVec 32 := Scalar.select v443 c1_i32_225 c0_i32_226
  let v445 : BitVec 32 := Scalar.addi v440 v444
  let v448 : BitVec 1 := Scalar.cmpi .slt v447 v414
  let c1_i32_227 : BitVec 32 := 1#32
  let c0_i32_228 : BitVec 32 := 0#32
  let v449 : BitVec 32 := Scalar.select v448 c1_i32_227 c0_i32_228
  let v450 : BitVec 32 := Scalar.addi v445 v449
  let v453 : BitVec 1 := Scalar.cmpi .slt v452 v414
  let c1_i32_229 : BitVec 32 := 1#32
  let c0_i32_230 : BitVec 32 := 0#32
  let v454 : BitVec 32 := Scalar.select v453 c1_i32_229 c0_i32_230
  let v455 : BitVec 32 := Scalar.addi v450 v454
  let v458 : BitVec 1 := Scalar.cmpi .slt v457 v414
  let c1_i32_231 : BitVec 32 := 1#32
  let c0_i32_232 : BitVec 32 := 0#32
  let v459 : BitVec 32 := Scalar.select v458 c1_i32_231 c0_i32_232
  let v460 : BitVec 32 := Scalar.addi v455 v459
  let v463 : BitVec 1 := Scalar.cmpi .slt v462 v414
  let c1_i32_233 : BitVec 32 := 1#32
  let c0_i32_234 : BitVec 32 := 0#32
  let v464 : BitVec 32 := Scalar.select v463 c1_i32_233 c0_i32_234
  let v465 : BitVec 32 := Scalar.addi v460 v464
  let v468 : BitVec 1 := Scalar.cmpi .slt v467 v414
  let c1_i32_235 : BitVec 32 := 1#32
  let c0_i32_236 : BitVec 32 := 0#32
  let v469 : BitVec 32 := Scalar.select v468 c1_i32_235 c0_i32_236
  let v470 : BitVec 32 := Scalar.addi v465 v469
  let v473 : BitVec 1 := Scalar.cmpi .slt v472 v414
  let c1_i32_237 : BitVec 32 := 1#32
  let c0_i32_238 : BitVec 32 := 0#32
  let v474 : BitVec 32 := Scalar.select v473 c1_i32_237 c0_i32_238
  let v475 : BitVec 32 := Scalar.addi v470 v474
  let v478 : BitVec 1 := Scalar.cmpi .slt v477 v414
  let c1_i32_239 : BitVec 32 := 1#32
  let c0_i32_240 : BitVec 32 := 0#32
  let v479 : BitVec 32 := Scalar.select v478 c1_i32_239 c0_i32_240
  let v480 : BitVec 32 := Scalar.addi v475 v479
  let v483 : BitVec 1 := Scalar.cmpi .slt v482 v414
  let c1_i32_241 : BitVec 32 := 1#32
  let c0_i32_242 : BitVec 32 := 0#32
  let v484 : BitVec 32 := Scalar.select v483 c1_i32_241 c0_i32_242
  let v485 : BitVec 32 := Scalar.addi v480 v484
  let v488 : BitVec 1 := Scalar.cmpi .slt v487 v414
  let c1_i32_243 : BitVec 32 := 1#32
  let c0_i32_244 : BitVec 32 := 0#32
  let v489 : BitVec 32 := Scalar.select v488 c1_i32_243 c0_i32_244
  let v490 : BitVec 32 := Scalar.addi v485 v489
  let v493 : BitVec 1 := Scalar.cmpi .slt v492 v414
  let c1_i32_245 : BitVec 32 := 1#32
  let c0_i32_246 : BitVec 32 := 0#32
  let v494 : BitVec 32 := Scalar.select v493 c1_i32_245 c0_i32_246
  let v495 : BitVec 32 := Scalar.addi v490 v494
  let v498 : BitVec 1 := Scalar.cmpi .slt v497 v414
  let c1_i32_247 : BitVec 32 := 1#32
  let c0_i32_248 : BitVec 32 := 0#32
  let v499 : BitVec 32 := Scalar.select v498 c1_i32_247 c0_i32_248
  let v500 : BitVec 32 := Scalar.addi v495 v499
  let v502 : BitVec 32 := Scalar.addi v501 v500
  let c256_i32_256 : BitVec 32 := 256#32
  let v506 : BitVec 32 := Scalar.addi v502 c256_i32_256
  let c1_i32_257 : BitVec 32 := 1#32
  let v507 : BitVec 32 := Scalar.subi v506 c1_i32_257
  let c8_i32_258 : BitVec 32 := 8#32
  let v508 : BitVec 32 := Scalar.shrsi v507 c8_i32_258
  let v509 : BitVec 32 := Scalar.subi v508 v505
  let c1_i32_260 : BitVec 32 := 1#32
  let v511 : BitVec 32 := Scalar.divsi v509 c1_i32_260
  let v512 : BitVec 32 := Scalar.muli v511 c1_i32_260
  let v513 : BitVec 32 := Scalar.addi v505 v512
  let c1_i32_262 : BitVec 32 := 1#32
  let arg13 : BitVec 32 := Scf.iv v513 c1_i32_262 k1_t24
  let c8_i32_263 : BitVec 32 := 8#32
  let v517 : BitVec 32 := Scalar.shli arg13 c8_i32_263
  let v518 : BitVec 32 := v517
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let v630 : BitVec 32 := Scalar.addi v518 v521
  let c15_i32_290 : BitVec 32 := 15#32
  let v631 : BitVec 32 := Scalar.addi v630 c15_i32_290
  let v632 : BitVec 1 := Scalar.cmpi .sge v631 v396
  let v633 : BitVec 1 := Scalar.cmpi .slt v631 v502
  let v634 : BitVec 1 := Scalar.andi v632 v633
  let v635 : BitVec 32 := Scalar.extui v634
  let c0_i32_291 : BitVec 32 := 0#32
  let v636 : BitVec 1 := Scalar.cmpi .ne v635 c0_i32_291
  v636

def k1_off1206 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c15_i32_293 : BitVec 32 := 15#32
  let v637 : BitVec 32 := Scalar.addi v521 c15_i32_293
  let v660 : Index := Scalar.indexCast v637
  let c16 : Index := 16#32
  ![v660.toNat, 16]
def k1_off1207 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v663 : Index := Scalar.indexCast v640
  let c16_299 : Index := 16#32
  ![v663.toNat, 16]
def k1_off1208 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c15_i32_293 : BitVec 32 := 15#32
  let v637 : BitVec 32 := Scalar.addi v521 c15_i32_293
  let v679 : Index := Scalar.indexCast v637
  let c32 : Index := 32#32
  ![v679.toNat, 32]
def k1_off1209 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v682 : Index := Scalar.indexCast v640
  let c32_303 : Index := 32#32
  ![v682.toNat, 32]
def k1_off1210 (k1_t25 : Fin k1_t25_loop.trips) : Fin 2 → Nat :=
  let c0_i32_265 : BitVec 32 := 0#32
  let c1_i32_267 : BitVec 32 := 1#32
  let arg15 : BitVec 32 := Scf.iv c0_i32_265 c1_i32_267 k1_t25
  let c16_i32_270 : BitVec 32 := 16#32
  let v521 : BitVec 32 := Scalar.muli arg15 c16_i32_270
  let c15_i32_293 : BitVec 32 := 15#32
  let v637 : BitVec 32 := Scalar.addi v521 c15_i32_293
  let v698 : Index := Scalar.indexCast v637
  let c48 : Index := 48#32
  ![v698.toNat, 48]
def k1_off1211 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v701 : Index := Scalar.indexCast v640
  let c48_307 : Index := 48#32
  ![v701.toNat, 48]
def k1_off1212 (i : grid1.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v640 : BitVec 32 := Scalar.subi v639 v411
  let v717 : Index := Scalar.indexCast v640
  let c0_311 : Index := 0#32
  ![v717.toNat, 0]

def k1_chk142 (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) : Prop :=
  (∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1205 i v639) a + S1x16.size a ≤ S80x64.size a) ∧
  (∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1207 i v639) a + S1x16.size a ≤ S80x64.size a) ∧
  (∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1209 i v639) a + S1x16.size a ≤ S80x64.size a) ∧
  (∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1211 i v639) a + S1x16.size a ≤ S80x64.size a) ∧
  (∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1212 i v639) a + S1x16.size a ≤ S80x16.size a)
theorem k1_off1205_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw142 : k1_chk142 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1205 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw142 k1_h128 => k1_hw142.1 k1_h128
theorem k1_off1207_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw142 : k1_chk142 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1207 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw142 k1_h128 => k1_hw142.2.1 k1_h128
theorem k1_off1209_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw142 : k1_chk142 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1209 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw142 k1_h128 => k1_hw142.2.2.1 k1_h128
theorem k1_off1211_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw142 : k1_chk142 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1211 i v639) a + S1x16.size a ≤ S80x64.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw142 k1_h128 => k1_hw142.2.2.2.1 k1_h128
theorem k1_off1212_inb : ∀ (i : grid1.Coords) (v310_0 : BitVec 32) (v316 : BitVec 32) (v321 : BitVec 32) (v326 : BitVec 32) (v331 : BitVec 32) (v336 : BitVec 32) (v341 : BitVec 32) (v346 : BitVec 32) (v351 : BitVec 32) (v356 : BitVec 32) (v361 : BitVec 32) (v366 : BitVec 32) (v371 : BitVec 32) (v376 : BitVec 32) (v381 : BitVec 32) (v386 : BitVec 32) (v391 : BitVec 32) (v416_0 : BitVec 32) (v422 : BitVec 32) (v427 : BitVec 32) (v432 : BitVec 32) (v437 : BitVec 32) (v442 : BitVec 32) (v447 : BitVec 32) (v452 : BitVec 32) (v457 : BitVec 32) (v462 : BitVec 32) (v467 : BitVec 32) (v472 : BitVec 32) (v477 : BitVec 32) (v482 : BitVec 32) (v487 : BitVec 32) (v492 : BitVec 32) (v497 : BitVec 32) (k1_t24 : Fin (k1_t24_loop i v310_0 v316 v321 v326 v331 v336 v341 v346 v351 v356 v361 v366 v371 v376 v381 v386 v391 v416_0 v422 v427 v432 v437 v442 v447 v452 v457 v462 v467 v472 v477 v482 v487 v492 v497).trips) (k1_t25 : Fin k1_t25_loop.trips) (v639 : BitVec 32) (k1_hw142 : k1_chk142 i v310_0 v316 v321 v326 v331 v336 v341 v346 v351 v356 v361 v366 v371 v376 v381 v386 v391 v416_0 v422 v427 v432 v437 v442 v447 v452 v457 v462 v467 v472 v477 v482 v487 v492 v497 k1_t24 k1_t25 v639), ∀ (k1_h128 : k1_cond128 i v310_0 v316 v321 v326 v331 v336 v341 v346 v351 v356 v361 v366 v371 v376 v381 v386 v391 v416_0 v422 v427 v432 v437 v442 v447 v452 v457 v462 v467 v472 v477 v482 v487 v492 v497 k1_t24 k1_t25 = 1#1), ∀ a, (k1_off1212 i v639) a + S1x16.size a ≤ S80x16.size a := fun i v310_0 v316 v321 v326 v331 v336 v341 v346 v351 v356 v361 v366 v371 v376 v381 v386 v391 v416_0 v422 v427 v432 v437 v442 v447 v452 v457 v462 v467 v472 v477 v482 v487 v492 v497 k1_t24 k1_t25 v639 k1_hw142 k1_h128 => k1_hw142.2.2.2.2 k1_h128

def k1_mult22 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  v411
def k1_off1213 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v516 : BitVec 32 := v411
  let c0_i32_265_r35 : BitVec 32 := 0#32
  ![v516.toNat, 0]
def k1_off1214 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c240_i32 : BitVec 32 := 240#32
  let v411 : BitVec 32 := Scalar.addi v2 c240_i32
  let v516 : BitVec 32 := v411
  let c0_i32_265_r37 : BitVec 32 := 0#32
  ![v516.toNat, 0]
abbrev grid2 : Pipeline.Grid := .none

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S10000x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S320000x64 : Shape := ⟨2, ![320000, 64]⟩
abbrev S1x64 : Shape := ⟨2, ![1, 64]⟩
abbrev S_ : Shape := ⟨0, ![]⟩
abbrev S10000x64 : Shape := ⟨2, ![10000, 64]⟩
abbrev S320000x1 : Shape := ⟨2, ![320000, 1]⟩
abbrev S10000 : Shape := ⟨1, ![10000]⟩
abbrev S10000x1 : Shape := ⟨2, ![10000, 1]⟩
abbrev S1x320000 : Shape := ⟨2, ![1, 320000]⟩
abbrev S10000x320000 : Shape := ⟨2, ![10000, 320000]⟩
abbrev S10000x320000x1 : Shape := ⟨3, ![10000, 320000, 1]⟩
abbrev S1x320000x64 : Shape := ⟨3, ![1, 320000, 64]⟩
abbrev S10000x320000x64 : Shape := ⟨3, ![10000, 320000, 64]⟩
abbrev S10000x129 : Shape := ⟨2, ![10000, 129]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S129x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S320000x64, .f32⟩
  | .hbm, ⟨11, _⟩ => ⟨S1x64, .f32⟩
  | .hbm, ⟨12, _⟩ => ⟨S320000x64, .f32⟩
  | .hbm, ⟨13, _⟩ => ⟨S320000x64, .f32⟩
  | .hbm, ⟨14, _⟩ => ⟨S_, .f32⟩
  | .hbm, ⟨15, _⟩ => ⟨S320000x64, .f32⟩
  | .hbm, ⟨16, _⟩ => ⟨S320000x64, .f32⟩
  | .hbm, ⟨17, _⟩ => ⟨S320000x64, .f32⟩
  | .hbm, ⟨18, _⟩ => ⟨S1x64, .f32⟩
  | .hbm, ⟨19, _⟩ => ⟨S320000x64, .f32⟩
  | .hbm, ⟨20, _⟩ => ⟨S320000x64, .f32⟩
  | .hbm, ⟨21, _⟩ => ⟨S_, .f32⟩
  | .hbm, ⟨22, _⟩ => ⟨S10000x64, .f32⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S10000x64, .f32⟩
  | .hbm, ⟨32, _⟩ => ⟨S_, .i32⟩
  | .hbm, ⟨33, _⟩ => ⟨S10000, .i32⟩
  | .hbm, ⟨34, _⟩ => ⟨S_, .i32⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S_, .i32⟩
  | .hbm, ⟨47, _⟩ => ⟨S320000, .i32⟩
  | .hbm, ⟨48, _⟩ => ⟨S10000, .i32⟩
  | .hbm, ⟨49, _⟩ => ⟨S_, .i32⟩
  | .hbm, ⟨50, _⟩ => ⟨S10000, .i32⟩
  | .hbm, ⟨51, _⟩ => ⟨S10000, .i32⟩
  | .hbm, ⟨52, _⟩ => ⟨S10000, .f32⟩
  | .hbm, ⟨53, _⟩ => ⟨S10000x1, .f32⟩
  | .hbm, ⟨54, _⟩ => ⟨S10000x64, .f32⟩
  | .hbm, ⟨55, _⟩ => ⟨S10000x64, .f32⟩
  | .hbm, ⟨56, _⟩ => ⟨S1x320000, .i32⟩
  | .hbm, ⟨57, _⟩ => ⟨S10000, .i32⟩
  | .hbm, ⟨58, _⟩ => ⟨S10000x1, .i32⟩
  | .hbm, ⟨59, _⟩ => ⟨S10000x320000, .i32⟩
  | .hbm, ⟨60, _⟩ => ⟨S10000x320000, .i32⟩
  | .hbm, ⟨61, _⟩ => ⟨S10000x320000, .i1⟩
  | .hbm, ⟨62, _⟩ => ⟨S10000x320000x1, .i1⟩
  | .hbm, ⟨63, _⟩ => ⟨S1x320000x64, .f32⟩
  | .hbm, ⟨64, _⟩ => ⟨S_, .f32⟩
  | .hbm, ⟨65, _⟩ => ⟨S10000x320000x64, .i1⟩
  | .hbm, ⟨66, _⟩ => ⟨S10000x320000x64, .f32⟩
  | .hbm, ⟨67, _⟩ => ⟨S10000x320000x64, .f32⟩
  | .hbm, ⟨68, _⟩ => ⟨S10000x320000x64, .f32⟩
  | .hbm, ⟨69, _⟩ => ⟨S_, .f32⟩
  | .hbm, ⟨70, _⟩ => ⟨S10000x64, .f32⟩
  | .hbm, ⟨71, _⟩ => ⟨S_, .f32⟩
  | .hbm, ⟨72, _⟩ => ⟨S10000x64, .f32⟩
  | .hbm, ⟨73, _⟩ => ⟨S10000x64, .f32⟩
  | .hbm, ⟨74, _⟩ => ⟨S10000x1, .f32⟩
  | .hbm, ⟨75, _⟩ => ⟨S10000x129, .f32⟩
  | .hbm, ⟨76, _⟩ => ⟨S10000x64, .f32⟩
  | .hbm, ⟨77, _⟩ => ⟨S1x64, .f32⟩
  | .hbm, ⟨78, _⟩ => ⟨S10000x64, .f32⟩
  | .hbm, ⟨79, _⟩ => ⟨S10000x64, .f32⟩
  | .hbm, ⟨80, _⟩ => ⟨S_, .f32⟩
  | .hbm, ⟨81, _⟩ => ⟨S10000x64, .f32⟩
  | .hbm, ⟨82, _⟩ => ⟨S10000x64, .f32⟩
  | .hbm, ⟨83, _⟩ => ⟨S10000x1, .f32⟩
  | .hbm, ⟨84, _⟩ => ⟨S1x1, .f32⟩
  | .hbm, ⟨85, _⟩ => ⟨S10000x1, .f32⟩
  | .hbm, ⟨86, _⟩ => ⟨S10000x1, .f32⟩
  | .hbm, ⟨87, _⟩ => ⟨S10000, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]
-- ==== Proof.K.Frame.lean ====
/-
  The frame: from ids that name segments in order, the program ends with its arguments as the launch left them and every
  semaphore at zero.
-/
module

public import proofs.«01_k».proof.Proof.K.Pre

@[expose] public section

noncomputable section

namespace Cert.Proof.Seg

open Cert.Kernel Cert.Kernel.Gen
open Idealize.ShloMosaic.ValueIdx (ix1 ix2 eq_ix1 eq_ix2)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-- Under the precondition the ids are sorted and name segments. -/
theorem good_of (m : (ℓ : Loc nD τ sig) → Buf (Elt Bits) ℓ) (hpre : Cert.Pre_Kernel m) (d : Dev nD) : Good (idsAt m d) := by
  rw [ids_same]
  exact good_of_pre _ _ _ _ _ _ _ _ _ _ (hpre d)

/-- `Cert.quiescent_Kernel` (Defs.lean). -/
theorem frame : Cert.quiescent_Kernel := fun m ρ hpre =>
  (θ_run (Cert.Kernel.defs (F := Bits)) _ _).mono
    (fun r h => ⟨fun c => by
      have k (b : Ref sig .tc) (hs : (Proc.devRef .tc b : DevRef τ sig).isScoped = false) (hb : b ∉ written) :
          r.2.mem ((c : Dev nD), Proc.devRef .tc b) = m ((c : Dev nD), Proc.devRef .tc b) :=
        (h.1 c _ (mem_bufSet hs)).trans (v6_keep m c b hb)
      exact ⟨k main_arg0 rfl (by decide), k main_arg1 rfl (by decide), k main_arg2 rfl (by decide), k main_arg3 rfl (by decide),
        k main_arg4 rfl (by decide), k main_arg5 rfl (by decide), k main_arg6 rfl (by decide), k main_arg7 rfl (by decide),
        k main_arg8 rfl (by decide), k main_arg9 rfl (by decide)⟩, h.2⟩)
    (run_main m ρ (good_of m hpre))

end Cert.Proof.Seg
-- ==== Proof.KI.Body.lean ====
/-
  The tile's task, rewritten as a program of a few repeated pieces: a search for the first point of a
  segment (`lowerBound`), the clearing of the three accumulators (`clearRow`), the accumulation of one point
  (`lane`), of sixteen (`group`), of a chunk of 256 (`chunk`), and a slab of 80 segments (`slab`). The printed
  task repeats these pieces for its four slabs; `Same.lean` shows that it is this program.
-/
module

public import proofs.«01_k».proof.Proof.Gen.KernelIdeal

@[expose] public section

noncomputable section

namespace Cert.Proof.SegIdeal

open Cert.KernelIdeal
open Idealize.ShloMosaic Idealize.SL.Sem

variable {F : FTy → Type} [FloatOps F] [Facts]
open Facts₀ Facts

variable (i : grid1.Coords)

/-- The programs of the tile `i`. -/
abbrev Tile (F : FTy → Type) (i : grid1.Coords) : Type → Type 1 :=
  Prog (TpuEff nD τ sig (Elt F) Λ₀ (.scVector ((i 0).castLE hcore1) ((i 1).castLE hsub1)))

/-! ## The search for a segment's first point -/

/-- The middle of a range of blocks. -/
def mid (lo hi : BitVec 32) : BitVec 32 := Scalar.shrsi (Scalar.addi lo hi) 1#32

/-- Where block `b` of sixteen ids begins. -/
def blockOff (b : BitVec 32) : Fin 1 → Nat := ![(Scalar.muli b 16#32).toNat]

/-- What the task assumes of a block number before it fetches the block. -/
def BlockOk (b : BitVec 32) : Prop :=
  (16 ∣ (Scalar.muli b 16#32).toNat) ∧ (∀ a, (blockOff b) a + S16.size a ≤ S320000.size a)
instance BlockOk.dec (b : BitVec 32) : Decidable (BlockOk b) := decidable_of_iff' _ (Iff.of_eq (BlockOk.eq_1 b))

/-- The search's trips. -/
@[reducible] def searchLoop : Scf.Loop 32 := ⟨0#32, Scalar.addi 0#32 15#32, 1#32⟩
/-- The accumulators' rows. -/
@[reducible] def clearLoop : Scf.Loop 32 := ⟨0#32, Scalar.addi 0#32 80#32, 1#32⟩
/-- A chunk's groups. -/
@[reducible] def groupLoop : Scf.Loop 32 := ⟨0#32, Scalar.addi 0#32 16#32, 1#32⟩

/-- The search's loop is well formed. -/
theorem searchLoop_ok : searchLoop.OK := k1_t1_ok
/-- The clearing loop is well formed. -/
theorem clearLoop_ok : clearLoop.OK := k1_t3_ok
/-- The loop over a chunk's groups of sixteen is well formed. -/
theorem groupLoop_ok : groupLoop.OK := k1_t5_ok

/-- Element `l` of sixteen. -/
def word (v : IVec S16 32) (l : Nat) (hs : S16.Slices ![l] S1) : BitVec 32 :=
  extractAt ![0] (extractStridedSlice S1 ![l] v hs) inpos_S1_p0

/-- The new ends of the range, `s` being the first id of the middle block. -/
def narrow (t lo hi s : BitVec 32) : BitVec 32 × BitVec 32 :=
  let go : BitVec 1 := Scalar.cmpi .sgt (Scalar.subi hi lo) 1#32
  (Scalar.select (Scalar.andi go (Scalar.cmpi .slt s t)) (mid lo hi) lo,
   Scalar.select (Scalar.andi go (Scalar.cmpi .sge s t)) (mid lo hi) hi)

/-- One, if `s` is below `t`. -/
def below (t s : BitVec 32) : BitVec 32 := Scalar.select (Scalar.cmpi .slt s t) 1#32 0#32

/-- How many of sixteen ids are below `t`. -/
def belows (t : BitVec 32) (v : IVec S16 32) : BitVec 32 :=
  Scalar.addi (Scalar.addi (Scalar.addi (Scalar.addi (Scalar.addi (Scalar.addi (Scalar.addi (Scalar.addi
  (Scalar.addi (Scalar.addi (Scalar.addi (Scalar.addi (Scalar.addi (Scalar.addi (Scalar.addi (Scalar.addi
    0#32 (below t (word v 0 slices_S16_o0_S1))) (below t (word v 1 slices_S16_o1_S1)))
    (below t (word v 2 slices_S16_o2_S1))) (below t (word v 3 slices_S16_o3_S1)))
    (below t (word v 4 slices_S16_o4_S1))) (below t (word v 5 slices_S16_o5_S1)))
    (below t (word v 6 slices_S16_o6_S1))) (below t (word v 7 slices_S16_o7_S1)))
    (below t (word v 8 slices_S16_o8_S1))) (below t (word v 9 slices_S16_o9_S1)))
    (below t (word v 10 slices_S16_o10_S1))) (below t (word v 11 slices_S16_o11_S1)))
    (below t (word v 12 slices_S16_o12_S1))) (below t (word v 13 slices_S16_o13_S1)))
    (below t (word v 14 slices_S16_o14_S1))) (below t (word v 15 slices_S16_o15_S1))

section Search
variable (ids : Memref sig .scVector .hbm S320000 .i32)
variable (probe : Memref sig .scVector .vmem S16 .i32) (hprobe : probe.IsWhole)

/-- Block `b` of the ids, as a view. -/
abbrev blockRef (b : BitVec 32) (h : BlockOk b) : Memref sig .scVector .hbm S16 .i32 :=
  ids.slice (Rect.unit (s := S320000) (blockOff b) S16.size h.2) (fun _ => rfl)

/-- Fetch block `b` of the ids. -/
def fetch (sem : DmaSems sig S_) (b : BitVec 32) (h : BlockOk b) : Tile F i (IVec S16 32) := do
  Prog.lift (.enqueueDma (blockRef ids b h) (.here probe) (.dma sem.sem) (View.wordExact_bits rfl) hprobe.wordExact ⟨Or.inl rfl, trivial⟩)
  Prog.lift (.waitDma2 sem.sem (blockRef ids b h) probe (View.wordExact_bits rfl) hprobe.wordExact)
  let v : Vec F S16 .i32 ← Prog.lift (.load probe (Rect.unit (s := S16) ![0] S16.size inb_S16_S16_0).toLoadRect (View.loadsAt_vmem h_S16))
  pure (shapeCast S16 v shapeCasts_S16_S16)

/-- One trip of the search: the range's middle block is fetched and the range halved. -/
def searchStep (sem : DmaSems sig S_) (t : BitVec 32) (r : BitVec 32 × BitVec 32) : Tile F i (BitVec 32 × BitVec 32) := do
  have h : BlockOk (mid r.1 r.2) := (← Prog.lift (TpuEff.assume (BlockOk (mid r.1 r.2)) (BlockOk.dec (mid r.1 r.2)))).down
  let v ← fetch i ids probe hprobe sem (mid r.1 r.2) h
  pure (narrow t r.1 r.2 (word v 0 slices_S16_o0_S1))

/-- The search for the first point whose id is not below `t`: the search for its block, which is then fetched; the program goes on
    with `k` of the range left and of the block. -/
def lowerBound {β : Type} (sem₀ sem₁ : DmaSems sig S_) (t : BitVec 32) (k : BitVec 32 × BitVec 32 → Vec F S16 .i32 → Tile F i β) :
    Tile F i β := do
  let r ← Scf.Loop.for searchLoop searchLoop_ok (0#32, 20000#32) fun _ r => searchStep i ids probe hprobe sem₀ t r
  have h : BlockOk r.1 := (← Prog.lift (TpuEff.assume (BlockOk r.1) (BlockOk.dec r.1))).down
  Prog.lift (.enqueueDma (blockRef ids r.1 h) (.here probe) (.dma sem₁.sem) (View.wordExact_bits rfl) hprobe.wordExact ⟨Or.inl rfl, trivial⟩)
  Prog.lift (.waitDma2 sem₁.sem (blockRef ids r.1 h) probe (View.wordExact_bits rfl) hprobe.wordExact)
  let v : Vec F S16 .i32 ← Prog.lift (.load probe (Rect.unit (s := S16) ![0] S16.size inb_S16_S16_0).toLoadRect (View.loadsAt_vmem h_S16))
  k r v

/-- The point found. -/
def found (t : BitVec 32) (r : BitVec 32 × BitVec 32) (v : Vec F S16 .i32) : BitVec 32 :=
  Scalar.addi (Scalar.muli r.1 16#32) (belows t (shapeCast S16 v shapeCasts_S16_S16))
end Search

/-! ## The accumulators -/

/-- Columns `16 j` to `16 j + 15` of row `r` (a word of the machine). -/
def rowOff (r : BitVec 32) (j : Nat) : Fin 2 → Nat := ![(Scalar.indexCast r : Index).toNat, j]

/-- Zero, sixteen times. -/
def zeros : FVec F S16 .f32 := broadcast S16 (Scalar.ofBits .f32 0x00000000#32)
/-- The least finite number, sixteen times. -/
def leasts : FVec F S16 .f32 := broadcast S16 (Scalar.ofBits .f32 0xFF7FFFFF#32)
/-- One, sixteen times. -/
def ones : FVec F S16 .f32 := broadcast S16 (Scalar.ofBits .f32 0x3F800000#32)

/-- Sixteen numbers as a row's part. -/
def asRow (v : FVec F S16 .f32) : FVec F S1x16 .f32 := shapeCast S1x16 v shapeCasts_S16_S1x16
/-- A row's part as sixteen numbers. -/
def ofRow (v : Vec F S1x16 .f32) : FVec F S16 .f32 := shapeCast S16 v shapeCasts_S1x16_S16

section Accumulate
variable (chunkRef : Memref sig .scVector .vmem S256x64 .f32) (idsRef : Memref sig .scVector .vmem S256 .i32)
variable (sumRef maxRef : Memref sig .scVector .vmem S80x64 .f32) (cntRef : Memref sig .scVector .vmem S80x16 .f32)

/-- A part of an accumulator's row that is inside the accumulator. -/
abbrev In64 (r : BitVec 32) (j : Nat) : Prop := ∀ a, (rowOff r j) a + S1x16.size a ≤ S80x64.size a
/-- Row `r` lies inside the count accumulator. -/
abbrev In16 (r : BitVec 32) : Prop := ∀ a, (rowOff r 0) a + S1x16.size a ≤ S80x16.size a
/-- The sixteen lanes at column `j` of row `r` lie inside the chunk. -/
abbrev InChunk (r : BitVec 32) (j : Nat) : Prop := ∀ a, (rowOff r j) a + S1x16.size a ≤ S256x64.size a

/-- Sixteen lanes of a row of a sum or maximum accumulator. -/
abbrev rect64 (r : BitVec 32) (j : Nat) (h : In64 r j) : Rect S80x64 := Rect.unit (s := S80x64) (rowOff r j) S1x16.size h
/-- A row of the count accumulator. -/
abbrev rect16 (r : BitVec 32) (h : In16 r) : Rect S80x16 := Rect.unit (s := S80x16) (rowOff r 0) S1x16.size h
/-- Sixteen lanes of a row of the chunk. -/
abbrev rectChunk (r : BitVec 32) (j : Nat) (h : InChunk r j) : Rect S256x64 := Rect.unit (s := S256x64) (rowOff r j) S1x16.size h

/-- Clear the columns at `j` of row `r`. -/
def clearPart (r : BitVec 32) (j : Nat) (h : In64 r j) : Tile F i PUnit := do
  let _v : Vec F S1x16 .f32 ← Prog.lift (.load sumRef (rect64 r j h).toLoadRect (View.loadsAt_vmem h_S1x16))
  Prog.lift (.store sumRef (rect64 r j h) (asRow zeros) Finset.univ (View.stores_vmem_bits_univ h_S1x16 rfl) (.inl rfl))
  let _v : Vec F S1x16 .f32 ← Prog.lift (.load maxRef (rect64 r j h).toLoadRect (View.loadsAt_vmem h_S1x16))
  Prog.lift (.store maxRef (rect64 r j h) (asRow leasts) Finset.univ (View.stores_vmem_bits_univ h_S1x16 rfl) (.inl rfl))

/-- Clear row `k` of the three accumulators. -/
def clearRow (k : Fin clearLoop.trips) : Tile F i PUnit := do
  clearPart i sumRef maxRef (Scf.iv 0#32 1#32 k) 0 (k1_off5_inb k)
  clearPart i sumRef maxRef (Scf.iv 0#32 1#32 k) 16 (k1_off6_inb k)
  clearPart i sumRef maxRef (Scf.iv 0#32 1#32 k) 32 (k1_off7_inb k)
  clearPart i sumRef maxRef (Scf.iv 0#32 1#32 k) 48 (k1_off8_inb k)
  let _v : Vec F S1x16 .f32 ← Prog.lift (.load cntRef (rect16 (Scf.iv 0#32 1#32 k) (k1_off9_inb k)).toLoadRect (View.loadsAt_vmem h_S1x16))
  Prog.lift (.store cntRef (rect16 (Scf.iv 0#32 1#32 k) (k1_off9_inb k)) (asRow zeros) Finset.univ (View.stores_vmem_bits_univ h_S1x16 rfl) (.inl rfl))

/-- Whether point `g` is among those from `lo` to before `hi`. -/
def within (lo hi g : BitVec 32) : BitVec 1 :=
  Scalar.cmpi .ne (Scalar.extui (Scalar.andi (Scalar.cmpi .sge g lo) (Scalar.cmpi .slt g hi)) : BitVec 32) 0#32

/-- What the task assumes of a point's id `d` in the slab from segment `t₀`, when it accumulates the point. -/
def RowOk (c : BitVec 1) (t₀ d : BitVec 32) : Prop :=
  (∀ (_ : c = 1#1), In64 (Scalar.subi d t₀) 0) ∧ (∀ (_ : c = 1#1), In64 (Scalar.subi d t₀) 16) ∧
  (∀ (_ : c = 1#1), In64 (Scalar.subi d t₀) 32) ∧ (∀ (_ : c = 1#1), In64 (Scalar.subi d t₀) 48) ∧
  (∀ (_ : c = 1#1), In16 (Scalar.subi d t₀))
instance RowOk.dec (c : BitVec 1) (t₀ d : BitVec 32) : Decidable (RowOk c t₀ d) :=
  decidable_of_iff' _ (Iff.of_eq (RowOk.eq_1 c t₀ d))

/-- Add the columns at `j` of the chunk's row `p` to row `r`, and take their maximum. -/
def addPart (p r : BitVec 32) (j : Nat) (hp : InChunk p j) (h : In64 r j) : Tile F i PUnit := do
  let x : Vec F S1x16 .f32 ← Prog.lift (.load chunkRef (rectChunk p j hp).toLoadRect (View.loadsAt_vmem h_S1x16))
  let s : Vec F S1x16 .f32 ← Prog.lift (.load sumRef (rect64 r j h).toLoadRect (View.loadsAt_vmem h_S1x16))
  let _s : Vec F S1x16 .f32 ← Prog.lift (.load sumRef (rect64 r j h).toLoadRect (View.loadsAt_vmem h_S1x16))
  Prog.lift (.store sumRef (rect64 r j h) (asRow (addf (ofRow s) (ofRow x))) Finset.univ (View.stores_vmem_bits_univ h_S1x16 rfl) (.inl rfl))
  let m : Vec F S1x16 .f32 ← Prog.lift (.load maxRef (rect64 r j h).toLoadRect (View.loadsAt_vmem h_S1x16))
  let _m : Vec F S1x16 .f32 ← Prog.lift (.load maxRef (rect64 r j h).toLoadRect (View.loadsAt_vmem h_S1x16))
  Prog.lift (.store maxRef (rect64 r j h) (asRow (maximumf (ofRow m) (ofRow x))) Finset.univ (View.stores_vmem_bits_univ h_S1x16 rfl) (.inl rfl))

/-- Count one more point in row `r`. -/
def addCount (r : BitVec 32) (h : In16 r) : Tile F i PUnit := do
  let c : Vec F S1x16 .f32 ← Prog.lift (.load cntRef (rect16 r h).toLoadRect (View.loadsAt_vmem h_S1x16))
  let _c : Vec F S1x16 .f32 ← Prog.lift (.load cntRef (rect16 r h).toLoadRect (View.loadsAt_vmem h_S1x16))
  Prog.lift (.store cntRef (rect16 r h) (asRow (addf (ofRow c) ones)) Finset.univ (View.stores_vmem_bits_univ h_S1x16 rfl) (.inl rfl))

/-- Accumulate the chunk's row `p`, a point of id `d`, if the condition `c` holds; then go on with `k`. -/
def lane {β : Type} (c : BitVec 1) (t₀ d p : BitVec 32) (h₀ : InChunk p 0) (h₁ : InChunk p 16) (h₂ : InChunk p 32) (h₃ : InChunk p 48)
    (k : Tile F i β) : Tile F i β :=
  if hc : c = 1#1 then do
    have h : RowOk c t₀ d := (← Prog.lift (TpuEff.assume (RowOk c t₀ d) (RowOk.dec c t₀ d))).down
    addPart i chunkRef sumRef maxRef p (Scalar.subi d t₀) 0 h₀ (h.1 hc)
    addPart i chunkRef sumRef maxRef p (Scalar.subi d t₀) 16 h₁ (h.2.1 hc)
    addPart i chunkRef sumRef maxRef p (Scalar.subi d t₀) 32 h₂ (h.2.2.1 hc)
    addPart i chunkRef sumRef maxRef p (Scalar.subi d t₀) 48 h₃ (h.2.2.2.1 hc)
    addCount i cntRef (Scalar.subi d t₀) (h.2.2.2.2 hc)
    k
  else k

/-- The first row of the chunk's group `k`. -/
def groupRow (k : Fin groupLoop.trips) : BitVec 32 := Scalar.muli (Scf.iv 0#32 1#32 k) 16#32

/-- Every row of a group is a row of the chunk. -/
theorem inChunk (k : Fin groupLoop.trips) (l : Fin 16) (j : Nat) (hj : j ≤ 48) :
    InChunk (Scalar.addi (groupRow k) (BitVec.ofNat 32 l)) j := by
  have hk : (Scalar.indexCast (Scalar.addi (groupRow k) (BitVec.ofNat 32 l)) : Index).toNat + 1 ≤ 256 := by
    revert k l; decide
  intro a; fin_cases a
  · exact hk
  · show j + 16 ≤ 64; omega

/-- Point `l` of group `k` of the chunk that begins at point `base`. -/
def point (base : BitVec 32) (k : Fin groupLoop.trips) (l : Fin 16) : BitVec 32 :=
  Scalar.addi (Scalar.addi base (groupRow k)) (BitVec.ofNat 32 l)

/-- Every element of sixteen can be taken. -/
theorem slices16 (l : Fin 16) : S16.Slices ![l.val] S1 := by
  revert l; decide

/-- Accumulate the points `ls` of the group `k`, the group's ids being `v`; then go on with `c`. -/
def lanes {β : Type} (t₀ lo hi base : BitVec 32) (k : Fin groupLoop.trips) (v : IVec S16 32) (c : Tile F i β) : List (Fin 16) → Tile F i β
  | [] => c
  | l :: ls => lane i chunkRef sumRef maxRef cntRef (within lo hi (point base k l)) t₀ (word v l (slices16 l))
      (Scalar.addi (groupRow k) (BitVec.ofNat 32 l))
      (inChunk k l 0 (by decide)) (inChunk k l 16 (by decide)) (inChunk k l 32 (by decide)) (inChunk k l 48 (by decide))
      (lanes t₀ lo hi base k v c ls)

/-- Accumulate one group of sixteen points of the chunk that begins at point `base`. -/
def group (t₀ lo hi base : BitVec 32) (k : Fin groupLoop.trips) : Tile F i (BitVec 32) := do
  let u : Vec F S16 .i32 ← Prog.lift (.load idsRef (Rect.unit (s := S256) ![(Scalar.indexCast (groupRow k) : Index).toNat] S16.size (k1_off12_inb k)).toLoadRect (View.loadsAt_vmem h_S16))
  lanes i chunkRef sumRef maxRef cntRef t₀ lo hi base k (shapeCast S16 u shapeCasts_S16_S16) (pure 0#32)
    [0, 1, 2, 3, 4, 5, 6, 7, 8, 9, 10, 11, 12, 13, 14, 15]

/-! ## The chunks -/

/-- Where the chunk of trip `k` begins. -/
def chunkBase (l : Scf.Loop 32) (k : Fin l.trips) : BitVec 32 := Scalar.shli (Scf.iv l.lb 1#32 k) 8#32

/-- The chunk of a trip lies inside the encoded rows. -/
abbrev ChunkIn64 (l : Scf.Loop 32) (k : Fin l.trips) : Prop :=
  ∀ a, (![(chunkBase l k).toNat, 0] : Fin 2 → Nat) a + S256x64.size a ≤ S320000x64.size a
/-- The chunk of a trip lies inside the ids. -/
abbrev ChunkIn (l : Scf.Loop 32) (k : Fin l.trips) : Prop :=
  ∀ a, (![(chunkBase l k).toNat] : Fin 1 → Nat) a + S256.size a ≤ S320000.size a

variable (encs : Memref sig .scVector .hbm S320000x64 .f32) (ids : Memref sig .scVector .hbm S320000 .i32)
variable (hchunk : chunkRef.IsWhole) (hids : idsRef.IsWhole)

/-- The chunk of trip `k`, and its ids, as views. -/
abbrev encsRef (l : Scf.Loop 32) (k : Fin l.trips) (h : ChunkIn64 l k) : Memref sig .scVector .hbm S256x64 .f32 :=
  encs.slice (Rect.unit (s := S320000x64) ![(chunkBase l k).toNat, 0] S256x64.size h) (fun _ => rfl)
/-- The ids of a trip's chunk. -/
abbrev chunkIds (l : Scf.Loop 32) (k : Fin l.trips) (h : ChunkIn l k) : Memref sig .scVector .hbm S256 .i32 :=
  ids.slice (Rect.unit (s := S320000) ![(chunkBase l k).toNat] S256.size h) (fun _ => rfl)

/-- Fetch the chunk of trip `k` and its ids; then go on with `c`. -/
def fetchChunk {β : Type} (sem₀ sem₁ : DmaSems sig S_) (l : Scf.Loop 32) (k : Fin l.trips) (h64 : ChunkIn64 l k) (h : ChunkIn l k)
    (c : PUnit.{1} → Tile F i β) : Tile F i β := do
  Prog.lift (.enqueueDma (encsRef encs l k h64) (.here chunkRef) (.dma sem₀.sem) (View.wordExact_bits rfl) hchunk.wordExact ⟨Or.inl rfl, trivial⟩)
  Prog.lift (.waitDma2 sem₀.sem (encsRef encs l k h64) chunkRef (View.wordExact_bits rfl) hchunk.wordExact)
  Prog.lift (.enqueueDma (chunkIds ids l k h) (.here idsRef) (.dma sem₁.sem) (View.wordExact_bits rfl) hids.wordExact ⟨Or.inl rfl, trivial⟩)
  let r ← Prog.lift (.waitDma2 sem₁.sem (chunkIds ids l k h) idsRef (View.wordExact_bits rfl) hids.wordExact)
  c r

/-- Fetch the chunk of trip `k` and its ids, and accumulate its sixteen groups. -/
def chunk (sem₀ sem₁ : DmaSems sig S_) (t₀ lo hi : BitVec 32) (l : Scf.Loop 32) (k : Fin l.trips) (h64 : ChunkIn64 l k) (h : ChunkIn l k) :
    Tile F i (BitVec 32) :=
  fetchChunk i chunkRef idsRef encs ids hchunk hids sem₀ sem₁ l k h64 h fun _ =>
    (Scf.Loop.for groupLoop groupLoop_ok 0#32 fun g _ => group i chunkRef idsRef sumRef maxRef cntRef t₀ lo hi (chunkBase l k) g) >>=
    fun _ => pure 0#32

/-- The first chunk that holds a point from `lo` on, and the first past those holding one before `hi`. -/
def firstChunk (lo : BitVec 32) : BitVec 32 := Scalar.shrsi lo 8#32
/-- The chunk after the last one that holds a point below `hi`. -/
def endChunk (hi : BitVec 32) : BitVec 32 := Scalar.shrsi (Scalar.subi (Scalar.addi hi 256#32) 1#32) 8#32

/-- The chunks' loop, and the loop of the trips that remain of it (there are none). -/
@[reducible] def mainLoop (lo hi : BitVec 32) : Scf.Loop 32 :=
  ⟨firstChunk lo, Scalar.addi (firstChunk lo) (Scalar.muli (Scalar.divsi (Scalar.subi (endChunk hi) (firstChunk lo)) 1#32) 1#32), 1#32⟩
@[reducible] def restLoop (lo hi : BitVec 32) : Scf.Loop 32 :=
  ⟨Scalar.addi (firstChunk lo) (Scalar.muli (Scalar.divsi (Scalar.subi (endChunk hi) (firstChunk lo)) 1#32) 1#32),
    Scalar.addi (firstChunk lo) (Scalar.subi (endChunk hi) (firstChunk lo)), 1#32⟩

/-- What the task assumes of a slab's points `lo` to before `hi`. -/
def SlabOk (lo hi : BitVec 32) : Prop :=
  (mainLoop lo hi).OK ∧ (∀ k : Fin (mainLoop lo hi).trips, 256 ∣ (chunkBase (mainLoop lo hi) k).toNat) ∧
  (∀ k : Fin (mainLoop lo hi).trips, ChunkIn64 (mainLoop lo hi) k) ∧ (∀ k : Fin (mainLoop lo hi).trips, ChunkIn (mainLoop lo hi) k) ∧
  (restLoop lo hi).OK ∧ (∀ k : Fin (restLoop lo hi).trips, 256 ∣ (chunkBase (restLoop lo hi) k).toNat) ∧
  (∀ k : Fin (restLoop lo hi).trips, ChunkIn64 (restLoop lo hi) k) ∧ (∀ k : Fin (restLoop lo hi).trips, ChunkIn (restLoop lo hi) k)
instance SlabOk.dec (lo hi : BitVec 32) : Decidable (SlabOk lo hi) := decidable_of_iff' _ (Iff.of_eq (SlabOk.eq_1 lo hi))

/-! ## A slab -/

variable (probe : Memref sig .scVector .vmem S16 .i32) (hprobe : probe.IsWhole)
variable (sums maxs : Memref sig .scVector .hbm S10240x64 .f32) (cnts : Memref sig .scVector .hbm S10240x16 .f32)

/-- The segment after a slab's last. -/
def slabEnd (t₀ : BitVec 32) : BitVec 32 := Scalar.maxsi (Scalar.minsi (Scalar.addi t₀ 80#32) 10000#32) t₀

/-- A slab's rows lie inside a pooled array of sums or maxima. -/
abbrev OutIn64 (t₀ : BitVec 32) : Prop := ∀ a, (![t₀.toNat, 0] : Fin 2 → Nat) a + S80x64.size a ≤ S10240x64.size a
/-- A slab's rows lie inside the pooled array of counts. -/
abbrev OutIn16 (t₀ : BitVec 32) : Prop := ∀ a, (![t₀.toNat, 0] : Fin 2 → Nat) a + S80x16.size a ≤ S10240x16.size a

/-- All of an accumulator, as the view that is copied out; and the rows of the result it is copied to. -/
abbrev acc64 (m : Memref sig .scVector .vmem S80x64 .f32) : Memref sig .scVector .vmem S80x64 .f32 :=
  m.slice (Rect.unit (s := S80x64) ![0, 0] S80x64.size inb_S80x64_S80x64_0_0) (fun _ => rfl)
/-- The whole count accumulator, as the copy out of it names it. -/
abbrev acc16 (m : Memref sig .scVector .vmem S80x16 .f32) : Memref sig .scVector .vmem S80x16 .f32 :=
  m.slice (Rect.unit (s := S80x16) ![0, 0] S80x16.size inb_S80x16_S80x16_0_0) (fun _ => rfl)
/-- A slab's rows of a pooled array of sums or maxima. -/
abbrev out64 (m : Memref sig .scVector .hbm S10240x64 .f32) (t₀ : BitVec 32) (h : OutIn64 t₀) : Memref sig .scVector .hbm S80x64 .f32 :=
  m.slice (Rect.unit (s := S10240x64) ![t₀.toNat, 0] S80x64.size h) (fun _ => rfl)
/-- A slab's rows of the pooled array of counts. -/
abbrev out16 (m : Memref sig .scVector .hbm S10240x16 .f32) (t₀ : BitVec 32) (h : OutIn16 t₀) : Memref sig .scVector .hbm S80x16 .f32 :=
  m.slice (Rect.unit (s := S10240x16) ![t₀.toNat, 0] S80x16.size h) (fun _ => rfl)

/-- The nine semaphores of a slab's copies. -/
structure Sems where
  (search found chunk₀ chunk₁ rest₀ rest₁ sum max cnt : DmaSems sig S_)

/-- A slab once the first point past it is found: the accumulators are cleared, its points accumulated chunk by chunk, and the
    accumulators copied to the slab's rows of the results; the program goes on with `c` of the first point past it. -/
def slabRest {β : Type} (s : Sems) (t₀ lo hi : BitVec 32) (ho64 : OutIn64 t₀) (ho16 : OutIn16 t₀) (c : BitVec 32 → Tile F i β) : Tile F i β := do
  have h : SlabOk lo hi :=
    (← Prog.lift (TpuEff.assume (SlabOk lo hi) (SlabOk.dec lo hi))).down
  let _r : BitVec 32 ← Scf.Loop.for clearLoop clearLoop_ok 0#32 fun k _ => do
    clearRow i sumRef maxRef cntRef k
    pure 0#32
  let r : BitVec 32 ← Scf.Loop.for (mainLoop lo hi) h.1 0#32 fun k _ =>
    chunk i chunkRef idsRef sumRef maxRef cntRef encs ids hchunk hids s.chunk₀ s.chunk₁ t₀ lo hi
      (mainLoop lo hi) k (h.2.2.1 k) (h.2.2.2.1 k)
  let _r : BitVec 32 ← Scf.Loop.for (restLoop lo hi) h.2.2.2.2.1 r fun k _ =>
    chunk i chunkRef idsRef sumRef maxRef cntRef encs ids hchunk hids s.rest₀ s.rest₁ t₀ lo hi
      (restLoop lo hi) k (h.2.2.2.2.2.2.1 k) (h.2.2.2.2.2.2.2 k)
  Prog.lift (.enqueueDma (acc64 sumRef) (.here (out64 sums t₀ ho64)) (.dma s.sum.sem) (View.wordExact_bits rfl) (View.wordExact_bits rfl) ⟨Or.inl rfl, trivial⟩)
  Prog.lift (.waitDma2 s.sum.sem (acc64 sumRef) (out64 sums t₀ ho64) (View.wordExact_bits rfl) (View.wordExact_bits rfl))
  Prog.lift (.enqueueDma (acc64 maxRef) (.here (out64 maxs t₀ ho64)) (.dma s.max.sem) (View.wordExact_bits rfl) (View.wordExact_bits rfl) ⟨Or.inl rfl, trivial⟩)
  Prog.lift (.waitDma2 s.max.sem (acc64 maxRef) (out64 maxs t₀ ho64) (View.wordExact_bits rfl) (View.wordExact_bits rfl))
  Prog.lift (.enqueueDma (acc16 cntRef) (.here (out16 cnts t₀ ho16)) (.dma s.cnt.sem) (View.wordExact_bits rfl) (View.wordExact_bits rfl) ⟨Or.inl rfl, trivial⟩)
  Prog.lift (.waitDma2 s.cnt.sem (acc16 cntRef) (out16 cnts t₀ ho16) (View.wordExact_bits rfl) (View.wordExact_bits rfl))
  c hi

/-- A slab: the first point past it is searched first. -/
def slab {β : Type} (s : Sems) (t₀ lo : BitVec 32) (ho64 : OutIn64 t₀) (ho16 : OutIn16 t₀) (c : BitVec 32 → Tile F i β) : Tile F i β :=
  lowerBound i ids probe hprobe s.search s.found (slabEnd t₀) fun q v =>
  slabRest i chunkRef idsRef sumRef maxRef cntRef encs ids hchunk hids sums maxs cnts s t₀ lo (found (slabEnd t₀) q v) ho64 ho16 c

/-- The tile's first segment. -/
def tileSeg : BitVec 32 := Scalar.muli (Scalar.addi (Scalar.muli (BitVec.ofNat 32 (i 1).val) 2#32) (BitVec.ofNat 32 (i 0).val)) 320#32

/-- The tile's task: its first point is searched, and its four slabs follow one another. -/
def tile (s₀ s₁ : DmaSems sig S_) (a b c d : Sems) : Tile F i PUnit :=
  lowerBound i ids probe hprobe s₀ s₁ (tileSeg i) fun q v =>
  slab i chunkRef idsRef sumRef maxRef cntRef encs ids hchunk hids probe hprobe sums maxs cnts a (Scalar.addi (tileSeg i) 0#32) (found (tileSeg i) q v) (k1_off304_inb i) (k1_off305_inb i) fun p =>
  slab i chunkRef idsRef sumRef maxRef cntRef encs ids hchunk hids probe hprobe sums maxs cnts b (Scalar.addi (tileSeg i) 80#32) p (k1_off607_inb i) (k1_off608_inb i) fun p =>
  slab i chunkRef idsRef sumRef maxRef cntRef encs ids hchunk hids probe hprobe sums maxs cnts c (Scalar.addi (tileSeg i) 160#32) p (k1_off910_inb i) (k1_off911_inb i) fun p =>
  slab i chunkRef idsRef sumRef maxRef cntRef encs ids hchunk hids probe hprobe sums maxs cnts d (Scalar.addi (tileSeg i) 240#32) p (k1_off1213_inb i) (k1_off1214_inb i) fun _ =>
  pure ⟨⟩

end Accumulate

end Cert.Proof.SegIdeal
-- ==== Proof.KI.Words.lean ====
/-
  The words of the tile's task as numbers: the search's halving, the block and chunk offsets, the points' masks and the
  loops' trips.
-/
module

public import proofs.«01_k».proof.Proof.KI.Body

@[expose] public section

namespace Cert.Proof.SegIdeal

open Cert.KernelIdeal
open Idealize.ShloMosaic Idealize.SL.Sem

variable [Facts]
open Facts₀ Facts

/-- A word below half the range is the same number signed. -/
theorem toInt_small {a : BitVec 32} (ha : a.toNat < 2 ^ 31) : a.toInt = a.toNat :=
  BitVec.toInt_eq_toNat_of_lt (by omega)

/-- Comparing two words that are no negative numbers is comparing the numbers. -/
theorem slt_iff {a b : BitVec 32} (ha : a.toNat < 2 ^ 31) (hb : b.toNat < 2 ^ 31) : a.slt b = decide (a.toNat < b.toNat) := by
  rw [BitVec.slt_eq_decide, toInt_small ha, toInt_small hb]; simp
/-- Signed order on small words is the order of the numbers. -/
theorem sle_iff {a b : BitVec 32} (ha : a.toNat < 2 ^ 31) (hb : b.toNat < 2 ^ 31) : a.sle b = decide (a.toNat ≤ b.toNat) := by
  rw [BitVec.sle_eq_decide, toInt_small ha, toInt_small hb]; simp

/-- The signed comparison "less" on small words. -/
theorem cmp_slt {a b : BitVec 32} (ha : a.toNat < 2 ^ 31) (hb : b.toNat < 2 ^ 31) :
    Scalar.cmpi .slt a b = BitVec.ofBool (decide (a.toNat < b.toNat)) := by
  show BitVec.ofBool (a.slt b) = _; rw [slt_iff ha hb]
/-- The signed comparison "at least" on small words. -/
theorem cmp_sge {a b : BitVec 32} (ha : a.toNat < 2 ^ 31) (hb : b.toNat < 2 ^ 31) :
    Scalar.cmpi .sge a b = BitVec.ofBool (decide (b.toNat ≤ a.toNat)) := by
  show BitVec.ofBool (b.sle a) = _; rw [sle_iff hb ha]
/-- The signed comparison "greater" on small words. -/
theorem cmp_sgt {a b : BitVec 32} (ha : a.toNat < 2 ^ 31) (hb : b.toNat < 2 ^ 31) :
    Scalar.cmpi .sgt a b = BitVec.ofBool (decide (b.toNat < a.toNat)) := by
  show BitVec.ofBool (b.slt a) = _; rw [slt_iff hb ha]

/-- A sum that does not overflow. -/
theorem add_toNat {a b : BitVec 32} (h : a.toNat + b.toNat < 2 ^ 32) : (Scalar.addi a b).toNat = a.toNat + b.toNat := by
  show (a + b).toNat = _; rw [BitVec.toNat_add]; omega
/-- A difference that is not negative. -/
theorem sub_toNat {a b : BitVec 32} (h : b.toNat ≤ a.toNat) : (Scalar.subi a b).toNat = a.toNat - b.toNat := by
  show (a - b).toNat = _; rw [BitVec.toNat_sub_of_le (by rwa [BitVec.le_def])]
/-- A product that does not overflow. -/
theorem mul_toNat {a b : BitVec 32} (h : a.toNat * b.toNat < 2 ^ 32) : (Scalar.muli a b).toNat = a.toNat * b.toNat := by
  show (a * b).toNat = _; rw [BitVec.toNat_mul]; exact Nat.mod_eq_of_lt h

/-- Shifting right a word that is no negative number. -/
theorem shr_toNat {a : BitVec 32} (n : Nat) (hn : n < 32) (ha : a.toNat < 2 ^ 31) :
    (Scalar.shrsi a (BitVec.ofNat 32 n)).toNat = a.toNat / 2 ^ n := by
  have hn' : (BitVec.ofNat 32 n).toNat = n := by rw [BitVec.toNat_ofNat]; omega
  show (if (BitVec.ofNat 32 n).toNat < 32 then a.sshiftRight' (BitVec.ofNat 32 n) else _).toNat = _
  rw [if_pos (by omega), BitVec.sshiftRight_eq', hn', BitVec.sshiftRight_eq_of_msb_false (by
    rw [BitVec.msb_eq_false_iff_two_mul_lt]; omega), BitVec.toNat_ushiftRight, Nat.shiftRight_eq_div_pow]
/-- A left shift that does not overflow is a product by a power of two. -/
theorem shl_toNat {a : BitVec 32} (n : Nat) (hn : n < 32) (ha : a.toNat * 2 ^ n < 2 ^ 32) :
    (Scalar.shli a (BitVec.ofNat 32 n)).toNat = a.toNat * 2 ^ n := by
  have hn' : (BitVec.ofNat 32 n).toNat = n := by rw [BitVec.toNat_ofNat]; omega
  show (if (BitVec.ofNat 32 n).toNat < 32 then a <<< (BitVec.ofNat 32 n) else _).toNat = _
  rw [if_pos (by omega), BitVec.shiftLeft_eq', hn', BitVec.toNat_shiftLeft, Nat.shiftLeft_eq]
  exact Nat.mod_eq_of_lt ha

/-- The search's middle is the half of the sum. -/
theorem mid_toNat {lo hi : BitVec 32} (h : lo.toNat + hi.toNat < 2 ^ 31) : (mid lo hi).toNat = (lo.toNat + hi.toNat) / 2 := by
  unfold mid
  have := shr_toNat (a := Scalar.addi lo hi) 1 (by omega) (by rw [add_toNat (by omega)]; exact h)
  rw [add_toNat (by omega)] at this
  exact this

/-- A choice by a truth value. -/
theorem select_ofBool {α : Type} (b : Bool) (x y : α) : Scalar.select (BitVec.ofBool b) x y = if b then x else y := by
  cases b <;> rfl
/-- A conjunction of truth values. -/
theorem andi_ofBool (a b : Bool) : Scalar.andi (BitVec.ofBool a) (BitVec.ofBool b) = BitVec.ofBool (a && b) := by
  cases a <;> cases b <;> rfl

/-- The range halved: the middle block's first id decides which half. -/
theorem narrow_eq {t lo hi s : BitVec 32} (ht : t.toNat < 2 ^ 31) (hs : s.toNat < 2 ^ 31) (hlo : lo.toNat < hi.toNat)
    (hhi : hi.toNat ≤ 20000) :
    narrow t lo hi s = if 1 < hi.toNat - lo.toNat then (if s.toNat < t.toNat then (mid lo hi, hi) else (lo, mid lo hi)) else (lo, hi) := by
  unfold narrow
  have h1 : (1#32).toNat = 1 := rfl
  simp only [cmp_slt hs ht, cmp_sge hs ht, cmp_sgt (a := Scalar.subi hi lo) (b := 1#32) (by rw [sub_toNat (by omega)]; omega) (by decide),
    sub_toNat (le_of_lt hlo), h1, andi_ofBool, select_ofBool]
  by_cases h : 1 < hi.toNat - lo.toNat <;> by_cases h' : s.toNat < t.toNat
  · simp [h, h', Nat.not_le.mpr h']
  · simp [h, h', Nat.not_lt.mp h']
  · simp [h]
  · simp [h]

/-- Where a probe's sixteen ids start. -/
theorem blockOff_val {b : BitVec 32} (h : b.toNat < 20000) : (Scalar.muli b 16#32).toNat = 16 * b.toNat := by
  rw [mul_toNat (by show b.toNat * 16 < _; omega)]; show b.toNat * 16 = _; omega

/-- Every block of the ids may be fetched. -/
theorem blockOk {b : BitVec 32} (h : b.toNat < 20000) : BlockOk b := by
  refine ⟨by rw [blockOff_val h]; omega, fun a => ?_⟩
  fin_cases a
  show (Scalar.muli b 16#32).toNat + 16 ≤ 320000
  rw [blockOff_val h]; omega

/-- Whether an id is below the segment, as zero or one. -/
theorem below_toNat {t s : BitVec 32} (ht : t.toNat < 2 ^ 31) (hs : s.toNat < 2 ^ 31) :
    (below t s).toNat = if s.toNat < t.toNat then 1 else 0 := by
  unfold below
  rw [cmp_slt hs ht, select_ofBool]
  by_cases h : s.toNat < t.toNat <;> simp [h]

/-- The mask of a point. -/
theorem within_iff {lo hi g : BitVec 32} (hlo : lo.toNat < 2 ^ 31) (hhi : hi.toNat < 2 ^ 31) (hg : g.toNat < 2 ^ 31) :
    within lo hi g = 1#1 ↔ lo.toNat ≤ g.toNat ∧ g.toNat < hi.toNat := by
  unfold within
  rw [cmp_sge hg hlo, cmp_slt hg hhi, andi_ofBool]
  by_cases h : lo.toNat ≤ g.toNat <;> by_cases h' : g.toNat < hi.toNat <;> simp [h, h'] <;> decide

/-- The smaller of two small words. -/
theorem min_toNat {a b : BitVec 32} (ha : a.toNat < 2 ^ 31) (hb : b.toNat < 2 ^ 31) :
    (Scalar.minsi a b).toNat = min a.toNat b.toNat := by
  show (if a.slt b then a else b).toNat = _
  rw [slt_iff ha hb]
  by_cases h : a.toNat < b.toNat
  · rw [if_pos (decide_eq_true h)]; omega
  · rw [if_neg (by simpa using h)]; omega
/-- The larger of two small words. -/
theorem max_toNat {a b : BitVec 32} (ha : a.toNat < 2 ^ 31) (hb : b.toNat < 2 ^ 31) :
    (Scalar.maxsi a b).toNat = max a.toNat b.toNat := by
  show (if b.slt a then a else b).toNat = _
  rw [slt_iff hb ha]
  by_cases h : b.toNat < a.toNat
  · rw [if_pos (decide_eq_true h)]; omega
  · rw [if_neg (by simpa using h)]; omega

/-- A slab's end, cut at the last segment. -/
theorem slabEnd_toNat {t : BitVec 32} (h : t.toNat ≤ 10240) :
    (slabEnd t).toNat = max (min (t.toNat + 80) 10000) t.toNat := by
  have e : (Scalar.addi t 80#32).toNat = t.toNat + 80 := by rw [add_toNat (by show t.toNat + 80 < _; omega)]; rfl
  have h1 : (10000#32).toNat = 10000 := rfl
  have e2 : (Scalar.minsi (Scalar.addi t 80#32) 10000#32).toNat = min (t.toNat + 80) 10000 := by
    rw [min_toNat (by omega) (by omega), e, h1]
  unfold slabEnd
  rw [max_toNat (by omega) (by omega), e2]

/-- The first chunk that holds a point from `lo` on. -/
theorem firstChunk_toNat {lo : BitVec 32} (h : lo.toNat ≤ 320000) : (firstChunk lo).toNat = lo.toNat / 256 :=
  shr_toNat 8 (by omega) (by omega)
/-- The chunk after the last that holds a point below `hi`. -/
theorem endChunk_toNat {hi : BitVec 32} (h : hi.toNat ≤ 320000) : (endChunk hi).toNat = (hi.toNat + 255) / 256 := by
  have e : (Scalar.subi (Scalar.addi hi 256#32) 1#32).toNat = hi.toNat + 255 := by
    have e1 : (Scalar.addi hi 256#32).toNat = hi.toNat + 256 := by rw [add_toNat (by show hi.toNat + 256 < _; omega)]; rfl
    rw [sub_toNat (by rw [e1]; show 1 ≤ _; omega), e1]; rfl
  have := shr_toNat (a := Scalar.subi (Scalar.addi hi 256#32) 1#32) 8 (by omega) (by omega)
  rw [e] at this
  exact this

/-- Dividing by one. -/
theorem div_one (a : BitVec 32) : Scalar.divsi a 1#32 = a := by
  show (if IntOp.SDivCorner a 1#32 then _ else a.sdiv 1#32) = a
  rw [if_neg (by rintro (h | ⟨_, h⟩) <;> exact absurd h (by decide)), BitVec.sdiv_one]

section Loops
variable {lo hi : BitVec 32} (h : lo.toNat ≤ hi.toNat) (hh : hi.toNat ≤ 320000)
include h hh

/-- The number of chunks that a slab reads. -/
theorem chunks_toNat : (Scalar.subi (endChunk hi) (firstChunk lo)).toNat = (hi.toNat + 255) / 256 - lo.toNat / 256 := by
  rw [sub_toNat (by rw [endChunk_toNat hh, firstChunk_toNat (by omega)]; omega), endChunk_toNat hh, firstChunk_toNat (by omega)]

/-- Where the chunks' loop ends, -/
theorem main_ub : (mainLoop lo hi).ub.toNat = (hi.toNat + 255) / 256 := by
  have e := chunks_toNat h hh
  have e1 : (firstChunk lo).toNat = lo.toNat / 256 := firstChunk_toNat (by omega)
  show (Scalar.addi (firstChunk lo) (Scalar.muli (Scalar.divsi (Scalar.subi (endChunk hi) (firstChunk lo)) 1#32) 1#32)).toNat = _
  have e2 : (Scalar.muli (Scalar.subi (endChunk hi) (firstChunk lo)) 1#32).toNat = (hi.toNat + 255) / 256 - lo.toNat / 256 := by
    rw [mul_toNat (by show _ * 1 < _; omega), e]; show _ * 1 = _; omega
  rw [div_one, add_toNat (by omega), e2]; omega
/-- The end of the loop over the chunks left over. -/
theorem rest_ub : (restLoop lo hi).ub.toNat = (hi.toNat + 255) / 256 := by
  have e := chunks_toNat h hh
  have e1 : (firstChunk lo).toNat = lo.toNat / 256 := firstChunk_toNat (by omega)
  show (Scalar.addi (firstChunk lo) (Scalar.subi (endChunk hi) (firstChunk lo))).toNat = _
  rw [add_toNat (by omega), e]; omega

/-- its trips, -/
theorem main_trips : (mainLoop lo hi).trips = (hi.toNat + 255) / 256 - lo.toNat / 256 := by
  have e := main_ub h hh
  have e1 : (mainLoop lo hi).lb.toNat = lo.toNat / 256 := firstChunk_toNat (by omega)
  have e2 : (mainLoop lo hi).st.toInt = 1 := rfl
  unfold Scf.Loop.trips Scf.trips
  rw [e2, toInt_small (by omega), toInt_small (by omega), e, e1]
  omega
/-- No chunks are left over. -/
theorem rest_trips : (restLoop lo hi).trips = 0 := by
  have e := rest_ub h hh
  have e1 : (restLoop lo hi).lb.toNat = (hi.toNat + 255) / 256 := main_ub h hh
  have e2 : (restLoop lo hi).st.toInt = 1 := rfl
  unfold Scf.Loop.trips Scf.trips
  rw [e2, toInt_small (by omega), toInt_small (by omega), e, e1]
  omega

/-- where a trip's chunk begins, -/
theorem chunkBase_toNat {k : Nat} (hk : k < (mainLoop lo hi).trips) :
    (chunkBase (mainLoop lo hi) ⟨k, hk⟩).toNat = 256 * (lo.toNat / 256 + k) := by
  have e1 : (mainLoop lo hi).lb.toNat = lo.toNat / 256 := firstChunk_toNat (by omega)
  rw [main_trips h hh] at hk
  have e3 : (Scf.iv (mainLoop lo hi).lb 1#32 k).toNat = lo.toNat / 256 + k := by
    show ((mainLoop lo hi).lb + BitVec.ofNat 32 k * 1#32).toNat = _
    rw [BitVec.mul_one, BitVec.toNat_add, e1, BitVec.toNat_ofNat]; omega
  have := shl_toNat (a := Scf.iv (mainLoop lo hi).lb 1#32 k) 8 (by omega) (by rw [e3]; omega)
  rw [e3] at this
  show (Scalar.shli (Scf.iv (mainLoop lo hi).lb 1#32 k) (BitVec.ofNat 32 8)).toNat = _
  rw [this]; omega

/-- and what the task assumes of it all. -/
theorem slabOk : SlabOk lo hi := by
  have e := main_ub h hh
  have e' := rest_ub h hh
  have et := main_trips h hh
  have et' := rest_trips h hh
  have e1 : (mainLoop lo hi).lb.toNat = lo.toNat / 256 := firstChunk_toNat (by omega)
  have e1' : (restLoop lo hi).lb.toNat = (hi.toNat + 255) / 256 := main_ub h hh
  have no : ∀ k : Fin (restLoop lo hi).trips, False := fun k => by have := k.isLt; omega
  refine ⟨⟨show (0 : Int) < (1#32 : BitVec 32).toInt by decide, ?_⟩, fun k => ?_, fun k a => ?_, fun k a => ?_, ⟨show (0 : Int) < (1#32 : BitVec 32).toInt by decide, ?_⟩, fun k => (no k).elim, fun k => (no k).elim, fun k => (no k).elim⟩
  · show (mainLoop lo hi).lb.toInt + ((mainLoop lo hi).trips : Int) * 1 < 2 ^ 31
    rw [toInt_small (by omega), et]; omega
  · rw [chunkBase_toNat h hh k.isLt]; omega
  · have := k.isLt
    fin_cases a
    · show (chunkBase (mainLoop lo hi) k).toNat + 256 ≤ 320000
      rw [chunkBase_toNat h hh k.isLt]; omega
    · show 0 + 64 ≤ 64; omega
  · have := k.isLt
    fin_cases a
    show (chunkBase (mainLoop lo hi) k).toNat + 256 ≤ 320000
    rw [chunkBase_toNat h hh k.isLt]; omega
  · show (restLoop lo hi).lb.toInt + ((restLoop lo hi).trips : Int) * 1 < 2 ^ 31
    rw [toInt_small (by omega), et']; omega

end Loops

end Cert.Proof.SegIdeal
-- ==== Proof.KI.Model.lean ====
/-
  What the tile's task computes, over the numbers of a float instance: where a segment's points begin (`pos`), and a
  segment's points accumulated in order (`seg`).
-/
module

public import proofs.«01_k».proof.Proof.KI.Words
public import Idealize.ShloMosaic.Lib.ValueIdxCore

@[expose] public section

noncomputable section

namespace Cert.Proof.SegIdeal

open Cert.KernelIdeal
open Idealize.ShloMosaic Idealize.SL.Sem
open Idealize.ShloMosaic.ValueIdx (ix1 ix2 eq_ix1 eq_ix2)

variable (ids : S320000.Idx → BitVec 32)

/-- The id of point `p`. -/
def idAt (p : Nat) : BitVec 32 := if h : p < 320000 then ids (ix1 ⟨p, h⟩) else 0#32

/-- The ids are segments' numbers, in order. -/
structure Good : Prop where
  range : ∀ p < 320000, (idAt ids p).toNat < 10000
  sorted : ∀ p q, p ≤ q → q < 320000 → (idAt ids p).toNat ≤ (idAt ids q).toNat

/-- An id is not negative as a signed word. -/
theorem Good.small {ids : S320000.Idx → BitVec 32} (hg : Good ids) (p : Nat) : (idAt ids p).toNat < 2 ^ 31 := by
  by_cases h : p < 320000
  · have := hg.range p h; omega
  · unfold idAt; rw [dif_neg h]; decide

/-- How many points have an id below `t`. -/
def pos (t : Nat) : Nat := ((Finset.range 320000).filter fun p => (idAt ids p).toNat < t).card

/-- The number of points below a segment is at most that of all points. -/
theorem pos_le (t : Nat) : pos ids t ≤ 320000 := by
  refine (Finset.card_filter_le _ _).trans ?_
  rw [Finset.card_range]

variable {ids}

/-- The number of points below a segment is the place where the ids reach it. -/
theorem pos_eq {t n : Nat} (hn : n ≤ 320000) (h1 : ∀ p < n, (idAt ids p).toNat < t)
    (h2 : ∀ p, n ≤ p → p < 320000 → t ≤ (idAt ids p).toNat) : pos ids t = n := by
  have : ((Finset.range 320000).filter fun p => (idAt ids p).toNat < t) = Finset.range n := by
    ext p
    simp only [Finset.mem_filter, Finset.mem_range]
    constructor
    · rintro ⟨hp, hl⟩
      by_contra hc
      have := h2 p (by omega) hp
      omega
    · intro hp
      exact ⟨by omega, h1 p hp⟩
  unfold pos
  rw [this, Finset.card_range]

/-- A property that passes to the earlier numbers holds up to a place and not from it on. -/
theorem exists_cut (A : Nat → Prop) (N : Nat) (hA : ∀ p q, p ≤ q → q < N → A q → A p) :
    ∃ n ≤ N, (∀ p < n, A p) ∧ ∀ p, n ≤ p → p < N → ¬ A p := by
  induction N with
  | zero => exact ⟨0, le_refl _, fun p hp => absurd hp (Nat.not_lt_zero _), fun p _ hp => absurd hp (Nat.not_lt_zero _)⟩
  | succ N ih =>
    by_cases h : A N
    · exact ⟨N + 1, le_refl _, fun p hp => hA p N (by omega) (by omega) h, fun p h1 h2 => absurd h2 (by omega)⟩
    · obtain ⟨n, hn, h1, h2⟩ := ih fun p q hpq hq => hA p q hpq (by omega)
      refine ⟨n, by omega, h1, fun p hp hp' => ?_⟩
      by_cases e : p = N
      · rwa [e]
      · exact h2 p hp (by omega)

/-- Of sorted ids, a point stands before that place if its id is below the segment. -/
theorem Good.lt_pos (hg : Good ids) {t p : Nat} (hp : p < 320000) : p < pos ids t ↔ (idAt ids p).toNat < t := by
  obtain ⟨n, hn, h1, h2⟩ := exists_cut (fun p => (idAt ids p).toNat < t) 320000
    fun p q hpq hq hl => lt_of_le_of_lt (hg.sorted p q hpq hq) hl
  rw [pos_eq hn h1 fun p hp hp' => not_lt.mp (h2 p hp hp')]
  constructor
  · exact h1 p
  · intro hl
    by_contra hc
    exact h2 p (by omega) hp hl

/-- That place grows with the segment. -/
theorem Good.pos_mono (hg : Good ids) {t t' : Nat} (h : t ≤ t') : pos ids t ≤ pos ids t' :=
  Finset.card_le_card fun p hp => by
    simp only [Finset.mem_filter, Finset.mem_range] at hp ⊢
    exact ⟨hp.1, lt_of_lt_of_le hp.2 h⟩

/-- Past the last segment there are no points. -/
theorem Good.pos_all (hg : Good ids) {t : Nat} (h : 10000 ≤ t) : pos ids t = 320000 :=
  pos_eq (le_refl _) (fun p hp => lt_of_lt_of_le (hg.range p hp) h) fun p h1 h2 => absurd h2 (by omega)

/-- A slab ends where the next begins. -/
theorem Good.pos_slabEnd (hg : Good ids) {t : BitVec 32} (h : t.toNat ≤ 10240) :
    pos ids (slabEnd t).toNat = pos ids (t.toNat + 80) := by
  rw [slabEnd_toNat h]
  by_cases h' : t.toNat + 80 ≤ 10000
  · congr 1; omega
  · rw [hg.pos_all (by omega), hg.pos_all (by omega)]

/-! ## The search -/

/-- The blocks left after `k` trips of the search for segment `t`. -/
structure Range (ids : S320000.Idx → BitVec 32) (t k : Nat) (r : BitVec 32 × BitVec 32) : Prop where
  lt : r.1.toNat < r.2.toNat
  le : r.2.toNat ≤ 20000
  low : r.1.toNat = 0 ∨ (idAt ids (16 * r.1.toNat)).toNat < t
  high : r.2.toNat = 20000 ∨ t ≤ (idAt ids (16 * r.2.toNat)).toNat
  width : r.2.toNat - r.1.toNat ≤ 2 ^ (15 - k)

/-- The search starts from the whole range. -/
theorem range_zero (t : Nat) : Range ids t 0 (0#32, 20000#32) :=
  ⟨by decide, by decide, .inl rfl, .inl rfl, by decide⟩

/-- The search probes inside the ids. -/
theorem Range.mid_lt {t k : Nat} {r : BitVec 32 × BitVec 32} (h : Range ids t k r) : (mid r.1 r.2).toNat < 20000 := by
  have := h.lt; have := h.le
  rw [mid_toNat (by omega)]; omega

/-- One probe halves the search's range. -/
theorem Range.step (hg : Good ids) {t : BitVec 32} (ht : t.toNat < 2 ^ 31) {k : Nat} (hk : k < 15) {r : BitVec 32 × BitVec 32}
    (h : Range ids t.toNat k r) {s : BitVec 32} (hs : s = idAt ids (16 * (mid r.1 r.2).toNat)) :
    Range ids t.toNat (k + 1) (narrow t r.1 r.2 s) := by
  have h1 := h.lt
  have h2 := h.le
  have hm := mid_toNat (lo := r.1) (hi := r.2) (by omega)
  have hw := h.width
  have e : (2 : Nat) ^ (15 - k) = 2 * 2 ^ (15 - (k + 1)) := by
    rw [show 15 - k = (15 - (k + 1)) + 1 by omega, pow_succ]; omega
  have hp : 0 < (2 : Nat) ^ (15 - (k + 1)) := Nat.two_pow_pos _
  rw [narrow_eq ht (by rw [hs]; exact hg.small _) h1 h2]
  by_cases hc : 1 < r.2.toNat - r.1.toNat
  · rw [if_pos hc]
    by_cases hl : s.toNat < t.toNat
    · rw [if_pos hl]
      refine ⟨?_, h2, .inr (by rw [← hs]; exact hl), h.high, ?_⟩
      · show (mid r.1 r.2).toNat < r.2.toNat; omega
      · show r.2.toNat - (mid r.1 r.2).toNat ≤ _; omega
    · rw [if_neg hl]
      refine ⟨?_, ?_, h.low, .inr (by rw [← hs]; exact not_lt.mp hl), ?_⟩
      · show r.1.toNat < (mid r.1 r.2).toNat; omega
      · show (mid r.1 r.2).toNat ≤ 20000; omega
      · show (mid r.1 r.2).toNat - r.1.toNat ≤ _; omega
  · rw [if_neg hc]
    exact ⟨h1, h2, h.low, h.high, by show r.2.toNat - r.1.toNat ≤ _; omega⟩

/-- The block found, and how many of its ids are below the segment: where the segment's points begin. -/
theorem Range.found (hg : Good ids) {t : BitVec 32} (ht : t.toNat < 2 ^ 31) {r : BitVec 32 × BitVec 32} (h : Range ids t.toNat 15 r)
    {v : IVec S16 32} (hv : ∀ l : Fin 16, v (ix1 l) = idAt ids (16 * r.1.toNat + l.val)) [Facts] :
    (Scalar.addi (Scalar.muli r.1 16#32) (belows t v)).toNat = pos ids t.toNat := by
  have h1 := h.lt
  have h2 := h.le
  have hw := h.width
  norm_num at hw
  have hp := pos_le ids t.toNat
  have hl : 16 * r.1.toNat ≤ pos ids t.toNat := by
    rcases h.low with h0 | h0
    · omega
    · exact le_of_lt ((hg.lt_pos (by omega)).mpr h0)
  have hh : pos ids t.toNat ≤ 16 * r.1.toNat + 16 := by
    rcases h.high with h0 | h0
    · omega
    · by_cases hc : r.2.toNat = 20000
      · omega
      · have := (hg.lt_pos (t := t.toNat) (p := 16 * r.2.toNat) (by omega)).not.mpr (not_lt.mpr h0)
        omega
  have hb : ∀ (l : Fin 16) (hs : S16.Slices ![l.val] S1),
      (below t (word v l.val hs)).toNat = if l.val < pos ids t.toNat - 16 * r.1.toNat then 1 else 0 := by
    intro l hs
    have e : word v l.val hs = idAt ids (16 * r.1.toNat + l.val) := by
      rw [← hv l]
      exact congrArg v (funext fun a => Fin.ext (by fin_cases a; show l.val + 0 = l.val; omega))
    rw [e, below_toNat ht (hg.small _)]
    have := hg.lt_pos (t := t.toNat) (p := 16 * r.1.toNat + l.val) (by have := l.isLt; omega)
    by_cases hc : l.val < pos ids t.toNat - 16 * r.1.toNat
    · rw [if_pos hc, if_pos (this.mp (by omega))]
    · rw [if_neg hc, if_neg (this.not.mp (by omega))]
  have hd : ∃ d, d = pos ids t.toNat - 16 * r.1.toNat := ⟨_, rfl⟩
  obtain ⟨d, hd⟩ := hd
  rw [← hd] at hb
  have hbits : ∀ (l : Nat) (_ : l < 16) (hs : S16.Slices ![l] S1), below t (word v l hs) = if l < d then 1#32 else 0#32 := by
    intro l hl16 hs
    apply BitVec.eq_of_toNat_eq
    rw [hb ⟨l, hl16⟩ hs]
    split <;> rfl
  have hs : belows t v = BitVec.ofNat 32 d := by
    unfold belows
    rw [hbits 0 (by decide), hbits 1 (by decide), hbits 2 (by decide), hbits 3 (by decide), hbits 4 (by decide), hbits 5 (by decide), hbits 6 (by decide), hbits 7 (by decide), hbits 8 (by decide), hbits 9 (by decide), hbits 10 (by decide), hbits 11 (by decide), hbits 12 (by decide), hbits 13 (by decide),
      hbits 14 (by decide), hbits 15 (by decide)]
    have hd' : d ≤ 16 := by omega
    clear hd hb hbits
    interval_cases d <;> rfl
  have e16 : (Scalar.muli r.1 16#32).toNat = 16 * r.1.toNat := blockOff_val (by omega)
  have ed : (BitVec.ofNat 32 d).toNat = d := by rw [BitVec.toNat_ofNat]; omega
  rw [hs, add_toNat (by omega), e16, ed]
  omega

/-! ## The points of a segment, accumulated -/

/-- The points of the segment `g` before point `P`, taken one after another by `f` from `a`. -/
def seg (ids : S320000.Idx → BitVec 32) {α : Type} (f : Nat → α → α) (a : α) (g : Nat) : Nat → α
  | 0 => a
  | P + 1 => if (idAt ids P).toNat = g then f P (seg ids f a g P) else seg ids f a g P

/-- Points of other segments change nothing. -/
theorem seg_skip {α : Type} (f : Nat → α → α) (a : α) (g : Nat) {P P' : Nat} (h : P ≤ P')
    (hn : ∀ p, P ≤ p → p < P' → (idAt ids p).toNat ≠ g) : seg ids f a g P' = seg ids f a g P := by
  induction P', h using Nat.le_induction with
  | base => rfl
  | succ n hle ih =>
    rw [seg, if_neg (hn n hle (by omega)), ih fun p h1 h2 => hn p h1 (by omega)]

variable {F : FTy → Type} [FloatOps F]

/-- Number `c` of the point `p`. -/
def encAt (x : S320000x64.Idx → F .f32) (p c : Nat) : F .f32 :=
  if h : p < 320000 ∧ c < 64 then x (ix2 ⟨p, h.1⟩ ⟨c, h.2⟩) else FloatOps.ofBits .f32 0x00000000#32

/-- A segment's sum, maximum and count over the points before `P`. -/
def segSum (ids : S320000.Idx → BitVec 32) (x : S320000x64.Idx → F .f32) (g c P : Nat) : F .f32 :=
  seg ids (fun p s => FloatOps.addf s (encAt x p c)) (FloatOps.ofBits .f32 0x00000000#32) g P
/-- The maximum of a column over the points of a segment among the first `P`, from the least finite number. -/
def segMax (ids : S320000.Idx → BitVec 32) (x : S320000x64.Idx → F .f32) (g c P : Nat) : F .f32 :=
  seg ids (fun p s => FloatOps.maximumf s (encAt x p c)) (FloatOps.ofBits .f32 0xFF7FFFFF#32) g P
/-- The number of a segment's points among the first `P`, as a float. -/
def segCnt (ids : S320000.Idx → BitVec 32) (g P : Nat) : F .f32 :=
  seg ids (fun _ s => FloatOps.addf s (FloatOps.ofBits .f32 0x3F800000#32)) (FloatOps.ofBits .f32 0x00000000#32) g P

end Cert.Proof.SegIdeal
-- ==== Proof.KI.Hold.lean ====
/-
  A buffer held through a memref, told by what the memref reads: the rules of the loads, the stores and the
  copies in those words. A copy is one step: the transfer and the wait for it, its semaphore at zero before and after.
-/
module

public import Idealize.ShloMosaic.Lib.SparseCore.Quiescent
public import Idealize.ShloMosaic.Lib.SparseCore.Ops
public import Idealize.ShloMosaic.Lib.Transfers
public import Idealize.ShloMosaic.Lib.Tactic

@[expose] public section

noncomputable section

namespace Cert.Proof.SegIdeal

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- The memref's elements held by the thread at the share `q`, the memref reading `X`. -/
def Has (c : Thread nD τ) {sp : Space} {s : Shape} {e : EltTy} (q : PosShare TreeShare) (m : Memref sig c.2.kind sp s e)
    (X : s.Idx → Val e) : sProp 𝕄 :=
  iprop(∃ f, (m.view.loc c ↦[m.view.set]{q} f) ∗ ⌜m.view.read Val f = X⌝)

variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A load of a rectangle reads what the memref reads there. -/
theorem has_load {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (Has c q m X : sProp 𝕄)
      ⊢ iprop(((Has c q m X : sProp 𝕄) -∗ wp frame (wpE defs 𝒱 c bd) Set.univ (k fun x => X (r.emb x)) Q)
        -∗ wp frame (wpE defs 𝒱 c bd) Set.univ (.op (.load m r hl) k) Q) := by
  unfold Has
  iintro ⟨%f, Hm, %hf⟩ Hk
  iapply (wp_load_rect 𝒱 c bd Set.univ (View.set_slice_subset m.view r)) $$ Hm
  iintro Hm
  have e1 : (m.access r).read Val f = fun x => X (r.emb x) := by
    subst hf; rfl
  rw [e1]
  iapply Hk
  iexists f
  isplitl [Hm]; · iexact Hm
  ipureintro; exact hf

/-- A store of a rectangle leaves any contents `X'` that agree with the stored ones in the rectangle and with the old outside. -/
theorem has_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} (X' : s.Idx → Val e)
    (hin : ∀ x, X' (r.emb x) = w x) (hout : ∀ y, y ∉ r.set → X' y = X y) :
    (Has c fullShare m X : sProp 𝕄)
      ⊢ iprop(((Has c fullShare m X' : sProp 𝕄) -∗ wp frame (wpE defs 𝒱 c bd) Set.univ (k ⟨⟩) Q)
        -∗ wp frame (wpE defs 𝒱 c bd) Set.univ (.op (.store m r w Finset.univ hx hm) k) Q) := by
  unfold Has
  iintro ⟨%f, Hm, %hf⟩ Hk
  iapply (wp_store 𝒱 c bd Set.univ (m := m) (r := r) (Mk := Finset.univ) (S := m.view.set)
    (by rw [View.setOn_univ]; exact View.set_slice_subset m.view r)) $$ Hm
  iintro Hm
  iapply Hk
  iexists _
  isplitl [Hm]; · iexact Hm
  ipureintro
  funext y
  by_cases hy : y ∈ r.set
  · obtain ⟨x, rfl⟩ := r.exists_idx_of_mem hy
    exact (View.read_slice_write_emb (v := m.view) r f w (Finset.mem_univ x)).trans (hin x).symm
  · rw [hout y hy]
    subst hf
    exact View.read_slice_write_of_not_mem (v := m.view) r f w Finset.univ (by rwa [Rect.map_emb_univ])

/-- The thread's promises `O`, its waits those of `W` and waits of index `none`. -/
def Owe {N : Nat} (c : Thread nD τ) (O : CellTallies nD τ sig (SparseCore.Cfg.HIx N)) (W : Waits sig (SparseCore.Cfg.HIx N)) :
    sProp (MT nD τ sig (SparseCore.Cfg.HIx N) Val Name U Lvl) :=
  iprop(∃ W', ⌜∀ p ∈ W', p ∈ W ∨ p.2 = none⌝ ∗ owes c O W')

/-- A part of a memref, held apart from the rest. -/
theorem has_slice {q : PosShare TreeShare} {m : Memref sig c.2.kind sp s e} {X : s.Idx → Val e} (r : Rect s) (hr : ∀ a, r.stride a = 1) :
    (Has c q m X : sProp 𝕄)
      ⊢ iprop((Has c q (m.slice r hr) fun x => X (r.emb x)) ∗ ((Has c q (m.slice r hr) fun x => X (r.emb x)) -∗ Has c q m X)) := by
  unfold Has
  iintro ⟨%f, Hm, %hf⟩
  ihave Hm' := (pointsTo_split_subset (q := q) (f := f) (View.set_slice_subset m.view r)).1 $$ Hm
  icases Hm' with ⟨Hp, Hr⟩
  isplitl [Hp]
  · iexists f
    isplitl [Hp]; · iexact Hp
    ipureintro; subst hf; rfl
  · iintro ⟨%g, Hp, %hg⟩
    iexists f
    have hc : ∀ j ∈ (m.slice r hr).view.set, g j = f j := fun j hj => by
      obtain ⟨x, -, rfl⟩ := Finset.mem_map.mp hj
      have h1 : (m.slice r hr).view.read Val g x = (m.slice r hr).view.read Val f x := by
        rw [hg]; subst hf; rfl
      rw [View.read_apply, View.read_apply] at h1
      exact (cast_inj _).mp h1
    isplitl [Hp Hr]
    · iapply (pointsTo_split_subset (q := q) (f := f) (View.set_slice_subset m.view r)).2
      isplitl [Hp]
      · iapply (Entails.of_eq (pointsTo_congr (q := q) (f := g) (g := f) hc)); iexact Hp
      · iexact Hr
    · ipureintro; exact hf

/-- A copy within the thread's reach and the wait for it: the destination reads what the source does, and the semaphore is at zero
    again. -/
theorem has_copy {N : Nat} [CountersIn U] [Infinite Name] {defs : Defs nD τ sig Val Λ} {α : Type}
    {Q : α → sProp (MT nD τ sig (SparseCore.Cfg.HIx N) Val Name U Lvl)}
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig Val Λ c.2) α} {q : PosShare TreeShare} {X Y : s.Idx → Val e}
    {O : CellTallies nD τ sig (SparseCore.Cfg.HIx N)} {W : Waits sig (SparseCore.Cfg.HIx N)} (hn : 0 < s.numel) :
    iprop(MayWaits c (none : SparseCore.Cfg.HIx N) O ∗ Has c q src X ∗ Has c fullShare dst Y ∗ semVal (c, .dma sem) 0 ∗ Owe c O W)
      ⊢ iprop((iprop(Has c q src X ∗ Has c fullShare dst X ∗ semVal (c, .dma sem) 0 ∗ Owe c O W)
              -∗ wp frame (wpE defs 𝒱 c bd) Set.univ (k ⟨⟩) Q)
          -∗ wp frame (wpE defs 𝒱 c bd) Set.univ
            (.op (.enqueueDma src (.here dst) (.dma sem) hsrc hdst hsem) fun _ => .op (.waitDma2 sem src dst hsrc' hdst') k) Q) := by
  unfold Has Owe
  iintro ⟨#Hmw, ⟨%f, Hs, %hf⟩, ⟨%g, Hd, %hg⟩, Hv, %W', %hW', HO⟩ Hk
  iapply (wp_dmaLocal (countersEmb (U := U)) 𝒱 c bd (none : SparseCore.Cfg.HIx N) _ rfl (View.amount_pos _ _ hn) (Finset.Subset.refl _)) $$ [Hs Hd Hv]
  · isplitl [Hs]; · iexact Hs
    isplitl [Hd]; · iexact Hd
    iexact Hv
  iintro HF
  iapply (wp_waitLocalO (countersEmb (U := U)) 𝒱 c bd (none : SparseCore.Cfg.HIx N) rfl) $$ [HF HO]
  · isplitl [HF]; · iexact HF
    isplitl [HO]; · iexact HO
    iapply (MayWaits.elim (c := c) (ι := (none : SparseCore.Cfg.HIx N)) (O := O) (.dma sem)); iexact Hmw
  iintro ⟨⟨Hd, Hs⟩, Hv, HO⟩
  iapply Hk
  isplitl [Hs]
  · iexists f
    isplitl [Hs]; · iexact Hs
    ipureintro; exact hf
  isplitl [Hd]
  · iexists _
    isplitl [Hd]; · iexact Hd
    ipureintro
    rw [View.read_write_univ, hf]
  isplitl [Hv]; · iexact Hv
  iexists (insert (SemLoc.dma sem, (none : SparseCore.Cfg.HIx N)) W'); isplitr
  · ipureintro; intro p hp
    rcases Finset.mem_insert.mp hp with hp | hp
    · exact .inr (hp ▸ rfl)
    · exact hW' p hp
  · iexact HO

end Cert.Proof.SegIdeal
-- ==== Proof.KI.Acc.lean ====
/-
  The accumulators' pieces run: clearing a row, adding a point to a row, a group of sixteen points.
-/
module

public import proofs.«01_k».proof.Proof.KI.Model
public import proofs.«01_k».proof.Proof.KI.Hold
public import Idealize.ShloMosaic.Lib.Pipeline.Value

@[expose] public section

noncomputable section

namespace Cert.Proof.SegIdeal

open Cert.KernelIdeal
open Idealize.ShloMosaic
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]
open Facts₀ Facts
variable {U : Type} [URA U]

/-- The tile's thread on device `d`. -/
abbrev thr (d : Dev nD) (i : grid1.Coords) : Thread nD τ := SparseCore.V d ((i 0).castLE hcore1) ((i 1).castLE hsub1)

/-- The resources. -/
abbrev MM (F : FTy → Type) (U : Type) [URA U] := MT nD τ sig (SparseCore.Cfg.HIx 1) (Elt F) ℕ U ℕ

variable (d : Dev nD) (i : grid1.Coords)

/-- The tile's program run to `Q`. -/
abbrev Runs {β : Type} (p : Tile F i β) (Q : β → sProp (MM F U)) : sProp (MM F U) :=
  wp frame (wpE (defs₀ (F := F)) Variants.none (thr d i) none) Set.univ p Q

/-- A buffer of the tile's, held by it. -/
abbrev At {sp : Space} {s : Shape} {e : EltTy} (q : PosShare TreeShare) (m : Memref sig .scVector sp s e) (X : s.Idx → Elt F e) : sProp (MM F U) :=
  Has (thr d i) q m X

/-- Sixteen columns from `j` of row `r`, each replaced by `f` of what it holds and of its column. -/
def upd {n c : Nat} (r j : Nat) (f : F .f32 → Nat → F .f32) (A : (⟨2, ![n, c]⟩ : Shape).Idx → F .f32) (y : (⟨2, ![n, c]⟩ : Shape).Idx) : F .f32 :=
  if (y 0).val = r ∧ j ≤ (y 1).val ∧ (y 1).val < j + 16 then f (A y) (y 1).val else A y

/-- A row's part is where the program says. -/
theorem part_row {n c : Nat} (r : BitVec 32) (j : Nat) (h : ∀ a, (rowOff r j) a + S1x16.size a ≤ (⟨2, ![n, c]⟩ : Shape).size a) (x : S1x16.Idx) :
    (((Rect.unit (s := ⟨2, ![n, c]⟩) (rowOff r j) S1x16.size h).emb x) 0).val = r.toNat ∧
      (((Rect.unit (s := ⟨2, ![n, c]⟩) (rowOff r j) S1x16.size h).emb x) 1).val = j + (x 1).val := by
  have h0 : (x 0).val < 1 := (x 0).isLt
  constructor
  · show (rowOff r j 0) + 1 * (x 0).val = _
    have : rowOff r j 0 = r.toNat := rfl
    omega
  · show j + 1 * (x 1).val = _
    omega

/-- Outside the row part that a store writes, the array is as it was. -/
theorem part_out {n c : Nat} (r : BitVec 32) (j : Nat) (h : ∀ a, (rowOff r j) a + S1x16.size a ≤ (⟨2, ![n, c]⟩ : Shape).size a)
    (y : (⟨2, ![n, c]⟩ : Shape).Idx) (hy : y ∉ (Rect.unit (s := ⟨2, ![n, c]⟩) (rowOff r j) S1x16.size h).set) :
    ¬ ((y 0).val = r.toNat ∧ j ≤ (y 1).val ∧ (y 1).val < j + 16) := by
  rintro ⟨h0, h1, h2⟩
  apply hy
  rw [Rect.mem_set_unit]
  intro a
  fin_cases a
  · show r.toNat ≤ (y 0).val ∧ (y 0).val < r.toNat + 1; omega
  · show j ≤ (y 1).val ∧ (y 1).val < j + 16; omega

/-- Flattening a row part and laying it out again gives it back. -/
theorem asRow_ofRow (v : Vec F S1x16 .f32) : asRow (ofRow v) = v := shapeCast_shapeCast v _ _

/-- A store of sixteen columns from `j` of row `r`. -/
theorem store_cols {n c : Nat} {β : Type} {Q : β → sProp (MM F U)} {m : Memref sig .scVector .vmem ⟨2, ![n, c]⟩ .f32}
    {R : Rect ⟨2, ![n, c]⟩} {w : R.shape.Idx → F .f32} {hx : (m.access R).Stores Finset.univ}
    {hm : (Finset.univ : Finset R.shape.Idx) = Finset.univ ∨ ∀ a, R.stride a = 1}
    {k : PUnit → Tile F i β} (A : (⟨2, ![n, c]⟩ : Shape).Idx → F .f32) (f : F .f32 → Nat → F .f32) (r j : Nat)
    (hR : ∀ x, (R.emb x 0).val = r ∧ j ≤ (R.emb x 1).val ∧ (R.emb x 1).val < j + 16)
    (hR' : ∀ y, y ∉ R.set → ¬ ((y 0).val = r ∧ j ≤ (y 1).val ∧ (y 1).val < j + 16))
    (hw : ∀ x, w x = f (A (R.emb x)) (R.emb x 1).val) :
    (At d i fullShare m A : sProp (MM F U))
      ⊢ iprop((At d i fullShare m (upd r j f A) -∗ Runs d i (k ⟨⟩) Q) -∗ Runs d i (.op (.store m R w Finset.univ hx hm) k) Q) := by
  have hin : ∀ x, upd r j f A (R.emb x) = w x := fun x => by
    unfold upd
    rw [if_pos (hR x), hw x]
  have hout : ∀ y, y ∉ R.set → upd r j f A y = A y := fun y hy => by
    unfold upd
    rw [if_neg (hR' y hy)]
  iintro HA Hk
  iapply (has_store Variants.none (thr d i) none (upd r j f A) hin hout) $$ HA
  iexact Hk

/-- A store of a row's part. -/
theorem store_part {n c : Nat} {β : Type} {Q : β → sProp (MM F U)} {m : Memref sig .scVector .vmem ⟨2, ![n, c]⟩ .f32}
    {r : BitVec 32} {j : Nat} {h : ∀ a, (rowOff r j) a + S1x16.size a ≤ (⟨2, ![n, c]⟩ : Shape).size a}
    {w : (Rect.unit (s := ⟨2, ![n, c]⟩) (rowOff r j) S1x16.size h).shape.Idx → F .f32}
    {hx : (m.access (Rect.unit (s := ⟨2, ![n, c]⟩) (rowOff r j) S1x16.size h)).Stores Finset.univ}
    {hm : (Finset.univ : Finset (Rect.unit (s := ⟨2, ![n, c]⟩) (rowOff r j) S1x16.size h).shape.Idx) = Finset.univ ∨
      ∀ a, (Rect.unit (s := ⟨2, ![n, c]⟩) (rowOff r j) S1x16.size h).stride a = 1}
    {k : PUnit → Tile F i β} (A : (⟨2, ![n, c]⟩ : Shape).Idx → F .f32) (f : F .f32 → Nat → F .f32)
    (hw : ∀ x : (Rect.unit (s := ⟨2, ![n, c]⟩) (rowOff r j) S1x16.size h).shape.Idx,
      w x = f (A ((Rect.unit (s := ⟨2, ![n, c]⟩) (rowOff r j) S1x16.size h).emb x))
        ((Rect.unit (s := ⟨2, ![n, c]⟩) (rowOff r j) S1x16.size h).emb x 1).val) :
    (At d i fullShare m A : sProp (MM F U))
      ⊢ iprop((At d i fullShare m (upd r.toNat j f A) -∗ Runs d i (k ⟨⟩) Q)
        -∗ Runs d i (.op (.store m (Rect.unit (s := ⟨2, ![n, c]⟩) (rowOff r j) S1x16.size h) w Finset.univ hx hm) k) Q) :=
  store_cols d i A f r.toNat j
    (fun x => by
      obtain ⟨e0, e1⟩ := part_row r j h x
      have h1 : (x 1).val < 16 := (x 1).isLt
      exact ⟨e0, by omega, by omega⟩)
    (fun y hy => part_out r j h y hy) hw

/-- An assumption that holds. -/
theorem assume_runs {β : Type} {Q : β → sProp (MM F U)} {P : Prop} {dP : Decidable P} {k : PLift P → Tile F i β} (h : P) :
    Runs d i (k ⟨h⟩) Q ⊢ Runs d i (.op (.assume P dP) k) Q :=
  Entails.of_eq (wp_assume_of Variants.none (thr d i) none Set.univ h).symm

/-- The end of a program. -/
theorem pure_runs {β : Type} {Q : β → sProp (MM F U)} (v : β) : Q v ⊢ Runs d i (pure v) Q := by
  unfold Runs
  iintro H
  sl_step
  iexact H

section Pieces
variable (chunkRef : Memref sig .scVector .vmem S256x64 .f32) (idsRef : Memref sig .scVector .vmem S256 .i32)
variable (sumRef maxRef : Memref sig .scVector .vmem S80x64 .f32) (cntRef : Memref sig .scVector .vmem S80x16 .f32)
variable {β : Type} (Q : β → sProp (MM F U))

/-- Clearing a part of a row. -/
theorem clearPart_runs (r : BitVec 32) (j : Nat) (h : In64 r j) (k : PUnit → Tile F i β) (A B : S80x64.Idx → F .f32) :
    iprop(At d i fullShare sumRef A ∗ At d i fullShare maxRef B)
      ⊢ iprop((iprop(At d i fullShare sumRef (upd r.toNat j (fun _ _ => FloatOps.ofBits .f32 0x00000000#32) A)
          ∗ At d i fullShare maxRef (upd r.toNat j (fun _ _ => FloatOps.ofBits .f32 0xFF7FFFFF#32) B)) -∗ Runs d i (k ⟨⟩) Q)
        -∗ Runs d i (clearPart i sumRef maxRef r j h >>= k) Q) := by
  unfold clearPart
  simp only [Prog.bind_assoc, Prog.bind_lift]
  iintro ⟨HA, HB⟩ Hk
  iapply (has_load Variants.none (thr d i) none) $$ HA
  iintro HA
  iapply (store_part d i A (fun _ _ => FloatOps.ofBits .f32 0x00000000#32) (fun _ => rfl)) $$ HA
  iintro HA
  iapply (has_load Variants.none (thr d i) none) $$ HB
  iintro HB
  iapply (store_part d i B (fun _ _ => FloatOps.ofBits .f32 0xFF7FFFFF#32) (fun _ => rfl)) $$ HB
  iintro HB
  iapply Hk
  isplitl [HA] <;> iassumption

/-- Row `k`'s numbers replaced by `v`, the rows before it being so already. -/
theorem upd_rows {n : Nat} (v : F .f32) (k : Nat) (A : (⟨2, ![n, 64]⟩ : Shape).Idx → F .f32) (hA : ∀ y, (y 0).val < k → A y = v)
    (y : (⟨2, ![n, 64]⟩ : Shape).Idx) (hy : (y 0).val < k + 1) :
    upd k 48 (fun _ _ => v) (upd k 32 (fun _ _ => v) (upd k 16 (fun _ _ => v) (upd k 0 (fun _ _ => v) A))) y = v := by
  have h1 : (y 1).val < 64 := (y 1).isLt
  unfold upd
  by_cases h : (y 0).val < k
  · simp [hA y h]
  · have e : (y 0).val = k := by omega
    by_cases h48 : 48 ≤ (y 1).val
    · rw [if_pos ⟨e, h48, by omega⟩]
    by_cases h32 : 32 ≤ (y 1).val
    · rw [if_neg (by omega), if_pos ⟨e, h32, by omega⟩]
    by_cases h16 : 16 ≤ (y 1).val
    · rw [if_neg (by omega), if_neg (by omega), if_pos ⟨e, h16, by omega⟩]
    · rw [if_neg (by omega), if_neg (by omega), if_neg (by omega), if_pos ⟨e, by omega, by omega⟩]

/-- The accumulators' first `k` rows cleared. -/
def Cleared (k : Nat) : sProp (MM F U) :=
  iprop(∃ (A B : S80x64.Idx → F .f32) (C : S80x16.Idx → F .f32),
    At d i fullShare sumRef A ∗ At d i fullShare maxRef B ∗ At d i fullShare cntRef C
    ∗ ⌜(∀ y, (y 0).val < k → A y = FloatOps.ofBits .f32 0x00000000#32) ∧ (∀ y, (y 0).val < k → B y = FloatOps.ofBits .f32 0xFF7FFFFF#32) ∧
      ∀ y, (y 0).val < k → C y = FloatOps.ofBits .f32 0x00000000#32⌝)

/-- The counter of a loop from zero by one, as a number. -/
theorem iv_toNat (k : Nat) (hk : k < 2 ^ 32) : (Scf.iv 0#32 1#32 k).toNat = k := by
  show (0#32 + BitVec.ofNat 32 k * 1#32).toNat = k
  rw [BitVec.mul_one, BitVec.zero_add, BitVec.toNat_ofNat]; omega

/-- Clearing row `k`. -/
theorem clearRow_runs (k : Fin clearLoop.trips) (c : PUnit → Tile F i β) :
    Cleared d i sumRef maxRef cntRef k.val
      ⊢ iprop((Cleared d i sumRef maxRef cntRef (k.val + 1) -∗ Runs d i (c ⟨⟩) Q)
        -∗ Runs d i (clearRow i sumRef maxRef cntRef k >>= c) Q) := by
  have hk : k.val < 80 := k.isLt
  have ek : (Scf.iv 0#32 1#32 k.val).toNat = k.val := iv_toNat _ (by omega)
  unfold clearRow
  simp only [Prog.bind_assoc, Prog.bind_lift]
  unfold Cleared
  iintro ⟨%A, %B, %C, HA, HB, HC, %hABC⟩ Hk
  iapply (clearPart_runs d i sumRef maxRef Q (Scf.iv 0#32 1#32 k) 0 (k1_off5_inb k)) $$ [HA HB]
  · isplitl [HA] <;> iassumption
  iintro ⟨HA, HB⟩
  iapply (clearPart_runs d i sumRef maxRef Q (Scf.iv 0#32 1#32 k) 16 (k1_off6_inb k)) $$ [HA HB]
  · isplitl [HA] <;> iassumption
  iintro ⟨HA, HB⟩
  iapply (clearPart_runs d i sumRef maxRef Q (Scf.iv 0#32 1#32 k) 32 (k1_off7_inb k)) $$ [HA HB]
  · isplitl [HA] <;> iassumption
  iintro ⟨HA, HB⟩
  iapply (clearPart_runs d i sumRef maxRef Q (Scf.iv 0#32 1#32 k) 48 (k1_off8_inb k)) $$ [HA HB]
  · isplitl [HA] <;> iassumption
  iintro ⟨HA, HB⟩
  iapply (has_load Variants.none (thr d i) none) $$ HC
  iintro HC
  iapply (store_part d i C (fun _ _ => FloatOps.ofBits .f32 0x00000000#32) (fun _ => rfl)) $$ HC
  iintro HC
  iapply Hk
  obtain ⟨hA, hB, hC⟩ := hABC
  iexists _, _, _
  isplitl [HA]; · iexact HA
  isplitl [HB]; · iexact HB
  isplitl [HC]; · iexact HC
  ipureintro
  rw [ek]
  refine ⟨upd_rows _ _ A hA, upd_rows _ _ B hB, fun y hy => ?_⟩
  have h1 : (y 1).val < 16 := (y 1).isLt
  unfold upd
  by_cases h : (y 0).val < k.val
  · simp [hC y h]
  · rw [if_pos ⟨by omega, by omega, by omega⟩]

/-- Adding sixteen of a point's numbers to a row, and taking their maximum. -/
theorem addPart_runs (p r : BitVec 32) (j : Nat) (hp : InChunk p j) (h : In64 r j) (k : PUnit → Tile F i β) (X : S256x64.Idx → F .f32)
    (x : Nat → F .f32) (hx : ∀ y : S256x64.Idx, (y 0).val = p.toNat → X y = x (y 1).val) (A B : S80x64.Idx → F .f32) :
    iprop(At d i fullShare chunkRef X ∗ At d i fullShare sumRef A ∗ At d i fullShare maxRef B)
      ⊢ iprop((iprop(At d i fullShare chunkRef X ∗ At d i fullShare sumRef (upd r.toNat j (fun s c => FloatOps.addf s (x c)) A)
          ∗ At d i fullShare maxRef (upd r.toNat j (fun s c => FloatOps.maximumf s (x c)) B)) -∗ Runs d i (k ⟨⟩) Q)
        -∗ Runs d i (addPart i chunkRef sumRef maxRef p r j hp h >>= k) Q) := by
  have ex : ∀ l : S1x16.Idx, X ((rectChunk p j hp).emb l) = x ((rect64 r j h).emb l 1).val := fun l => by
    obtain ⟨e0, e1⟩ := part_row p j hp l
    obtain ⟨e2, e3⟩ := part_row r j h l
    rw [hx _ e0, e1, e3]
  unfold addPart
  simp only [Prog.bind_assoc, Prog.bind_lift]
  iintro ⟨HX, HA, HB⟩ Hk
  iapply (has_load Variants.none (thr d i) none) $$ HX
  iintro HX
  iapply (has_load Variants.none (thr d i) none) $$ HA
  iintro HA
  iapply (has_load Variants.none (thr d i) none) $$ HA
  iintro HA
  iapply (store_part d i A (fun s c => FloatOps.addf s (x c)) (fun l => by
    show FloatOps.addf (asRow (ofRow (fun y => A ((rect64 r j h).emb y))) l) (asRow (ofRow (fun y => X ((rectChunk p j hp).emb y))) l) = _
    rw [asRow_ofRow, asRow_ofRow, ex])) $$ HA
  iintro HA
  iapply (has_load Variants.none (thr d i) none) $$ HB
  iintro HB
  iapply (has_load Variants.none (thr d i) none) $$ HB
  iintro HB
  iapply (store_part d i B (fun s c => FloatOps.maximumf s (x c)) (fun l => by
    show FloatOps.maximumf (asRow (ofRow (fun y => B ((rect64 r j h).emb y))) l) (asRow (ofRow (fun y => X ((rectChunk p j hp).emb y))) l) = _
    rw [asRow_ofRow, asRow_ofRow, ex])) $$ HB
  iintro HB
  iapply Hk
  isplitl [HX]; · iexact HX
  isplitl [HA] <;> iassumption

/-- Counting a point in a row. -/
theorem addCount_runs (r : BitVec 32) (h : In16 r) (k : PUnit → Tile F i β) (C : S80x16.Idx → F .f32) :
    (At d i fullShare cntRef C : sProp (MM F U))
      ⊢ iprop((At d i fullShare cntRef (upd r.toNat 0 (fun s _ => FloatOps.addf s (FloatOps.ofBits .f32 0x3F800000#32)) C) -∗ Runs d i (k ⟨⟩) Q)
        -∗ Runs d i (addCount i cntRef r h >>= k) Q) := by
  unfold addCount
  simp only [Prog.bind_assoc, Prog.bind_lift]
  iintro HC Hk
  iapply (has_load Variants.none (thr d i) none) $$ HC
  iintro HC
  iapply (has_load Variants.none (thr d i) none) $$ HC
  iintro HC
  iapply (store_part d i C (fun s _ => FloatOps.addf s (FloatOps.ofBits .f32 0x3F800000#32)) (fun l => by
    show FloatOps.addf (asRow (ofRow (fun y => C ((rect16 r h).emb y))) l) (asRow ones l) = _
    rw [asRow_ofRow]; rfl)) $$ HC
  iintro HC
  iapply Hk
  iexact HC

end Pieces
end Cert.Proof.SegIdeal
-- ==== Proof.KI.Group.lean ====
/-
  A group of sixteen points run: each point of the slab is accumulated in its segment's row, the others skipped.
-/
module

public import proofs.«01_k».proof.Proof.KI.Acc

@[expose] public section

noncomputable section

namespace Cert.Proof.SegIdeal

open Cert.KernelIdeal
open Idealize.ShloMosaic
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]
open Facts₀ Facts
variable {U : Type} [URA U]
variable (d : Dev nD) (i : grid1.Coords)
variable (chunkRef : Memref sig .scVector .vmem S256x64 .f32) (idsRef : Memref sig .scVector .vmem S256 .i32)
variable (sumRef maxRef : Memref sig .scVector .vmem S80x64 .f32) (cntRef : Memref sig .scVector .vmem S80x16 .f32)
variable (ids : S320000.Idx → BitVec 32) (x : S320000x64.Idx → F .f32)

/-- Row `r` of the accumulators holds segment `t + r`, over the points before `P`. -/
def sumAt (t P : Nat) (y : S80x64.Idx) : F .f32 := segSum ids x (t + (y 0).val) (y 1).val P
/-- The maximum accumulator of the slab at `t` after `P` points. -/
def maxAt (t P : Nat) (y : S80x64.Idx) : F .f32 := segMax ids x (t + (y 0).val) (y 1).val P
/-- The count accumulator of the slab at `t` after `P` points. -/
def cntAt (t P : Nat) (y : S80x16.Idx) : F .f32 := segCnt ids (t + (y 0).val) P

/-- The accumulators, so. -/
def Accs (t P : Nat) : sProp (MM F U) :=
  iprop(At d i fullShare sumRef (sumAt ids x t P) ∗ At d i fullShare maxRef (maxAt ids x t P) ∗ At d i fullShare cntRef (cntAt ids t P))

variable {ids} (hg : Good ids)

/-- A point of no row of the slab changes nothing. -/
theorem accs_skip {t P P' : Nat} (h : P ≤ P') (hn : ∀ p, P ≤ p → p < P' → (idAt ids p).toNat < t ∨ t + 80 ≤ (idAt ids p).toNat) :
    (Accs d i sumRef maxRef cntRef ids x t P' : sProp (MM F U)) = Accs d i sumRef maxRef cntRef ids x t P := by
  have hne : ∀ (r : Nat), r < 80 → ∀ p, P ≤ p → p < P' → (idAt ids p).toNat ≠ t + r := fun r hr p h1 h2 => by
    have := hn p h1 h2; omega
  have e1 : sumAt ids x t P' = sumAt ids x t P := funext fun y => seg_skip _ _ _ h (hne _ (y 0).isLt)
  have e2 : maxAt ids x t P' = maxAt ids x t P := funext fun y => seg_skip _ _ _ h (hne _ (y 0).isLt)
  have e3 : cntAt (F := F) ids t P' = cntAt ids t P := funext fun y => seg_skip _ _ _ h (hne _ (y 0).isLt)
  unfold Accs
  rw [e1, e2, e3]

/-- A point of row `r`: the row's numbers replaced are the row's next ones. -/
theorem upd_row64 {t P r : Nat} (hr : (idAt ids P).toNat = t + r) (f : F .f32 → Nat → F .f32) (S : Nat → Nat → Nat → F .f32)
    (hS : ∀ g c, S g c (P + 1) = if (idAt ids P).toNat = g then f (S g c P) c else S g c P) :
    upd r 48 f (upd r 32 f (upd r 16 f (upd r 0 f fun y : S80x64.Idx => S (t + (y 0).val) (y 1).val P)))
      = fun y : S80x64.Idx => S (t + (y 0).val) (y 1).val (P + 1) := by
  funext y
  have h1 : (y 1).val < 64 := (y 1).isLt
  rw [hS]
  unfold upd
  by_cases e : (y 0).val = r
  · rw [if_pos (show (idAt ids P).toNat = t + (y 0).val by omega)]
    by_cases h48 : 48 ≤ (y 1).val
    · rw [if_pos ⟨e, h48, by omega⟩, if_neg (by omega), if_neg (by omega), if_neg (by omega)]
    by_cases h32 : 32 ≤ (y 1).val
    · rw [if_neg (by omega), if_pos ⟨e, h32, by omega⟩, if_neg (by omega), if_neg (by omega)]
    by_cases h16 : 16 ≤ (y 1).val
    · rw [if_neg (by omega), if_neg (by omega), if_pos ⟨e, h16, by omega⟩, if_neg (by omega)]
    · rw [if_neg (by omega), if_neg (by omega), if_neg (by omega), if_pos ⟨e, by omega, by omega⟩]
  · rw [if_neg (show ¬ (idAt ids P).toNat = t + (y 0).val by omega), if_neg (fun h => e h.1), if_neg (fun h => e h.1), if_neg (fun h => e h.1),
      if_neg (fun h => e h.1)]

/-- Adding one to the row of point `P` takes the counts from `P` points to one more. -/
theorem upd_row16 {t P r : Nat} (hr : (idAt ids P).toNat = t + r) :
    upd r 0 (fun s _ => FloatOps.addf s (FloatOps.ofBits .f32 0x3F800000#32)) (cntAt (F := F) ids t P) = cntAt ids t (P + 1) := by
  funext y
  have h1 : (y 1).val < 16 := (y 1).isLt
  unfold upd
  by_cases e : (y 0).val = r
  · rw [if_pos ⟨e, by omega, by omega⟩]
    unfold cntAt segCnt
    conv_rhs => rw [seg, if_pos (show (idAt ids P).toNat = t + (y 0).val by omega)]
  · rw [if_neg fun h => e h.1]
    unfold cntAt segCnt
    conv_rhs => rw [seg, if_neg (show ¬ (idAt ids P).toNat = t + (y 0).val by omega)]

variable {β : Type} (Q : β → sProp (MM F U))
include hg

/-- One point. -/
theorem lane_runs {c : BitVec 1} {t₀ w p : BitVec 32} {h₀ : InChunk p 0} {h₁ : InChunk p 16} {h₂ : InChunk p 32} {h₃ : InChunk p 48}
    {k : Tile F i β} {X : S256x64.Idx → F .f32} {P : Nat} (hP : P < 320000)
    (hc : c = 1#1 ↔ pos ids t₀.toNat ≤ P ∧ P < pos ids (t₀.toNat + 80)) (hw : w = idAt ids P)
    (hX : ∀ y : S256x64.Idx, (y 0).val = p.toNat → X y = encAt x P (y 1).val) :
    iprop(At d i fullShare chunkRef X ∗ Accs d i sumRef maxRef cntRef ids x t₀.toNat P)
      ⊢ iprop((iprop(At d i fullShare chunkRef X ∗ Accs d i sumRef maxRef cntRef ids x t₀.toNat (P + 1)) -∗ Runs d i k Q)
        -∗ Runs d i (lane i chunkRef sumRef maxRef cntRef c t₀ w p h₀ h₁ h₂ h₃ k) Q) := by
  unfold lane
  by_cases h : c = 1#1
  · rw [dif_pos h]
    obtain ⟨l1, l2⟩ := hc.mp h
    have g1 : t₀.toNat ≤ (idAt ids P).toNat := by
      have := (hg.lt_pos (t := t₀.toNat) hP).not; omega
    have g2 : (idAt ids P).toNat < t₀.toNat + 80 := (hg.lt_pos hP).mp l2
    have er : (Scalar.subi w t₀).toNat = (idAt ids P).toNat - t₀.toNat := by rw [hw]; exact sub_toNat g1
    have hok : RowOk c t₀ w := by
      have h64 : ∀ j, j ≤ 48 → In64 (Scalar.subi w t₀) j := fun j hj a => by
        fin_cases a
        · show (Scalar.subi w t₀).toNat + 1 ≤ 80; omega
        · show j + 16 ≤ 64; omega
      refine ⟨fun _ => h64 _ (by decide), fun _ => h64 _ (by decide), fun _ => h64 _ (by decide), fun _ => h64 _ (by decide), fun _ a => ?_⟩
      fin_cases a
      · show (Scalar.subi w t₀).toNat + 1 ≤ 80; omega
      · show 0 + 16 ≤ 16; omega
    have hr : (idAt ids P).toNat = t₀.toNat + (Scalar.subi w t₀).toNat := by omega
    have e1 := upd_row64 (F := F) hr (fun s c => FloatOps.addf s (encAt x P c)) (segSum ids x) (fun _ _ => rfl)
    have e2 := upd_row64 (F := F) hr (fun s c => FloatOps.maximumf s (encAt x P c)) (segMax ids x) (fun _ _ => rfl)
    have e3 := upd_row16 (F := F) hr
    simp only [Prog.bind_assoc, Prog.bind_lift]
    unfold Accs
    iintro ⟨HX, HA, HB, HC⟩ Hk
    iapply (assume_runs d i hok)
    iapply (addPart_runs d i chunkRef sumRef maxRef Q p _ 0 _ _ _ X (encAt x P) hX) $$ [HX HA HB]
    · isplitl [HX]; · iexact HX
      isplitl [HA] <;> iassumption
    iintro ⟨HX, HA, HB⟩
    iapply (addPart_runs d i chunkRef sumRef maxRef Q p _ 16 _ _ _ X (encAt x P) hX) $$ [HX HA HB]
    · isplitl [HX]; · iexact HX
      isplitl [HA] <;> iassumption
    iintro ⟨HX, HA, HB⟩
    iapply (addPart_runs d i chunkRef sumRef maxRef Q p _ 32 _ _ _ X (encAt x P) hX) $$ [HX HA HB]
    · isplitl [HX]; · iexact HX
      isplitl [HA] <;> iassumption
    iintro ⟨HX, HA, HB⟩
    iapply (addPart_runs d i chunkRef sumRef maxRef Q p _ 48 _ _ _ X (encAt x P) hX) $$ [HX HA HB]
    · isplitl [HX]; · iexact HX
      isplitl [HA] <;> iassumption
    iintro ⟨HX, HA, HB⟩
    iapply (addCount_runs d i cntRef Q _ _ _ _) $$ HC
    iintro HC
    iapply Hk
    isplitl [HX]; · iexact HX
    isplitl [HA]
    · iapply (Entails.of_eq (congrArg (fun A => (At d i fullShare sumRef A : sProp (MM F U))) e1)); iexact HA
    isplitl [HB]
    · iapply (Entails.of_eq (congrArg (fun A => (At d i fullShare maxRef A : sProp (MM F U))) e2)); iexact HB
    · iapply (Entails.of_eq (congrArg (fun A => (At d i fullShare cntRef A : sProp (MM F U))) e3)); iexact HC
  · rw [dif_neg h, accs_skip (U := U) d i sumRef maxRef cntRef x (P := P) (P' := P + 1) (by omega)]
    · iintro H Hk
      iapply Hk; iexact H
    · intro q h1 h2
      have e : q = P := by omega
      subst e
      have a1 := hg.lt_pos (t := t₀.toNat) hP
      have a2 := hg.lt_pos (t := t₀.toNat + 80) hP
      by_cases h3 : (idAt ids q).toNat < t₀.toNat
      · exact .inl h3
      · right
        by_contra h4
        exact h (hc.mpr ⟨by omega, by omega⟩)

/-- Some points of a group, one after another. -/
theorem lanes_runs {t₀ lo hi base : BitVec 32} (hlo : lo.toNat = pos ids t₀.toNat) (hhi : hi.toNat = pos ids (t₀.toNat + 80))
    (g : Fin groupLoop.trips) (hb : base.toNat + 256 ≤ 320000) {v : IVec S16 32}
    (hv : ∀ l : Fin 16, v (ix1 l) = idAt ids (base.toNat + 16 * g.val + l.val)) {X : S256x64.Idx → F .f32}
    (hX : ∀ y : S256x64.Idx, X y = encAt x (base.toNat + (y 0).val) (y 1).val) (c : Tile F i β) :
    ∀ (ls : List (Fin 16)) (n : Nat), ls.map Fin.val = List.range' n ls.length →
    iprop(At d i fullShare chunkRef X ∗ Accs d i sumRef maxRef cntRef ids x t₀.toNat (base.toNat + 16 * g.val + n))
      ⊢ iprop((iprop(At d i fullShare chunkRef X ∗ Accs d i sumRef maxRef cntRef ids x t₀.toNat (base.toNat + 16 * g.val + (n + ls.length)))
            -∗ Runs d i c Q)
        -∗ Runs d i (lanes i chunkRef sumRef maxRef cntRef t₀ lo hi base g v c ls) Q)
  | [], n, _ => by
    unfold lanes
    iintro H Hk
    iapply Hk; iexact H
  | l :: ls, n, hl => by
    have hg16 : g.val < 16 := g.isLt
    have hl16 : l.val < 16 := l.isLt
    simp only [List.map_cons, List.length_cons, List.range'_succ, List.cons.injEq] at hl
    obtain ⟨hn, hls⟩ := hl
    subst hn
    have er : (groupRow g).toNat = 16 * g.val := by
      have e : (Scf.iv 0#32 1#32 g.val).toNat = g.val := iv_toNat _ (by omega)
      unfold groupRow
      rw [mul_toNat (by rw [e]; show g.val * 16 < _; omega), e]; show g.val * 16 = _; omega
    have el : (BitVec.ofNat 32 l.val).toNat = l.val := by rw [BitVec.toNat_ofNat]; omega
    have ep : (Scalar.addi (groupRow g) (BitVec.ofNat 32 l.val)).toNat = 16 * g.val + l.val := by
      rw [add_toNat (by omega), er, el]
    have eq : (point base g l).toNat = base.toNat + 16 * g.val + l.val := by
      unfold point
      have e1 : (Scalar.addi base (groupRow g)).toNat = base.toNat + 16 * g.val := by rw [add_toNat (by omega), er]
      rw [add_toNat (by omega), e1, el]
    have hp := pos_le ids t₀.toNat
    have hp' := pos_le ids (t₀.toNat + 80)
    unfold lanes
    iintro H Hk
    iapply (lane_runs d i chunkRef sumRef maxRef cntRef x hg Q (P := base.toNat + 16 * g.val + l.val) (by omega)
      (by rw [within_iff (by omega) (by omega) (by omega), eq, hlo, hhi])
      (by rw [← hv l]; exact congrArg v (funext fun a => Fin.ext (by fin_cases a; show l.val + 0 = l.val; omega)))
      (fun y hy => by rw [hX y, hy, ep, Nat.add_assoc])) $$ H
    iintro H
    iapply (lanes_runs hlo hhi g hb hv hX c ls (l.val + 1) hls) $$ H
    iintro H
    iapply Hk
    iapply (Entails.of_eq (congrArg (fun n => iprop(At d i fullShare chunkRef X
      ∗ Accs (U := U) d i sumRef maxRef cntRef ids x t₀.toNat (base.toNat + 16 * g.val + n)))
      (show l.val + 1 + ls.length = l.val + (l :: ls).length by simp only [List.length_cons]; omega)))
    iexact H

/-- A group of sixteen points. -/
theorem group_runs {t₀ lo hi base : BitVec 32} (hlo : lo.toNat = pos ids t₀.toNat) (hhi : hi.toNat = pos ids (t₀.toNat + 80))
    (g : Fin groupLoop.trips) (hb : base.toNat + 256 ≤ 320000) {Y : S256.Idx → BitVec 32}
    (hY : ∀ y : S256.Idx, Y y = idAt ids (base.toNat + (y 0).val)) {X : S256x64.Idx → F .f32}
    (hX : ∀ y : S256x64.Idx, X y = encAt x (base.toNat + (y 0).val) (y 1).val) (Q : BitVec 32 → sProp (MM F U)) :
    iprop(At d i fullShare chunkRef X ∗ At d i fullShare idsRef Y ∗ Accs d i sumRef maxRef cntRef ids x t₀.toNat (base.toNat + 16 * g.val))
      ⊢ iprop((∀ v, iprop(At d i fullShare chunkRef X ∗ At d i fullShare idsRef Y
              ∗ Accs d i sumRef maxRef cntRef ids x t₀.toNat (base.toNat + 16 * (g.val + 1))) -∗ Q v)
        -∗ Runs d i (group i chunkRef idsRef sumRef maxRef cntRef t₀ lo hi base g) Q) := by
  have hg16 : g.val < 16 := g.isLt
  have er : (Scalar.indexCast (groupRow g) : Index).toNat = 16 * g.val := by
    revert g; decide
  unfold group
  simp only [Prog.bind_lift]
  iintro ⟨HX, HY, HA⟩ Hk
  iapply (has_load Variants.none (thr d i) none) $$ HY
  iintro HY
  iapply (lanes_runs d i chunkRef sumRef maxRef cntRef x hg Q hlo hhi g hb (X := X) (v := shapeCast S16 _ shapeCasts_S16_S16) ?_ hX (pure 0#32)
    [0, 1, 2, 3, 4, 5, 6, 7, 8, 9, 10, 11, 12, 13, 14, 15] 0 rfl) $$ [HX HA]
  · intro l
    rw [shapeCast_self, hY]
    congr 1
    show base.toNat + ((Scalar.indexCast (groupRow g) : Index).toNat + 1 * l.val) = _
    omega
  · isplitl [HX] <;> iassumption
  iintro ⟨HX, HA⟩
  iapply (pure_runs d i)
  iapply Hk
  isplitl [HX]; · iexact HX
  isplitl [HY]; · iexact HY
  iexact HA

end Cert.Proof.SegIdeal
-- ==== Proof.KI.Slab.lean ====
/-
  The search, a chunk and a slab of 80 segments run, and with them the tile's whole task: the tile's 320 rows of the
  results hold its segments' sums, maxima and counts.
-/
module

public import proofs.«01_k».proof.Proof.KI.Group

@[expose] public section

noncomputable section

namespace Cert.Proof.SegIdeal

open Cert.KernelIdeal
open Idealize.ShloMosaic
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]
open Facts₀ Facts
variable {U : Type} [URA U] [CountersIn U]
variable (d : Dev nD) (i : grid1.Coords)
variable {β : Type} {Q : β → sProp (MM F U)}

/-- A loop. -/
theorem loop_runs {σ : Type} {l : Scf.Loop 32} {hok : l.OK} {init : σ} {body : Fin l.trips → σ → Tile F i σ}
    (I : Nat → σ → sProp (MM F U)) (hbody : ∀ (k : Fin l.trips) (acc : σ), I k.val acc ⊢ Runs d i (body k acc) (I (k.val + 1)))
    {kk : σ → Tile F i β} :
    I 0 init ⊢ iprop((∀ acc, I l.trips acc -∗ Runs d i (kk acc) Q) -∗ Runs d i (Scf.Loop.for l hok init body >>= kk) Q) :=
  Scf.wp_for_bind _ _ _ l.lb l.ub l.st hok init body I hbody

variable (O : CellTallies nD τ sig (SparseCore.Cfg.HIx 1)) (W : Waits sig (SparseCore.Cfg.HIx 1))

/-- What the tile's thread has promised, and that its waits are allowed. -/
def Led : sProp (MM F U) := iprop(MayWaits (thr d i) (none : SparseCore.Cfg.HIx 1) O ∗ Owe (thr d i) O W)

/-- The semaphore of the tile's at zero. -/
abbrev Zero (s : DmaSems sig S_) : sProp (MM F U) := semVal (thr d i, SemLoc.dma s.sem) 0

/-- A part of an array copied to a buffer of the tile's. -/
theorem copyIn_runs {sp sp' : Space} {s : Shape} {e : EltTy} {r : Rect s} {m : Memref sig .scVector sp s e} {hr : ∀ a, r.stride a = 1}
    {dst : Memref sig .scVector sp' r.shape e} {sem : DmaSems sig S_}
    {h₁ : (m.slice r hr).view.WordExact} {h₂ : dst.view.WordExact} {h₃ : DmaTarget.Typed (nD := nD) (p := (thr d i).2) sp (.dma sem.sem) (.here dst)}
    {h₄ : (m.slice r hr).view.WordExact} {h₅ : dst.view.WordExact} {k : PUnit → Tile F i β} {q : PosShare TreeShare}
    {X : s.Idx → Elt F e} {Y : r.shape.Idx → Elt F e} (hn : 0 < r.shape.numel) :
    iprop(Led d i O W ∗ At d i q m X ∗ At d i fullShare dst Y ∗ Zero d i sem)
      ⊢ iprop((iprop(Led d i O W ∗ At d i q m X ∗ (At d i fullShare dst fun y => X (r.emb y)) ∗ Zero d i sem) -∗ Runs d i (k ⟨⟩) Q)
        -∗ Runs d i (.op (.enqueueDma (m.slice r hr) (.here dst) (.dma sem.sem) h₁ h₂ h₃) fun _ =>
          .op (.waitDma2 sem.sem (m.slice r hr) dst h₄ h₅) k) Q) := by
  unfold Led
  iintro ⟨⟨#HM, HO⟩, HX, HY, HZ⟩ Hk
  ihave HX' := (has_slice (thr d i) (q := q) (m := m) (X := X) r hr) $$ HX
  icases HX' with ⟨HX, Hback⟩
  iapply (has_copy (c := thr d i) Variants.none none hn) $$ [HX HY HZ HO]
  · isplitr; · iexact HM
    isplitl [HX]; · iexact HX
    isplitl [HY]; · iexact HY
    isplitl [HZ]; · iexact HZ
    iexact HO
  iintro ⟨HX, HY, HZ, HO⟩
  iapply Hk
  isplitl [HO]
  · isplitr; · iexact HM
    iexact HO
  isplitl [HX Hback]
  · iapply Hback; iexact HX
  isplitl [HY]; · iexact HY
  iexact HZ

section Search
variable (idsM : Memref sig .scVector .hbm S320000 .i32)
variable (probe : Memref sig .scVector .vmem S16 .i32) (hprobe : probe.IsWhole)
variable {ids : S320000.Idx → BitVec 32} (hg : Good ids) (q : PosShare TreeShare)

/-- What the search works with. -/
def Probing (s : DmaSems sig S_) : sProp (MM F U) :=
  iprop(Led d i O W ∗ At d i q idsM ids ∗ (∃ Y : S16.Idx → BitVec 32, At d i fullShare probe Y) ∗ Zero d i s)

/-- A block of ids is the ids from its first point on. -/
theorem block_at {b : BitVec 32} (hb : b.toNat < 20000) (h : BlockOk b) (l : Fin 16) :
    ids ((Rect.unit (s := S320000) (blockOff b) S16.size h.2).emb (ix1 l)) = idAt ids (16 * b.toNat + l.val) := by
  have hl := l.isLt
  unfold idAt
  rw [dif_pos (by omega)]
  congr 1
  funext a
  apply Fin.ext
  fin_cases a
  show (Scalar.muli b 16#32).toNat + 1 * l.val = 16 * b.toNat + l.val
  rw [blockOff_val hb]; omega

include hg

/-- One trip of the search. -/
theorem searchStep_runs (s : DmaSems sig S_) {t : BitVec 32} (ht : t.toNat < 2 ^ 31) (k : Nat) (hk : k < 15) (r : BitVec 32 × BitVec 32) :
    iprop(Probing (U := U) (F := F) d i O W idsM probe (ids := ids) q s ∗ ⌜Range ids t.toNat k r⌝)
      ⊢ Runs d i (searchStep i idsM probe hprobe s t r)
        fun r => iprop(Probing d i O W idsM probe (ids := ids) q s ∗ ⌜Range ids t.toNat (k + 1) r⌝) := by
  unfold searchStep fetch Probing
  simp only [Prog.bind_assoc, Prog.bind_lift]
  iintro ⟨⟨HL, HI, ⟨%Y, HP⟩, HZ⟩, %hr⟩
  iapply (assume_runs d i (blockOk hr.mid_lt))
  iapply (copyIn_runs d i O W (show 0 < S16.numel by decide)) $$ [HL HI HP HZ]
  · isplitl [HL]; · iexact HL
    isplitl [HI]; · iexact HI
    isplitl [HP]; · iexact HP
    iexact HZ
  iintro ⟨HL, HI, HP, HZ⟩
  iapply (has_load Variants.none (thr d i) none) $$ HP
  iintro HP
  iapply (pure_runs d i)
  isplitl [HL HI HP HZ]
  · isplitl [HL]; · iexact HL
    isplitl [HI]; · iexact HI
    isplitl [HP]; · iexists _; iexact HP
    iexact HZ
  · ipureintro
    refine hr.step hg ht hk ?_
    refine Eq.trans ?_ (block_at (ids := ids) hr.mid_lt (blockOk hr.mid_lt) 0)
    rw [shapeCast_self]
    exact congrArg ids (funext fun a => Fin.ext (by fin_cases a; rfl))

/-- The search: it finds where the segment's points begin. -/
theorem lowerBound_runs (s₀ s₁ : DmaSems sig S_) {t : BitVec 32} (ht : t.toNat < 2 ^ 31)
    (k : BitVec 32 × BitVec 32 → Vec F S16 .i32 → Tile F i β) :
    iprop(Probing (U := U) (F := F) d i O W idsM probe (ids := ids) q s₀ ∗ Zero d i s₁)
      ⊢ iprop((∀ r v, iprop(⌜(found t r v).toNat = pos ids t.toNat⌝ ∗ Probing d i O W idsM probe (ids := ids) q s₀ ∗ Zero d i s₁)
            -∗ Runs d i (k r v) Q)
        -∗ Runs d i (lowerBound i idsM probe hprobe s₀ s₁ t k) Q) := by
  unfold lowerBound
  simp only [Prog.bind_assoc, Prog.bind_lift]
  iintro ⟨HP, HZ₁⟩ Hk
  iapply (loop_runs d i (l := searchLoop) (fun k r => iprop(Probing (U := U) (F := F) d i O W idsM probe (ids := ids) q s₀ ∗ ⌜Range ids t.toNat k r⌝))
    (fun n r => searchStep_runs d i O W idsM probe hprobe hg q s₀ ht n.val n.isLt r)) $$ [HP]
  · isplitl [HP]; · iexact HP
    ipureintro; exact range_zero _
  iintro %r ⟨HP, %hr⟩
  have hr' : Range ids t.toNat 15 r := hr
  have hlt : r.1.toNat < 20000 := by have := hr'.lt; have := hr'.le; omega
  unfold Probing
  icases HP with ⟨HL, HI, ⟨%Y, HP⟩, HZ⟩
  iapply (assume_runs d i (blockOk hlt))
  iapply (copyIn_runs d i O W (show 0 < S16.numel by decide)) $$ [HL HI HP HZ₁]
  · isplitl [HL]; · iexact HL
    isplitl [HI]; · iexact HI
    isplitl [HP]; · iexact HP
    iexact HZ₁
  iintro ⟨HL, HI, HP, HZ₁⟩
  iapply (has_load Variants.none (thr d i) none) $$ HP
  iintro HP
  iapply Hk
  isplitr
  · ipureintro
    unfold found
    refine hr'.found hg ht fun l => ?_
    refine Eq.trans ?_ (block_at (ids := ids) hlt (blockOk hlt) l)
    rw [shapeCast_self]
    exact congrArg ids (funext fun a => Fin.ext (by
      fin_cases a
      show (Scalar.muli r.1 16#32).toNat + 1 * (0 + 1 * l.val) = (Scalar.muli r.1 16#32).toNat + 1 * l.val
      omega))
  isplitl [HL HI HP HZ]
  · isplitl [HL]; · iexact HL
    isplitl [HI]; · iexact HI
    isplitl [HP]; · iexists _; iexact HP
    iexact HZ
  · iexact HZ₁

end Search

section Chunks
variable (chunkRef : Memref sig .scVector .vmem S256x64 .f32) (idsRef : Memref sig .scVector .vmem S256 .i32)
variable (sumRef maxRef : Memref sig .scVector .vmem S80x64 .f32) (cntRef : Memref sig .scVector .vmem S80x16 .f32)
variable (encsM : Memref sig .scVector .hbm S320000x64 .f32) (idsM : Memref sig .scVector .hbm S320000 .i32)
variable (hchunk : chunkRef.IsWhole) (hids : idsRef.IsWhole)
variable (probe : Memref sig .scVector .vmem S16 .i32) (hprobe : probe.IsWhole)
variable (sums maxs : Memref sig .scVector .hbm S10240x64 .f32) (cnts : Memref sig .scVector .hbm S10240x16 .f32)
variable {ids : S320000.Idx → BitVec 32} (hg : Good ids) (x : S320000x64.Idx → F .f32) (q q' : PosShare TreeShare)

/-- What the accumulation of chunks works with, but for its accumulators. -/
def Chunking (s₀ s₁ : DmaSems sig S_) : sProp (MM F U) :=
  iprop(Led d i O W ∗ At d i q idsM ids ∗ At d i q' encsM x ∗ (∃ X : S256x64.Idx → F .f32, At d i fullShare chunkRef X)
    ∗ (∃ Y : S256.Idx → BitVec 32, At d i fullShare idsRef Y) ∗ Zero d i s₀ ∗ Zero d i s₁)

include hg in
/-- A chunk: its 256 points. -/
theorem chunk_runs (s₀ s₁ : DmaSems sig S_) {t₀ lo hi : BitVec 32} (hlo : lo.toNat = pos ids t₀.toNat)
    (hhi : hi.toNat = pos ids (t₀.toNat + 80)) (k : Nat) (hk : k < (mainLoop lo hi).trips)
    (h64 : ChunkIn64 (mainLoop lo hi) ⟨k, hk⟩) (h : ChunkIn (mainLoop lo hi) ⟨k, hk⟩) :
    iprop(Chunking (ids := ids) d i O W chunkRef idsRef encsM idsM x q q' s₀ s₁
        ∗ Accs (U := U) d i sumRef maxRef cntRef ids x t₀.toNat (256 * (lo.toNat / 256 + k)))
      ⊢ Runs d i (chunk i chunkRef idsRef sumRef maxRef cntRef encsM idsM hchunk hids s₀ s₁ t₀ lo hi (mainLoop lo hi) ⟨k, hk⟩ h64 h)
        fun _ => iprop(Chunking (ids := ids) d i O W chunkRef idsRef encsM idsM x q q' s₀ s₁
          ∗ Accs (U := U) d i sumRef maxRef cntRef ids x t₀.toNat (256 * (lo.toNat / 256 + (k + 1)))) := by
  have hle : lo.toNat ≤ hi.toNat := by rw [hlo, hhi]; exact hg.pos_mono (by omega)
  have hh : hi.toNat ≤ 320000 := by rw [hhi]; exact pos_le _ _
  have hb := chunkBase_toNat hle hh hk
  have ht := main_trips hle hh
  have hb' : (chunkBase (mainLoop lo hi) ⟨k, hk⟩).toNat + 256 ≤ 320000 := by rw [hb]; omega
  unfold chunk fetchChunk Chunking
  simp only [Prog.bind_assoc, Prog.bind_lift]
  iintro ⟨⟨HL, HI, HE, ⟨%X, HX⟩, ⟨%Y, HY⟩, HZ₀, HZ₁⟩, HA⟩
  iapply (copyIn_runs d i O W (show 0 < S256x64.numel by decide)) $$ [HL HE HX HZ₀]
  · isplitl [HL]; · iexact HL
    isplitl [HE]; · iexact HE
    isplitl [HX]; · iexact HX
    iexact HZ₀
  iintro ⟨HL, HE, HX, HZ₀⟩
  iapply (copyIn_runs d i O W (show 0 < S256.numel by decide)) $$ [HL HI HY HZ₁]
  · isplitl [HL]; · iexact HL
    isplitl [HI]; · iexact HI
    isplitl [HY]; · iexact HY
    iexact HZ₁
  iintro ⟨HL, HI, HY, HZ₁⟩
  iapply (loop_runs d i (l := groupLoop) (fun g _ => iprop(At d i fullShare chunkRef
        (fun y : S256x64.Idx => x ((Rect.unit (s := S320000x64) ![(chunkBase (mainLoop lo hi) ⟨k, hk⟩).toNat, 0] S256x64.size h64).emb y))
      ∗ At d i fullShare idsRef
        (fun y : S256.Idx => ids ((Rect.unit (s := S320000) ![(chunkBase (mainLoop lo hi) ⟨k, hk⟩).toNat] S256.size h).emb y))
      ∗ Accs d i sumRef maxRef cntRef ids x t₀.toNat ((chunkBase (mainLoop lo hi) ⟨k, hk⟩).toNat + 16 * g))) ?_) $$ [HX HY HA]
  · intro g v
    iintro H
    iapply (group_runs d i chunkRef idsRef sumRef maxRef cntRef x hg hlo hhi g hb' ?_ ?_) $$ H
    · intro y
      have hy : (y 0).val < 256 := (y 0).isLt
      unfold idAt
      rw [dif_pos (by omega)]
      refine congrArg ids (funext fun a => Fin.ext ?_)
      fin_cases a
      show (chunkBase (mainLoop lo hi) ⟨k, hk⟩).toNat + 1 * (y 0).val = (chunkBase (mainLoop lo hi) ⟨k, hk⟩).toNat + (y 0).val
      omega
    · intro y
      have hy : (y 0).val < 256 := (y 0).isLt
      have hy1 : (y 1).val < 64 := (y 1).isLt
      unfold encAt
      rw [dif_pos ⟨by omega, hy1⟩]
      refine congrArg x (funext fun a => Fin.ext ?_)
      fin_cases a
      · show (chunkBase (mainLoop lo hi) ⟨k, hk⟩).toNat + 1 * (y 0).val = (chunkBase (mainLoop lo hi) ⟨k, hk⟩).toNat + (y 0).val
        omega
      · show 0 + 1 * (y 1).val = (y 1).val
        omega
    iintro %v H
    iexact H
  · isplitl [HX]; · iexact HX
    isplitl [HY]; · iexact HY
    iapply (Entails.of_eq (congrArg (Accs (U := U) d i sumRef maxRef cntRef ids x t₀.toNat)
      (show 256 * (lo.toNat / 256 + k) = (chunkBase (mainLoop lo hi) ⟨k, hk⟩).toNat + 16 * 0 by rw [hb]; omega)))
    iexact HA
  iintro %v ⟨HX, HY, HA⟩
  iapply (pure_runs d i)
  isplitr [HA]
  · isplitl [HL]; · iexact HL
    isplitl [HI]; · iexact HI
    isplitl [HE]; · iexact HE
    isplitl [HX]; · iexists _; iexact HX
    isplitl [HY]; · iexists _; iexact HY
    isplitl [HZ₀]; · iexact HZ₀
    iexact HZ₁
  · iapply (Entails.of_eq (congrArg (Accs (U := U) d i sumRef maxRef cntRef ids x t₀.toNat)
      (show (chunkBase (mainLoop lo hi) ⟨k, hk⟩).toNat + 16 * Scf.Loop.trips groupLoop = 256 * (lo.toNat / 256 + (k + 1)) by
        rw [hb, show Scf.Loop.trips groupLoop = 16 by decide]; omega)))
    iexact HA

/-- What a slab works with. -/
def Work : sProp (MM F U) :=
  iprop(Led d i O W ∗ At d i q idsM ids ∗ At d i q' encsM x ∗ (∃ Y : S16.Idx → BitVec 32, At d i fullShare probe Y)
    ∗ (∃ X : S256x64.Idx → F .f32, At d i fullShare chunkRef X) ∗ (∃ Y : S256.Idx → BitVec 32, At d i fullShare idsRef Y)
    ∗ (∃ A : S80x64.Idx → F .f32, At d i fullShare sumRef A) ∗ (∃ B : S80x64.Idx → F .f32, At d i fullShare maxRef B)
    ∗ ∃ C : S80x16.Idx → F .f32, At d i fullShare cntRef C)

/-- A slab's semaphores at zero. -/
def Zeros (s : Sems) : sProp (MM F U) :=
  iprop(Zero d i s.search ∗ Zero d i s.found ∗ Zero d i s.chunk₀ ∗ Zero d i s.chunk₁ ∗ Zero d i s.rest₀ ∗ Zero d i s.rest₁
    ∗ Zero d i s.sum ∗ Zero d i s.max ∗ Zero d i s.cnt)

/-- The slab's rows of the results, with whatever they hold; and holding the segments' sums, maxima and counts. -/
def OutAny (t₀ : BitVec 32) (h64 : OutIn64 t₀) (h16 : OutIn16 t₀) : sProp (MM F U) :=
  iprop((∃ A : S80x64.Idx → F .f32, At d i fullShare (out64 sums t₀ h64) A) ∗ (∃ B : S80x64.Idx → F .f32, At d i fullShare (out64 maxs t₀ h64) B)
    ∗ ∃ C : S80x16.Idx → F .f32, At d i fullShare (out16 cnts t₀ h16) C)
variable (ids) in
/-- A slab's rows of the three pooled arrays, pooled over all the points. -/
def Out (t₀ : BitVec 32) (h64 : OutIn64 t₀) (h16 : OutIn16 t₀) : sProp (MM F U) :=
  iprop(At d i fullShare (out64 sums t₀ h64) (sumAt ids x t₀.toNat 320000) ∗ At d i fullShare (out64 maxs t₀ h64) (maxAt ids x t₀.toNat 320000)
    ∗ At d i fullShare (out16 cnts t₀ h16) (cntAt ids t₀.toNat 320000))

/-- The accumulators cleared hold the segments' values over no points. -/
theorem cleared_accs {t P k : Nat} (hk : k = 80) (hn : ∀ p, p < P → (idAt ids p).toNat < t) :
    (Cleared d i sumRef maxRef cntRef k : sProp (MM F U)) ⊢ Accs d i sumRef maxRef cntRef ids x t P := by
  have hne : ∀ (r : Nat) p, 0 ≤ p → p < P → (idAt ids p).toNat ≠ t + r := fun r p h1 h2 => by
    have := hn p h2; omega
  subst hk
  unfold Cleared
  iintro ⟨%A, %B, %C, HA, HB, HC, %h⟩
  obtain ⟨hA, hB, hC⟩ := h
  have e1 : A = sumAt ids x t P := funext fun y => (hA y (y 0).isLt).trans (seg_skip _ _ _ (Nat.zero_le P) (hne _)).symm
  have e2 : B = maxAt ids x t P := funext fun y => (hB y (y 0).isLt).trans (seg_skip _ _ _ (Nat.zero_le P) (hne _)).symm
  have e3 : C = cntAt ids t P := funext fun y => (hC y (y 0).isLt).trans (seg_skip _ _ _ (Nat.zero_le P) (hne _)).symm
  subst e1 e2 e3
  unfold Accs
  isplitl [HA]; · iexact HA
  isplitl [HB] <;> iassumption

/-- All of an accumulator is the accumulator. -/
theorem all64 (A : S80x64.Idx → F .f32) :
    (fun y => A ((Rect.unit (s := S80x64) ![0, 0] S80x64.size inb_S80x64_S80x64_0_0).emb y)) = A := by
  funext y
  refine congrArg A (funext fun a => Fin.ext ?_)
  fin_cases a
  · show 0 + 1 * (y 0).val = (y 0).val; omega
  · show 0 + 1 * (y 1).val = (y 1).val; omega
/-- The whole count accumulator, read through the copy's name for it. -/
theorem all16 (A : S80x16.Idx → F .f32) :
    (fun y => A ((Rect.unit (s := S80x16) ![0, 0] S80x16.size inb_S80x16_S80x16_0_0).emb y)) = A := by
  funext y
  refine congrArg A (funext fun a => Fin.ext ?_)
  fin_cases a
  · show 0 + 1 * (y 0).val = (y 0).val; omega
  · show 0 + 1 * (y 1).val = (y 1).val; omega

include hg in
/-- A slab once the first point past it is found. -/
theorem slabRest_runs (s : Sems) {t₀ lo hi : BitVec 32} (hlo : lo.toNat = pos ids t₀.toNat) (hf : hi.toNat = pos ids (t₀.toNat + 80))
    (ho64 : OutIn64 t₀) (ho16 : OutIn16 t₀) (c : BitVec 32 → Tile F i β) :
    iprop(Work (ids := ids) d i O W chunkRef idsRef sumRef maxRef cntRef encsM idsM probe x q q' ∗ Zeros d i s ∗ OutAny d i sums maxs cnts t₀ ho64 ho16)
      ⊢ iprop((iprop(Work (ids := ids) d i O W chunkRef idsRef sumRef maxRef cntRef encsM idsM probe x q q' ∗ Zeros d i s
            ∗ Out d i sums maxs cnts ids x t₀ ho64 ho16) -∗ Runs d i (c hi) Q)
        -∗ Runs d i (slabRest i chunkRef idsRef sumRef maxRef cntRef encsM idsM hchunk hids sums maxs cnts s t₀ lo hi ho64 ho16 c) Q) := by
  have hle : lo.toNat ≤ hi.toNat := by rw [hlo, hf]; exact hg.pos_mono (by omega)
  have hh : hi.toNat ≤ 320000 := by rw [hf]; exact pos_le _ _
  have hmt := main_trips hle hh
  unfold slabRest Work Zeros OutAny
  iintro ⟨⟨HL, HI, HE, HP, HX, HY, ⟨%A, HA⟩, ⟨%B, HB⟩, ⟨%C, HC⟩⟩, ⟨Z1, Z2, Z3, Z4, Z5, Z6, Z7, Z8, Z9⟩, ⟨%A', HA'⟩, ⟨%B', HB'⟩, ⟨%C', HC'⟩⟩ Hk
  simp only [Prog.bind_assoc, Prog.bind_lift]
  iapply (assume_runs d i (slabOk hle hh))
  iapply (loop_runs d i (l := clearLoop) (fun k _ => Cleared d i sumRef maxRef cntRef k) ?_) $$ [HA HB HC]
  · intro k _
    iintro H
    iapply (clearRow_runs d i sumRef maxRef cntRef _ k) $$ H
    iintro H
    iapply (pure_runs d i)
    iexact H
  · unfold Cleared
    iexists A, B, C
    isplitl [HA]; · iexact HA
    isplitl [HB]; · iexact HB
    isplitl [HC]; · iexact HC
    ipureintro
    exact ⟨fun y h => absurd h (Nat.not_lt_zero _), fun y h => absurd h (Nat.not_lt_zero _), fun y h => absurd h (Nat.not_lt_zero _)⟩
  iintro %_ HA
  ihave HA := (cleared_accs (ids := ids) d i sumRef maxRef cntRef x (t := t₀.toNat) (P := 256 * (lo.toNat / 256 + 0))
    (show Scf.Loop.trips clearLoop = 80 by decide) (fun p hp => (hg.lt_pos (by omega)).mp (by omega))) $$ HA
  iapply (loop_runs d i (l := mainLoop lo hi) (fun k _ => iprop(Chunking (ids := ids) d i O W chunkRef idsRef encsM idsM x q q' s.chunk₀ s.chunk₁
        ∗ Accs (U := U) d i sumRef maxRef cntRef ids x t₀.toNat (256 * (lo.toNat / 256 + k))))
      (fun k _ => chunk_runs d i O W chunkRef idsRef sumRef maxRef cntRef encsM idsM hchunk hids hg x q q' s.chunk₀ s.chunk₁ hlo hf k.val k.isLt _ _))
    $$ [HL HI HE HX HY Z3 Z4 HA]
  · isplitr [HA]
    · unfold Chunking
      isplitl [HL]; · iexact HL
      isplitl [HI]; · iexact HI
      isplitl [HE]; · iexact HE
      isplitl [HX]; · iexact HX
      isplitl [HY]; · iexact HY
      isplitl [Z3] <;> iassumption
    · iexact HA
  iintro %_ ⟨HW, HA⟩
  iapply (loop_runs d i (l := restLoop lo hi) (fun _ _ => Accs (U := U) d i sumRef maxRef cntRef ids x t₀.toNat (256 * (lo.toNat / 256 + (mainLoop lo hi).trips)))
    (fun k _ => absurd (k.isLt.trans_eq (rest_trips hle hh)) (Nat.not_lt_zero _))) $$ HA
  iintro %_ HA
  have hend : (Accs (U := U) d i sumRef maxRef cntRef ids x t₀.toNat 320000) =
      Accs (U := U) d i sumRef maxRef cntRef ids x t₀.toNat (256 * (lo.toNat / 256 + (mainLoop lo hi).trips)) :=
    accs_skip d i sumRef maxRef cntRef x (by omega) fun p h1 h2 => .inr (by
      have := (hg.lt_pos (t := t₀.toNat + 80) h2).not
      omega)
  ihave HA := (Entails.of_eq hend.symm) $$ HA
  unfold Chunking Accs
  icases HW with ⟨HL, HI, HE, HX, HY, Z3, Z4⟩
  icases HA with ⟨HA, HB, HC⟩
  iapply (copyIn_runs d i O W (show 0 < S80x64.numel by decide)) $$ [HL HA HA' Z7]
  · isplitl [HL]; · iexact HL
    isplitl [HA]; · iexact HA
    isplitl [HA']; · iexact HA'
    iexact Z7
  iintro ⟨HL, HA, HA', Z7⟩
  iapply (copyIn_runs d i O W (show 0 < S80x64.numel by decide)) $$ [HL HB HB' Z8]
  · isplitl [HL]; · iexact HL
    isplitl [HB]; · iexact HB
    isplitl [HB']; · iexact HB'
    iexact Z8
  iintro ⟨HL, HB, HB', Z8⟩
  iapply (copyIn_runs d i O W (show 0 < S80x16.numel by decide)) $$ [HL HC HC' Z9]
  · isplitl [HL]; · iexact HL
    isplitl [HC]; · iexact HC
    isplitl [HC']; · iexact HC'
    iexact Z9
  iintro ⟨HL, HC, HC', Z9⟩
  iapply Hk
  isplitl [HL HI HE HP HX HY HA HB HC]
  · isplitl [HL]; · iexact HL
    isplitl [HI]; · iexact HI
    isplitl [HE]; · iexact HE
    isplitl [HP]; · iexact HP
    isplitl [HX]; · iexact HX
    isplitl [HY]; · iexact HY
    isplitl [HA]; · iexists _; iexact HA
    isplitl [HB]; · iexists _; iexact HB
    iexists _; iexact HC
  isplitl [Z1 Z2 Z3 Z4 Z5 Z6 Z7 Z8 Z9]
  · isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  unfold Out
  isplitl [HA']
  · iapply (Entails.of_eq (congrArg (At (U := U) d i fullShare (out64 sums t₀ ho64)) (all64 (sumAt ids x t₀.toNat 320000)))); iexact HA'
  isplitl [HB']
  · iapply (Entails.of_eq (congrArg (At (U := U) d i fullShare (out64 maxs t₀ ho64)) (all64 (maxAt ids x t₀.toNat 320000)))); iexact HB'
  · iapply (Entails.of_eq (congrArg (At (U := U) d i fullShare (out16 cnts t₀ ho16)) (all16 (cntAt ids t₀.toNat 320000)))); iexact HC'

include hg in
/-- A slab. -/
theorem slab_runs (s : Sems) {t₀ lo : BitVec 32} (ht : t₀.toNat ≤ 10240) (hlo : lo.toNat = pos ids t₀.toNat) (ho64 : OutIn64 t₀) (ho16 : OutIn16 t₀)
    (c : BitVec 32 → Tile F i β) :
    iprop(Work (ids := ids) d i O W chunkRef idsRef sumRef maxRef cntRef encsM idsM probe x q q' ∗ Zeros d i s ∗ OutAny d i sums maxs cnts t₀ ho64 ho16)
      ⊢ iprop((∀ hi, iprop(⌜hi.toNat = pos ids (t₀.toNat + 80)⌝
            ∗ Work (ids := ids) d i O W chunkRef idsRef sumRef maxRef cntRef encsM idsM probe x q q' ∗ Zeros d i s
            ∗ Out d i sums maxs cnts ids x t₀ ho64 ho16) -∗ Runs d i (c hi) Q)
        -∗ Runs d i (slab i chunkRef idsRef sumRef maxRef cntRef encsM idsM hchunk hids probe hprobe sums maxs cnts s t₀ lo ho64 ho16 c) Q) := by
  have hse : (slabEnd t₀).toNat < 2 ^ 31 := by rw [slabEnd_toNat ht]; omega
  unfold slab Work Zeros
  iintro ⟨⟨HL, HI, HE, HP, HR⟩, ⟨Z1, Z2, HZ⟩, HO⟩ Hk
  iapply (lowerBound_runs d i O W idsM probe hprobe hg q s.search s.found hse) $$ [HL HI HP Z1 Z2]
  · isplitr [Z2]
    · unfold Probing
      isplitl [HL]; · iexact HL
      isplitl [HI]; · iexact HI
      isplitl [HP]; · iexact HP
      iexact Z1
    · iexact Z2
  iintro %r %v ⟨%hf, HP, Z2⟩
  unfold Probing
  icases HP with ⟨HL, HI, HP, Z1⟩
  have hf' := hf.trans (hg.pos_slabEnd ht)
  iapply (slabRest_runs d i O W chunkRef idsRef sumRef maxRef cntRef encsM idsM hchunk hids probe sums maxs cnts hg x q q' s hlo hf' ho64 ho16 c)
    $$ [HL HI HE HP HR Z1 Z2 HZ HO]
  · unfold Work Zeros
    isplitl [HL HI HE HP HR]
    · isplitl [HL]; · iexact HL
      isplitl [HI]; · iexact HI
      isplitl [HE]; · iexact HE
      isplitl [HP]; · iexact HP
      iexact HR
    isplitl [Z1 Z2 HZ]
    · isplitl [Z1]; · iexact Z1
      isplitl [Z2]; · iexact Z2
      iexact HZ
    iexact HO
  iintro H
  unfold Work Zeros
  iapply Hk
  isplitr; · ipureintro; exact hf'
  iexact H

end Chunks

end Cert.Proof.SegIdeal
-- ==== Proof.KI.Tile.lean ====
/-
  A tile's whole task run: the tile's 320 rows of the results hold its segments' sums, maxima and counts.
-/
module

public import proofs.«01_k».proof.Proof.KI.Slab

@[expose] public section

noncomputable section

namespace Cert.Proof.SegIdeal

open Cert.KernelIdeal
open Idealize.ShloMosaic
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Facts]
open Facts₀ Facts
variable {U : Type} [URA U] [CountersIn U]
variable (d : Dev nD) (i : grid1.Coords)
variable {β : Type} {Q : β → sProp (MM F U)}

/-- A tile's slabs begin at its first segment and 80, 160 and 240 segments on. -/
theorem tileSeg_toNat : (tileSeg i).toNat = ((i 1).val * 2 + (i 0).val) * 320 := by
  have h0 : (i 0).val < 2 := (i 0).isLt
  have h1 : (i 1).val < 16 := (i 1).isLt
  have e1 : (BitVec.ofNat 32 (i 1).val).toNat = (i 1).val := by rw [BitVec.toNat_ofNat]; omega
  have e0 : (BitVec.ofNat 32 (i 0).val).toNat = (i 0).val := by rw [BitVec.toNat_ofNat]; omega
  have e2 : (2#32).toNat = 2 := rfl
  have e3 : (320#32).toNat = 320 := rfl
  have em : (Scalar.muli (BitVec.ofNat 32 (i 1).val) 2#32).toNat = (i 1).val * 2 := by
    rw [mul_toNat (by rw [e1, e2]; omega), e1, e2]
  have ea : (Scalar.addi (Scalar.muli (BitVec.ofNat 32 (i 1).val) 2#32) (BitVec.ofNat 32 (i 0).val)).toNat = (i 1).val * 2 + (i 0).val := by
    rw [add_toNat (by rw [em, e0]; omega), em, e0]
  unfold tileSeg
  rw [mul_toNat (by rw [ea, e3]; omega), ea, e3]

/-- A slab's first segment, as a number, lies inside the padded segments. -/
theorem slabSeg_toNat {n : BitVec 32} (hn : n.toNat ≤ 240) :
    (Scalar.addi (tileSeg i) n).toNat = (tileSeg i).toNat + n.toNat ∧ (Scalar.addi (tileSeg i) n).toNat ≤ 10240 := by
  have h0 : (i 0).val < 2 := (i 0).isLt
  have h1 : (i 1).val < 16 := (i 1).isLt
  have e := tileSeg_toNat i
  have := add_toNat (a := tileSeg i) (b := n) (by omega)
  exact ⟨this, by omega⟩

variable (O : CellTallies nD τ sig (SparseCore.Cfg.HIx 1)) (W : Waits sig (SparseCore.Cfg.HIx 1))
variable (chunkRef : Memref sig .scVector .vmem S256x64 .f32) (idsRef : Memref sig .scVector .vmem S256 .i32)
variable (sumRef maxRef : Memref sig .scVector .vmem S80x64 .f32) (cntRef : Memref sig .scVector .vmem S80x16 .f32)
variable (encsM : Memref sig .scVector .hbm S320000x64 .f32) (idsM : Memref sig .scVector .hbm S320000 .i32)
variable (hchunk : chunkRef.IsWhole) (hids : idsRef.IsWhole)
variable (probe : Memref sig .scVector .vmem S16 .i32) (hprobe : probe.IsWhole)
variable (sums maxs : Memref sig .scVector .hbm S10240x64 .f32) (cnts : Memref sig .scVector .hbm S10240x16 .f32)
variable {ids : S320000.Idx → BitVec 32} (hg : Good ids) (x : S320000x64.Idx → F .f32) (q q' : PosShare TreeShare)

variable {W}

/-- The tile's rows of the results, with whatever they hold; and holding its segments' sums, maxima and counts. -/
def RowsAny : sProp (MM F U) :=
  iprop(OutAny d i sums maxs cnts (Scalar.addi (tileSeg i) 0#32) (k1_off304_inb i) (k1_off305_inb i)
    ∗ OutAny d i sums maxs cnts (Scalar.addi (tileSeg i) 80#32) (k1_off607_inb i) (k1_off608_inb i)
    ∗ OutAny d i sums maxs cnts (Scalar.addi (tileSeg i) 160#32) (k1_off910_inb i) (k1_off911_inb i)
    ∗ OutAny d i sums maxs cnts (Scalar.addi (tileSeg i) 240#32) (k1_off1213_inb i) (k1_off1214_inb i))
variable (ids) in
/-- A tile's four slabs, pooled. -/
def Rows : sProp (MM F U) :=
  iprop(Out d i sums maxs cnts ids x (Scalar.addi (tileSeg i) 0#32) (k1_off304_inb i) (k1_off305_inb i)
    ∗ Out d i sums maxs cnts ids x (Scalar.addi (tileSeg i) 80#32) (k1_off607_inb i) (k1_off608_inb i)
    ∗ Out d i sums maxs cnts ids x (Scalar.addi (tileSeg i) 160#32) (k1_off910_inb i) (k1_off911_inb i)
    ∗ Out d i sums maxs cnts ids x (Scalar.addi (tileSeg i) 240#32) (k1_off1213_inb i) (k1_off1214_inb i))

include hg in
/-- The tile's whole task. -/
theorem tile_runs (s₀ s₁ : DmaSems sig S_) (a b c e : Sems) :
    iprop(Work (ids := ids) d i O W chunkRef idsRef sumRef maxRef cntRef encsM idsM probe x q q'
        ∗ (Zero (U := U) (F := F) d i s₀ ∗ Zero d i s₁ ∗ Zeros d i a ∗ Zeros d i b ∗ Zeros d i c ∗ Zeros d i e) ∗ RowsAny d i sums maxs cnts)
      ⊢ Runs d i (tile i chunkRef idsRef sumRef maxRef cntRef encsM idsM hchunk hids probe hprobe sums maxs cnts s₀ s₁ a b c e)
        fun _ => iprop(Work (ids := ids) d i O W chunkRef idsRef sumRef maxRef cntRef encsM idsM probe x q q'
          ∗ (Zero (U := U) (F := F) d i s₀ ∗ Zero d i s₁ ∗ Zeros d i a ∗ Zeros d i b ∗ Zeros d i c ∗ Zeros d i e) ∗ Rows d i sums maxs cnts ids x) := by
  have ⟨t0, l0⟩ := slabSeg_toNat i (n := 0#32) (by decide)
  have ⟨t1, l1⟩ := slabSeg_toNat i (n := 80#32) (by decide)
  have ⟨t2, l2⟩ := slabSeg_toNat i (n := 160#32) (by decide)
  have ⟨t3, l3⟩ := slabSeg_toNat i (n := 240#32) (by decide)
  have hse : (tileSeg i).toNat < 2 ^ 31 := by
    have e0 : (0#32).toNat = 0 := rfl
    omega
  unfold tile RowsAny
  iintro ⟨HW, ⟨Z0, Z1, ZA, ZB, ZC, ZE⟩, ⟨RA, RB, RC, RE⟩⟩
  unfold Work
  icases HW with ⟨HL, HI, HE, HP, HR⟩
  iapply (lowerBound_runs d i O W idsM probe hprobe hg q s₀ s₁ hse) $$ [HL HI HP Z0 Z1]
  · isplitr [Z1]
    · unfold Probing
      isplitl [HL]; · iexact HL
      isplitl [HI]; · iexact HI
      isplitl [HP]; · iexact HP
      iexact Z0
    · iexact Z1
  iintro %r %v ⟨%hf, HP, Z1⟩
  unfold Probing
  icases HP with ⟨HL, HI, HP, Z0⟩
  iapply (slab_runs d i O W chunkRef idsRef sumRef maxRef cntRef encsM idsM hchunk hids probe hprobe sums maxs cnts hg x q q' a l0
    (by rw [hf, t0]; rfl) (k1_off304_inb i) (k1_off305_inb i)) $$ [HL HI HE HP HR ZA RA]
  · isplitl [HL HI HE HP HR]
    · unfold Work
      isplitl [HL]; · iexact HL
      isplitl [HI]; · iexact HI
      isplitl [HE]; · iexact HE
      isplitl [HP]; · iexact HP
      iexact HR
    isplitl [ZA]; · iexact ZA
    iexact RA
  iintro %p ⟨%hp, HW, ZA, RA⟩
  iapply (slab_runs d i O W chunkRef idsRef sumRef maxRef cntRef encsM idsM hchunk hids probe hprobe sums maxs cnts hg x q q' b l1
    (by rw [hp, t0, t1]; rfl) (k1_off607_inb i) (k1_off608_inb i)) $$ [HW ZB RB]
  · isplitl [HW]; · iexact HW
    isplitl [ZB]; · iexact ZB
    iexact RB
  iintro %p' ⟨%hp', HW, ZB, RB⟩
  iapply (slab_runs d i O W chunkRef idsRef sumRef maxRef cntRef encsM idsM hchunk hids probe hprobe sums maxs cnts hg x q q' c l2
    (by rw [hp', t1, t2]; rfl) (k1_off910_inb i) (k1_off911_inb i)) $$ [HW ZC RC]
  · isplitl [HW]; · iexact HW
    isplitl [ZC]; · iexact ZC
    iexact RC
  iintro %p'' ⟨%hp'', HW, ZC, RC⟩
  iapply (slab_runs d i O W chunkRef idsRef sumRef maxRef cntRef encsM idsM hchunk hids probe hprobe sums maxs cnts hg x q q' e l3
    (by rw [hp'', t2, t3]; rfl) (k1_off1213_inb i) (k1_off1214_inb i)) $$ [HW ZE RE]
  · isplitl [HW]; · iexact HW
    isplitl [ZE]; · iexact ZE
    iexact RE
  iintro %p''' ⟨%_, HW, ZE, RE⟩
  iapply (pure_runs d i)
  unfold Work Rows
  isplitl [HW]; · iexact HW
  isplitl [Z0 Z1 ZA ZB ZC ZE]
  · isplitl [Z0]; · iexact Z0
    isplitl [Z1]; · iexact Z1
    isplitl [ZA]; · iexact ZA
    isplitl [ZB]; · iexact ZB
    isplitl [ZC] <;> iassumption
  · isplitl [RA]; · iexact RA
    isplitl [RB]; · iexact RB
    isplitl [RC] <;> iassumption

end Cert.Proof.SegIdeal
-- ==== Proof.KI.Same.lean ====
/-
  The printed task of a tile is the program of `Body.lean`: by unfolding, statement for statement.
-/
module

public import proofs.«01_k».proof.Proof.KI.Body

@[expose] public section

noncomputable section

namespace Cert.Proof.SegIdeal

open Cert.KernelIdeal
open Idealize.ShloMosaic Idealize.SL.Sem

variable {F : FTy → Type} [FloatOps F] [Facts]
open Facts₀ Facts

/-! ## Comparing two programs piece by piece

  Each rule takes the program's next piece as it is written, finds the piece of `Body.lean` it is, and leaves what follows it. -/

section Rules
variable {E : Type → Type} {α β γ δ : Type}

/-- A value computed and used. -/
theorem pure_seq {p : Prog E α} {a : α} {K : α → Prog E β} {q : Prog E β} (hp : p = pure a) (h : K a = q) : p >>= K = q := by
  subst hp; exact h
/-- One operation. -/
theorem op_seq {p : Prog E α} {K : α → Prog E β} {e : E γ} {f : γ → Prog E α} {f' : γ → Prog E β} (hp : p = Prog.op e f)
    (h : ∀ a, f a >>= K = f' a) : p >>= K = Prog.op e f' := by
  subst hp; exact congrArg (Prog.op e) (funext h)
/-- Two programs that start with the same step are equal if the rest is. -/
theorem op_last {p : Prog E β} {e : E γ} {f f' : γ → Prog E β} (hp : p = Prog.op e f)
    (h : ∀ a, f a = f' a) : p = Prog.op e f' := by
  subst hp; exact congrArg (Prog.op e) (funext h)
/-- One loop. -/
theorem loop_seq {w : Nat} {l : Scf.Loop w} {hok : l.OK} {z : γ} {g g' : Fin l.trips → γ → Prog E γ} {p : Prog E α} {K : α → Prog E β}
    {f : γ → Prog E α} {f' : γ → Prog E β} (hp : p = Scf.Loop.for l hok z g >>= f) (hg : ∀ k a, g k a = g' k a)
    (h : ∀ a, f a >>= K = f' a) : p >>= K = Scf.Loop.for l hok z g' >>= f' := by
  subst hp
  rw [Prog.bind_assoc, funext h, show g = g' from funext fun k => funext (hg k)]
/-- Two programs that start with the same loop are equal if the bodies and the rest are. -/
theorem loop_last {w : Nat} {l : Scf.Loop w} {hok : l.OK} {z : γ} {g g' : Fin l.trips → γ → Prog E γ} {p : Prog E β}
    {f : γ → Prog E β} {f' : γ → Prog E β} (hp : p = Scf.Loop.for l hok z g >>= f) (hg : ∀ k a, g k a = g' k a)
    (h : ∀ a, f a = f' a) : p = Scf.Loop.for l hok z g' >>= f' := by
  subst hp
  rw [funext h, show g = g' from funext fun k => funext (hg k)]

end Rules

section Pieces
variable {i : grid1.Coords} {α β : Type}
variable {ids : Memref sig .scVector .hbm S320000 .i32} {probe : Memref sig .scVector .vmem S16 .i32} {hprobe : probe.IsWhole}
variable {chunkRef : Memref sig .scVector .vmem S256x64 .f32} {idsRef : Memref sig .scVector .vmem S256 .i32}
variable {sumRef maxRef : Memref sig .scVector .vmem S80x64 .f32} {cntRef : Memref sig .scVector .vmem S80x16 .f32}
variable {encs : Memref sig .scVector .hbm S320000x64 .f32} {hchunk : chunkRef.IsWhole} {hids : idsRef.IsWhole}

/-- A search. -/
theorem search_seq {s₀ s₁ : DmaSems sig S_} {t : BitVec 32} {p : Tile F i α} {K : α → Tile F i β}
    {k : BitVec 32 × BitVec 32 → Vec F S16 .i32 → Tile F i α} {k' : BitVec 32 × BitVec 32 → Vec F S16 .i32 → Tile F i β}
    (hp : p = lowerBound i ids probe hprobe s₀ s₁ t k) (h : ∀ q v, k q v >>= K = k' q v) :
    p >>= K = lowerBound i ids probe hprobe s₀ s₁ t k' := by
  subst hp
  rw [show k' = fun q v => k q v >>= K from funext fun q => funext fun v => (h q v).symm]
  exact Prog.bind_assoc _ _ _

/-- A chunk's copies. -/
theorem fetchChunk_last {s₀ s₁ : DmaSems sig S_} {l : Scf.Loop 32} {n : Fin l.trips} {h64 : ChunkIn64 l n} {h1 : ChunkIn l n} {p : Tile F i β}
    {c c' : PUnit.{1} → Tile F i β} (hp : p = fetchChunk i chunkRef idsRef encs ids hchunk hids s₀ s₁ l n h64 h1 c) (h : ∀ r, c r = c' r) :
    p = fetchChunk i chunkRef idsRef encs ids hchunk hids s₀ s₁ l n h64 h1 c' := by
  rw [hp, funext h]

/-- A point. -/
theorem lane_last {b : BitVec 1} {t₀ d r : BitVec 32} {h₀ : InChunk r 0} {h₁ : InChunk r 16} {h₂ : InChunk r 32} {h₃ : InChunk r 48}
    {p k k' : Tile F i β} (hp : p = lane i chunkRef sumRef maxRef cntRef b t₀ d r h₀ h₁ h₂ h₃ k) (h : k = k') :
    p = lane i chunkRef sumRef maxRef cntRef b t₀ d r h₀ h₁ h₂ h₃ k' := by
  rw [hp, h]
/-- A lane's guarded update followed by more is the update with the more after it. -/
theorem lane_seq {b : BitVec 1} {t₀ d r : BitVec 32} {h₀ : InChunk r 0} {h₁ : InChunk r 16} {h₂ : InChunk r 32} {h₃ : InChunk r 48}
    {p k : Tile F i α} {k' : Tile F i β} {K : α → Tile F i β} (hp : p = lane i chunkRef sumRef maxRef cntRef b t₀ d r h₀ h₁ h₂ h₃ k)
    (h : k >>= K = k') : p >>= K = lane i chunkRef sumRef maxRef cntRef b t₀ d r h₀ h₁ h₂ h₃ k' := by
  subst hp h
  unfold lane
  split <;> rfl

end Pieces

set_option maxRecDepth 1000000 in
set_option maxHeartbeats 0 in
/-- The printed task is `tile`. -/
theorem same (i : grid1.Coords) (encs : Memref sig .scVector .hbm S320000x64 .f32) (hencs : encs.IsWhole) (arg3 : Memref sig .scVector .hbm S320000 .i32) (harg3 : arg3.IsWhole) (arg4 : Memref sig .scVector .hbm S10240x64 .f32) (harg4 : arg4.IsWhole) (arg5 : Memref sig .scVector .hbm S10240x64 .f32) (harg5 : arg5.IsWhole) (arg6 : Memref sig .scVector .hbm S10240x16 .f32) (harg6 : arg6.IsWhole) (arg7 : Memref sig .scVector .vmem S256x64 .f32) (harg7 : arg7.IsWhole) (arg8 : Memref sig .scVector .vmem S256 .i32) (harg8 : arg8.IsWhole) (arg9 : Memref sig .scVector .vmem S80x64 .f32) (harg9 : arg9.IsWhole) (arg10 : Memref sig .scVector .vmem S80x64 .f32) (harg10 : arg10.IsWhole) (arg11 : Memref sig .scVector .vmem S80x16 .f32) (harg11 : arg11.IsWhole) (arg12 : Memref sig .scVector .vmem S16 .i32) (harg12 : arg12.IsWhole) (v533_r0 : DmaSems sig S_) (v517_r1 : DmaSems sig S_) (v533_r2 : DmaSems sig S_) (v517_r3 : DmaSems sig S_) (v521_r4 : DmaSems sig S_) (v521_r5 : DmaSems sig S_) (v521_r6 : DmaSems sig S_) (v521_r7 : DmaSems sig S_) (v517_r8 : DmaSems sig S_) (v517_r9 : DmaSems sig S_) (v517_r10 : DmaSems sig S_) (v533_r11 : DmaSems sig S_) (v517_r12 : DmaSems sig S_) (v521_r13 : DmaSems sig S_) (v521_r14 : DmaSems sig S_) (v521_r15 : DmaSems sig S_) (v521_r16 : DmaSems sig S_) (v517_r17 : DmaSems sig S_) (v517_r18 : DmaSems sig S_) (v517_r19 : DmaSems sig S_) (v533_r20 : DmaSems sig S_) (v517_r21 : DmaSems sig S_) (v521_r22 : DmaSems sig S_) (v521_r23 : DmaSems sig S_) (v521_r24 : DmaSems sig S_) (v521_r25 : DmaSems sig S_) (v517_r26 : DmaSems sig S_) (v517_r27 : DmaSems sig S_) (v517_r28 : DmaSems sig S_) (v533_r29 : DmaSems sig S_) (v517_r30 : DmaSems sig S_) (v521_r31 : DmaSems sig S_) (v521_r32 : DmaSems sig S_) (v521_r33 : DmaSems sig S_) (v521_r34 : DmaSems sig S_) (v517_r35 : DmaSems sig S_) (v517_r36 : DmaSems sig S_) (v517_r37 : DmaSems sig S_) :
    cc1__seg_body (F := F) i encs hencs arg3 harg3 arg4 harg4 arg5 harg5 arg6 harg6 arg7 harg7 arg8 harg8 arg9 harg9 arg10 harg10 arg11 harg11 arg12 harg12 v533_r0 v517_r1 v533_r2 v517_r3 v521_r4 v521_r5 v521_r6 v521_r7 v517_r8 v517_r9 v517_r10 v533_r11 v517_r12 v521_r13 v521_r14 v521_r15 v521_r16 v517_r17 v517_r18 v517_r19 v533_r20 v517_r21 v521_r22 v521_r23 v521_r24 v521_r25 v517_r26 v517_r27 v517_r28 v533_r29 v517_r30 v521_r31 v521_r32 v521_r33 v521_r34 v517_r35 v517_r36 v517_r37 =
      tile i arg7 arg8 arg9 arg10 arg11 encs arg3 harg7 harg8 arg12 harg12 arg4 arg5 arg6 v533_r0 v517_r1 ⟨v533_r2, v517_r3, v521_r4, v521_r5, v521_r6, v521_r7, v517_r8, v517_r9, v517_r10⟩ ⟨v533_r11, v517_r12, v521_r13, v521_r14, v521_r15, v521_r16, v517_r17, v517_r18, v517_r19⟩ ⟨v533_r20, v517_r21, v521_r22, v521_r23, v521_r24, v521_r25, v517_r26, v517_r27, v517_r28⟩ ⟨v533_r29, v517_r30, v521_r31, v521_r32, v521_r33, v521_r34, v517_r35, v517_r36, v517_r37⟩ := by
  delta cc1__seg_body tile
  refine search_seq rfl fun q v => ?_
  -- the four slabs, but for what a chunk does
  iterate 4
    repeat refine pure_seq rfl ?_
    refine search_seq rfl fun q' v' => ?_
    repeat refine pure_seq rfl ?_
    refine op_seq rfl fun h => ?_
    repeat refine pure_seq rfl ?_
    refine loop_seq rfl (fun _ _ => rfl) fun _ => ?_
    repeat refine pure_seq rfl ?_
    refine loop_seq rfl ?_ ?_
    rotate_left
    intro r
    repeat refine pure_seq rfl ?_
    refine loop_seq rfl ?_ ?_
    rotate_left
    intro r'
    iterate 5
      repeat refine pure_seq rfl ?_
      refine op_seq rfl fun _ => ?_
    repeat refine pure_seq rfl ?_
    first | refine op_seq rfl fun _ => ?_ | refine op_last rfl fun _ => ?_
  · rfl
  -- and the eight loops over chunks
  all_goals
    intro k z
    refine fetchChunk_last rfl fun _ => ?_
    refine loop_last rfl (fun g _ => ?_) fun _ => rfl
    refine op_seq rfl fun u => ?_
    iterate 5 refine lane_seq rfl ?_
    refine pure_seq rfl ?_
    iterate 6 refine lane_seq rfl ?_
    refine pure_seq rfl ?_
    iterate 5 refine lane_last rfl ?_
    rfl

end Cert.Proof.SegIdeal
-- ==== Proof.KI.Storage.lean ====
/-
  What the launch of the SparseCore call needs beside the tile's task: the storage of a vector subcore as its scratch
  buffers and its semaphores.
-/
module

public import proofs.«01_k».proof.Proof.KI.Tile
public import proofs.«01_k».proof.Proof.KI.Same
public import proofs.«01_k».proof.Proof.Gen.KernelIdeal.Launch

@[expose] public section

noncomputable section

namespace Cert.Proof.SegIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch sees it -/

/-- The labels of the program with its two pipelined calls. -/
abbrev ΛP : Labels := Pipeline.Sig Λ₀ (Fin 2) fun p => (pcfgs (F := F) p).Adm
/-- The SparseCore call. -/
abbrev K : SparseCore.Cfg τ sig (ΛP (F := F)) 1 := sc (F := F)
/-- The bodies that the threads run. -/
abbrev D [FloatOps F] : Defs nD τ sig (Elt F) (ΛP (F := F)) := Pipeline.defs pcfgs defs₀
/-- No loop of the bodies needs a measure. -/
abbrev 𝒱₀ : Variants := Variants.none
/-- The same over the pipelined calls' labels. -/
abbrev 𝒱 : Variants := 𝒱₀.lift
/-- The measure that every thread starts from. -/
abbrev v₀ : 𝒱.V := Sum.inl none

/-- The SparseCore call's names do not clash. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, the pipelines' and the copies' counters -/

/-- The state of the SparseCore handshakes. -/
abbrev UH : Type := URounds (GSem nD τ sig) ℕ
/-- The state of the pipelined calls. -/
abbrev UP : Type := URounds (GSem nD τ sig) Unit
/-- Both, with the counters. -/
abbrev UU : Type := UH × (UP × Counters)

local notation "𝕄" => MT nD τ sig (HIx 1) (Elt F) ℕ UU ℕ

/-- Where the handshakes' state lies. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the pipelined calls' state lies. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## A vector subcore's storage -/

section Storage
variable [Facts]
open Facts₀ Facts
variable (d : Dev nD) (i : grid1.Coords)

/-- The task's semaphores and its scratch buffers. -/
def semArr : Fin 38 → DmaSems sig S_ := ![cc1_scoped0, cc1_scoped1, cc1_scoped2, cc1_scoped3, cc1_scoped4, cc1_scoped5, cc1_scoped6, cc1_scoped7, cc1_scoped8, cc1_scoped9, cc1_scoped10, cc1_scoped11, cc1_scoped12, cc1_scoped13, cc1_scoped14, cc1_scoped15, cc1_scoped16, cc1_scoped17, cc1_scoped18, cc1_scoped19, cc1_scoped20, cc1_scoped21, cc1_scoped22, cc1_scoped23, cc1_scoped24, cc1_scoped25, cc1_scoped26, cc1_scoped27, cc1_scoped28, cc1_scoped29, cc1_scoped30, cc1_scoped31, cc1_scoped32, cc1_scoped33, cc1_scoped34, cc1_scoped35, cc1_scoped36, cc1_scoped37]
/-- A tile's six scratch arrays. -/
def scrArr : Fin 6 → Ref sig .scVector := ![cc1_scratch0, cc1_scratch1, cc1_scratch2, cc1_scratch3, cc1_scratch4, cc1_scratch5]

/-- A tile's semaphores. -/
abbrev cellAt (n : Fin 38) : GSem nD τ sig := (thr d i, SemLoc.dma (semArr n).sem)
/-- The semaphores are different. -/
theorem semArr_inj : Function.Injective fun n => (semArr n).sem := by decide
/-- The semaphores are the tile's own. -/
theorem semArr_scoped : ∀ n, (SemLoc.dma (semArr n).sem : SemLoc sig).isScoped .scVector = true := by decide
/-- The scratch arrays are the tile's own. -/
theorem scrArr_owner (c : Fin τ.nSC) (t : Fin τ.nSub) : ∀ n, ((Proc.scVector c t : Proc τ).devRef (sig := sig) (scrArr n)).owner = .proc (.scVector c t) := fun n => by
  fin_cases n <;> rfl
/-- The scratch arrays are different. -/
theorem scrArr_inj : Function.Injective scrArr := by decide
/-- The semaphores of one tile are different. -/
theorem cellAt_inj : Function.Injective (cellAt d i) := fun a b h => semArr_inj (by
  have := (Prod.mk.inj h).2
  exact SemLoc.dma.inj this)

/-- The semaphores of the task's, and the rest. -/
def restCells : Finset (GSem nD τ sig) := ownCells (thr d i) \ Finset.univ.image (cellAt d i)
/-- A tile's own semaphores, one by one, at zero. -/
theorem ownSems0_tile : (ownSems0 (thr d i) : sProp 𝕄)
    = iprop(bigSepL [0, 1, 2, 3, 4, 5, 6, 7, 8, 9, 10, 11, 12, 13, 14, 15, 16, 17, 18, 19, 20, 21, 22, 23, 24, 25, 26, 27, 28, 29, 30, 31, 32, 33, 34, 35, 36, 37] (fun n : Fin 38 => (Zero d i (semArr n) : sProp 𝕄)) ∗ bigSep (restCells d i) fun g => semVal g 0) := by
  unfold SparseCore.Cfg.ownSems0 restCells
  rw [SparseCore.bigSep_sdiff_split' (s := ownCells (thr d i)) (t := Finset.univ.image (cellAt d i)) (by
      intro g hg
      obtain ⟨n, -, rfl⟩ := Finset.mem_image.mp hg
      exact mem_ownCells.mpr ⟨rfl, semArr_scoped n⟩),
    SparseCore.bigSep_image_of_injOn ((cellAt_inj d i).injOn),
    bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37] (by decide) (by decide)]

/-- The scratch buffers, and the rest of the subcore's own. -/
def bufAt (n : Fin 6) : DevRef τ sig := (thr d i).2.devRef (scrArr n)
/-- The scratch buffers of one tile are different. -/
theorem bufAt_inj : Function.Injective (bufAt d i) := fun a b h => scrArr_inj (Proc.devRef_injective _ h)
/-- What a tile owns besides its scratch arrays. -/
def restRefs : Finset (DevRef τ sig) := ownRefs (thr d i).2 \ Finset.univ.image (bufAt d i)
/-- A tile's own buffers: the six scratch arrays, and the rest. -/
theorem ownBufs_tile : (ownBufs (thr d i) : sProp 𝕄)
    = iprop(bigSepL [0, 1, 2, 3, 4, 5] (fun n : Fin 6 => iprop(∃ f : Buf (Elt F) ((thr d i).loc (scrArr n)), (thr d i).loc (scrArr n) ↦{fullShare} f))
      ∗ bigSep (restRefs d i) fun b => iprop(∃ f, (((thr d i).1, b) : Loc nD τ sig) ↦{fullShare} f)) := by
  unfold SparseCore.Cfg.ownBufs restRefs
  rw [SparseCore.bigSep_sdiff_split' (s := ownRefs (thr d i).2) (t := Finset.univ.image (bufAt d i)) (by
      intro g hg
      obtain ⟨n, -, rfl⟩ := Finset.mem_image.mp hg
      exact SparseCore.Cfg.mem_ownRefs_of_owner (scrArr_owner _ _ n)),
    SparseCore.bigSep_image_of_injOn ((bufAt_inj d i).injOn),
    bigSep_univ_eq_bigSepL [0, 1, 2, 3, 4, 5] (by decide) (by decide)]
  rfl
end Storage

end Cert.Proof.SegIdeal
-- ==== Proof.KI.Launch.lean ====
/-
  The SparseCore call as the launch theorem asks for it: what its handshakes carry, the tile's task between them, and the
  deal of a SparseCore's share among its tiles.
-/
module

public import proofs.«01_k».proof.Proof.KI.Storage

@[expose] public section

noncomputable section

namespace Cert.Proof.SegIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Facts]
open Facts₀ Facts

local notation "𝕄" => MT nD τ sig (HIx 1) (Elt F) ℕ UU ℕ

/-! ## The memrefs of the call -/

/-- The encoded rows, as a tile sees them. -/
abbrev encW : Memref sig .scVector .hbm S320000x64 .f32 := Memref.whole main_v2_scv
/-- The ids, as a tile sees them. -/
abbrev idsW : Memref sig .scVector .hbm S320000 .i32 := Memref.whole main_arg1_scv
/-- The pooled sums, as a tile sees them. -/
abbrev sumW : Memref sig .scVector .hbm S10240x64 .f32 := Memref.whole main_v3_0_scv
/-- The pooled maxima, as a tile sees them. -/
abbrev maxW : Memref sig .scVector .hbm S10240x64 .f32 := Memref.whole main_v3_1_scv
/-- The pooled counts, as a tile sees them. -/
abbrev cntW : Memref sig .scVector .hbm S10240x16 .f32 := Memref.whole main_v3_2_scv
/-- A tile's buffer for a chunk of rows. -/
abbrev chunkS : Memref sig .scVector .vmem S256x64 .f32 := Memref.whole cc1_scratch0
/-- A tile's buffer for a chunk's ids. -/
abbrev idsS : Memref sig .scVector .vmem S256 .i32 := Memref.whole cc1_scratch1
/-- A tile's sum accumulator. -/
abbrev sumS : Memref sig .scVector .vmem S80x64 .f32 := Memref.whole cc1_scratch2
/-- A tile's maximum accumulator. -/
abbrev maxS : Memref sig .scVector .vmem S80x64 .f32 := Memref.whole cc1_scratch3
/-- A tile's count accumulator. -/
abbrev cntS : Memref sig .scVector .vmem S80x16 .f32 := Memref.whole cc1_scratch4
/-- A tile's buffer for the search's probes. -/
abbrev probeS : Memref sig .scVector .vmem S16 .i32 := Memref.whole cc1_scratch5

/-- The semaphores of the first slab's copies. -/
abbrev semsA : Sems := ⟨cc1_scoped2, cc1_scoped3, cc1_scoped4, cc1_scoped5, cc1_scoped6, cc1_scoped7, cc1_scoped8, cc1_scoped9, cc1_scoped10⟩
/-- The semaphores of the second slab's copies. -/
abbrev semsB : Sems := ⟨cc1_scoped11, cc1_scoped12, cc1_scoped13, cc1_scoped14, cc1_scoped15, cc1_scoped16, cc1_scoped17, cc1_scoped18, cc1_scoped19⟩
/-- The semaphores of the third slab's copies. -/
abbrev semsC : Sems := ⟨cc1_scoped20, cc1_scoped21, cc1_scoped22, cc1_scoped23, cc1_scoped24, cc1_scoped25, cc1_scoped26, cc1_scoped27, cc1_scoped28⟩
/-- The semaphores of the fourth slab's copies. -/
abbrev semsE : Sems := ⟨cc1_scoped29, cc1_scoped30, cc1_scoped31, cc1_scoped32, cc1_scoped33, cc1_scoped34, cc1_scoped35, cc1_scoped36, cc1_scoped37⟩

/-! ## What the handshakes carry -/

/-- The tile of a SparseCore and a subcore. -/
def tileAt (c : Fin 2) (s : Fin 16) : grid1.Coords :=
  fun | 0 => c | 1 => s | ⟨_ + 2, h⟩ => absurd h (Nat.not_lt.2 (Nat.le_add_left _ _))
/-- The tile's number, and its share of what every tile reads. -/
def tileNo (c : Fin 2) (s : Fin 16) : Fin 32 := finProdFinEquiv (c, s)
/-- A tile's share of what all of them read. -/
abbrev tok (c : Fin 2) (s : Fin 16) : PosShare TreeShare := shareTok fullShare 32 (tileNo c s)

variable (ids : Dev nD → S320000.Idx → BitVec 32) (x : Dev nD → S320000x64.Idx → F .f32)

/-- A tile is handed its shares of the encodings and of the ids and its rows of the results; it hands them back with the
    rows at its segments' values. -/
def goOf (d : Dev nD) (c : Fin 2) (s : Fin 16) : sProp (MT nD τ sig (HIx 1) (Elt F) ℕ UU ℕ) :=
  iprop(At d (tileAt c s) (tok c s) idsW (ids d) ∗ At d (tileAt c s) (tok c s) encW (x d) ∗ RowsAny d (tileAt c s) sumW maxW cntW)
/-- What a tile gives back. -/
def doneOf (d : Dev nD) (c : Fin 2) (s : Fin 16) : sProp (MT nD τ sig (HIx 1) (Elt F) ℕ UU ℕ) :=
  iprop(At d (tileAt c s) (tok c s) idsW (ids d) ∗ At d (tileAt c s) (tok c s) encW (x d) ∗ Rows d (tileAt c s) sumW maxW cntW (ids d) (x d))

instance at_storable (d : Dev nD) (i : grid1.Coords) {sp : Space} {s : Shape} {e : EltTy} (q : PosShare TreeShare) (m : Memref sig .scVector sp s e)
    (X : s.Idx → Elt F e) : BI.Storable (upEmb : UEmb _ 𝕄) (At d i q m X) := by
  unfold At Has
  infer_instance
instance goOf_storable (d : Dev nD) (c : Fin 2) (s : Fin 16) : BI.Storable (upEmb : UEmb _ 𝕄) (goOf (F := F) ids x d c s) := by
  unfold goOf RowsAny OutAny
  infer_instance
instance doneOf_storable (d : Dev nD) (c : Fin 2) (s : Fin 16) : BI.Storable (upEmb : UEmb _ 𝕄) (doneOf (F := F) ids x d c s) := by
  unfold doneOf Rows Out
  infer_instance

/-- The call runs on two cores. -/
theorem nCore_zero : (K (F := F)).nCore 0 = 2 := rfl
/-- The call runs on sixteen tiles of each core. -/
theorem nSub_zero : (K (F := F)).nSub 0 = 16 := rfl

/-- What the SparseCore call hands to its cores and tiles, and what comes back. -/
def P : (K (F := F)).Pay (nD := nD) (Val := Elt F) (Name := ℕ) (U := UU) where
  st := fun q d c => match q with | 0 => bigSep Finset.univ fun s : Fin 16 => goOf ids x d (Fin.cast nCore_zero c) s
  dn := fun q d c => match q with | 0 => bigSep Finset.univ fun s : Fin 16 => doneOf ids x d (Fin.cast nCore_zero c) s
  go := fun q d c i => match q with | 0 => goOf ids x d (Fin.cast nCore_zero c) (Fin.cast nSub_zero i)
  td := fun q d c i => match q with | 0 => doneOf ids x d (Fin.cast nCore_zero c) (Fin.cast nSub_zero i)
  x := fun _ _ => iprop(emp)

/-- There is one call. -/
theorem one_call {C : Fin 1 → Prop} (h : C 0) (q : Fin 1) : C q := by rw [Fin.fin_one_eq_zero q]; exact h

/-- What a tile is started with. -/
theorem P_go (d : Dev nD) (c : Fin ((K (F := F)).nCore 0)) (i : Fin ((K (F := F)).nSub 0)) :
    (P ids x).go 0 d c i = goOf ids x d (Fin.cast nCore_zero c) (Fin.cast nSub_zero i) := by
  delta P
  dsimp only
/-- What a tile ends with. -/
theorem P_td (d : Dev nD) (c : Fin ((K (F := F)).nCore 0)) (i : Fin ((K (F := F)).nSub 0)) :
    (P ids x).td 0 d c i = doneOf ids x d (Fin.cast nCore_zero c) (Fin.cast nSub_zero i) := by
  delta P
  dsimp only

/-- What a core is started with. -/
theorem P_st (d : Dev nD) (c : Fin ((K (F := F)).nCore 0)) :
    (P ids x).st 0 d c = bigSep Finset.univ fun s : Fin 16 => goOf ids x d (Fin.cast nCore_zero c) s := by
  delta P
  dsimp only
/-- What a core ends with. -/
theorem P_dn (d : Dev nD) (c : Fin ((K (F := F)).nCore 0)) :
    (P ids x).dn 0 d c = bigSep Finset.univ fun s : Fin 16 => doneOf ids x d (Fin.cast nCore_zero c) s := by
  delta P
  dsimp only

instance P_storable : (P (F := F) ids x).IsStorable where
  st := one_call (C := fun q => ∀ d c, BI.Storable (upEmb : UEmb _ 𝕄) ((P ids x).st q d c)) (by
    intro d c
    rw [P_st]
    infer_instance)
  dn := one_call (C := fun q => ∀ d c, BI.Storable (upEmb : UEmb _ 𝕄) ((P ids x).dn q d c)) (by
    intro d c
    rw [P_dn]
    infer_instance)
  go := one_call (C := fun q => ∀ d c i, BI.Storable (upEmb : UEmb _ 𝕄) ((P ids x).go q d c i)) (by
    intro d c i
    rw [P_go]
    infer_instance)
  td := one_call (C := fun q => ∀ d c i, BI.Storable (upEmb : UEmb _ 𝕄) ((P ids x).td q d c i)) (by
    intro d c i
    rw [P_td]
    infer_instance)

/-! ## The task -/

section Task
variable (d : Dev nD) (i : grid1.Coords)

/-- Regrouping what is held. -/
theorem sep_assoc_eq (P Q R : sProp (MT nD τ sig (HIx 1) (Elt F) ℕ UU ℕ)) : iprop((P ∗ Q) ∗ R) = iprop(P ∗ Q ∗ R) :=
  equiv_iff.mp ⟨BI.sep_assoc, BI.sep_assoc'⟩

/-- The tile's semaphores grouped as the task takes them. -/
theorem ownSems0_eq : (ownSems0 (thr d i) : sProp 𝕄)
    = iprop((Zero (U := UU) (F := F) d i cc1_scoped0 ∗ Zero d i cc1_scoped1 ∗ Zeros d i semsA ∗ Zeros d i semsB ∗ Zeros d i semsC ∗ Zeros d i semsE)
      ∗ bigSep (restCells d i) fun g => semVal g 0) := by
  rw [ownSems0_tile]
  congr 1
  unfold Zeros
  simp only [sep_assoc_eq]
  rfl

/-- A scratch buffer with whatever it holds. -/
theorem scr_any {s : Shape} {e : EltTy} (m : Memref sig .scVector .vmem s e) (h : m.view.set = Finset.univ) :
    (iprop(∃ f : Buf (Elt F) (m.view.loc (thr d i)), m.view.loc (thr d i) ↦{fullShare} f) : sProp 𝕄) = iprop(∃ X : s.Idx → Elt F e, At d i fullShare m X) := by
  unfold At Has
  rw [h]
  have h1 : (iprop(∃ f : Buf (Elt F) (m.view.loc (thr d i)), m.view.loc (thr d i) ↦{fullShare} f) : sProp 𝕄)
      ⊢ iprop(∃ X : s.Idx → Elt F e, ∃ f, (m.view.loc (thr d i) ↦{fullShare} f) ∗ ⌜m.view.read (Elt F) f = X⌝) := by
    iintro ⟨%f, H⟩
    iexists (m.view.read (Elt F) f)
    iexists f
    isplitl [H]; · iexact H
    ipureintro; rfl
  have h2 : (iprop(∃ X : s.Idx → Elt F e, ∃ f, (m.view.loc (thr d i) ↦{fullShare} f) ∗ ⌜m.view.read (Elt F) f = X⌝) : sProp 𝕄)
      ⊢ iprop(∃ f : Buf (Elt F) (m.view.loc (thr d i)), m.view.loc (thr d i) ↦{fullShare} f) := by
    iintro ⟨%X, %f, H, -⟩
    iexists f; iexact H
  exact equiv_iff.mp ⟨h1, h2⟩

/-- A tile's own buffers are its six scratch arrays and the rest. -/
theorem ownBufs_eq : (ownBufs (thr d i) : sProp 𝕄)
    = iprop(((∃ X : S256x64.Idx → F .f32, At d i fullShare chunkS X) ∗ (∃ Y : S256.Idx → BitVec 32, At d i fullShare idsS Y)
        ∗ (∃ A : S80x64.Idx → F .f32, At d i fullShare sumS A) ∗ (∃ B : S80x64.Idx → F .f32, At d i fullShare maxS B)
        ∗ (∃ C : S80x16.Idx → F .f32, At d i fullShare cntS C) ∗ ∃ Y : S16.Idx → BitVec 32, At d i fullShare probeS Y)
      ∗ bigSep (restRefs d i) fun b => iprop(∃ f, (((thr d i).1, b) : Loc nD τ sig) ↦{fullShare} f)) := by
  rw [ownBufs_tile]
  congr 1
  have h0 := scr_any (F := F) d i chunkS (View.set_whole _)
  have h1 := scr_any (F := F) d i idsS (View.set_whole _)
  have h2 := scr_any (F := F) d i sumS (View.set_whole _)
  have h3 := scr_any (F := F) d i maxS (View.set_whole _)
  have h4 := scr_any (F := F) d i cntS (View.set_whole _)
  have h5 := scr_any (F := F) d i probeS (View.set_whole _)
  rw [show (iprop(∃ X : S256x64.Idx → F .f32, At d i fullShare chunkS X) : sProp 𝕄) = _ from h0.symm,
    show (iprop(∃ Y : S256.Idx → BitVec 32, At d i fullShare idsS Y) : sProp 𝕄) = _ from h1.symm,
    show (iprop(∃ A : S80x64.Idx → F .f32, At d i fullShare sumS A) : sProp 𝕄) = _ from h2.symm,
    show (iprop(∃ B : S80x64.Idx → F .f32, At d i fullShare maxS B) : sProp 𝕄) = _ from h3.symm,
    show (iprop(∃ C : S80x16.Idx → F .f32, At d i fullShare cntS C) : sProp 𝕄) = _ from h4.symm,
    show (iprop(∃ Y : S16.Idx → BitVec 32, At d i fullShare probeS Y) : sProp 𝕄) = _ from h5.symm]
  rfl

/-- A run kept, for a weaker end. -/
theorem runs_wand {β : Type} {p : Tile F i β} {Q Q' : β → sProp (MT nD τ sig (HIx 1) (Elt F) ℕ UU ℕ)} {A : sProp (MT nD τ sig (HIx 1) (Elt F) ℕ UU ℕ)}
    (h : A ⊢ Runs d i p Q) : A ⊢ iprop((∀ a, Q a -∗ Q' a) -∗ Runs d i p Q') := by
  unfold Runs at h ⊢
  iintro HA HQ
  iapply (wp_wand_r frame _ Set.univ)
  isplitl [HA]
  · iapply h; iexact HA
  · iexact HQ

variable (hg : ∀ d, Good (ids d))
include hg
/-- The task between its handshakes. -/
theorem task (c : Fin 2) (s : Fin 16) (O : CellTallies nD τ sig (HIx 1)) (W : Waits sig (HIx 1)) (hO : ∀ g, O g none = 0) :
    iprop(levAts (K (F := F)).L (K (F := F)).lev ∗ goOf ids x d c s ∗ scopedBufs (thr d (tileAt c s)) ∗ scopedSems0 (thr d (tileAt c s))
        ∗ owes (thr d (tileAt c s)) O W)
      ⊢ Runs (U := UU) d (tileAt c s)
          (cc1__seg_body (F := F) (tileAt c s) encW (Memref.isWhole_whole _) idsW (Memref.isWhole_whole _) sumW (Memref.isWhole_whole _) maxW (Memref.isWhole_whole _) cntW (Memref.isWhole_whole _)
            chunkS (Memref.isWhole_whole _) idsS (Memref.isWhole_whole _) sumS (Memref.isWhole_whole _) maxS (Memref.isWhole_whole _) cntS (Memref.isWhole_whole _) probeS (Memref.isWhole_whole _)
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37)
          fun _ => iprop(doneOf ids x d c s ∗ scopedBufs (thr d (tileAt c s)) ∗ scopedSems0 (thr d (tileAt c s))
            ∗ Owe (thr d (tileAt c s)) O W) := by
  rw [same]
  rw [(K (F := F)).scopedBufs_V scFacts d _ _, SparseCore.Cfg.scopedSems0_V, ownSems0_eq, ownBufs_eq]
  unfold goOf
  iintro ⟨#Hlv, ⟨HI, HE, HR⟩, ⟨⟨H0, H1, H2, H3, H4, H5⟩, HB⟩, ⟨HZ, HS⟩, HO⟩
  iapply (runs_wand d (tileAt c s) (tile_runs (U := UU) (W := W) d (tileAt c s) O chunkS idsS sumS maxS cntS encW idsW (Memref.isWhole_whole _) (Memref.isWhole_whole _)
    probeS (Memref.isWhole_whole _) sumW maxW cntW (hg d) (x d) (tok c s) (tok c s) cc1_scoped0 cc1_scoped1 semsA semsB semsC semsE)) $$ [HI HE HR H0 H1 H2 H3 H4 H5 HZ HO]
  · unfold Work Led Owe
    isplitl [HI HE H0 H1 H2 H3 H4 H5 HO]
    · isplitl [HO]
      · isplitr
        · iapply ((K (F := F)).mayWaits_none (thr := thr d (tileAt c s)) hO)
          iexact Hlv
        · iexists W
          isplitr
          · ipureintro; exact fun p hp => Or.inl hp
          · iexact HO
      isplitl [HI]; · iexact HI
      isplitl [HE]; · iexact HE
      isplitl [H5]; · iexact H5
      isplitl [H0]; · iexact H0
      isplitl [H1]; · iexact H1
      isplitl [H2]; · iexact H2
      isplitl [H3] <;> iassumption
    isplitl [HZ] <;> iassumption
  iintro %r ⟨HW, HZ, HR⟩
  unfold Work Led doneOf
  icases HW with ⟨⟨-, HO⟩, HI, HE, H5, H0, H1, H2, H3, H4⟩
  isplitl [HI HE HR]
  · isplitl [HI]; · iexact HI
    isplitl [HE] <;> iassumption
  isplitl [H0 H1 H2 H3 H4 H5 HB]
  · isplitr [HB]
    · isplitl [H0]; · iexact H0
      isplitl [H1]; · iexact H1
      isplitl [H2]; · iexact H2
      isplitl [H3]; · iexact H3
      isplitl [H4] <;> iassumption
    · iexact HB
  isplitl [HZ HS]
  · isplitl [HZ] <;> iassumption
  · iexact HO
end Task

/-! ## The obligations of the launch -/

/-- The body that a tile runs. -/
theorem defs₀_tile (c : Fin τ.nSC) (s : Fin τ.nSub) :
    defs₀ (F := F) (.scVector c s) 1 ()
      = SparseCore.onTile Facts₀.hcore1 Facts₀.hsub1 (fun c s => cc1__seg_body (tileAt c s)
          encW (Memref.isWhole_whole _) idsW (Memref.isWhole_whole _) sumW (Memref.isWhole_whole _) maxW (Memref.isWhole_whole _) cntW (Memref.isWhole_whole _)
            chunkS (Memref.isWhole_whole _) idsS (Memref.isWhole_whole _) sumS (Memref.isWhole_whole _) maxS (Memref.isWhole_whole _) cntS (Memref.isWhole_whole _) probeS (Memref.isWhole_whole _)
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37) ⟨⟩ c s := rfl

/-- A tile that owes no more than its call's waits, in the form that the call asks for. -/
theorem obl_post {t : Thread nD τ} {A B C : sProp 𝕄} {O : CellTallies nD τ sig (HIx 1)} {W : Waits sig (HIx 1)} {q : Fin 1} :
    iprop(A ∗ B ∗ C ∗ Owe t O W)
      ⊢ iprop(A ∗ B ∗ C ∗ ∃ W', ⌜∀ p ∈ W', p ∈ W ∨ p.2 = none ∨ p.2 = some q⌝ ∗ owes t O W') := by
  unfold Owe
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Nothing, held between two things, may be dropped. -/
theorem drop_emp {A B : sProp 𝕄} : iprop(A ∗ emp ∗ B) ⊢ iprop(A ∗ B) := by
  iintro ⟨Hl, -, H⟩
  isplitl [Hl]; · iexact Hl
  iexact H

/-- A tile, started with its slabs, ends with them pooled. -/
theorem tileObl (hg : ∀ d, Good (ids d)) : (K (F := F)).TileObl (D (F := F)) 𝒱 (P ids x) v₀ 0 := by
  intro d c i O W hO _ _
  simp only [show (P ids x).ox = fun _ _ => 0 from rfl, add_zero]
  rw [P_go, P_td, show (P ids x).x 0 _ = iprop(emp) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  refine BI.Entails.trans ?_ ((task ids x d hg (Fin.cast nCore_zero c) (Fin.cast nSub_zero i) O W hO).trans (wp_mono frame _ _ fun _ => obl_post))
  exact drop_emp

/-- What a core is started with is dealt to its tiles, and what they end with is the core's. -/
theorem vecSplit : (K (F := F)).VecSplit' (P ids x) 0 := by
  intro d c
  rw [P_st, P_dn]
  have e1 : (bigSep Finset.univ fun i : Fin ((K (F := F)).nSub 0) => (P ids x).go 0 d c i)
      = bigSep Finset.univ fun s : Fin 16 => goOf ids x d (Fin.cast nCore_zero c) s := bigSep_congr fun _ _ => P_go ids x d c _
  have e2 : (bigSep Finset.univ fun i : Fin ((K (F := F)).nSub 0) => (P ids x).td 0 d c i)
      = bigSep Finset.univ fun s : Fin 16 => doneOf ids x d (Fin.cast nCore_zero c) s := bigSep_congr fun _ _ => P_td ids x d c _
  rw [e1, e2]
  iintro H; imodintro
  isplitl [H]; · iexact H
  iintro H
  iexact H

end Cert.Proof.SegIdeal
-- ==== Proof.KI.Tc.lean ====
/-
  What the two TensorCore pallas_calls of @main share: the core's debts to the SparseCore call, which their waits leave
  alone, and the reading of a whole buffer.
-/
module

public import proofs.«01_k».proof.Proof.KI.Launch
public import Idealize.ShloMosaic.Lib.Pipeline.RegionsLoop

@[expose] public section

noncomputable section

namespace Cert.Proof.SegIdeal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

/-- What the TensorCore owes the SparseCore calls from the n-th on, and the pairs its waits may have recorded by then. -/
def due (c : Dev nD) (n : ℕ) : CellTallies nD τ sig (HIx 1) := (K (F := F)).Otc c n
/-- The waits that the TensorCore may have made before its call of this number. -/
def seen (c : Dev nD) (n : ℕ) : Set (SemLoc sig × HIx 1) := {p | (K (F := F)).lev (SparseCore.T c, p.1) p.2 ≤ 8 * n}

/-- Nothing is owed at the pipelines' own index. -/
theorem due_none (c : Dev nD) (n : ℕ) (g : GSem nD τ sig) : due (F := F) c n g none = 0 := by
  by_contra h
  have h' := (K (F := F)).lev_of_Otc_pos (Nat.pos_of_ne_zero h)
  have h0 : (K (F := F)).lev g none = 0 := rfl
  omega

/-- The core holds its debts, its recorded pairs below the call's level. -/
def Held (c : Dev nD) (n : ℕ) : sProp (MT nD τ sig (HIx 1) (Elt F) ℕ UU ℕ) :=
  iprop(∃ W, ⌜(K (F := F)).WBelow (SparseCore.T c) W (8 * n)⌝ ∗ owes (SparseCore.T c) (due (F := F) c n) W)

/-- A pipeline the other region's entry does not run: any data. -/
def anyDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The pipeline library's statement of a staging buffer is this development's. -/
theorem has_owns (c : Dev nD) {sp : Space} {s : Shape} {e : EltTy} (m : Memref sig .tc sp s e) (X : s.Idx → Elt F e) :
    (Has (c : Thread nD τ) fullShare m X : sProp 𝕄) ⊢ owns (c : Thread nD τ) m fullShare X := by
  unfold Has owns
  iintro ⟨%f, H, %h⟩
  iexists f
  isplitr; · ipureintro; exact h
  iexact H
/-- Owning a window with its contents is holding it with them. -/
theorem owns_has (c : Dev nD) {sp : Space} {s : Shape} {e : EltTy} (m : Memref sig .tc sp s e) (X : s.Idx → Elt F e) :
    (owns (c : Thread nD τ) m fullShare X : sProp 𝕄) ⊢ Has (c : Thread nD τ) fullShare m X := by
  unfold Has owns
  iintro ⟨%f, %h, H⟩
  iexists f
  isplitl [H]; · iexact H
  ipureintro; exact h

/-- A unit rectangle at the corner over the whole shape reads what is there. -/
theorem read_full {a b : ℕ} {α : Type} (X : (⟨2, ![a, b]⟩ : Shape).Idx → α) (inb : ∀ k, ![0, 0] k + ![a, b] k ≤ ![a, b] k) :
    (fun z => X ((Rect.unit (s := ⟨2, ![a, b]⟩) ![0, 0] ![a, b] inb).emb z)) = X := by
  funext z
  congr 1
  funext k
  apply Fin.ext
  show ![0, 0] k + 1 * (z k).val = (z k).val
  fin_cases k <;> simp

/-- Such a rectangle holds every index. -/
theorem mem_full {a b : ℕ} (inb : ∀ k, ![0, 0] k + ![a, b] k ≤ ![a, b] k) (y : (⟨2, ![a, b]⟩ : Shape).Idx) :
    y ∈ (Rect.unit (s := ⟨2, ![a, b]⟩) ![0, 0] ![a, b] inb).set := by
  rw [Rect.mem_set_unit]
  intro k
  have := (y k).isLt
  fin_cases k <;> exact ⟨Nat.zero_le _, by simpa using this⟩

end Cert.Proof.SegIdeal
-- ==== Proof.KI.Phi.lean ====
/-
  The first pallas_call of @main, the encoder: on each of its 125 blocks of 2560 rows, relu(x·W1 + b1)·W2 + b2.
-/
module

public import proofs.«01_k».proof.Proof.KI.Tc
public import proofs.«01_k».proof.Proof.Gen.KernelIdeal.Points

@[expose] public section

noncomputable section

namespace Cert.Proof.SegIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

/-- One block of the encoder: relu(x·W1 + b1)·W2 + b2. -/
def phiPay (x : Vec F S2560x128 .f32) (w1 : Vec F S128x64 .f32) (b1 : Vec F S1x64 .f32) (w2 : Vec F S64x64 .f32) (b2 : Vec F S1x64 .f32) :
    FVec F S2560x64 .f32 :=
  addf (matmul dot_S2560x64_S64x64_S2560x64_1_0_0_1_n_n none
      (maximumf (addf (matmul dot_S2560x128_S128x64_S2560x64_1_0_0_1_n_n none x w1 (constant S2560x64 .f32 0x00000000#32))
          (broadcastTo S2560x64 (shapeCast S1x64 b1 shapeCasts_S1x64_S1x64) broadcasts_S1x64_S2560x64))
        (broadcast S2560x64 (Scalar.ofBits .f32 0x00000000#32)))
      w2 (constant S2560x64 .f32 0x00000000#32))
    (broadcastTo S2560x64 (shapeCast S1x64 b2 shapeCasts_S1x64_S1x64) broadcasts_S1x64_S2560x64)

/-- The encoder's body on its six staging buffers. -/
theorem phi_run (c : Dev nD) (i : grid0.Coords) (A : Memref sig .tc .vmem S2560x128 .f32) (hA : A.IsWhole) (B : Memref sig .tc .vmem S128x64 .f32) (hB : B.IsWhole)
    (C : Memref sig .tc .vmem S1x64 .f32) (hC : C.IsWhole) (D : Memref sig .tc .vmem S64x64 .f32) (hD : D.IsWhole)
    (E : Memref sig .tc .vmem S1x64 .f32) (hE : E.IsWhole) (O : Memref sig .tc .vmem S2560x64 .f32) (hO : O.IsWhole)
    (x : Vec F S2560x128 .f32) (w1 : Vec F S128x64 .f32) (b1 : Vec F S1x64 .f32) (w2 : Vec F S64x64 .f32) (b2 : Vec F S1x64 .f32) (o : Vec F S2560x64 .f32)
    (Q : PUnit → sProp (MT nD τ sig (HIx 1) (Elt F) ℕ UU ℕ)) :
    iprop((Has (U := UU) (Name := ℕ) (Lvl := ℕ) (Ix := HIx 1) (c : Thread nD τ) fullShare A x) ∗ Has (c : Thread nD τ) fullShare B w1 ∗ Has (c : Thread nD τ) fullShare C b1 ∗ Has (c : Thread nD τ) fullShare D w2
        ∗ Has (c : Thread nD τ) fullShare E b2 ∗ Has (c : Thread nD τ) fullShare O o
        ∗ ((Has (c : Thread nD τ) fullShare A x ∗ Has (c : Thread nD τ) fullShare B w1 ∗ Has (c : Thread nD τ) fullShare C b1 ∗ Has (c : Thread nD τ) fullShare D w2
            ∗ Has (c : Thread nD τ) fullShare E b2 ∗ Has (c : Thread nD τ) fullShare O (phiPay x w1 b1 w2 b2)) -∗ Q ⟨⟩))
      ⊢ wp frame (wpE (defs₀ (F := F)) 𝒱₀ (c : Thread nD τ) none) Set.univ (cc0__phi_body i A hA B hB C hC D hD E hE O hO) Q := by
  unfold cc0__phi_body
  simp only [Prog.bind_assoc, Prog.bind_lift]
  iintro ⟨HA, HB, HC, HD, HE, HO, Hk⟩
  iapply (has_load 𝒱₀ (c : Thread nD τ) none) $$ HA
  iintro HA
  iapply (has_load 𝒱₀ (c : Thread nD τ) none) $$ HB
  iintro HB
  iapply (has_load 𝒱₀ (c : Thread nD τ) none) $$ HC
  iintro HC
  iapply (has_load 𝒱₀ (c : Thread nD τ) none) $$ HD
  iintro HD
  iapply (has_load 𝒱₀ (c : Thread nD τ) none) $$ HE
  iintro HE
  iapply (has_load 𝒱₀ (c : Thread nD τ) none) $$ HO
  iintro HO
  iapply (has_store 𝒱₀ (c : Thread nD τ) none (phiPay x w1 b1 w2 b2) ?_ ?_) $$ HO
  · refine fun z => (congrFun (read_full (phiPay x w1 b1 w2 b2) _) z).trans ?_
    rw [read_full, read_full, read_full, read_full, read_full]
    rfl
  · intro y hy
    exact absurd (mem_full _ y) hy
  iintro HO
  rw [wp_pure]
  imodintro
  iapply Hk
  isplitl [HA]; · iexact HA
  isplitl [HB]; · iexact HB
  isplitl [HC]; · iexact HC
  isplitl [HD]; · iexact HD
  isplitl [HE]; · iexact HE
  iexact HO

variable (V : (c : Dev nD) → (b : Ref sig .tc) → Buf (Elt F) ((c : Thread nD τ).loc b))

/-- What window `w` holds before the body at point `t`. -/
def phiIn (c : Dev nD) (w : Fin cfg0.W) (t : Fin cfg0.N) : (cfg0.win w).block.Idx → Elt F (cfg0.win w).elt :=
  Pipeline.heldIn (c := c) (τ := τ) (Val := Elt F) cfg0 (fun w => V c (Pipeline.arrRef spec0 w)) w t.val t.isLt

/-- The proof data of the encoder's region: inputs as fetched, the result's block the encoder's, debts untouched. -/
def phiDat (c : Dev nD) : Dat τ (Elt F) (HIx 1) ℕ UU ℕ cfg0 c where
  A w := V c (Pipeline.arrRef spec0 w)
  after w t := match w with
    | ⟨0, _⟩ => phiIn V c 0 t
    | ⟨1, _⟩ => phiIn V c 1 t
    | ⟨2, _⟩ => phiIn V c 2 t
    | ⟨3, _⟩ => phiIn V c 3 t
    | ⟨4, _⟩ => phiIn V c 4 t
    | ⟨5, _⟩ => phiPay (phiIn V c 0 t) (phiIn V c 1 t) (phiIn V c 2 t) (phiIn V c 3 t) (phiIn V c 4 t)
  Φ _ := Pipeline.scopedRest (Ix := HIx 1) (Name := ℕ) (U := UU) (Lvl := ℕ) (Val := Elt F) spec0 c
  q _ := fullShare
  owed _ := due (F := F) c 0
  recorded _ := seen (F := F) c 0

/-- Before a block's body its window of input rows holds them. -/
theorem phi_before0 (c : Dev nD) (t : Fin cfg0.N) (d) : (phiDat V c).before 0 t d = phiIn V c 0 t :=
  (phiDat V c).before_eq_heldIn 0 rfl (fun _ => rfl) (fun _ _ => rfl) (fun _ => rfl) t d
/-- Before a block's body the window of the first weights holds them. -/
theorem phi_before1 (c : Dev nD) (t : Fin cfg0.N) (d) : (phiDat V c).before 1 t d = phiIn V c 1 t :=
  (phiDat V c).before_eq_heldIn 1 rfl (fun _ => rfl) (fun _ _ => rfl) (fun _ => rfl) t d
/-- Before a block's body the window of the first bias holds it. -/
theorem phi_before2 (c : Dev nD) (t : Fin cfg0.N) (d) : (phiDat V c).before 2 t d = phiIn V c 2 t :=
  (phiDat V c).before_eq_heldIn 2 rfl (fun _ => rfl) (fun _ _ => rfl) (fun _ => rfl) t d
/-- Before a block's body the window of the second weights holds them. -/
theorem phi_before3 (c : Dev nD) (t : Fin cfg0.N) (d) : (phiDat V c).before 3 t d = phiIn V c 3 t :=
  (phiDat V c).before_eq_heldIn 3 rfl (fun _ => rfl) (fun _ _ => rfl) (fun _ => rfl) t d
/-- Before a block's body the window of the second bias holds it. -/
theorem phi_before4 (c : Dev nD) (t : Fin cfg0.N) (d) : (phiDat V c).before 4 t d = phiIn V c 4 t :=
  (phiDat V c).before_eq_heldIn 4 rfl (fun _ => rfl) (fun _ _ => rfl) (fun _ => rfl) t d

/-- The body meets the region's obligation at every point. -/
theorem phi_body (c : Dev nD) : BodyObligation (phiDat V c) (defs₀ (F := F)) 𝒱₀ none Set.univ := fun t => by
  rw [bigSep_W0, bigSep_W0]
  rw [show (phiDat V c).Φ t.succ = (phiDat V c).Φ t.castSucc from rfl,
    show (phiDat V c).owesAt none t.succ = (phiDat V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [phi_before0 V c t d0, phi_before1 V c t d1, phi_before2 V c t d2, phi_before3 V c t d3, phi_before4 V c t d4]
  iapply (phi_run (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5))
    (phiIn V c 0 t) (phiIn V c 1 t) (phiIn V c 2 t) (phiIn V c 3 t) (phiIn V c 4 t) ((phiDat V c).before 5 t d5) _)
  isplitl [H0]; · iapply (owns_has c _ _); iexact H0
  isplitl [H1]; · iapply (owns_has c _ _); iexact H1
  isplitl [H2]; · iapply (owns_has c _ _); iexact H2
  isplitl [H3]; · iapply (owns_has c _ _); iexact H3
  isplitl [H4]; · iapply (owns_has c _ _); iexact H4
  isplitl [H5]; · iapply (owns_has c _ _); iexact H5
  iintro ⟨H0, H1, H2, H3, H4, H5⟩
  isplitl [HΦ]; · iexact HΦ
  isplitl [Howes]; · iexact Howes
  isplitl [H0]; · iapply (has_owns c _ _); iexact H0
  isplitl [H1]; · iapply (has_owns c _ _); iexact H1
  isplitl [H2]; · iapply (has_owns c _ _); iexact H2
  isplitl [H3]; · iapply (has_owns c _ _); iexact H3
  isplitl [H4]; · iapply (has_owns c _ _); iexact H4
  iapply (has_owns c _ _); iexact H5

/-- The encoded rows, as the region leaves them. -/
def phiOut (c : Dev nD) : Buf (Elt F) ((c : Thread nD τ).loc main_v2) := (phiDat V c).arrAt 5 cfg0.N

/-- No prefetched tables. -/
abbrev adm : (p : Fin 2) → (pcfgs (F := F) p).Adm := fun p => (cfgs p).toPCfg_adm

/-- The two pipelines' data while the first runs. -/
def phiDats : (p : Fin 2) → (c : Dev nD) → Dat τ (Elt F) (HIx 1) ℕ UU ℕ (Pipeline.pin (pcfgs (F := F)) adm p) c
  | ⟨0, _⟩ => fun c => phiDat V c
  | ⟨1, _⟩ => fun c => anyDat c

variable (V' : (c : Dev nD) → (b : Ref sig .tc) → Buf (Elt F) ((c : Thread nD τ).loc b))

set_option backward.isDefEq.respectTransparency.types false in
/-- The encoder's region, from the buffers at `V` to the buffers at `V'`, which differs in the encoded rows alone. -/
def phiReg (h_out : ∀ c, V' c main_v2 = phiOut V c) (h_ne : ∀ c (b : Ref sig .tc), b ≠ main_v2 → V' c b = V c b) :
    Pipeline.RegionSeg (pcfgs (F := F)) adm (phiDats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (phi_body V c).loose
  hwaits c := Pipeline.cellsWaits_intro _ _ _ _ c fun w s t => (K (F := F)).mayWait_none _ (due_none c 0)
  pre c := iprop(unscopedBufs c (V c) ∗ Held (F := F) c 0)
  post c := iprop(unscopedBufs c (V' c) ∗ Held (F := F) c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (phiDats V) launch0.win launch0.arr_whole c
      ((phiDats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Held Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (phiDats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (phiDats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (phiDats V) ((phiDats V 0 c).share_full fun _ => rfl) (V c) (V' c) ((phiDats V 0 c).arrAt · cfg0.N)
      (fun w => by
        fin_cases w
        · exact ((phiDats V 0 c).arrAt_in 0 rfl _).trans (h_ne c main_arg0 (by decide)).symm
        · exact ((phiDats V 0 c).arrAt_in 1 rfl _).trans (h_ne c main_arg2 (by decide)).symm
        · exact ((phiDats V 0 c).arrAt_in 2 rfl _).trans (h_ne c main_v0 (by decide)).symm
        · exact ((phiDats V 0 c).arrAt_in 3 rfl _).trans (h_ne c main_arg4 (by decide)).symm
        · exact ((phiDats V 0 c).arrAt_in 4 rfl _).trans (h_ne c main_v1 (by decide)).symm
        · exact (h_out c).symm)
      (fun b hb => h_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Held Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

end Cert.Proof.SegIdeal
-- ==== Proof.KI.Rho.lean ====
/-
  The second pallas_call of @main, the decoder: relu(sum/max(cnt,1)·Wa + max·Wb + log(max(cnt,1))·wc + b)·W2 + b2 on the
  10000 segments at once.
-/
module

public import proofs.«01_k».proof.Proof.KI.Phi
public import proofs.«01_k».proof.Proof.Gen.KernelIdeal.Points

@[expose] public section

noncomputable section

namespace Cert.Proof.SegIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

/-- The counts' first column, no smaller than one. -/
def cntCol (ct : Vec F S10000x16 .f32) : FVec F S10000x1 .f32 :=
  maximumf (shapeCast S10000x1 (fun z => ct ((Rect.unit (s := S10000x16) ![0, 0] S10000x1.size Facts₀.inb_S10000x16_S10000x1_0_0).emb z)) shapeCasts_S10000x1_S10000x1)
    (broadcast S10000x1 (Scalar.ofBits .f32 0x3F800000#32))

/-- The hidden layer before its rectifier. -/
def rhoHid (sm : Vec F S10000x64 .f32) (mx : Vec F S10000x64 .f32) (ct : Vec F S10000x16 .f32) (wa : Vec F S64x64 .f32) (wb : Vec F S64x64 .f32) (wc : Vec F S1x64 .f32) (b : Vec F S1x64 .f32) : FVec F S10000x64 .f32 :=
  addf (addf (addf
      (matmul dot_S10000x64_S64x64_S10000x64_1_0_0_1_n_n none
        (divf (shapeCast S10000x64 sm shapeCasts_S10000x64_S10000x64) (broadcastTo S10000x64 (cntCol ct) broadcasts_S10000x1_S10000x64))
        (shapeCast S64x64 wa shapeCasts_S64x64_S64x64) (constant S10000x64 .f32 0x00000000#32))
      (matmul dot_S10000x64_S64x64_S10000x64_1_0_0_1_n_n none (shapeCast S10000x64 mx shapeCasts_S10000x64_S10000x64)
        (shapeCast S64x64 wb shapeCasts_S64x64_S64x64) (constant S10000x64 .f32 0x00000000#32)))
      (mulf (broadcastTo S10000x64 (log (cntCol ct)) broadcasts_S10000x1_S10000x64)
        (broadcastTo S10000x64 (shapeCast S1x64 wc shapeCasts_S1x64_S1x64) broadcasts_S1x64_S10000x64)))
    (broadcastTo S10000x64 (shapeCast S1x64 b shapeCasts_S1x64_S1x64) broadcasts_S1x64_S10000x64)

/-- The decoder. -/
def rhoPay (sm : Vec F S10000x64 .f32) (mx : Vec F S10000x64 .f32) (ct : Vec F S10000x16 .f32) (wa : Vec F S64x64 .f32) (wb : Vec F S64x64 .f32) (wc : Vec F S1x64 .f32) (b : Vec F S1x64 .f32) (w2 : Vec F S64x1 .f32) (b2 : Vec F S1x1 .f32) : FVec F S10000x1 .f32 :=
  addf (matmul dot_S10000x64_S64x1_S10000x1_1_0_0_1_n_n none
      (maximumf (rhoHid sm mx ct wa wb wc b) (broadcast S10000x64 (Scalar.ofBits .f32 0x00000000#32))) w2 (constant S10000x1 .f32 0x00000000#32))
    (broadcastTo S10000x1 (shapeCast S1x1 b2 shapeCasts_S1x1_S1x1) broadcasts_S1x1_S10000x1)

/-- The decoder's body on its ten staging buffers. -/
theorem rho_run (c : Dev nD) (A : Memref sig .tc .vmem S10000x64 .f32) (hA : A.IsWhole) (B : Memref sig .tc .vmem S10000x64 .f32) (hB : B.IsWhole) (C : Memref sig .tc .vmem S10000x16 .f32) (hC : C.IsWhole) (D : Memref sig .tc .vmem S64x64 .f32) (hD : D.IsWhole) (E : Memref sig .tc .vmem S64x64 .f32) (hE : E.IsWhole) (G : Memref sig .tc .vmem S1x64 .f32) (hG : G.IsWhole) (H : Memref sig .tc .vmem S1x64 .f32) (hH : H.IsWhole) (J : Memref sig .tc .vmem S64x1 .f32) (hJ : J.IsWhole) (L : Memref sig .tc .vmem S1x1 .f32) (hL : L.IsWhole) (O : Memref sig .tc .vmem S10000x1 .f32) (hO : O.IsWhole)
    (sm : Vec F S10000x64 .f32) (mx : Vec F S10000x64 .f32) (ct : Vec F S10000x16 .f32) (wa : Vec F S64x64 .f32) (wb : Vec F S64x64 .f32) (wc : Vec F S1x64 .f32) (b : Vec F S1x64 .f32) (w2 : Vec F S64x1 .f32) (b2 : Vec F S1x1 .f32) (o : Vec F S10000x1 .f32) (Q : PUnit → sProp (MT nD τ sig (HIx 1) (Elt F) ℕ UU ℕ)) :
    iprop((Has (U := UU) (Name := ℕ) (Lvl := ℕ) (Ix := HIx 1) (c : Thread nD τ) fullShare A sm) ∗ Has (c : Thread nD τ) fullShare B mx
        ∗ Has (c : Thread nD τ) fullShare C ct
        ∗ Has (c : Thread nD τ) fullShare D wa
        ∗ Has (c : Thread nD τ) fullShare E wb
        ∗ Has (c : Thread nD τ) fullShare G wc
        ∗ Has (c : Thread nD τ) fullShare H b
        ∗ Has (c : Thread nD τ) fullShare J w2
        ∗ Has (c : Thread nD τ) fullShare L b2
        ∗ Has (c : Thread nD τ) fullShare O o
        ∗ ((Has (c : Thread nD τ) fullShare A sm ∗ Has (c : Thread nD τ) fullShare B mx
        ∗ Has (c : Thread nD τ) fullShare C ct
        ∗ Has (c : Thread nD τ) fullShare D wa
        ∗ Has (c : Thread nD τ) fullShare E wb
        ∗ Has (c : Thread nD τ) fullShare G wc
        ∗ Has (c : Thread nD τ) fullShare H b
        ∗ Has (c : Thread nD τ) fullShare J w2
        ∗ Has (c : Thread nD τ) fullShare L b2 ∗ Has (c : Thread nD τ) fullShare O (rhoPay sm mx ct wa wb wc b w2 b2)) -∗ Q ⟨⟩))
      ⊢ wp frame (wpE (defs₀ (F := F)) 𝒱₀ (c : Thread nD τ) none) Set.univ (cc2__rho_body A hA B hB C hC D hD E hE G hG H hH J hJ L hL O hO) Q := by
  unfold cc2__rho_body k2_part1
  simp only [Prog.bind_assoc, Prog.bind_lift]
  iintro ⟨HA, HB, HC, HD, HE, HG, HH, HJ, HL, HO, Hk⟩
  iapply (has_load 𝒱₀ (c : Thread nD τ) none) $$ HC
  iintro HC
  iapply (has_load 𝒱₀ (c : Thread nD τ) none) $$ HA
  iintro HA
  iapply (has_load 𝒱₀ (c : Thread nD τ) none) $$ HD
  iintro HD
  iapply (has_load 𝒱₀ (c : Thread nD τ) none) $$ HB
  iintro HB
  iapply (has_load 𝒱₀ (c : Thread nD τ) none) $$ HE
  iintro HE
  iapply (has_load 𝒱₀ (c : Thread nD τ) none) $$ HG
  iintro HG
  iapply (has_load 𝒱₀ (c : Thread nD τ) none) $$ HH
  iintro HH
  iapply (has_load 𝒱₀ (c : Thread nD τ) none) $$ HJ
  iintro HJ
  iapply (has_load 𝒱₀ (c : Thread nD τ) none) $$ HL
  iintro HL
  iapply (has_load 𝒱₀ (c : Thread nD τ) none) $$ HO
  iintro HO
  iapply (has_store 𝒱₀ (c : Thread nD τ) none (rhoPay sm mx ct wa wb wc b w2 b2) ?_ ?_) $$ HO
  · refine fun z => (congrFun (read_full (rhoPay sm mx ct wa wb wc b w2 b2) _) z).trans ?_
    rw [read_full, read_full, read_full, read_full, read_full, read_full, read_full, read_full]
    rfl
  · intro y hy
    exact absurd (mem_full _ y) hy
  iintro HO
  rw [wp_pure]
  imodintro
  iapply Hk
  isplitl [HA]; · iexact HA
  isplitl [HB]; · iexact HB
  isplitl [HC]; · iexact HC
  isplitl [HD]; · iexact HD
  isplitl [HE]; · iexact HE
  isplitl [HG]; · iexact HG
  isplitl [HH]; · iexact HH
  isplitl [HJ]; · iexact HJ
  isplitl [HL]; · iexact HL
  iexact HO

variable (V : (c : Dev nD) → (b : Ref sig .tc) → Buf (Elt F) ((c : Thread nD τ).loc b))

/-- What window `w` holds before the body at point `t`. -/
def rhoIn (c : Dev nD) (w : Fin cfg2.W) (t : Fin cfg2.N) : (cfg2.win w).block.Idx → Elt F (cfg2.win w).elt :=
  Pipeline.heldIn (c := c) (τ := τ) (Val := Elt F) cfg2 (fun w => V c (Pipeline.arrRef spec2 w)) w t.val t.isLt

/-- The proof data of the decoder's region: inputs as fetched, the result the decoder's, debts untouched. -/
def rhoDat (c : Dev nD) : Dat τ (Elt F) (HIx 1) ℕ UU ℕ cfg2 c where
  A w := V c (Pipeline.arrRef spec2 w)
  after w t := match w with
    | ⟨0, _⟩ => rhoIn V c 0 t
    | ⟨1, _⟩ => rhoIn V c 1 t
    | ⟨2, _⟩ => rhoIn V c 2 t
    | ⟨3, _⟩ => rhoIn V c 3 t
    | ⟨4, _⟩ => rhoIn V c 4 t
    | ⟨5, _⟩ => rhoIn V c 5 t
    | ⟨6, _⟩ => rhoIn V c 6 t
    | ⟨7, _⟩ => rhoIn V c 7 t
    | ⟨8, _⟩ => rhoIn V c 8 t
    | ⟨9, _⟩ => rhoPay (rhoIn V c 0 t) (rhoIn V c 1 t) (rhoIn V c 2 t) (rhoIn V c 3 t) (rhoIn V c 4 t) (rhoIn V c 5 t) (rhoIn V c 6 t) (rhoIn V c 7 t) (rhoIn V c 8 t)
  Φ _ := Pipeline.scopedRest (Ix := HIx 1) (Name := ℕ) (U := UU) (Lvl := ℕ) (Val := Elt F) spec2 c
  q _ := fullShare
  owed _ := due (F := F) c 1
  recorded _ := seen (F := F) c 1

/-- Before the decoder's body its window of sums holds them. -/
theorem rho_before0 (c : Dev nD) (t : Fin cfg2.N) (d) : (rhoDat V c).before 0 t d = rhoIn V c 0 t :=
  (rhoDat V c).before_eq_heldIn 0 rfl (fun _ => rfl) (fun _ _ => rfl) (fun _ => rfl) t d
/-- Before the decoder's body its window of maxima holds them. -/
theorem rho_before1 (c : Dev nD) (t : Fin cfg2.N) (d) : (rhoDat V c).before 1 t d = rhoIn V c 1 t :=
  (rhoDat V c).before_eq_heldIn 1 rfl (fun _ => rfl) (fun _ _ => rfl) (fun _ => rfl) t d
/-- Before the decoder's body its window of counts holds them. -/
theorem rho_before2 (c : Dev nD) (t : Fin cfg2.N) (d) : (rhoDat V c).before 2 t d = rhoIn V c 2 t :=
  (rhoDat V c).before_eq_heldIn 2 rfl (fun _ => rfl) (fun _ _ => rfl) (fun _ => rfl) t d
/-- Before the decoder's body the window of the means' weights holds them. -/
theorem rho_before3 (c : Dev nD) (t : Fin cfg2.N) (d) : (rhoDat V c).before 3 t d = rhoIn V c 3 t :=
  (rhoDat V c).before_eq_heldIn 3 rfl (fun _ => rfl) (fun _ _ => rfl) (fun _ => rfl) t d
/-- Before the decoder's body the window of the maxima's weights holds them. -/
theorem rho_before4 (c : Dev nD) (t : Fin cfg2.N) (d) : (rhoDat V c).before 4 t d = rhoIn V c 4 t :=
  (rhoDat V c).before_eq_heldIn 4 rfl (fun _ => rfl) (fun _ _ => rfl) (fun _ => rfl) t d
/-- Before the decoder's body the window of the logarithm's weights holds them. -/
theorem rho_before5 (c : Dev nD) (t : Fin cfg2.N) (d) : (rhoDat V c).before 5 t d = rhoIn V c 5 t :=
  (rhoDat V c).before_eq_heldIn 5 rfl (fun _ => rfl) (fun _ _ => rfl) (fun _ => rfl) t d
/-- Before the decoder's body the window of the first bias holds it. -/
theorem rho_before6 (c : Dev nD) (t : Fin cfg2.N) (d) : (rhoDat V c).before 6 t d = rhoIn V c 6 t :=
  (rhoDat V c).before_eq_heldIn 6 rfl (fun _ => rfl) (fun _ _ => rfl) (fun _ => rfl) t d
/-- Before the decoder's body the window of the second weights holds them. -/
theorem rho_before7 (c : Dev nD) (t : Fin cfg2.N) (d) : (rhoDat V c).before 7 t d = rhoIn V c 7 t :=
  (rhoDat V c).before_eq_heldIn 7 rfl (fun _ => rfl) (fun _ _ => rfl) (fun _ => rfl) t d
/-- Before the decoder's body the window of the second bias holds it. -/
theorem rho_before8 (c : Dev nD) (t : Fin cfg2.N) (d) : (rhoDat V c).before 8 t d = rhoIn V c 8 t :=
  (rhoDat V c).before_eq_heldIn 8 rfl (fun _ => rfl) (fun _ _ => rfl) (fun _ => rfl) t d

/-- The body meets the region's obligation at every point. -/
theorem rho_body (c : Dev nD) : BodyObligation (rhoDat V c) (defs₀ (F := F)) 𝒱₀ none Set.univ := fun t => by
  rw [bigSep_W2, bigSep_W2]
  rw [show (rhoDat V c).Φ t.succ = (rhoDat V c).Φ t.castSucc from rfl,
    show (rhoDat V c).owesAt none t.succ = (rhoDat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [rho_before0 V c t d0, rho_before1 V c t d1, rho_before2 V c t d2, rho_before3 V c t d3, rho_before4 V c t d4, rho_before5 V c t d5, rho_before6 V c t d6, rho_before7 V c t d7, rho_before8 V c t d8]
  iapply (rho_run (F := F) c (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (win2_4.stage (cfg2.slots t 4)) (hstage2_4 0) (win2_5.stage (cfg2.slots t 5)) (hstage2_5 0) (win2_6.stage (cfg2.slots t 6)) (hstage2_6 0) (win2_7.stage (cfg2.slots t 7)) (hstage2_7 0) (win2_8.stage (cfg2.slots t 8)) (hstage2_8 0) (win2_9.stage (cfg2.slots t 9)) (hstage2_9 0)
    (rhoIn V c 0 t) (rhoIn V c 1 t) (rhoIn V c 2 t) (rhoIn V c 3 t) (rhoIn V c 4 t) (rhoIn V c 5 t) (rhoIn V c 6 t) (rhoIn V c 7 t) (rhoIn V c 8 t) ((rhoDat V c).before 9 t d9) _)
  isplitl [H0]; · iapply (owns_has c _ _); iexact H0
  isplitl [H1]; · iapply (owns_has c _ _); iexact H1
  isplitl [H2]; · iapply (owns_has c _ _); iexact H2
  isplitl [H3]; · iapply (owns_has c _ _); iexact H3
  isplitl [H4]; · iapply (owns_has c _ _); iexact H4
  isplitl [H5]; · iapply (owns_has c _ _); iexact H5
  isplitl [H6]; · iapply (owns_has c _ _); iexact H6
  isplitl [H7]; · iapply (owns_has c _ _); iexact H7
  isplitl [H8]; · iapply (owns_has c _ _); iexact H8
  isplitl [H9]; · iapply (owns_has c _ _); iexact H9
  iintro ⟨H0, H1, H2, H3, H4, H5, H6, H7, H8, H9⟩
  isplitl [HΦ]; · iexact HΦ
  isplitl [Howes]; · iexact Howes
  isplitl [H0]; · iapply (has_owns c _ _); iexact H0
  isplitl [H1]; · iapply (has_owns c _ _); iexact H1
  isplitl [H2]; · iapply (has_owns c _ _); iexact H2
  isplitl [H3]; · iapply (has_owns c _ _); iexact H3
  isplitl [H4]; · iapply (has_owns c _ _); iexact H4
  isplitl [H5]; · iapply (has_owns c _ _); iexact H5
  isplitl [H6]; · iapply (has_owns c _ _); iexact H6
  isplitl [H7]; · iapply (has_owns c _ _); iexact H7
  isplitl [H8]; · iapply (has_owns c _ _); iexact H8
  iapply (has_owns c _ _); iexact H9

/-- The decoded column, as the region leaves it. -/
def rhoOut (c : Dev nD) : Buf (Elt F) ((c : Thread nD τ).loc main_v12) := (rhoDat V c).arrAt 9 cfg2.N

/-- The two pipelines' data while the second runs. -/
def rhoDats : (p : Fin 2) → (c : Dev nD) → Dat τ (Elt F) (HIx 1) ℕ UU ℕ (Pipeline.pin (pcfgs (F := F)) adm p) c
  | ⟨0, _⟩ => fun c => anyDat c
  | ⟨1, _⟩ => fun c => rhoDat V c

variable (V' : (c : Dev nD) → (b : Ref sig .tc) → Buf (Elt F) ((c : Thread nD τ).loc b))

set_option backward.isDefEq.respectTransparency.types false in
/-- The decoder's region, from the buffers at `V` to the buffers at `V'`, which differs in the decoded column alone. -/
def rhoReg (h_out : ∀ c, V' c main_v12 = rhoOut V c) (h_ne : ∀ c (b : Ref sig .tc), b ≠ main_v12 → V' c b = V c b) :
    Pipeline.RegionSeg (pcfgs (F := F)) adm (rhoDats V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (rho_body V c).loose
  hwaits c := Pipeline.cellsWaits_intro _ _ _ _ c fun w s t => (K (F := F)).mayWait_none _ (due_none c 1)
  pre c := iprop(unscopedBufs c (V c) ∗ Held (F := F) c 1)
  post c := iprop(unscopedBufs c (V' c) ∗ Held (F := F) c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (rhoDats V) launch2.win launch2.arr_whole c
      ((rhoDats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Held Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (rhoDats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (rhoDats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (rhoDats V) ((rhoDats V 1 c).share_full fun _ => rfl) (V c) (V' c) ((rhoDats V 1 c).arrAt · cfg2.N)
      (fun w => by
        fin_cases w
        · exact ((rhoDats V 1 c).arrAt_in 0 rfl _).trans (h_ne c main_v4 (by decide)).symm
        · exact ((rhoDats V 1 c).arrAt_in 1 rfl _).trans (h_ne c main_v5 (by decide)).symm
        · exact ((rhoDats V 1 c).arrAt_in 2 rfl _).trans (h_ne c main_v6 (by decide)).symm
        · exact ((rhoDats V 1 c).arrAt_in 3 rfl _).trans (h_ne c main_v7 (by decide)).symm
        · exact ((rhoDats V 1 c).arrAt_in 4 rfl _).trans (h_ne c main_v8 (by decide)).symm
        · exact ((rhoDats V 1 c).arrAt_in 5 rfl _).trans (h_ne c main_v9 (by decide)).symm
        · exact ((rhoDats V 1 c).arrAt_in 6 rfl _).trans (h_ne c main_v10 (by decide)).symm
        · exact ((rhoDats V 1 c).arrAt_in 7 rfl _).trans (h_ne c main_arg8 (by decide)).symm
        · exact ((rhoDats V 1 c).arrAt_in 8 rfl _).trans (h_ne c main_v11 (by decide)).symm
        · exact (h_out c).symm)
      (fun b hb => h_ne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Held Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

end Cert.Proof.SegIdeal
-- ==== Proof.KI.Deal.lean ====
/-
  The deal of the arrays among the thirty-two tiles and the gathering of the results: the tiles' blocks of eighty rows cut
  the results, the encodings and the ids go out in shares.
-/
module

public import proofs.«01_k».proof.Proof.KI.Launch

@[expose] public section

noncomputable section

namespace Cert.Proof.SegIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Facts]
open Facts₀ Facts

local notation "𝕄" => MT nD τ sig (HIx 1) (Elt F) ℕ UU ℕ

/-! ## Thirty-two tiles of four blocks -/

/-- A slab: the tile's core and number, and which of the tile's four. -/
abbrev Blk : Type := (Fin 2 × Fin 16) × Fin 4

/-- The first segment of a slab. -/
def startOf (b : Blk) : Nat := (b.1.2.val * 2 + b.1.1.val) * 320 + b.2.val * 80
/-- Where each of a tile's four slabs starts, from the tile's first segment. -/
def nK : Fin 4 → BitVec 32 := ![0#32, 80#32, 160#32, 240#32]
/-- A block's first segment as the kernel spells it. -/
def segAt (b : Blk) : BitVec 32 := Scalar.addi (tileSeg (tileAt b.1.1 b.1.2)) (nK b.2)

/-- The same as a number. -/
theorem nK_toNat : ∀ k, (nK k).toNat = k.val * 80 := by decide
/-- The word that the program computes for a slab's first segment is that segment. -/
theorem segAt_toNat (b : Blk) : (segAt b).toNat = startOf b := by
  have h := nK_toNat b.2
  have hk := b.2.isLt
  have e := (slabSeg_toNat (tileAt b.1.1 b.1.2) (n := nK b.2) (by omega)).1
  rw [tileSeg_toNat, h] at e
  exact e
/-- Every slab ends inside the padded segments. -/
theorem start_le (b : Blk) : startOf b + 80 ≤ 10240 := by
  unfold startOf
  have := b.1.1.isLt; have := b.1.2.isLt; have := b.2.isLt
  omega
/-- Every slab lies inside the pooled sums and maxima. -/
theorem in64 (b : Blk) : OutIn64 (segAt b) := fun a => by
  have := start_le b
  match a with
  | 0 => show (segAt b).toNat + 80 ≤ 10240; rw [segAt_toNat]; exact this
  | 1 => exact Nat.le_of_eq (Nat.zero_add 64)
/-- Every slab lies inside the pooled counts. -/
theorem in16 (b : Blk) : OutIn16 (segAt b) := fun a => by
  have := start_le b
  match a with
  | 0 => show (segAt b).toNat + 80 ≤ 10240; rw [segAt_toNat]; exact this
  | 1 => exact Nat.le_of_eq (Nat.zero_add 16)

/-- What a tile is given of the pooled arrays is its four slabs, with any contents. -/
theorem rowsAny_eq (d : Dev nD) (p : Fin 2 × Fin 16) :
    (RowsAny d (tileAt p.1 p.2) sumW maxW cntW : sProp 𝕄)
      = bigSep Finset.univ fun k : Fin 4 => OutAny d (tileAt p.1 p.2) sumW maxW cntW (segAt (p, k)) (in64 (p, k)) (in16 (p, k)) := by
  rw [bigSep_univ_eq_bigSepL [0, 1, 2, 3] (by decide) (by decide)]
  rfl
/-- What a tile gives back of the pooled arrays is its four slabs, pooled. -/
theorem rows_eq (d : Dev nD) (p : Fin 2 × Fin 16) (ids : S320000.Idx → BitVec 32) (x : S320000x64.Idx → F .f32) :
    (Rows d (tileAt p.1 p.2) sumW maxW cntW ids x : sProp 𝕄)
      = bigSep Finset.univ fun k : Fin 4 => Out d (tileAt p.1 p.2) sumW maxW cntW ids x (segAt (p, k)) (in64 (p, k)) (in16 (p, k)) := by
  rw [bigSep_univ_eq_bigSepL [0, 1, 2, 3] (by decide) (by decide)]
  rfl

/-! ## An array cut into the blocks' rows -/

/-- The slabs are pairwise disjoint. -/
theorem blocks_disjoint {J : Type} (row : J → Nat) (I : Blk → Finset J)
    (hI : ∀ b y, y ∈ I b ↔ startOf b ≤ row y ∧ row y < startOf b + 80) : ∀ b ∈ (Finset.univ : Finset Blk), ∀ b' ∈ (Finset.univ : Finset Blk), b ≠ b' → Disjoint (I b) (I b') := by
  intro b _ b' _ h
  refine Finset.disjoint_left.mpr fun y h1 h2 => h ?_
  have h1 := (hI b y).mp h1
  have h2 := (hI b' y).mp h2
  unfold startOf at h1 h2
  have a1 := b.1.1.isLt; have a2 := b.1.2.isLt; have a3 := b.2.isLt
  have c1 := b'.1.1.isLt; have c2 := b'.1.2.isLt; have c3 := b'.2.isLt
  refine Prod.ext (Prod.ext (Fin.ext ?_) (Fin.ext ?_)) (Fin.ext ?_) <;> omega
/-- The slabs cover the padded segments. -/
theorem blocks_cover {J : Type} [Fintype J] [DecidableEq J] (row : J → Nat) (hrow : ∀ y, row y < 10240) (I : Blk → Finset J)
    (hI : ∀ b y, y ∈ I b ↔ startOf b ≤ row y ∧ row y < startOf b + 80) : (Finset.univ : Finset Blk).biUnion I = Finset.univ := by
  refine Finset.eq_univ_iff_forall.mpr fun y => Finset.mem_biUnion.mpr
    ⟨((⟨row y / 320 % 2, by omega⟩, ⟨row y / 320 / 2, by have := hrow y; omega⟩), ⟨row y % 320 / 80, by omega⟩), Finset.mem_univ _, (hI _ y).mpr ?_⟩
  unfold startOf
  dsimp only
  omega

/-- The arrays of the call, as the TensorCore's. -/
abbrev eLoc (d : Dev nD) : Loc nD τ sig := (SparseCore.T d).loc main_v2
/-- Where the ids lie. -/
abbrev iLoc (d : Dev nD) : Loc nD τ sig := (SparseCore.T d).loc main_arg1
/-- Where the pooled sums lie. -/
abbrev sLoc (d : Dev nD) : Loc nD τ sig := (SparseCore.T d).loc main_v3_0
/-- Where the pooled maxima lie. -/
abbrev mLoc (d : Dev nD) : Loc nD τ sig := (SparseCore.T d).loc main_v3_1
/-- Where the pooled counts lie. -/
abbrev cLoc (d : Dev nD) : Loc nD τ sig := (SparseCore.T d).loc main_v3_2

/-- A slab of the pooled sums. -/
abbrev sumB (b : Blk) : Memref sig .scVector .hbm S80x64 .f32 := out64 sumW (segAt b) (in64 b)
/-- A slab of the pooled maxima. -/
abbrev maxB (b : Blk) : Memref sig .scVector .hbm S80x64 .f32 := out64 maxW (segAt b) (in64 b)
/-- A slab of the pooled counts. -/
abbrev cntB (b : Blk) : Memref sig .scVector .hbm S80x16 .f32 := out16 cntW (segAt b) (in16 b)
/-- A slab's entries of the pooled sums or maxima. -/
abbrev I64 (b : Blk) : Finset S10240x64.Idx := (Rect.unit (s := S10240x64) ![(segAt b).toNat, 0] S80x64.size (in64 b)).set
/-- A slab's entries of the pooled counts. -/
abbrev I16 (b : Blk) : Finset S10240x16.Idx := (Rect.unit (s := S10240x16) ![(segAt b).toNat, 0] S80x16.size (in16 b)).set

/-- A slab's row, as a row of the pooled sums or maxima. -/
theorem emb64_0 (b : Blk) (z : S80x64.Idx) : ((Rect.unit (s := S10240x64) ![(segAt b).toNat, 0] S80x64.size (in64 b)).emb z 0).val = startOf b + (z 0).val := by
  rw [← segAt_toNat]
  show (segAt b).toNat + 1 * (z 0).val = _
  omega
/-- A slab's column is the array's. -/
theorem emb64_1 (b : Blk) (z : S80x64.Idx) : ((Rect.unit (s := S10240x64) ![(segAt b).toNat, 0] S80x64.size (in64 b)).emb z 1).val = (z 1).val := by
  show 0 + 1 * (z 1).val = _
  omega
/-- A slab's row, as a row of the pooled counts. -/
theorem emb16_0 (b : Blk) (z : S80x16.Idx) : ((Rect.unit (s := S10240x16) ![(segAt b).toNat, 0] S80x16.size (in16 b)).emb z 0).val = startOf b + (z 0).val := by
  rw [← segAt_toNat]
  show (segAt b).toNat + 1 * (z 0).val = _
  omega
/-- A slab's column is the array's. -/
theorem emb16_1 (b : Blk) (z : S80x16.Idx) : ((Rect.unit (s := S10240x16) ![(segAt b).toNat, 0] S80x16.size (in16 b)).emb z 1).val = (z 1).val := by
  show 0 + 1 * (z 1).val = _
  omega

/-- An entry of the sums or maxima is in a slab if its row is. -/
theorem mem64 (b : Blk) (y : S10240x64.Idx) : y ∈ I64 b ↔ startOf b ≤ (y 0).val ∧ (y 0).val < startOf b + 80 := by
  unfold I64
  rw [← Rect.map_emb_univ, Finset.mem_map]
  refine ⟨?_, fun h => ?_⟩
  · rintro ⟨z, -, rfl⟩
    have := emb64_0 b z
    have hz : (z 0).val < 80 := (z 0).isLt
    omega
  · refine ⟨ValueIdx.ix2 ⟨(y 0).val - startOf b, by omega⟩ ⟨(y 1).val, (y 1).isLt⟩, Finset.mem_univ _, funext fun a => ?_⟩
    match a with
    | 0 => exact Fin.ext ((emb64_0 b _).trans (by show startOf b + ((y 0).val - startOf b) = (y 0).val; omega))
    | 1 => exact Fin.ext (emb64_1 b _)
/-- An entry of the counts is in a slab if its row is. -/
theorem mem16 (b : Blk) (y : S10240x16.Idx) : y ∈ I16 b ↔ startOf b ≤ (y 0).val ∧ (y 0).val < startOf b + 80 := by
  unfold I16
  rw [← Rect.map_emb_univ, Finset.mem_map]
  refine ⟨?_, fun h => ?_⟩
  · rintro ⟨z, -, rfl⟩
    have := emb16_0 b z
    have hz : (z 0).val < 80 := (z 0).isLt
    omega
  · refine ⟨ValueIdx.ix2 ⟨(y 0).val - startOf b, by omega⟩ ⟨(y 1).val, (y 1).isLt⟩, Finset.mem_univ _, funext fun a => ?_⟩
    match a with
    | 0 => exact Fin.ext ((emb16_0 b _).trans (by show startOf b + ((y 0).val - startOf b) = (y 0).val; omega))
    | 1 => exact Fin.ext (emb16_1 b _)

/-- Owning a pooled array is owning its slabs. -/
theorem cut64 (ℓ : Loc nD τ sig) (f : Buf (Elt F) ℓ) (I : Blk → Finset (Idx ℓ)) (row : Idx ℓ → Nat) (hrow : ∀ y, row y < 10240)
    (hI : ∀ b y, y ∈ I b ↔ startOf b ≤ row y ∧ row y < startOf b + 80) :
    (ℓ ↦{fullShare} f : sProp 𝕄) = bigSep Finset.univ fun b : Blk => ℓ ↦[I b]{fullShare} f := by
  rw [← pointsTo_biUnion Finset.univ (ℓ := ℓ) I (blocks_disjoint row I hI), blocks_cover row hrow I hI]

/-- A block with whatever it holds, and with the segments' values, as part of the array. -/
theorem any_sum (d : Dev nD) (b : Blk) (f : Buf (Elt F) (sLoc d)) :
    (sLoc d ↦[I64 b]{fullShare} f : sProp 𝕄) ⊢ iprop(∃ A : S80x64.Idx → F .f32, At d (tileAt b.1.1 b.1.2) fullShare (sumB b) A) := by
  unfold At Has
  rw [show (sumB b).view.set = I64 b from View.set_slice_whole _ _]
  iintro H
  iexists ((sumB b).view.read (Elt F) f)
  iexists f
  isplitl [H]; · iexact H
  ipureintro; rfl
/-- A slab of the maxima, with whatever it holds. -/
theorem any_max (d : Dev nD) (b : Blk) (f : Buf (Elt F) (mLoc d)) :
    (mLoc d ↦[I64 b]{fullShare} f : sProp 𝕄) ⊢ iprop(∃ A : S80x64.Idx → F .f32, At d (tileAt b.1.1 b.1.2) fullShare (maxB b) A) := by
  unfold At Has
  rw [show (maxB b).view.set = I64 b from View.set_slice_whole _ _]
  iintro H
  iexists ((maxB b).view.read (Elt F) f)
  iexists f
  isplitl [H]; · iexact H
  ipureintro; rfl
/-- A slab of the counts, with whatever it holds. -/
theorem any_cnt (d : Dev nD) (b : Blk) (f : Buf (Elt F) (cLoc d)) :
    (cLoc d ↦[I16 b]{fullShare} f : sProp 𝕄) ⊢ iprop(∃ A : S80x16.Idx → F .f32, At d (tileAt b.1.1 b.1.2) fullShare (cntB b) A) := by
  unfold At Has
  rw [show (cntB b).view.set = I16 b from View.set_slice_whole _ _]
  iintro H
  iexists ((cntB b).view.read (Elt F) f)
  iexists f
  isplitl [H]; · iexact H
  ipureintro; rfl

/-- The call's results. -/
def sumG (ids : S320000.Idx → BitVec 32) (x : S320000x64.Idx → F .f32) (y : S10240x64.Idx) : F .f32 := segSum ids x (y 0).val (y 1).val 320000
/-- The pooled maxima, over all the points. -/
def maxG (ids : S320000.Idx → BitVec 32) (x : S320000x64.Idx → F .f32) (y : S10240x64.Idx) : F .f32 := segMax ids x (y 0).val (y 1).val 320000
/-- The pooled counts, over all the points. -/
def cntG (ids : S320000.Idx → BitVec 32) (y : S10240x16.Idx) : F .f32 := segCnt ids (y 0).val 320000

variable (ids : S320000.Idx → BitVec 32) (x : S320000x64.Idx → F .f32)

/-- A slab that a tile has summed is that part of the pooled sums. -/
theorem block_sum (d : Dev nD) (b : Blk) :
    (At d (tileAt b.1.1 b.1.2) fullShare (sumB b) (sumAt ids x (segAt b).toNat 320000) : sProp 𝕄) ⊢ sLoc d ↦[I64 b]{fullShare} (sumG ids x) := by
  unfold At Has
  rw [show (sumB b).view.set = I64 b from View.set_slice_whole _ _]
  iintro ⟨%f, H, %h⟩
  ihave H' := (Entails.of_eq (pointsTo_congr (g := sumG ids x) ?_)) $$ H
  · intro y hy
    unfold I64 at hy
    rw [← Rect.map_emb_univ, Finset.mem_map] at hy
    obtain ⟨z, -, rfl⟩ := hy
    refine (congrFun h z).trans ?_
    unfold sumAt sumG
    rw [emb64_0, emb64_1, segAt_toNat]
  iexact H'
/-- A slab whose maxima a tile has taken is that part of the pooled maxima. -/
theorem block_max (d : Dev nD) (b : Blk) :
    (At d (tileAt b.1.1 b.1.2) fullShare (maxB b) (maxAt ids x (segAt b).toNat 320000) : sProp 𝕄) ⊢ mLoc d ↦[I64 b]{fullShare} (maxG ids x) := by
  unfold At Has
  rw [show (maxB b).view.set = I64 b from View.set_slice_whole _ _]
  iintro ⟨%f, H, %h⟩
  ihave H' := (Entails.of_eq (pointsTo_congr (g := maxG ids x) ?_)) $$ H
  · intro y hy
    unfold I64 at hy
    rw [← Rect.map_emb_univ, Finset.mem_map] at hy
    obtain ⟨z, -, rfl⟩ := hy
    refine (congrFun h z).trans ?_
    unfold maxAt maxG
    rw [emb64_0, emb64_1, segAt_toNat]
  iexact H'
/-- A slab that a tile has counted is that part of the pooled counts. -/
theorem block_cnt (d : Dev nD) (b : Blk) :
    (At d (tileAt b.1.1 b.1.2) fullShare (cntB b) (cntAt ids (segAt b).toNat 320000) : sProp 𝕄) ⊢ cLoc d ↦[I16 b]{fullShare} (cntG (F := F) ids) := by
  unfold At Has
  rw [show (cntB b).view.set = I16 b from View.set_slice_whole _ _]
  iintro ⟨%f, H, %h⟩
  ihave H' := (Entails.of_eq (pointsTo_congr (g := cntG (F := F) ids) ?_)) $$ H
  · intro y hy
    unfold I16 at hy
    rw [← Rect.map_emb_univ, Finset.mem_map] at hy
    obtain ⟨z, -, rfl⟩ := hy
    refine (congrFun h z).trans ?_
    unfold cntAt cntG
    rw [emb16_0, segAt_toNat]
  iexact H'

/-- A table read in shares. -/
theorem at_ids (d : Dev nD) (i : grid1.Coords) (q : PosShare TreeShare) : (At d i q idsW ids : sProp 𝕄) = iLoc d ↦{q} (ids : Buf (Elt F) (iLoc d)) := by
  unfold At Has
  rw [show (idsW).view.set = Finset.univ from View.set_whole _]
  have h1 : (iprop(∃ f, ((idsW).view.loc (thr d i) ↦{q} f) ∗ ⌜(idsW).view.read (Elt F) f = ids⌝) : sProp 𝕄) ⊢ iLoc d ↦{q} (ids : Buf (Elt F) (iLoc d)) := by
    iintro ⟨%f, H, %h⟩
    subst h
    iexact H
  have h2 : (iLoc d ↦{q} (ids : Buf (Elt F) (iLoc d)) : sProp 𝕄) ⊢ iprop(∃ f, ((idsW).view.loc (thr d i) ↦{q} f) ∗ ⌜(idsW).view.read (Elt F) f = ids⌝) := by
    iintro H
    iexists ids
    isplitl [H]; · iexact H
    ipureintro; rfl
  exact equiv_iff.mp ⟨h1, h2⟩
/-- A tile's share of the encoded rows is a share of the array. -/
theorem at_enc (d : Dev nD) (i : grid1.Coords) (q : PosShare TreeShare) : (At d i q encW x : sProp 𝕄) = eLoc d ↦{q} (x : Buf (Elt F) (eLoc d)) := by
  unfold At Has
  rw [show (encW).view.set = Finset.univ from View.set_whole _]
  have h1 : (iprop(∃ f, ((encW).view.loc (thr d i) ↦{q} f) ∗ ⌜(encW).view.read (Elt F) f = x⌝) : sProp 𝕄) ⊢ eLoc d ↦{q} (x : Buf (Elt F) (eLoc d)) := by
    iintro ⟨%f, H, %h⟩
    subst h
    iexact H
  have h2 : (eLoc d ↦{q} (x : Buf (Elt F) (eLoc d)) : sProp 𝕄) ⊢ iprop(∃ f, ((encW).view.loc (thr d i) ↦{q} f) ∗ ⌜(encW).view.read (Elt F) f = x⌝) := by
    iintro H
    iexists x
    isplitl [H]; · iexact H
    ipureintro; rfl
  exact equiv_iff.mp ⟨h1, h2⟩

/-! ## The deal and the gathering -/

/-- The tiles' shares of a table. -/
theorem toks_tiles (ℓ : Loc nD τ sig) (f : Buf (Elt F) ℓ) :
    (bigSep Finset.univ fun n : Fin 32 => (ℓ ↦{shareTok fullShare 32 n} f : sProp 𝕄)) = bigSep Finset.univ fun p : Fin 2 × Fin 16 => ℓ ↦{tok p.1 p.2} f :=
  bigSep_univ_equiv (finProdFinEquiv : Fin 2 × Fin 16 ≃ Fin 32) fun n : Fin 32 => (ℓ ↦{shareTok fullShare 32 n} f : sProp 𝕄)

/-- What is held over cores and then tiles is held over pairs. -/
theorem pairs (Φ : Fin 2 → Fin 16 → sProp (MT nD τ sig (HIx 1) (Elt F) ℕ UU ℕ)) :
    (bigSep Finset.univ fun c => bigSep Finset.univ fun s => Φ c s) = bigSep Finset.univ fun p : Fin 2 × Fin 16 => Φ p.1 p.2 :=
  (bigSep_univ_prod fun p : Fin 2 × Fin 16 => Φ p.1 p.2).symm
/-- What is held over tiles and then slabs is held over all slabs. -/
theorem triples (Φ : Blk → sProp (MT nD τ sig (HIx 1) (Elt F) ℕ UU ℕ)) :
    (bigSep Finset.univ fun p : Fin 2 × Fin 16 => bigSep Finset.univ fun k : Fin 4 => Φ (p, k)) = bigSep Finset.univ Φ :=
  (bigSep_univ_prod Φ).symm

/-- What the TensorCore keeps of the tables meanwhile. -/
def kept (d : Dev nD) : sProp (MT nD τ sig (HIx 1) (Elt F) ℕ UU ℕ) :=
  iprop((iLoc d ↦{shareDrop fullShare 32} (ids : Buf (Elt F) (iLoc d))) ∗ eLoc d ↦{shareDrop fullShare 32} (x : Buf (Elt F) (eLoc d)))

/-- The five arrays, dealt out to the tiles, with what stays behind. -/
theorem deal (idsV : Dev nD → S320000.Idx → BitVec 32) (xV : Dev nD → S320000x64.Idx → F .f32) (d : Dev nD)
    (f0 : Buf (Elt F) (sLoc d)) (f1 : Buf (Elt F) (mLoc d)) (f2 : Buf (Elt F) (cLoc d)) :
    iprop((iLoc d ↦{fullShare} (idsV d : Buf (Elt F) (iLoc d))) ∗ (eLoc d ↦{fullShare} (xV d : Buf (Elt F) (eLoc d)))
        ∗ (sLoc d ↦{fullShare} f0) ∗ (mLoc d ↦{fullShare} f1) ∗ cLoc d ↦{fullShare} f2)
      ⊢ iprop(kept (idsV d) (xV d) d ∗ (bigSep Finset.univ fun c : Fin 2 => bigSep Finset.univ fun s : Fin 16 => goOf idsV xV d c s) : sProp 𝕄) := by
  rw [pairs]
  unfold goOf kept
  simp only [at_ids, at_enc, rowsAny_eq]
  rw [bigSep_sep', bigSep_sep', triples (fun b : Blk => OutAny d (tileAt b.1.1 b.1.2) sumW maxW cntW (segAt b) (in64 b) (in16 b))]
  unfold OutAny
  rw [bigSep_sep', bigSep_sep']
  iintro ⟨HI, HE, HS, HM, HC⟩
  ihave HI := (pointsTo_toks_split fullShare 32) $$ HI
  ihave HE := (pointsTo_toks_split fullShare 32) $$ HE
  icases HI with ⟨HI, HIs⟩
  icases HE with ⟨HE, HEs⟩
  isplitl [HI HE]
  · isplitl [HI] <;> iassumption
  ihave HIs := (Entails.of_eq (toks_tiles (F := F) (iLoc d) _)) $$ HIs
  ihave HEs := (Entails.of_eq (toks_tiles (F := F) (eLoc d) _)) $$ HEs
  isplitl [HIs]; · iexact HIs
  isplitl [HEs]; · iexact HEs
  ihave HS := ((Entails.of_eq (cut64 (F := F) (sLoc d) f0 I64 (fun y => (y 0).val) (fun y => (y 0).isLt) mem64)).trans
    (bigSep_mono fun b _ => any_sum d b f0)) $$ HS
  ihave HM := ((Entails.of_eq (cut64 (F := F) (mLoc d) f1 I64 (fun y => (y 0).val) (fun y => (y 0).isLt) mem64)).trans
    (bigSep_mono fun b _ => any_max d b f1)) $$ HM
  ihave HC := ((Entails.of_eq (cut64 (F := F) (cLoc d) f2 I16 (fun y => (y 0).val) (fun y => (y 0).isLt) mem16)).trans
    (bigSep_mono fun b _ => any_cnt d b f2)) $$ HC
  isplitl [HS]; · iexact HS
  isplitl [HM] <;> iassumption

/-- What the tiles give back, with what stayed behind, is the five arrays with the pooled ones filled. -/
theorem gather (idsV : Dev nD → S320000.Idx → BitVec 32) (xV : Dev nD → S320000x64.Idx → F .f32) (d : Dev nD) :
    iprop(kept (idsV d) (xV d) d ∗ (bigSep Finset.univ fun c : Fin 2 => bigSep Finset.univ fun s : Fin 16 => doneOf idsV xV d c s) : sProp 𝕄)
      ⊢ iprop((iLoc d ↦{fullShare} (idsV d : Buf (Elt F) (iLoc d))) ∗ (eLoc d ↦{fullShare} (xV d : Buf (Elt F) (eLoc d)))
        ∗ (sLoc d ↦{fullShare} (sumG (idsV d) (xV d) : Buf (Elt F) (sLoc d))) ∗ (mLoc d ↦{fullShare} (maxG (idsV d) (xV d) : Buf (Elt F) (mLoc d)))
        ∗ cLoc d ↦{fullShare} (cntG (F := F) (idsV d) : Buf (Elt F) (cLoc d))) := by
  rw [pairs]
  unfold doneOf kept
  simp only [at_ids, at_enc, rows_eq]
  rw [bigSep_sep', bigSep_sep', triples (fun b : Blk => Out d (tileAt b.1.1 b.1.2) sumW maxW cntW (idsV d) (xV d) (segAt b) (in64 b) (in16 b))]
  unfold Out
  rw [bigSep_sep', bigSep_sep']
  iintro ⟨⟨HI, HE⟩, HIs, HEs, HS, HM, HC⟩
  ihave HIs := (Entails.of_eq (toks_tiles (F := F) (iLoc d) _).symm) $$ HIs
  ihave HEs := (Entails.of_eq (toks_tiles (F := F) (eLoc d) _).symm) $$ HEs
  isplitl [HI HIs]
  · iapply (pointsTo_toks_join fullShare 32)
    isplitl [HI] <;> iassumption
  isplitl [HE HEs]
  · iapply (pointsTo_toks_join fullShare 32)
    isplitl [HE] <;> iassumption
  isplitl [HS]
  · iapply (Entails.of_eq (cut64 (F := F) (sLoc d) (sumG (idsV d) (xV d)) I64 (fun y => (y 0).val) (fun y => (y 0).isLt) mem64).symm)
    have hB : (bigSep Finset.univ fun b : Blk => (At d (tileAt b.1.1 b.1.2) fullShare (sumB b) (sumAt (idsV d) (xV d) (segAt b).toNat 320000) : sProp 𝕄)) ⊢
        bigSep Finset.univ fun b : Blk => sLoc d ↦[I64 b]{fullShare} (sumG (idsV d) (xV d)) :=
      bigSep_mono fun b _ => block_sum (idsV d) (xV d) d b
    iapply hB
    iexact HS
  isplitl [HM]
  · iapply (Entails.of_eq (cut64 (F := F) (mLoc d) (maxG (idsV d) (xV d)) I64 (fun y => (y 0).val) (fun y => (y 0).isLt) mem64).symm)
    have hB : (bigSep Finset.univ fun b : Blk => (At d (tileAt b.1.1 b.1.2) fullShare (maxB b) (maxAt (idsV d) (xV d) (segAt b).toNat 320000) : sProp 𝕄)) ⊢
        bigSep Finset.univ fun b : Blk => mLoc d ↦[I64 b]{fullShare} (maxG (idsV d) (xV d)) :=
      bigSep_mono fun b _ => block_max (idsV d) (xV d) d b
    iapply hB
    iexact HM
  · iapply (Entails.of_eq (cut64 (F := F) (cLoc d) (cntG (F := F) (idsV d)) I16 (fun y => (y 0).val) (fun y => (y 0).isLt) mem16).symm)
    have hB : (bigSep Finset.univ fun b : Blk => (At d (tileAt b.1.1 b.1.2) fullShare (cntB b) (cntAt (idsV d) (segAt b).toNat 320000) : sProp 𝕄)) ⊢
        bigSep Finset.univ fun b : Blk => cLoc d ↦[I16 b]{fullShare} (cntG (idsV d)) :=
      bigSep_mono fun b _ => block_cnt (idsV d) d b
    iapply hB
    iexact HC

end Cert.Proof.SegIdeal
-- ==== Proof.KI.Host.lean ====
/-
  @main's host operations and its two pallas_calls: what each leaves in the TensorCore's buffers, as a chain of
  valuations from the launch's memory to the end.
-/
module

public import proofs.«01_k».proof.Proof.KI.Rho
public import proofs.«01_k».proof.Proof.KI.Deal
public import proofs.«01_k».proof.Proof.Gen.KernelIdeal.Points

@[expose] public section

noncomputable section

namespace Cert.Proof.SegIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

/-! ## The TensorCore's buffers as one valuation -/

/-- The contents of a device's buffers. -/
abbrev Val (F : FTy → Type) := Valuation τ sig (Elt F)

/-- The TensorCore's buffers outside any scope. -/
def bufSet : Finset (DevRef τ sig) := (StableHlo.tcRefs τ sig).filter fun b => ¬ b.isScoped

/-- Owning the buffers that live throughout is holding them. -/
theorem unscoped_held (c : Dev nD) (W : Val F) :
    (unscopedBufs c (fun b => W b) : sProp 𝕄) = StableHlo.held (c : Thread nD τ) bufSet W := by
  unfold unscopedBufs StableHlo.held bufSet StableHlo.tcRefs
  rw [Finset.filter_map, bigSep_map]
  rfl

/-- `W` with the buffer `b` holding `x`. -/
def put (W : Val F) (b : DevRef τ sig) (x : b.ty.Contents (Elt F)) : Val F := Function.update W b x

/-- A buffer that has just been set holds what it was set to. -/
theorem put_self (W : Val F) (b : DevRef τ sig) (x : b.ty.Contents (Elt F)) : put W b x b = x := Function.update_self ..
/-- Setting one buffer leaves another. -/
theorem put_ne (W : Val F) (b b' : DevRef τ sig) (x : b.ty.Contents (Elt F)) (h : b' ≠ b) : put W b x b' = W b' := Function.update_of_ne h ..

/-! ## The host operations -/

section Ops
variable {F : FTy → Type} [FloatOps F]
/-- The host lays the encoder's first bias out as a row. -/
abbrev opB0 : HloOp τ sig (Elt F) := StableHlo.reshape main_arg3 main_v0 (rfl : (.f32 : EltTy) = .f32) shapeCasts_S64_S1x64
/-- The host lays the encoder's second bias out as a row. -/
abbrev opB1 : HloOp τ sig (Elt F) := StableHlo.reshape main_arg5 main_v1 (rfl : (.f32 : EltTy) = .f32) shapeCasts_S64_S1x64
/-- The host drops the padding of the sums. -/
abbrev opC0 : HloOp τ sig (Elt F) := StableHlo.unary main_v3_0 main_v4 ((extractStridedSlice S10000x64 ![0, 0] · slices_S10240x64_S10000x64_0_0) : (⟨S10240x64, .f32⟩ : BufTy).Contents (Elt F) → (⟨S10000x64, .f32⟩ : BufTy).Contents (Elt F))
/-- The host drops the padding of the maxima. -/
abbrev opC1 : HloOp τ sig (Elt F) := StableHlo.unary main_v3_1 main_v5 ((extractStridedSlice S10000x64 ![0, 0] · slices_S10240x64_S10000x64_0_0) : (⟨S10240x64, .f32⟩ : BufTy).Contents (Elt F) → (⟨S10000x64, .f32⟩ : BufTy).Contents (Elt F))
/-- The host drops the padding of the counts. -/
abbrev opC2 : HloOp τ sig (Elt F) := StableHlo.unary main_v3_2 main_v6 ((extractStridedSlice S10000x16 ![0, 0] · slices_S10240x16_S10000x16_0_0) : (⟨S10240x16, .f32⟩ : BufTy).Contents (Elt F) → (⟨S10000x16, .f32⟩ : BufTy).Contents (Elt F))
/-- The host cuts the decoder's weights of the means. -/
abbrev opC3 : HloOp τ sig (Elt F) := StableHlo.unary main_arg6 main_v7 ((extractStridedSlice S64x64 ![0, 0] · slices_S129x64_S64x64_0_0) : (⟨S129x64, .f32⟩ : BufTy).Contents (Elt F) → (⟨S64x64, .f32⟩ : BufTy).Contents (Elt F))
/-- The host cuts the decoder's weights of the maxima. -/
abbrev opC4 : HloOp τ sig (Elt F) := StableHlo.unary main_arg6 main_v8 ((extractStridedSlice S64x64 ![64, 0] · slices_S129x64_S64x64_64_0) : (⟨S129x64, .f32⟩ : BufTy).Contents (Elt F) → (⟨S64x64, .f32⟩ : BufTy).Contents (Elt F))
/-- The host cuts the decoder's weights of the logarithm. -/
abbrev opC5 : HloOp τ sig (Elt F) := StableHlo.unary main_arg6 main_v9 ((extractStridedSlice S1x64 ![128, 0] · slices_S129x64_S1x64_128_0) : (⟨S129x64, .f32⟩ : BufTy).Contents (Elt F) → (⟨S1x64, .f32⟩ : BufTy).Contents (Elt F))
/-- The host lays the decoder's first bias out as a row. -/
abbrev opC6 : HloOp τ sig (Elt F) := StableHlo.reshape main_arg7 main_v10 (rfl : (.f32 : EltTy) = .f32) shapeCasts_S64_S1x64
/-- The host lays the decoder's second bias out as a row. -/
abbrev opC7 : HloOp τ sig (Elt F) := StableHlo.reshape main_arg9 main_v11 (rfl : (.f32 : EltTy) = .f32) shapeCasts_S1_S1x1
/-- The host flattens the result. -/
abbrev opD : HloOp τ sig (Elt F) := StableHlo.reshape main_v12 main_v13 (rfl : (.f32 : EltTy) = .f32) shapeCasts_S10000x1_S10000
end Ops

/-- What a thread's own view of a valuation is. -/
def view (W : Dev nD → Val F) (c : Dev nD) (b : Ref sig .tc) : Buf (Elt F) ((c : Thread nD τ).loc b) := W c b
/-- Different names are different buffers. -/
theorem tc_ne {b b' : Ref sig .tc} (h : b ≠ b') : (Proc.devRef .tc b : DevRef τ sig) ≠ Proc.devRef .tc b' := StableHlo.devRef_ne_of_ne h

/-! ## The two pallas_calls, in the SparseCore's program -/

variable (W : Dev nD → Val F)
/-- `W` with one TensorCore buffer of each device replaced. -/
def setAt (r : Ref sig .tc) (x : (c : Dev nD) → Buf (Elt F) ((c : Thread nD τ).loc r)) (d : Dev nD) : Val F := put (W d) (Proc.devRef .tc r) (x d)

/-- A buffer set on every device holds what it was set to. -/
theorem setAt_self (r : Ref sig .tc) (x : (c : Dev nD) → Buf (Elt F) ((c : Thread nD τ).loc r)) (c : Dev nD) : view (setAt W r x) c r = x c := by
  unfold setAt view; exact put_self (W c) (Proc.devRef .tc r) (x c)
/-- Setting one buffer on every device leaves another. -/
theorem setAt_ne (r : Ref sig .tc) (x : (c : Dev nD) → Buf (Elt F) ((c : Thread nD τ).loc r)) (c : Dev nD) (b : Ref sig .tc) (hb : b ≠ r) :
    view (setAt W r x) c b = view W c b := by
  unfold setAt view; exact put_ne (W c) (Proc.devRef .tc r) (Proc.devRef .tc b) (x c) (tc_ne hb)

/-- After the encoder, from `W`. -/
def phiAft : Dev nD → Val F := setAt W main_v2 (phiOut (view W))
/-- After the decoder, from `W`. -/
def rhoAft : Dev nD → Val F := setAt W main_v12 (rhoOut (view W))

/-- After the encoder its output holds the encoded rows. -/
theorem phiAft_out (c : Dev nD) : view (phiAft W) c main_v2 = phiOut (view W) c := by
  unfold phiAft; exact setAt_self W main_v2 (phiOut (view W)) c
/-- The encoder leaves every other buffer. -/
theorem phiAft_ne (c : Dev nD) (b : Ref sig .tc) (hb : b ≠ main_v2) : view (phiAft W) c b = view W c b := by
  unfold phiAft; exact setAt_ne W main_v2 (phiOut (view W)) c b hb
/-- After the decoder its output holds the decoded column. -/
theorem rhoAft_out (c : Dev nD) : view (rhoAft W) c main_v12 = rhoOut (view W) c := by
  unfold rhoAft; exact setAt_self W main_v12 (rhoOut (view W)) c
/-- The decoder leaves every other buffer. -/
theorem rhoAft_ne (c : Dev nD) (b : Ref sig .tc) (hb : b ≠ main_v12) : view (rhoAft W) c b = view W c b := by
  unfold rhoAft; exact setAt_ne W main_v12 (rhoOut (view W)) c b hb

variable [∀ e, Nonempty (Elt F e)]

set_option backward.isDefEq.respectTransparency.types false in
/-- A region's run as @main calls it. -/
theorem call_of {p : Fin 2} {pd : (p : Fin 2) → (c : Dev nD) → Dat τ (Elt F) (HIx 1) ℕ UU ℕ (Pipeline.pin (pcfgs (F := F)) adm p) c}
    (R : Pipeline.RegionSeg (pcfgs (F := F)) adm pd none defs₀ 𝒱₀ (K (F := F)).L (K (F := F)).lev p) (c : Dev nD)
    (Φ : PUnit → sProp (MT nD τ sig (HIx 1) (Elt F) ℕ UU ℕ)) :
    iprop(boundary (SparseCore.T c) ∗ R.pre c ∗ levAts (K (F := F)).L (K (F := F)).lev
        ∗ Pipeline.cellsGhost (Pipeline.pin (pcfgs (F := F)) adm) EP p c ∗ Pipeline.toksInit (Pipeline.pin (pcfgs (F := F)) adm) EP p c
        ∗ ((boundary (SparseCore.T c) ∗ R.post c) -∗ Φ ⟨⟩))
      ⊢ wp frame (wpE ((K (F := F)).defs (D (F := F))) 𝒱 (SparseCore.T c) none) Set.univ
          (Prog.lift (.customCall (SparseCore.inner (Pipeline.entry p)) ())) Φ := by
  have hR := Pipeline.RegionSeg.wp (pcfgs (F := F)) adm pd none cellOf_inj EP defs₀ 𝒱₀ (K (F := F)).L (K (F := F)).lev
    R c none (fun u hu => nomatch hu) .ret Φ
  refine BIBase.Entails.trans ?_ ((K (F := F)).wp_liftProg (D (F := F)) 𝒱 (SparseCore.T c) Set.univ none (.op (.customCall (Pipeline.entry p) ()) .ret) Φ)
  refine BIBase.Entails.trans ?_ hR
  iintro ⟨Hb, Hp, Hl, Hc, Ht, Hk⟩
  isplitl [Hk]
  · iintro HH
    rw [wp_ret]; imodintro
    iapply Hk
    iexact HH
  isplitl [Hb]; · iexact Hb
  isplitl [Hp]; · iexact Hp
  isplitl [Hl]; · iexact Hl
  isplitl [Hc]; · iexact Hc
  iexact Ht

/-- What the encoder's call starts from. -/
theorem phiReg_pre (V V' : (c : Dev nD) → (b : Ref sig .tc) → Buf (Elt F) ((c : Thread nD τ).loc b)) (h h') (c : Dev nD) :
    (phiReg V V' h h').pre c = iprop(unscopedBufs c (V c) ∗ Held (F := F) c 0) := rfl
/-- What the encoder's call ends with. -/
theorem phiReg_post (V V' : (c : Dev nD) → (b : Ref sig .tc) → Buf (Elt F) ((c : Thread nD τ).loc b)) (h h') (c : Dev nD) :
    (phiReg V V' h h').post c = iprop(unscopedBufs c (V' c) ∗ Held (F := F) c 0) := rfl

/-- The encoder as @main calls it, from the buffers at `W`. -/
theorem phi_call (c : Dev nD) (Φ : PUnit → sProp (MT nD τ sig (HIx 1) (Elt F) ℕ UU ℕ)) :
    iprop(boundary (SparseCore.T c) ∗ (StableHlo.held (SparseCore.T c) bufSet (W c) ∗ Held (F := F) c 0) ∗ levAts (K (F := F)).L (K (F := F)).lev
        ∗ Pipeline.cellsGhost (Pipeline.pin (pcfgs (F := F)) adm) EP 0 c ∗ Pipeline.toksInit (Pipeline.pin (pcfgs (F := F)) adm) EP 0 c
        ∗ ((boundary (SparseCore.T c) ∗ StableHlo.held (SparseCore.T c) bufSet (phiAft W c) ∗ Held (F := F) c 0) -∗ Φ ⟨⟩))
      ⊢ wp frame (wpE ((K (F := F)).defs (D (F := F))) 𝒱 (SparseCore.T c) none) Set.univ
          (Prog.lift (.customCall (SparseCore.inner (Pipeline.entry 0)) ())) Φ := by
  have h := call_of (F := F) (phiReg (view W) (view (phiAft W)) (phiAft_out W) (phiAft_ne W)) c Φ
  rw [phiReg_pre, phiReg_post] at h
  unfold view at h
  rw [unscoped_held, unscoped_held] at h
  exact h

/-- What the decoder's call starts from. -/
theorem rhoReg_pre (V V' : (c : Dev nD) → (b : Ref sig .tc) → Buf (Elt F) ((c : Thread nD τ).loc b)) (h h') (c : Dev nD) :
    (rhoReg V V' h h').pre c = iprop(unscopedBufs c (V c) ∗ Held (F := F) c 1) := rfl
/-- What the decoder's call ends with. -/
theorem rhoReg_post (V V' : (c : Dev nD) → (b : Ref sig .tc) → Buf (Elt F) ((c : Thread nD τ).loc b)) (h h') (c : Dev nD) :
    (rhoReg V V' h h').post c = iprop(unscopedBufs c (V' c) ∗ Held (F := F) c 1) := rfl

/-- The decoder as @main calls it, from the buffers at `W`. -/
theorem rho_call (c : Dev nD) (Φ : PUnit → sProp (MT nD τ sig (HIx 1) (Elt F) ℕ UU ℕ)) :
    iprop(boundary (SparseCore.T c) ∗ (StableHlo.held (SparseCore.T c) bufSet (W c) ∗ Held (F := F) c 1) ∗ levAts (K (F := F)).L (K (F := F)).lev
        ∗ Pipeline.cellsGhost (Pipeline.pin (pcfgs (F := F)) adm) EP 1 c ∗ Pipeline.toksInit (Pipeline.pin (pcfgs (F := F)) adm) EP 1 c
        ∗ ((boundary (SparseCore.T c) ∗ StableHlo.held (SparseCore.T c) bufSet (rhoAft W c) ∗ Held (F := F) c 1) -∗ Φ ⟨⟩))
      ⊢ wp frame (wpE ((K (F := F)).defs (D (F := F))) 𝒱 (SparseCore.T c) none) Set.univ
          (Prog.lift (.customCall (SparseCore.inner (Pipeline.entry 1)) ())) Φ := by
  have h := call_of (F := F) (rhoReg (view W) (view (rhoAft W)) (rhoAft_out W) (rhoAft_ne W)) c Φ
  rw [rhoReg_pre, rhoReg_post] at h
  unfold view at h
  rw [unscoped_held, unscoped_held] at h
  exact h

/-- `W` after the pooling. -/
def pooled (W : Val F) (ids : S320000.Idx → BitVec 32) (x : S320000x64.Idx → F .f32) : Val F :=
  put (put (put W main_v3_0 (sumG ids x)) main_v3_1 (maxG ids x)) main_v3_2 (cntG (F := F) ids)

/-- The pooling leaves every buffer but its three outputs. -/
theorem pooled_ne (W : Val F) (ids : S320000.Idx → BitVec 32) (x : S320000x64.Idx → F .f32) (b : DevRef τ sig)
    (h0 : b ≠ Proc.devRef .tc main_v3_0) (h1 : b ≠ Proc.devRef .tc main_v3_1) (h2 : b ≠ Proc.devRef .tc main_v3_2) : pooled W ids x b = W b := by
  unfold pooled
  rw [put_ne _ _ _ _ h2, put_ne _ _ _ _ h1, put_ne _ _ _ _ h0]

/-! ## The valuations @main runs through -/

/-- The launch's memory on device `d`. -/
def v0 (m : (ℓ : Loc nD τ sig) → Buf (Elt F) ℓ) (d : Dev nD) : Val F := fun b => m ((d : Dev nD), b)
variable (m : (ℓ : Loc nD τ sig) → Buf (Elt F) ℓ)
/-- After the encoder's two reshaped biases. -/
def v1 (d : Dev nD) : Val F := opB1.result (opB0.result (v0 m d))
/-- After the encoder. -/
def v2 (d : Dev nD) : Val F := phiAft (v1 m) d
/-- The ids the pooling reads. -/
def idsAt (d : Dev nD) : S320000.Idx → BitVec 32 := v2 m d main_arg1
/-- The rows the pooling reads. -/
def rowsAt (d : Dev nD) : S320000x64.Idx → F .f32 := v2 m d main_v2
/-- After the pooling. -/
def v3 (d : Dev nD) : Val F := pooled (v2 m d) (idsAt m d) (rowsAt m d)
/-- After the decoder's operands are sliced and reshaped. -/
def v4 (d : Dev nD) : Val F :=
  opC7.result (opC6.result (opC5.result (opC4.result (opC3.result (opC2.result (opC1.result (opC0.result (v3 m d))))))))
/-- After the decoder. -/
def v5 (d : Dev nD) : Val F := rhoAft (v4 m) d
/-- At the end. -/
def v6 (d : Dev nD) : Val F := opD.result (v5 m d)

end Cert.Proof.SegIdeal
-- ==== Proof.KI.Start.lean ====
/-
  What @main's run on the TensorCore uses: a host operation's step, the pooling's buffers among the others, and the
  ghost state the launch starts from.
-/
module

public import proofs.«01_k».proof.Proof.KI.Host
public import proofs.«01_k».proof.Proof.Gen.KernelIdeal.Points

@[expose] public section

noncomputable section

namespace Cert.Proof.SegIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

variable (m : (ℓ : Loc nD τ sig) → Buf (Elt F) ℓ) (ρ : Dev nD → PrngReg)

/-! ## The host operations' steps -/

/-- A buffer that lives throughout is one of those held. -/
theorem mem_bufSet {b : Ref sig .tc} (h : (Proc.devRef .tc b : DevRef τ sig).isScoped = false) : (Proc.devRef .tc b : DevRef τ sig) ∈ bufSet :=
  Finset.mem_filter.mpr ⟨StableHlo.devRef_mem_tcRefs b, by rw [h]; exact Bool.false_ne_true⟩

/-- Two such buffers are among those held. -/
theorem pair_sub {x y : Ref sig .tc} (hx : (Proc.devRef .tc x : DevRef τ sig).isScoped = false) (hy : (Proc.devRef .tc y : DevRef τ sig).isScoped = false) :
    ({Proc.devRef .tc x, Proc.devRef .tc y} : Finset (DevRef τ sig)) ⊆ bufSet :=
  Finset.insert_subset (mem_bufSet hx) (Finset.singleton_subset_iff.mpr (mem_bufSet hy))

/-- One host operation on the buffers. -/
theorem host_step (op : HloOp τ sig (Elt F)) (hS : op.bufs ⊆ bufSet) (hf : op.fresh = ∅) (c : Dev nD) (W : Val F)
    (Φ : PUnit → sProp (MT nD τ sig (HIx 1) (Elt F) ℕ UU ℕ)) :
    iprop(boundary (SparseCore.T c) ∗ StableHlo.held (SparseCore.T c) bufSet W
        ∗ ((boundary (SparseCore.T c) ∗ StableHlo.held (SparseCore.T c) bufSet (op.result W)) -∗ Φ ⟨⟩))
      ⊢ wp frame (wpE ((K (F := F)).defs (D (F := F))) 𝒱 (SparseCore.T c) none) Set.univ (hlo rfl op (fun _ => .ret ⟨⟩)) Φ := by
  iintro ⟨Hb, Hh, Hk⟩
  iapply (StableHlo.wp_hlo_within 𝒱 (SparseCore.T c) none Set.univ hS (V := W) hf) $$ [Hb Hh]
  · isplitl [Hb] <;> iassumption
  iintro H
  rw [wp_ret]; imodintro
  iapply Hk; iexact H

/-! ## The pooling's buffers -/

/-- The five arrays that the pooling reads or writes. -/
def poolRefs : Finset (DevRef τ sig) :=
  {Proc.devRef .tc main_arg1, Proc.devRef .tc main_v2, Proc.devRef .tc main_v3_0, Proc.devRef .tc main_v3_1, Proc.devRef .tc main_v3_2}

/-- They are among those held. -/
theorem pool_sub : poolRefs ⊆ bufSet := by
  unfold poolRefs
  refine Finset.insert_subset (mem_bufSet rfl) (Finset.insert_subset (mem_bufSet rfl) (Finset.insert_subset (mem_bufSet rfl)
    (Finset.insert_subset (mem_bufSet rfl) (Finset.singleton_subset_iff.mpr (mem_bufSet rfl)))))

/-- The five arrays, taken out of what is held. -/
theorem pool_split (d : Dev nD) (W : Val F) :
    (StableHlo.held (SparseCore.T d) bufSet W : sProp 𝕄)
      = iprop(((iLoc d ↦{fullShare} W main_arg1) ∗ (eLoc d ↦{fullShare} W main_v2) ∗ (sLoc d ↦{fullShare} W main_v3_0)
          ∗ (mLoc d ↦{fullShare} W main_v3_1) ∗ cLoc d ↦{fullShare} W main_v3_2) ∗ StableHlo.held (SparseCore.T d) (bufSet \ poolRefs) W) := by
  rw [StableHlo.held_sub_split (SparseCore.T d) pool_sub W]
  congr 1
  unfold StableHlo.held
  rw [bigSep_eq_bigSepL_of_eq [Proc.devRef .tc main_arg1, Proc.devRef .tc main_v2, Proc.devRef .tc main_v3_0, Proc.devRef .tc main_v3_1, Proc.devRef .tc main_v3_2]
    (by decide) (by decide)]
  rfl

/-! ## The launch's ghost state -/

/-- The state that the handshakes and the pipelines start from. -/
def u₀ : UU := (initOf (K (F := F)).hsCells (K (F := F)).hsToks, (initOf (Pipeline.cells (nD := nD) (τ := τ) cfgs cellOf_inj) (Pipeline.launchToks (nD := nD) (τ := τ) cfgs cellOf_inj), 1))

/-- That state, split into the two. -/
theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- A device's own share of the pipelines' launch. -/
def G (d : Dev nD) : sProp (MT nD τ sig (HIx 1) (Elt F) ℕ UU ℕ) :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

variable (ids : Dev nD → S320000.Idx → BitVec 32) (x : Dev nD → S320000x64.Idx → F .f32)

/-- The SparseCore call needs nothing more. -/
theorem Px_none : (iprop(emp) : sProp 𝕄) ⊢ bigSep Finset.univ fun thr : Thread nD τ => bigSep Finset.univ fun q : Fin 1 => (P ids x).x q thr := by
  have h : ∀ thr : Thread nD τ, (bigSep Finset.univ fun q : Fin 1 => (P ids x).x q thr) = (iprop(emp) : sProp 𝕄) := fun thr =>
    bigSep_univ_of_subsingleton (0 : Fin 1)
  simp only [h]
  exact (Entails.of_eq (bigSep_emp_const (Finset.univ : Finset (Thread nD τ))).symm)

/-- That state is what the launch asks for. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P ids x).x q thr) := by
  unfold u₀
  iintro Hu
  ihave H := (ownU_split _ _) $$ Hu
  icases H with ⟨HH, HK⟩
  imod (Pipeline.fund_ghost (nD := nD) (τ := τ) cfgs EP cellOf_inj) $$ HK with ⟨Hc, Ht⟩
  imodintro
  isplitl [HH]; · iexact HH
  isplitl [Hc Ht]
  · unfold G
    rw [bigSep_sep']
    isplitl [Hc]; · iexact Hc
    iexact Ht
  iapply (Px_none ids x); iempintro

end Cert.Proof.SegIdeal
-- ==== Proof.KI.Run.lean ====
/-
  @main's run on the TensorCore: the host operations, the encoder, the pooling on the SparseCores and the decoder, from
  the launch's memory to the last valuation.
-/
module

public import proofs.«01_k».proof.Proof.KI.Start
public import proofs.«01_k».proof.Proof.Gen.KernelIdeal.Points

@[expose] public section

noncomputable section

namespace Cert.Proof.SegIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

variable (m : (ℓ : Loc nD τ sig) → Buf (Elt F) ℓ) (ρ : Dev nD → PrngReg)

/-- What the TensorCore holds between calls, with the part that a region needs set apart. -/
theorem st_held (d : Dev nD) (n : ℕ) : ∃ R : sProp 𝕄, (K (F := F)).tcSt EH d n = iprop(Held (F := F) d n ∗ R) := ⟨_, rfl⟩

/-- What is held for each of two is held for the one and for the other. -/
theorem two_calls (f : Fin 2 → sProp (MT nD τ sig (HIx 1) (Elt F) ℕ UU ℕ)) : bigSep Finset.univ f = iprop(f 0 ∗ f 1) := by
  rw [bigSep_univ_eq_bigSepL [(0 : Fin 2), 1] (by decide) (by decide)]; rfl

/-- What the cores are started with is what the tiles are. -/
theorem st_all (ids : Dev nD → S320000.Idx → BitVec 32) (x : Dev nD → S320000x64.Idx → F .f32) (d : Dev nD) :
    (bigSep Finset.univ fun c : Fin ((K (F := F)).nCore 0) => (P ids x).st 0 d c)
      = bigSep Finset.univ fun c : Fin 2 => bigSep Finset.univ fun s : Fin 16 => goOf ids x d c s := by
  simp only [P_st]
  rfl
/-- What the cores end with is what the tiles do. -/
theorem dn_all (ids : Dev nD → S320000.Idx → BitVec 32) (x : Dev nD → S320000x64.Idx → F .f32) (d : Dev nD) :
    (bigSep Finset.univ fun c : Fin ((K (F := F)).nCore 0) => (P ids x).dn 0 d c)
      = bigSep Finset.univ fun c : Fin 2 => bigSep Finset.univ fun s : Fin 16 => doneOf ids x d c s := by
  simp only [P_dn]
  rfl

/-- The buffers the pooling leaves alone. -/
theorem rest_same (d : Dev nD) (W : Val F) (ids : S320000.Idx → BitVec 32) (x : S320000x64.Idx → F .f32) :
    (StableHlo.held (SparseCore.T d) (bufSet \ poolRefs) W : sProp 𝕄) = StableHlo.held (SparseCore.T d) (bufSet \ poolRefs) (pooled W ids x) := by
  refine StableHlo.held_congr (SparseCore.T d) fun b hb => ?_
  have hn : b ∉ poolRefs := (Finset.mem_sdiff.mp hb).2
  refine (pooled_ne W ids x b (fun e => hn ?_) (fun e => hn ?_) (fun e => hn ?_)).symm <;> rw [e] <;> unfold poolRefs <;> simp

/-- The pooling leaves the ids. -/
theorem pooled_ids (W : Val F) (ids : S320000.Idx → BitVec 32) (x : S320000x64.Idx → F .f32) : pooled W ids x main_arg1 = W main_arg1 :=
  pooled_ne W ids x _ (tc_ne (by decide)) (tc_ne (by decide)) (tc_ne (by decide))
/-- The pooling leaves the encoded rows. -/
theorem pooled_rows (W : Val F) (ids : S320000.Idx → BitVec 32) (x : S320000x64.Idx → F .f32) : pooled W ids x main_v2 = W main_v2 :=
  pooled_ne W ids x _ (tc_ne (by decide)) (tc_ne (by decide)) (tc_ne (by decide))
/-- After the pooling its first output holds the sums. -/
theorem pooled_sum (W : Val F) (ids : S320000.Idx → BitVec 32) (x : S320000x64.Idx → F .f32) : pooled W ids x main_v3_0 = sumG ids x := by
  unfold pooled; rw [put_ne _ _ _ _ (tc_ne (by decide)), put_ne _ _ _ _ (tc_ne (by decide)), put_self]
/-- After the pooling its second output holds the maxima. -/
theorem pooled_max (W : Val F) (ids : S320000.Idx → BitVec 32) (x : S320000x64.Idx → F .f32) : pooled W ids x main_v3_1 = maxG ids x := by
  unfold pooled; rw [put_ne _ _ _ _ (tc_ne (by decide)), put_self]
/-- After the pooling its third output holds the counts. -/
theorem pooled_cnt (W : Val F) (ids : S320000.Idx → BitVec 32) (x : S320000x64.Idx → F .f32) : pooled W ids x main_v3_2 = cntG (F := F) ids := by
  unfold pooled; rw [put_self]

/-- What the pooling is given, out of the buffers. -/
theorem pool_in (W : Dev nD → Val F) (d : Dev nD) :
    (StableHlo.held (SparseCore.T d) bufSet (W d) : sProp 𝕄)
      ⊢ iprop(StableHlo.held (SparseCore.T d) (bufSet \ poolRefs) (W d) ∗ kept (F := F) (W d main_arg1) (W d main_v2) d
          ∗ (bigSep Finset.univ fun c : Fin 2 => bigSep Finset.univ fun s : Fin 16 => goOf (F := F) (fun d => W d main_arg1) (fun d => W d main_v2) d c s)) := by
  rw [pool_split]
  iintro ⟨Hp, Hr⟩
  isplitl [Hr]; · iexact Hr
  iapply (deal (F := F) (fun d => W d main_arg1) (fun d => W d main_v2) d (W d main_v3_0) (W d main_v3_1) (W d main_v3_2)); iexact Hp

/-- The buffers, with what the pooling gives back. -/
theorem pool_out (W : Dev nD → Val F) (d : Dev nD) :
    iprop(StableHlo.held (SparseCore.T d) (bufSet \ poolRefs) (W d) ∗ kept (F := F) (W d main_arg1) (W d main_v2) d
        ∗ (bigSep Finset.univ fun c : Fin 2 => bigSep Finset.univ fun s : Fin 16 => doneOf (F := F) (fun d => W d main_arg1) (fun d => W d main_v2) d c s))
      ⊢ (StableHlo.held (SparseCore.T d) bufSet (pooled (W d) (W d main_arg1) (W d main_v2)) : sProp 𝕄) := by
  rw [pool_split, rest_same d (W d) (W d main_arg1) (W d main_v2), pooled_ids, pooled_rows, pooled_sum, pooled_max, pooled_cnt]
  iintro ⟨Hr, Hp⟩
  isplitr [Hr]
  · iapply (gather (F := F) (fun d => W d main_arg1) (fun d => W d main_v2) d); iexact Hp
  iexact Hr

/-- What a device ends with: all its buffers, at the last stage's contents. -/
def FIN (d : Dev nD) : sProp (MT nD τ sig (HIx 1) (Elt F) ℕ UU ℕ) := StableHlo.held (SparseCore.T d) bufSet (v6 m d)

variable [∀ e, Nonempty (Elt F e)]

/-- The TensorCore's program, from the launch to its end. -/
theorem hmain (κ : GSem nD τ sig → ℕ) (d : Dev nD) :
    iprop((K (F := F)).ctx EH (P (idsAt m) (rowsAt m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, hR0⟩ := st_held (F := F) d 0
  obtain ⟨R1, hR1⟩ := st_held (F := F) d 1
  unfold SparseCore.Cfg.tcRes SparseCore.Cfg.tcEnd G FIN
  rw [two_calls, two_calls]
  have hbufs : (unscopedBufs d (fun b => m ((SparseCore.T d).loc b)) : sProp 𝕄) = StableHlo.held (SparseCore.T d) bufSet (v0 m d) := unscoped_held d (v0 m d)
  rw [hbufs]
  simp only [main, wp_bind, wp_pure]
  iintro ⟨#Hctx, Hst, ⟨Hb, Hh, Hts, -⟩, ⟨Hc0, Hc1⟩, Ht0, Ht1⟩
  ihave #Hlev := ((K (F := F)).ctx_levAts (EH := EH) (P := P (idsAt m) (rowsAt m)) κ) $$ Hctx
  iapply (host_step opB0 (pair_sub rfl rfl) rfl d (v0 m d)) $$ [-]
  isplitl [Hb]; · iexact Hb
  isplitl [Hh]; · iexact Hh
  iintro ⟨Hb, Hh⟩
  iapply (host_step opB1 (pair_sub rfl rfl) rfl d (opB0.result (v0 m d))) $$ [-]
  isplitl [Hb]; · iexact Hb
  isplitl [Hh]; · iexact Hh
  iintro ⟨Hb, Hh⟩
  ihave Hst' := (Entails.of_eq hR0) $$ Hst
  icases Hst' with ⟨HO, HR⟩
  iapply (phi_call (v1 m) d) $$ [-]
  isplitl [Hb]; · iexact Hb
  isplitl [Hh HO]
  · isplitl [Hh]; · iexact Hh
    iexact HO
  isplitr; · iexact Hlev
  isplitl [Hc0]; · iexact Hc0
  isplitl [Ht0]; · iexact Ht0
  iintro ⟨Hb, Hh, HO⟩
  ihave HP := (show (StableHlo.held (SparseCore.T d) bufSet (phiAft (v1 m) d) : sProp 𝕄) ⊢ _ from pool_in (v2 m) d) $$ Hh
  icases HP with ⟨Hrest, Hkept, Hgo⟩
  iapply ((K (F := F)).wp_run (D (F := F)) 𝒱 (EH := EH) (P := P (idsAt m) (rowsAt m)) κ d 0) $$ [-]
  isplitr; · iexact Hctx
  isplitl [HO HR]
  · iapply (Entails.of_eq hR0.symm); isplitl [HO]; · iexact HO
    iexact HR
  isplitl [Hgo]
  · iapply (Entails.of_eq (st_all (idsAt m) (rowsAt m) d).symm); iexact Hgo
  iintro ⟨Hst, Hdn⟩
  ihave Hdn' := (Entails.of_eq (dn_all (idsAt m) (rowsAt m) d)) $$ Hdn
  ihave Hh := (pool_out (v2 m) d) $$ [Hrest Hkept Hdn']
  · isplitl [Hrest]; · iexact Hrest
    isplitl [Hkept]; · iexact Hkept
    iexact Hdn'
  iapply (host_step opC0 (pair_sub rfl rfl) rfl d) $$ [-]
  isplitl [Hb]; · iexact Hb
  isplitl [Hh]; · iexact Hh
  iintro ⟨Hb, Hh⟩
  iapply (host_step opC1 (pair_sub rfl rfl) rfl d) $$ [-]
  isplitl [Hb]; · iexact Hb
  isplitl [Hh]; · iexact Hh
  iintro ⟨Hb, Hh⟩
  iapply (host_step opC2 (pair_sub rfl rfl) rfl d) $$ [-]
  isplitl [Hb]; · iexact Hb
  isplitl [Hh]; · iexact Hh
  iintro ⟨Hb, Hh⟩
  iapply (host_step opC3 (pair_sub rfl rfl) rfl d) $$ [-]
  isplitl [Hb]; · iexact Hb
  isplitl [Hh]; · iexact Hh
  iintro ⟨Hb, Hh⟩
  iapply (host_step opC4 (pair_sub rfl rfl) rfl d) $$ [-]
  isplitl [Hb]; · iexact Hb
  isplitl [Hh]; · iexact Hh
  iintro ⟨Hb, Hh⟩
  iapply (host_step opC5 (pair_sub rfl rfl) rfl d) $$ [-]
  isplitl [Hb]; · iexact Hb
  isplitl [Hh]; · iexact Hh
  iintro ⟨Hb, Hh⟩
  iapply (host_step opC6 (pair_sub rfl rfl) rfl d) $$ [-]
  isplitl [Hb]; · iexact Hb
  isplitl [Hh]; · iexact Hh
  iintro ⟨Hb, Hh⟩
  iapply (host_step opC7 (pair_sub rfl rfl) rfl d) $$ [-]
  isplitl [Hb]; · iexact Hb
  isplitl [Hh]; · iexact Hh
  iintro ⟨Hb, Hh⟩
  ihave Hst' := (show (K (F := F)).tcSt EH d ((0 : Fin 1).val + 1) ⊢ iprop(Held (F := F) d 1 ∗ R1) from Entails.of_eq hR1) $$ Hst
  icases Hst' with ⟨HO, HR⟩
  iapply (rho_call (v4 m) d) $$ [-]
  isplitl [Hb]; · iexact Hb
  isplitl [Hh HO]
  · isplitl [Hh]; · iexact Hh
    iexact HO
  isplitr; · iexact Hlev
  isplitl [Hc1]; · iexact Hc1
  isplitl [Ht1]; · iexact Ht1
  iintro ⟨Hb, Hh, HO⟩
  iapply (host_step opD (pair_sub rfl rfl) rfl d (v5 m d)) $$ [-]
  isplitl [Hb]; · iexact Hb
  isplitl [Hh]; · iexact Hh
  iintro ⟨Hb, Hh⟩
  imodintro
  isplitl [HO HR]
  · iapply (Entails.of_eq hR1.symm); isplitl [HO]; · iexact HO
    iexact HR
  isplitl [Hh]; · iexact Hh
  isplitl [Hb] <;> iassumption

end Cert.Proof.SegIdeal
-- ==== Proof.KI.Fin.lean ====
/-
  The program's run: every TensorCore buffer ends at the last valuation, the semaphores at zero.
-/
module

public import proofs.«01_k».proof.Proof.KI.Run
public import proofs.«01_k».proof.Proof.Gen.KernelIdeal.Points

@[expose] public section

noncomputable section

namespace Cert.Proof.SegIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

variable (m : (ℓ : Loc nD τ sig) → Buf (Elt F) ℓ) (ρ : Dev nD → PrngReg)

/-! ## What the memory holds at the end -/

/-- Every buffer of a device holds what the program's last stage leaves. -/
def fq (d : Dev nD) (s' : Phys nD τ sig (Elt F)) : Prop := ∀ b ∈ bufSet, s'.mem.mem ((d : Dev nD), b) = v6 m d b

/-- A buffer that is held has its contents in memory. -/
theorem read_one (d : Dev nD) (s' : Phys nD τ sig (Elt F)) (W : Val F) (b : DevRef τ sig) (hb : b ∈ bufSet) :
    iprop(StableHlo.held (SparseCore.T d) bufSet W ∗ SI s') ⊢ (⌜s'.mem.mem ((d : Dev nD), b) = W b⌝ : sProp 𝕄) := by
  have hs : (StableHlo.held (SparseCore.T d) bufSet W : sProp 𝕄) ⊢ ((((d : Dev nD), b) : Loc nD τ sig) ↦{fullShare} W b) := by
    unfold StableHlo.held
    rw [bigSep_erase hb]
    exact sep_elim_left
  iintro ⟨Hh, HSI⟩
  ihave Hb := hs $$ Hh
  ihave H := (SI_pointsTo_agree (st := s') (ℓ := ((d : Dev nD), b)) (I := Finset.univ) (q := fullShare) (f := W b)) $$ [HSI Hb]
  · isplitl [HSI] <;> iassumption
  icases H with %h
  ipureintro; exact funext fun i => h i (Finset.mem_univ i)

/-- What a device ends with gives the contents of all its buffers. -/
theorem hfin (d : Dev nD) (s' : Phys nD τ sig (Elt F)) : iprop(FIN m d ∗ SI s') ⊢ (⌜fq m d s'⌝ : sProp 𝕄) := by
  unfold FIN fq
  refine BIBase.Entails.trans (forall_intro fun b => ?_) pure_forall.2
  refine BIBase.Entails.trans (forall_intro fun hb => ?_) pure_forall.2
  exact read_one d s' (v6 m d) b hb

/-- What the run ends with: the last stage's contents, and every semaphore at zero. -/
def QC : PUnit × MemSt nD τ sig (Elt F) → Prop := fun r => (∀ d : Dev nD, ∀ b ∈ bufSet, r.2.mem ((d : Dev nD), b) = v6 m d b) ∧ r.2.sem = fun _ => 0

/-- The program's run: with the ids sorted and in range, every TensorCore buffer ends at the last valuation. -/
theorem run_main [∀ e, Nonempty (Elt F e)] (hg : ∀ d, Good (idsAt m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (idsAt m) (rowsAt m)) (A := ∅) scFacts v₀
    (fun q hq => match q with | 0 => nomatch hq)
    (fun q _ => match q with | 0 => tileObl (idsAt m) (rowsAt m) hg)
    (fun q _ => match q with | 0 => SparseCore.Cfg.VecSplit.of_plain (vecSplit (idsAt m) (rowsAt m)))
    m ρ main G (FIN m) (u₀ (F := F)) (sep_elim_left.trans (hu₀ (idsAt m) (rowsAt m))) (hmain m ρ) (fq m) (hfin m) (QC m) (fun _ h hz => ⟨h, hz⟩)

/-! ## The buffers no operation writes -/

/-- The buffers an operation or a call of @main writes. -/
def written : List (Ref sig .tc) :=
  [main_v0, main_v1, main_v2, main_v3_0, main_v3_1, main_v3_2, main_v4, main_v5, main_v6, main_v7, main_v8, main_v9, main_v10, main_v11, main_v12, main_v13]

/-- A buffer that is not written is none of those that are. -/
theorem ne_of_written {b : Ref sig .tc} (h : b ∉ written) {r : Ref sig .tc} (hr : r ∈ written) : b ≠ r := fun e => h (e ▸ hr)

/-- Up to the pooling, what is not written is as the launch left it. -/
theorem v2_keep (d : Dev nD) (b : Ref sig .tc) (h : b ∉ written) : v2 m d (Proc.devRef .tc b) = m ((d : Dev nD), Proc.devRef .tc b) := by
  have n {r : Ref sig .tc} (hr : r ∈ written) : b ≠ r := ne_of_written h hr
  refine (phiAft_ne (v1 m) d b (n (by decide))).trans ?_
  unfold view v1 opB0 opB1
  rw [StableHlo.reshape_result_ne _ _ _ _ _ _ _ (n (by decide)), StableHlo.reshape_result_ne _ _ _ _ _ _ _ (n (by decide))]
  rfl

/-- After the pooling, what is not written is as the launch left it. -/
theorem v3_keep (d : Dev nD) (b : Ref sig .tc) (h : b ∉ written) : v3 m d (Proc.devRef .tc b) = m ((d : Dev nD), Proc.devRef .tc b) := by
  have n {r : Ref sig .tc} (hr : r ∈ written) : b ≠ r := ne_of_written h hr
  unfold v3
  rw [pooled_ne _ _ _ _ (tc_ne (n (by decide))) (tc_ne (n (by decide))) (tc_ne (n (by decide)))]
  exact v2_keep m d b h

/-- Before the decoder, what is not written is as the launch left it. -/
theorem v4_keep (d : Dev nD) (b : Ref sig .tc) (h : b ∉ written) : v4 m d (Proc.devRef .tc b) = m ((d : Dev nD), Proc.devRef .tc b) := by
  have n {r : Ref sig .tc} (hr : r ∈ written) : b ≠ r := ne_of_written h hr
  unfold v4 opC0 opC1 opC2 opC3 opC4 opC5 opC6 opC7
  rw [StableHlo.reshape_result_ne _ _ _ _ _ _ _ (n (by decide)), StableHlo.reshape_result_ne _ _ _ _ _ _ _ (n (by decide)),
    StableHlo.unary_result_ne _ _ _ _ _ _ (n (by decide)), StableHlo.unary_result_ne _ _ _ _ _ _ (n (by decide)),
    StableHlo.unary_result_ne _ _ _ _ _ _ (n (by decide)), StableHlo.unary_result_ne _ _ _ _ _ _ (n (by decide)),
    StableHlo.unary_result_ne _ _ _ _ _ _ (n (by decide)), StableHlo.unary_result_ne _ _ _ _ _ _ (n (by decide))]
  exact v3_keep m d b h

/-- A buffer @main does not write ends as the launch left it. -/
theorem v6_keep (d : Dev nD) (b : Ref sig .tc) (h : b ∉ written) : v6 m d (Proc.devRef .tc b) = m ((d : Dev nD), Proc.devRef .tc b) := by
  have n {r : Ref sig .tc} (hr : r ∈ written) : b ≠ r := ne_of_written h hr
  unfold v6 opD
  rw [StableHlo.reshape_result_ne _ _ _ _ _ _ _ (n (by decide))]
  exact (rhoAft_ne (v4 m) d b (n (by decide))).trans (v4_keep m d b h)

/-- The ids that the pooling reads are the argument's. -/
theorem ids_same (d : Dev nD) : idsAt m d = m ((d : Dev nD), Proc.devRef .tc main_arg1) := v2_keep m d main_arg1 (by decide)

end Cert.Proof.SegIdeal
-- ==== Proof.KI.Pre.lean ====
/-
  What the precondition says of the ids.
-/
module

public import proofs.«01_k».proof.Proof.KI.Fin
public import proofs.«01_k».proof.Proof.Gen.Pre_ids_ok
public import proofs.«01_k».proof.Defs
public import Idealize.ShloMosaic.Lib.ReduceAll
public import proofs.«01_k».proof.Proof.Gen.KernelIdeal.Points

@[expose] public section

noncomputable section

namespace Cert.Proof.SegIdeal

open Cert.KernelIdeal Cert.KernelIdeal.Gen
open Idealize.ShloMosaic.ValueIdx (ix1 ix2 eq_ix1 eq_ix2)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Facts]

local notation "𝕄" => MT nD τ sig (HIx 1) (Elt F) ℕ UU ℕ

/-! ## The precondition -/

/-- The word of a truth value is one if it is true. -/
theorem ofBool_one (p : Bool) : (BitVec.ofBool p = 1#1) ↔ p = true := by cases p <;> decide
/-- A conjunction is one if both parts are. -/
theorem andi_one {a b : BitVec 1} (h : IntOp.andi a b = 1#1) : a = 1#1 ∧ b = 1#1 := by
  revert h; revert a b; decide

/-- A word found between zero and the number of segments is below it. -/
theorem word_in {v : BitVec 32} (h0 : IntOp.cmpi .sge v 0#32 = 1#1) (h1 : IntOp.cmpi .slt v 10000#32 = 1#1) : v.toNat < 10000 := by
  simp only [IntOp.cmpi, ofBool_one, BitVec.sle_eq_decide, BitVec.slt_eq_decide, decide_eq_true_eq, BitVec.toInt_eq_toNat_cond,
    BitVec.toNat_ofNat, Nat.reducePow, Nat.reduceMod] at h0 h1
  omega

/-- Two such words in signed order are in order as numbers. -/
theorem word_le {v w : BitVec 32} (hv : v.toNat < 10000) (hw : w.toNat < 10000) (h : IntOp.cmpi .sle v w = 1#1) : v.toNat ≤ w.toNat := by
  simp only [IntOp.cmpi, ofBool_one, BitVec.sle_eq_decide, decide_eq_true_eq, BitVec.toInt_eq_toNat_cond, Nat.reducePow] at h
  omega

/-- A scalar has one entry. -/
theorem one_idx (i j : (⟨0, ![]⟩ : Shape).Idx) : i = j := funext fun a => a.elim0

/-- `ids_ok`, all ones, says the ids name segments and are in order. -/
theorem good_of_pre (a0 : FVec F S320000x128 .f32) (ids : IVec S320000 32) (a2 : FVec F S128x64 .f32) (a3 : FVec F S64 .f32) (a4 : FVec F S64x64 .f32)
    (a5 : FVec F S64 .f32) (a6 : FVec F S129x64 .f32) (a7 : FVec F S64 .f32) (a8 : FVec F S64x1 .f32) (a9 : FVec F S1 .f32)
    (h : Cert.Pre_ids_ok.fn (F := F) a0 ids a2 a3 a4 a5 a6 a7 a8 a9 = fun _ => 1#1) : Good ids := by
  haveI : Subsingleton (Cert.Pre_ids_ok.S_).Idx := ⟨one_idx⟩
  have e := congrFun h (fun a => a.elim0)
  simp only [Cert.Pre_ids_ok.fn, andi] at e
  obtain ⟨e1, e2⟩ := andi_one e
  obtain ⟨e0, e1⟩ := andi_one e1
  have g0 := Host.reduce_andi_all _ _ _ _ _ e0
  have g1 := Host.reduce_andi_all _ _ _ _ _ e1
  have g2 := Host.reduce_andi_all _ _ _ _ _ e2
  have hr : ∀ i : S320000.Idx, (ids i).toNat < 10000 := fun i => word_in (g0 i) (g1 i)
  have hat : ∀ p (hp : p < 320000), idAt ids p = ids (ix1 ⟨p, hp⟩) := fun p hp => by unfold idAt; rw [dif_pos hp]
  have hrange : ∀ p < 320000, (idAt ids p).toNat < 10000 := fun p hp => by rw [hat p hp]; exact hr _
  have hstep : ∀ p, p + 1 < 320000 → (idAt ids p).toNat ≤ (idAt ids (p + 1)).toNat := fun p hp => by
    refine word_le (hrange p (by omega)) (hrange _ hp) ?_
    have := g2 (ix1 ⟨p, by omega⟩)
    rw [hat p (by omega), hat (p + 1) hp]
    refine Eq.trans ?_ this
    simp only [cmpi, extractStridedSlice]
    refine congrArg₂ _ (congrArg ids ?_) (congrArg ids ?_) <;> refine funext fun a => Fin.ext ?_ <;> rw [Fin.fin_one_eq_zero a]
    · show p = 0 + p; omega
    · show p + 1 = 1 + p; omega
  refine ⟨hrange, fun p q hpq => ?_⟩
  induction q, hpq using Nat.le_induction with
  | base => exact fun _ => le_rfl
  | succ q hq ih => exact fun hlt => (ih (by omega)).trans (hstep q hlt)

end Cert.Proof.SegIdeal
-- ==== Proof.KI.Frame.lean ====
/-
  The frame: from ids that name segments in order, the program ends with its arguments as the launch left them and every
  semaphore at zero.
-/
module

public import proofs.«01_k».proof.Proof.KI.Pre

@[expose] public section

noncomputable section

namespace Cert.Proof.SegIdeal

open Cert.KernelIdeal Cert.KernelIdeal.Gen
open Idealize.ShloMosaic.ValueIdx (ix1 ix2 eq_ix1 eq_ix2)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-- Under the precondition the ids are sorted and name segments. -/
theorem good_of (m : (ℓ : Loc nD τ sig) → Buf (Elt Ideal) ℓ) (hpre : Cert.Pre_KernelIdeal m) (d : Dev nD) : Good (idsAt m d) := by
  rw [ids_same]
  exact good_of_pre _ _ _ _ _ _ _ _ _ _ (hpre d)

/-- `Cert.quiescent_KernelIdeal` (Defs.lean). -/
theorem frame : Cert.quiescent_KernelIdeal := fun m ρ hpre =>
  (θ_run (Cert.KernelIdeal.defs (F := Ideal)) _ _).mono
    (fun r h => ⟨fun c => by
      have k (b : Ref sig .tc) (hs : (Proc.devRef .tc b : DevRef τ sig).isScoped = false) (hb : b ∉ written) :
          r.2.mem ((c : Dev nD), Proc.devRef .tc b) = m ((c : Dev nD), Proc.devRef .tc b) :=
        (h.1 c _ (mem_bufSet hs)).trans (v6_keep m c b hb)
      exact ⟨k main_arg0 rfl (by decide), k main_arg1 rfl (by decide), k main_arg2 rfl (by decide), k main_arg3 rfl (by decide),
        k main_arg4 rfl (by decide), k main_arg5 rfl (by decide), k main_arg6 rfl (by decide), k main_arg7 rfl (by decide),
        k main_arg8 rfl (by decide), k main_arg9 rfl (by decide)⟩, h.2⟩)
    (run_main m ρ (good_of m hpre))

end Cert.Proof.SegIdeal
-- ==== Proof.Ref.lean ====
/-
  The reference's frame: a straight line of host operations, no one of which writes an argument, on a program that
  declares no semaphore.
-/
module

public import proofs.«01_k».proof.Defs
public import proofs.«01_k».proof.Proof.Gen.ReferenceIdeal.Run
public import proofs.«01_k».proof.Proof.Gen.Pre_ids_ok
public import Idealize.ShloMosaic.Lib.Quiescent

@[expose] public section

noncomputable section

namespace Cert.Proof.Plain

open Cert.ReferenceIdeal
open Idealize.ShloMosaic Idealize.SL.Sem

/-- `Cert.quiescent_ReferenceIdeal` (Defs.lean). -/
theorem frame : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same from a memory the precondition holds of: the reference's frame needs none. -/
theorem frame_pre : Cert.quiescent_ReferenceIdeal_pre_ids_ok := fun m ρ _ => frame m ρ trivial

end Cert.Proof.Plain
-- ==== Proof.V.Enc.lean ====
/-
  The encoder over the extended reals, entry by entry: the kernel's block and the reference's array.
-/
module

public import proofs.«01_k».proof.Proof.KI.Phi
public import proofs.«01_k».proof.Proof.Gen.ReferenceIdeal.Run
public import Idealize.ShloMosaic.Lib.Pointwise

@[expose] public section

set_option maxRecDepth 16384

noncomputable section

namespace Cert.Proof.Worth

open Idealize.ShloMosaic

/-- One entry of the encoder, from a row of the input and the weights. -/
def encOf (r : Fin 128 → EReal) (w1 : Fin 128 → Fin 64 → EReal) (b1 : Fin 64 → EReal) (w2 : Fin 64 → EReal) (b2 : EReal) : EReal :=
  (∑ k : Fin 64, max ((∑ j : Fin 128, r j * w1 j k) + b1 k) 0 * w2 k) + b2

section
open Cert.KernelIdeal Cert.Proof.SegIdeal

/-- The kernel's block at an entry. -/
theorem phiPay_val (x : Vec Ideal S2560x128 .f32) (w1 : Vec Ideal S128x64 .f32) (b1 : Vec Ideal S1x64 .f32) (w2 : Vec Ideal S64x64 .f32)
    (b2 : Vec Ideal S1x64 .f32) (r : Fin 2560) (c : Fin 64) :
    phiPay (F := Ideal) x w1 b1 w2 b2 (ix2 r c)
      = encOf (fun j => x (ix2 r j)) (fun j k => w1 (ix2 j k)) (fun k => b1 (ix2 0 k)) (fun k => w2 (ix2 k c)) (b2 (ix2 0 c)) := by
  pointwise [phiPay, encOf]

end

section
open Cert.ReferenceIdeal Cert.ReferenceIdeal.Facts₀ Cert.ReferenceIdeal.Facts

/-- The reference's encoder. -/
def refEnc (a0 : FVec Ideal S320000x128 .f32) (a2 : FVec Ideal S128x64 .f32) (a3 : FVec Ideal S64 .f32) (a4 : FVec Ideal S64x64 .f32)
    (a5 : FVec Ideal S64 .f32) : FVec Ideal S320000x64 .f32 :=
  addf (Host.dotGeneral dot_S320000x64_S64x64_S320000x64_1_0_0_1_n_n none
      (maximumf (addf (Host.dotGeneral dot_S320000x128_S128x64_S320000x64_1_0_0_1_n_n none a0 a2)
          (broadcastInDim S320000x64 ![0, 1] bcast_S1x64_S320000x64_0_1 (broadcastInDim S1x64 ![1] bcast_S64_S1x64_1 a3)))
        (broadcastInDim S320000x64 ![] bcast_S_S320000x64 (constant S_ .f32 0x00000000#32))) a4)
    (broadcastInDim S320000x64 ![0, 1] bcast_S1x64_S320000x64_0_1 (broadcastInDim S1x64 ![1] bcast_S64_S1x64_1 a5))

/-- The reference's encoder at an entry. -/
theorem refEnc_val (a0 : FVec Ideal S320000x128 .f32) (a2 : FVec Ideal S128x64 .f32) (a3 : FVec Ideal S64 .f32)
    (a4 : FVec Ideal S64x64 .f32) (a5 : FVec Ideal S64 .f32) (p : Fin 320000) (c : Fin 64) :
    refEnc a0 a2 a3 a4 a5 (ix2 p c)
      = encOf (fun j => a0 (ix2 p j)) (fun j k => a2 (ix2 j k)) (fun k => a3 (ix1 k)) (fun k => a4 (ix2 k c)) (a5 (ix1 c)) := by
  pointwise [refEnc, encOf]

end

end Cert.Proof.Worth
-- ==== Proof.V.Fold.lean ====
/-
  The running sum, maximum and count of a segment over the extended reals, as a sum, a bound and a number.
-/
module

public import proofs.«01_k».proof.Proof.KI.Model
public import Idealize.ShloMosaic.PureOps.Ideal
public import Idealize.ShloMosaic.Lib.Pointwise

@[expose] public section

noncomputable section

namespace Cert.Proof.Worth

open Cert.KernelIdeal Cert.Proof.SegIdeal
open Idealize.ShloMosaic

/-- How many of the first `P` points are in segment `g`. -/
def howMany (ids : S320000.Idx → BitVec 32) (g P : Nat) : Nat := Nat.count (fun p => (idAt ids p).toNat = g) P

/-- A segment has at most as many points as there are. -/
theorem howMany_le (ids : S320000.Idx → BitVec 32) (g P : Nat) : howMany ids g P ≤ P := Nat.count_le _

/-- A running sum of a segment is a sum over the points. -/
theorem seg_sum (ids : S320000.Idx → BitVec 32) (e : Nat → EReal) (g P : Nat) :
    seg ids (fun p s => s + e p) 0 g P = ∑ p ∈ Finset.range P, if (idAt ids p).toNat = g then e p else 0 := by
  induction P with
  | zero => rfl
  | succ n ih =>
    rw [seg, Finset.sum_range_succ, ← ih]
    split
    · rfl
    · rw [add_zero]

/-- A running maximum of a segment, by what bounds it. -/
theorem seg_max_le (ids : S320000.Idx → BitVec 32) (e : Nat → EReal) (a : EReal) (g P : Nat) (z : EReal) :
    seg ids (fun p s => max s (e p)) a g P ≤ z ↔ a ≤ z ∧ ∀ p < P, (idAt ids p).toNat = g → e p ≤ z := by
  induction P with
  | zero => exact ⟨fun h => ⟨h, fun p hp => absurd hp (Nat.not_lt_zero p)⟩, fun h => h.1⟩
  | succ n ih =>
    rw [seg]
    split
    · next h =>
      rw [max_le_iff, ih]
      constructor
      · rintro ⟨⟨h1, h2⟩, h3⟩
        refine ⟨h1, fun p hp hg => ?_⟩
        rcases Nat.lt_succ_iff_lt_or_eq.1 hp with q | rfl
        · exact h2 p q hg
        · exact h3
      · rintro ⟨h1, h2⟩
        exact ⟨⟨h1, fun p hp hg => h2 p (by omega) hg⟩, h2 n (by omega) h⟩
    · next h =>
      rw [ih]
      constructor
      · rintro ⟨h1, h2⟩
        refine ⟨h1, fun p hp hg => ?_⟩
        rcases Nat.lt_succ_iff_lt_or_eq.1 hp with q | rfl
        · exact h2 p q hg
        · exact absurd hg h
      · rintro ⟨h1, h2⟩
        exact ⟨h1, fun p hp hg => h2 p (by omega) hg⟩

/-- A running count of a segment is the number of its points. -/
theorem seg_count (ids : S320000.Idx → BitVec 32) (g P : Nat) :
    seg ids (fun _ s => s + (1 : EReal)) 0 g P = (((howMany ids g P : ℕ) : ℝ) : EReal) := by
  induction P with
  | zero => simp [seg, howMany]
  | succ n ih =>
    rw [seg, ih, howMany, howMany, Nat.count_succ]
    split
    · rw [Nat.cast_add, EReal.coe_add, Nat.cast_one, EReal.coe_one]
    · rw [Nat.add_zero]

variable (ids : S320000.Idx → BitVec 32) (x : S320000x64.Idx → Ideal .f32) (g : Nat) (c : Fin 64)

/-- The pooled sum over the extended reals. -/
theorem segSum_val : segSum (F := Ideal) ids x g c.val 320000
    = ∑ p : Fin 320000, if (ids (ix1 p)).toNat = g then (x (ix2 p c) : EReal) else 0 := by
  have h := seg_sum ids (fun p => encAt (F := Ideal) x p c.val) g 320000
  rw [← Fin.sum_univ_eq_sum_range (fun p => if (idAt ids p).toNat = g then (encAt (F := Ideal) x p c.val : EReal) else 0) 320000] at h
  rw [segSum]
  show seg ids (fun p s => s + encAt (F := Ideal) x p c.val) (Ideal.ofBits .f32 0x00000000#32) g 320000 = _
  rw [Ideal.ofBits_zero_f32, h]
  refine Finset.sum_congr rfl fun p _ => ?_
  rw [idAt, dif_pos p.isLt, encAt, dif_pos ⟨p.isLt, c.isLt⟩]
  rfl

/-- The pooled maximum over the extended reals, by what bounds it. -/
theorem segMax_le (z : EReal) : (segMax (F := Ideal) ids x g c.val 320000 : EReal) ≤ z
    ↔ Ideal.ofBits .f32 0xFF7FFFFF#32 ≤ z ∧ ∀ p : Fin 320000, (ids (ix1 p)).toNat = g → (x (ix2 p c) : EReal) ≤ z := by
  refine (seg_max_le ids (fun p => encAt (F := Ideal) x p c.val) _ g 320000 z).trans (and_congr_right fun _ => ?_)
  constructor
  · intro h p hp
    have := h p.val p.isLt (by rw [idAt, dif_pos p.isLt]; exact hp)
    rwa [encAt, dif_pos ⟨p.isLt, c.isLt⟩] at this
  · intro h p hp hg
    rw [idAt, dif_pos hp] at hg
    rw [encAt, dif_pos ⟨hp, c.isLt⟩]
    exact h ⟨p, hp⟩ hg

/-- The pooled count over the extended reals. -/
theorem segCnt_val : segCnt (F := Ideal) ids g 320000 = (((howMany ids g 320000 : ℕ) : ℝ) : EReal) := by
  rw [← seg_count, segCnt]
  show seg ids (fun _ s => s + Ideal.ofBits .f32 0x3F800000#32) (Ideal.ofBits .f32 0x00000000#32) g 320000 = _
  rw [Ideal.ofBits_zero_f32, Ideal.ofBits_one_f32]

end Cert.Proof.Worth
-- ==== Proof.V.Pool.lean ====
/-
  The reference's three poolings over the extended reals, entry by entry.
-/
module

public import proofs.«01_k».proof.Proof.V.Fold
public import proofs.«01_k».proof.Proof.Gen.ReferenceIdeal.Run
public import Idealize.ShloMosaic.Lib.Routing.OpsPair
public import Idealize.ShloMosaic.Lib.Routing.Ops

@[expose] public section

set_option maxRecDepth 16384

noncomputable section

namespace Cert.Proof.Worth

open Idealize.ShloMosaic
open Cert.ReferenceIdeal Cert.ReferenceIdeal.Facts₀ Cert.ReferenceIdeal.Facts

/-- jnp's wrap of the ids, as a column. -/
def wrapped (ids : IVec S320000 32) : IVec S320000x1 32 :=
  broadcastInDim S320000x1 ![0] bcast_S320000_S320000x1_0
    (select (cmpi .slt ids (broadcastInDim S320000 ![] bcast_S_S320000 (constantI S_ 32 0#32)))
      (addi ids (broadcastInDim S320000 ![] bcast_S_S320000 (constantI S_ 32 10000#32))) ids)

/-- An id that names a segment is not changed by the wrap. -/
theorem wrapped_val (ids : IVec S320000 32) (p : Fin 320000) (h : (ids (ix1 p)).toNat < 10000) : wrapped ids (ix2 p 0) = ids (ix1 p) := by
  pointwise [wrapped]
  exact Routing.wrap_of_lt _ _ (by show _ < 2147483648; omega)

/-- The ids clipped at zero. -/
def clipped (ids : IVec S320000 32) : IVec S320000 32 :=
  maxsi (broadcastInDim S320000 ![] bcast_S_S320000 (id (constantI S_ 32 0#32))) ids

/-- An id that names a segment is not changed by the clip. -/
theorem clipped_val (ids : IVec S320000 32) (p : Fin 320000) (h : (ids (ix1 p)).toNat < 10000) : clipped ids (ix1 p) = ids (ix1 p) := by
  pointwise [clipped]
  generalize hw : ids (ix1 p) = w at h
  show IntOp.maxsi (0#32) w = w
  unfold IntOp.maxsi
  split
  · next hn =>
    have hz := BitVec.slt_iff_toInt_lt.1 hn
    rw [BitVec.toInt_eq_toNat_of_lt (x := w) (by omega), show (0#32).toInt = 0 by decide] at hz
    omega
  · rfl

/-- The reference's sums. -/
def refSum (ids : IVec S320000 32) (e : FVec Ideal S320000x64 .f32) : FVec Ideal S10000x64 .f32 :=
  Host.scatterAdd scatter_S10000x64_S320000x1_S320000x64_1_0_0_1
    (broadcastInDim S10000x64 ![] bcast_S_S10000x64 (constant S_ .f32 0x00000000#32)) (wrapped ids) e

/-- An entry of row `p` is added into row `g` if the index of `p` is `g`, in its own column. -/
theorem lands_row (idx : IVec S320000x1 32) (p : Fin 320000) (k : Fin 64) (g : Fin 10000) (c : Fin 64) :
    scatter_S10000x64_S320000x1_S320000x64_1_0_0_1.resultIdx? (ix2 p k) idx = some (ix2 g c)
      ↔ (idx (ix2 p 0)).toInt = (g.val : Int) ∧ k = c := by
  have hs : scatter_S10000x64_S320000x1_S320000x64_1_0_0_1.start (ix2 p k) idx 0 = (idx (ix2 p 0)).toInt := by
    unfold ScatterDims.start
    rw [dif_pos (by decide)]
    refine congrArg (fun i => (idx i).toInt) (funext fun b => ?_)
    match b with
    | ⟨0, _⟩ => rfl
    | ⟨1, _⟩ => rfl
  have hw : scatter_S10000x64_S320000x1_S320000x64_1_0_0_1.start (ix2 p k) idx 1 = 0 := by
    unfold ScatterDims.start
    rw [dif_neg (by decide)]
  rw [Routing.resultIdx?_eq_some]
  constructor
  · intro h
    have h0 := h 0
    have h1 := h 1
    rw [hs] at h0
    rw [hw] at h1
    change _ + (0 : Int) = (g.val : Int) at h0
    change (0 : Int) + (k.val : Int) = (c.val : Int) at h1
    exact ⟨by omega, Fin.ext (by omega)⟩
  · rintro ⟨h0, rfl⟩ a
    match a with
    | ⟨0, _⟩ =>
      show scatter_S10000x64_S320000x1_S320000x64_1_0_0_1.start (ix2 p k) idx 0 + (0 : Int) = (g.val : Int)
      rw [hs]; omega
    | ⟨1, _⟩ =>
      show scatter_S10000x64_S320000x1_S320000x64_1_0_0_1.start (ix2 p k) idx 1 + (k.val : Int) = (k.val : Int)
      rw [hw]; omega

/-- The reference's sum at an entry. -/
theorem refSum_val (ids : IVec S320000 32) (e : FVec Ideal S320000x64 .f32) (hg : ∀ p : Fin 320000, (ids (ix1 p)).toNat < 10000)
    (g : Fin 10000) (c : Fin 64) :
    refSum ids e (ix2 g c) = ∑ p : Fin 320000, if (ids (ix1 p)).toNat = g.val then (e (ix2 p c) : EReal) else 0 := by
  show Ideal.ofBits .f32 0x00000000#32 + ∑ j ∈ Finset.univ.filter (fun j =>
    scatter_S10000x64_S320000x1_S320000x64_1_0_0_1.resultIdx? j (wrapped ids) = some (ix2 g c)), (e j : EReal) = _
  rw [Ideal.ofBits_zero_f32, zero_add, Finset.sum_filter, sum_idx2]
  refine Finset.sum_congr rfl fun p _ => ?_
  have hp := hg p
  have hi : (ids (ix1 p)).toInt = ((ids (ix1 p)).toNat : Int) := BitVec.toInt_eq_toNat_of_lt (by omega)
  have hl : ∀ k : Fin 64, (scatter_S10000x64_S320000x1_S320000x64_1_0_0_1.resultIdx? (ix2 p k) (wrapped ids) = some (ix2 g c))
      = ((ids (ix1 p)).toNat = g.val ∧ k = c) := fun k => by
    rw [lands_row, wrapped_val ids p hp, hi]
    exact propext (and_congr_left fun _ => by omega)
  simp only [hl, ite_and]
  split
  · rw [Finset.sum_ite_eq' Finset.univ c fun k => (e (ix2 p k) : EReal), if_pos (Finset.mem_univ c)]
  · exact Finset.sum_const_zero

/-- The encoded points of one segment, the rest at the least finite number. -/
def masked (ids : IVec S320000 32) (e : FVec Ideal S320000x64 .f32) : FVec Ideal S10000x320000x64 .f32 :=
  select (broadcastInDim S10000x320000x64 ![0, 1, 2] bcast_S10000x320000x1_S10000x320000x64_0_1_2
      (broadcastInDim S10000x320000x1 ![0, 1] bcast_S10000x320000_S10000x320000x1_0_1
        (cmpi .eq (broadcastInDim S10000x320000 ![0, 1] bcast_S1x320000_S10000x320000_0_1 (broadcastInDim S1x320000 ![1] bcast_S320000_S1x320000_1 ids))
          (broadcastInDim S10000x320000 ![0, 1] bcast_S10000x1_S10000x320000_0_1
            (broadcastInDim S10000x1 ![0] bcast_S10000_S10000x1_0 (iotaInDim S10000 32 0))))))
    (broadcastInDim S10000x320000x64 ![0, 1, 2] bcast_S1x320000x64_S10000x320000x64_0_1_2
      (broadcastInDim S1x320000x64 ![1, 2] bcast_S320000x64_S1x320000x64_1_2 e))
    (broadcastInDim S10000x320000x64 ![] bcast_S_S10000x320000x64 (constant S_ .f32 0xFF7FFFFF#32))

/-- The masked table, entry by entry. -/
theorem masked_val (ids : IVec S320000 32) (e : FVec Ideal S320000x64 .f32) (g : Fin 10000) (p : Fin 320000) (c : Fin 64) :
    masked ids e (ix3 g p c) = if (ids (ix1 p)).toNat = g.val then (e (ix2 p c) : EReal) else Ideal.ofBits .f32 0xFF7FFFFF#32 := by
  pointwise [masked]
  have hgv := g.isLt
  have hn : (BitVec.ofNat 32 g.val).toNat = g.val := by rw [BitVec.toNat_ofNat]; omega
  by_cases h : (ids (ix1 p)).toNat = g.val
  · rw [if_pos h, BitVec.eq_of_toNat_eq (h.trans hn.symm)]
    simp [IntOp.cmpi, Scalar.select]
  · rw [if_neg h]
    have : ids (ix1 p) ≠ BitVec.ofNat 32 g.val := fun q => h (by rw [q, hn])
    show (if BitVec.ofBool (ids (ix1 p) == BitVec.ofNat 32 g.val) = 1#1 then (e (ix2 p c) : EReal) else _) = _
    rw [beq_eq_false_iff_ne.2 this]
    exact if_neg (by decide)

/-- The reference's maxima. -/
def refMax (ids : IVec S320000 32) (e : FVec Ideal S320000x64 .f32) : FVec Ideal S10000x64 .f32 :=
  maximumf (broadcastInDim S10000x64 ![] bcast_S_S10000x64 (constant S_ .f32 0xFF7FFFFF#32))
    (Host.reduce FloatOps.maximumf (masked ids e) (constant S_ .f32 0xFF800000#32) reducesTo_S10000x320000x64_S10000x64_d1 h_S_)

/-- The points of the table that drop to an entry. -/
theorem drops_iff (g : Fin 10000) (p : Fin 320000) (k c : Fin 64) (g' : Fin 10000) :
    reducesTo_S10000x320000x64_S10000x64_d1.drop (ix3 g' p k) = ix2 g c ↔ g' = g ∧ k = c := by
  have h0 : (reducesTo_S10000x320000x64_S10000x64_d1.drop (ix3 g' p k) 0).val = g'.val := rfl
  have h1 : (reducesTo_S10000x320000x64_S10000x64_d1.drop (ix3 g' p k) 1).val = k.val := rfl
  constructor
  · intro h
    rw [h] at h0 h1
    exact ⟨Fin.ext h0.symm, Fin.ext h1.symm⟩
  · rintro ⟨rfl, rfl⟩
    funext a
    match a with
    | ⟨0, _⟩ => exact Fin.ext h0
    | ⟨1, _⟩ => exact Fin.ext h1

/-- The word that the reduction starts from is minus infinity. -/
theorem least : Ideal.ofBits .f32 0xFF800000#32 = (⊥ : EReal) := by
  simp [Ideal.ofBits, Ideal.ieee]

/-- A host maximum along axes of a table, with a floor, by what bounds it. -/
theorem reduce_max_le {s t u : Shape} {axes : List (Fin s.rank)} (y : FVec Ideal t .f32) (x : FVec Ideal s .f32) (init : FVec Ideal u .f32)
    (h : s.ReducesTo axes t) (hu : 0 < u.numel) (hi : ∀ i, init i = (⊥ : EReal)) (j : t.Idx) (z : EReal) :
    (maximumf y (Host.reduce FloatOps.maximumf x init h hu) j : EReal) ≤ z
      ↔ (y j : EReal) ≤ z ∧ ∀ i, h.drop i = j → (x i : EReal) ≤ z := by
  have hl : ∀ (L : List s.Idx) (a : Ideal .f32), (L.foldl (fun r i => FloatOps.maximumf r (x i)) a : EReal) ≤ z
      ↔ (a : EReal) ≤ z ∧ ∀ i ∈ L, (x i : EReal) ≤ z := fun L => by
    induction L with
    | nil => intro a; simp
    | cons i L ih =>
      intro a
      rw [List.foldl_cons, ih, List.forall_mem_cons, ← and_assoc]
      exact and_congr_left fun _ => max_le_iff
  refine max_le_iff.trans (and_congr_right fun _ => ?_)
  rw [Host.reduce_eq_foldl, hl, hi]
  refine ⟨fun hi i e => hi.2 i ?_, fun hi => ⟨bot_le, fun i m => hi i (of_decide_eq_true (List.mem_filter.1 m).2)⟩⟩
  exact List.mem_filter.2 ⟨List.mem_map.2 ⟨s.rowMajor i, List.mem_finRange _, Equiv.symm_apply_apply _ _⟩, decide_eq_true e⟩

/-- The same as a scalar array. -/
theorem floor_bot (i : S_.Idx) : constant (F := Ideal) S_ .f32 0xFF800000#32 i = (⊥ : EReal) := least

/-- The reference's maximum at an entry, by what bounds it, over the table. -/
theorem refMax_table (ids : IVec S320000 32) (e : FVec Ideal S320000x64 .f32) (g : Fin 10000) (c : Fin 64) (z : EReal) :
    (refMax ids e (ix2 g c) : EReal) ≤ z
      ↔ (broadcastInDim S10000x64 ![] bcast_S_S10000x64 (constant (F := Ideal) S_ .f32 0xFF7FFFFF#32) (ix2 g c) : EReal) ≤ z
        ∧ ∀ i, reducesTo_S10000x320000x64_S10000x64_d1.drop i = ix2 g c → (masked ids e i : EReal) ≤ z :=
  reduce_max_le _ (masked ids e) _ _ _ floor_bot (ix2 g c) z

/-- The reference's maximum at an entry, by what bounds it. -/
theorem refMax_le (ids : IVec S320000 32) (e : FVec Ideal S320000x64 .f32) (g : Fin 10000) (c : Fin 64) (z : EReal) :
    (refMax ids e (ix2 g c) : EReal) ≤ z
      ↔ Ideal.ofBits .f32 0xFF7FFFFF#32 ≤ z ∧ ∀ p : Fin 320000, (ids (ix1 p)).toNat = g.val → (e (ix2 p c) : EReal) ≤ z := by
  rw [refMax_table]
  refine and_congr_right fun hz => ?_
  constructor
  · intro h p hp
    have := h (ix3 g p c) ((drops_iff g p c c g).2 ⟨rfl, rfl⟩)
    rwa [masked_val, if_pos hp] at this
  · intro h i hi
    obtain ⟨g', p, k, rfl⟩ : ∃ (g' : Fin 10000) (p : Fin 320000) (k : Fin 64), i = ix3 g' p k := ⟨i 0, i 1, i 2, eq_ix3 i⟩
    obtain ⟨rfl, rfl⟩ := (drops_iff g p k c g').1 hi
    rw [masked_val]
    split
    · next hp => exact h p hp
    · exact hz

/-- The reference's counts. -/
def refCnt (ids : IVec S320000 32) : IVec S10000 32 :=
  Host.scatter scatter_S10000_S320000x1_S320000_n_0_0_1 IntOp.addi (broadcastInDim S10000 ![] bcast_S_S10000 (constantI S_ 32 0#32))
    (wrapped (clipped ids)) (broadcastInDim S320000 ![] bcast_S_S320000 (constantI S_ 32 1#32))

/-- The one of point `p` is added to the count of `g` if the index of `p` is `g`. -/
theorem lands_one (idx : IVec S320000x1 32) (p : Fin 320000) (g : Fin 10000) :
    scatter_S10000_S320000x1_S320000_n_0_0_1.resultIdx? (ix1 p) idx = some (ix1 g) ↔ (idx (ix2 p 0)).toInt = (g.val : Int) := by
  have hs : scatter_S10000_S320000x1_S320000_n_0_0_1.start (ix1 p) idx 0 = (idx (ix2 p 0)).toInt := by
    unfold ScatterDims.start
    rw [dif_pos (by decide)]
    refine congrArg (fun i => (idx i).toInt) (funext fun b => ?_)
    match b with
    | ⟨0, _⟩ => rfl
    | ⟨1, _⟩ => rfl
  rw [Routing.resultIdx?_eq_some]
  constructor
  · intro h
    have h0 := h 0
    rw [hs] at h0
    change _ + (0 : Int) = (g.val : Int) at h0
    omega
  · intro h0 a
    match a with
    | ⟨0, _⟩ =>
      show scatter_S10000_S320000x1_S320000_n_0_0_1.start (ix1 p) idx 0 + (0 : Int) = (g.val : Int)
      rw [hs]; omega

/-- Adding one at each number that satisfies a test counts them. -/
theorem foldl_ones (q : Nat → Prop) [DecidablePred q] (N : Nat) :
    (List.finRange N).foldl (fun a (n : Fin N) => if q n.val then IntOp.addi a 1#32 else a) (0#32) = BitVec.ofNat 32 (Nat.count q N) := by
  have h : (List.finRange N).foldl (fun a (n : Fin N) => if q n.val then IntOp.addi a 1#32 else a) (0#32)
      = (List.range N).foldl (fun a n => if q n then IntOp.addi a 1#32 else a) (0#32) := by
    rw [← List.map_coe_finRange_eq_range, List.foldl_map]
  rw [h]
  clear h
  induction N with
  | zero => rfl
  | succ n ih =>
    rw [List.range_succ, List.foldl_append, ih, Nat.count_succ, List.foldl_cons, List.foldl_nil]
    split
    · exact (BitVec.ofNat_add _ _).symm
    · rfl

/-- A scatter of ones along a vector, as a fold over the vector's places. -/
theorem scatter_ones {n : Nat} {s si : Shape} (d : ScatterDims s si ⟨1, ![n]⟩) (idx : IVec si 32) (x0 : IVec s 32)
    (upd : IVec ⟨1, ![n]⟩ 32) (ι : s.Idx) (q : Nat → Prop) [DecidablePred q] (hu : ∀ i, upd i = 1#32)
    (hq : ∀ p : Fin n, d.resultIdx? (ix1 p) idx = some ι ↔ q p.val) :
    Host.scatter d IntOp.addi x0 idx upd ι = (List.finRange n).foldl (fun a (p : Fin n) => if q p.val then IntOp.addi a 1#32 else a) (x0 ι) := by
  have hn : (⟨1, ![n]⟩ : Shape).numel = n := Routing.numel1 n
  rw [Routing.scatter_at]
  have hc : List.finRange n = (List.finRange (⟨1, ![n]⟩ : Shape).numel).map (fun k => k.cast hn) := by
    apply List.ext_getElem (by simp [hn])
    intro k h1 h2
    simp
  rw [hc, List.foldl_map]
  refine List.foldl_ext _ _ _ fun a k _ => ?_
  have hk : (⟨1, ![n]⟩ : Shape).rowMajor.symm k = ix1 (k.cast hn) := Routing.symm1 k
  rw [hk, hu]
  exact if_congr (hq _) rfl rfl

/-- The reference's count at an entry. -/
theorem refCnt_val (ids : IVec S320000 32) (hg : ∀ p : Fin 320000, (ids (ix1 p)).toNat < 10000) (g : Fin 10000) :
    refCnt ids (ix1 g) = BitVec.ofNat 32 (howMany ids g.val 320000) := by
  have h := foldl_ones (fun p => (SegIdeal.idAt ids p).toNat = g.val) 320000
  rw [howMany, ← h, refCnt, scatter_ones (n := 320000) _ _ _ _ _ (fun p => (SegIdeal.idAt ids p).toNat = g.val)]
  · rfl
  · intro i; rfl
  · intro p
    have hp := hg p
    rw [lands_one, wrapped_val _ p (by rw [clipped_val ids p hp]; exact hp), clipped_val ids p hp, SegIdeal.idAt, dif_pos p.isLt,
      BitVec.toInt_eq_toNat_of_lt (by omega)]
    exact Int.ofNat_inj

end Cert.Proof.Worth
-- ==== Proof.V.Dec.lean ====
/-
  The decoder over the extended reals, entry by entry: the kernel's array and the reference's.
-/
module

public import proofs.«01_k».proof.Proof.KI.Rho
public import proofs.«01_k».proof.Proof.Gen.ReferenceIdeal.Run
public import Idealize.ShloMosaic.Lib.Pointwise

@[expose] public section

set_option maxRecDepth 16384

noncomputable section

namespace Cert.Proof.Worth

open Idealize.ShloMosaic

/-- One entry of the decoder, from a segment's sum, maximum and count and the weights. -/
def decOf (sm mx : Fin 64 → EReal) (ct : EReal) (wa wb : Fin 64 → Fin 64 → EReal) (wc b w2 : Fin 64 → EReal) (b2 : EReal) : EReal :=
  (∑ k : Fin 64, max ((∑ j : Fin 64, Ideal.div (sm j) ct * wa j k) + (∑ j : Fin 64, mx j * wb j k) + Ideal.log ct * wc k + b k) 0 * w2 k) + b2

section
open Cert.KernelIdeal Cert.Proof.SegIdeal

/-- The kernel's count at a row. -/
theorem cntCol_val (ct : Vec Ideal S10000x16 .f32) (g : Fin 10000) : cntCol (F := Ideal) ct (ix2 g 0) = max (ct (ix2 g 0) : EReal) 1 := by
  pointwise [cntCol]
  refine congrArg (fun i => max (ct i : EReal) 1) (funext fun a => ?_)
  match a with
  | ⟨0, _⟩ => exact Fin.ext (by rw [Rect.emb_apply]; show 0 + 1 * g.val = g.val; omega)
  | ⟨1, _⟩ => exact Fin.ext (by rw [Rect.emb_apply]; rfl)

/-- The kernel's decoder at an entry. -/
theorem rhoPay_val (sm mx : Vec Ideal S10000x64 .f32) (ct : Vec Ideal S10000x16 .f32) (wa wb : Vec Ideal S64x64 .f32)
    (wc b : Vec Ideal S1x64 .f32) (w2 : Vec Ideal S64x1 .f32) (b2 : Vec Ideal S1x1 .f32) (g : Fin 10000) :
    rhoPay (F := Ideal) sm mx ct wa wb wc b w2 b2 (ix2 g 0)
      = decOf (fun j => sm (ix2 g j)) (fun j => mx (ix2 g j)) (max (ct (ix2 g 0)) 1) (fun j k => wa (ix2 j k)) (fun j k => wb (ix2 j k))
          (fun k => wc (ix2 0 k)) (fun k => b (ix2 0 k)) (fun k => w2 (ix2 k 0)) (b2 (ix2 0 0)) := by
  pointwise [rhoPay, rhoHid, decOf, cntCol_val]

end

/-- A sum over the 129 features, cut at 64 and 128. -/
theorem sum_cut (f : Fin 129 → EReal) :
    ∑ i, f i = (∑ j : Fin 64, f ⟨j.val, by omega⟩) + (∑ j : Fin 64, f ⟨64 + j.val, by omega⟩) + f ⟨128, by omega⟩ := by
  have h1 : ∑ i, f i = ∑ i : Fin (64 + 64 + 1), f i := rfl
  rw [h1, Fin.sum_univ_add, Fin.sum_univ_add, Fin.sum_univ_one]
  rfl

section
open Cert.ReferenceIdeal Cert.ReferenceIdeal.Facts₀ Cert.ReferenceIdeal.Facts

/-- The reference's count as a column. -/
def refCol (ct : IVec S10000 32) : FVec Ideal S10000x1 .f32 :=
  broadcastInDim S10000x1 ![0] bcast_S10000_S10000x1_0 (sitofp .f32 (maxsi ct (broadcastInDim S10000 ![] bcast_S_S10000 (constantI S_ 32 1#32))))

/-- The reference's pooled features. -/
def refCat (sm mx : FVec Ideal S10000x64 .f32) (ct : IVec S10000 32) : FVec Ideal S10000x129 .f32 :=
  concatenate S10000x129 1 [⟨S10000x64, ((Host.divf sm (broadcastInDim S10000x64 ![0, 1] bcast_S10000x1_S10000x64_0_1 (refCol ct))) : FVec Ideal S10000x64 .f32)⟩, ⟨S10000x64, mx⟩,
    ⟨S10000x1, (Host.log (refCol ct) : FVec Ideal S10000x1 .f32)⟩] concatenates_S10000x64_S10000x64_S10000x1_S10000x129_d1

/-- The reference's decoder. -/
def refDec (x : FVec Ideal S10000x129 .f32) (a6 : FVec Ideal S129x64 .f32) (a7 : FVec Ideal S64 .f32)
    (a8 : FVec Ideal S64x1 .f32) (a9 : FVec Ideal S1 .f32) : FVec Ideal S10000 .f32 :=
  shapeCast _ (addf (Host.dotGeneral dot_S10000x64_S64x1_S10000x1_1_0_0_1_n_n none
      (maximumf (addf (Host.dotGeneral dot_S10000x129_S129x64_S10000x64_1_0_0_1_n_n none x a6)
          (broadcastInDim S10000x64 ![0, 1] bcast_S1x64_S10000x64_0_1 (broadcastInDim S1x64 ![1] bcast_S64_S1x64_1 a7)))
        (broadcastInDim S10000x64 ![] bcast_S_S10000x64 (constant S_ .f32 0x00000000#32))) a8)
    (broadcastInDim S10000x1 ![0, 1] bcast_S1x1_S10000x1_0_1 (broadcastInDim S1x1 ![1] bcast_S1_S1x1_1 a9))) shapeCasts_S10000x1_S10000

/-- The reference's decoder at an entry. -/
theorem refDec_val (sm mx : FVec Ideal S10000x64 .f32) (ct : IVec S10000 32) (a6 : FVec Ideal S129x64 .f32) (a7 : FVec Ideal S64 .f32)
    (a8 : FVec Ideal S64x1 .f32) (a9 : FVec Ideal S1 .f32) (g : Fin 10000) :
    refDec (refCat sm mx ct) a6 a7 a8 a9 (ix1 g)
      = decOf (fun j => sm (ix2 g j)) (fun j => mx (ix2 g j)) (((IntOp.maxsi (ct (ix1 g)) 1#32).toInt : ℝ) : EReal)
          (fun j k => a6 (ix2 ⟨j.val, by omega⟩ k)) (fun j k => a6 (ix2 ⟨64 + j.val, by omega⟩ k))
          (fun k => a6 (ix2 ⟨128, by omega⟩ k)) (fun k => a7 (ix1 k)) (fun k => a8 (ix2 k 0)) (a9 (ix1 0)) := by
  pointwise [refDec, refCat, refCol, decOf]
  simp only [sum_cut]
  refine congrArg (· + (a9 (ix1 0) : EReal)) (Finset.sum_congr rfl fun k _ => congrArg (fun r : EReal => max (r + a7 (ix1 k)) 0 * a8 (ix2 k 0)) ?_)
  refine congrArg₂ (fun a b : EReal => a + b) (congrArg₂ (fun a b : EReal => a + b) ?_ ?_) ?_
  · refine Finset.sum_congr rfl fun j _ => ?_
    rw [dif_pos j.isLt]
    rfl
  · refine Finset.sum_congr rfl fun j _ => ?_
    rw [dif_neg (by omega), dif_pos (by omega)]
    refine congrArg (fun i => (mx (ix2 g i) : EReal) * _) (Fin.ext ?_)
    show 64 + j.val - 64 = j.val
    omega
  · rw [dif_neg (by omega), dif_neg (by omega)]
    rfl

end

end Cert.Proof.Worth
-- ==== Proof.V.Res.lean ====
/-
  The reference's result, as its encoder, its three poolings and its decoder.
-/
module

public import proofs.«01_k».proof.Proof.V.Enc
public import proofs.«01_k».proof.Proof.V.Pool
public import proofs.«01_k».proof.Proof.V.Dec

@[expose] public section

set_option maxRecDepth 16384

noncomputable section

namespace Cert.Proof.Worth

open Idealize.ShloMosaic
open Cert.ReferenceIdeal

/-- The reference, of its arguments. -/
def refOf (a0 : FVec Ideal S320000x128 .f32) (ids : IVec S320000 32) (a2 : FVec Ideal S128x64 .f32) (a3 : FVec Ideal S64 .f32)
    (a4 : FVec Ideal S64x64 .f32) (a5 : FVec Ideal S64 .f32) (a6 : FVec Ideal S129x64 .f32) (a7 : FVec Ideal S64 .f32)
    (a8 : FVec Ideal S64x1 .f32) (a9 : FVec Ideal S1 .f32) : FVec Ideal S10000 .f32 :=
  refDec (refCat (refSum ids (refEnc a0 a2 a3 a4 a5)) (refMax ids (refEnc a0 a2 a3 a4 a5)) (refCnt ids)) a6 a7 a8 a9

/-- The result the reference's run states is that. -/
theorem res_eq (m' : (ℓ : Loc nD τ sig) → Buf (Elt Ideal) ℓ) (c : Dev nD) :
    Cert.ReferenceIdeal.Value.res_main_v58 (F := Ideal) m' c
      = refOf (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5))
          (m' ((c.tc : Thread nD τ).loc main_arg6)) (m' ((c.tc : Thread nD τ).loc main_arg7)) (m' ((c.tc : Thread nD τ).loc main_arg8))
          (m' ((c.tc : Thread nD τ).loc main_arg9)) := by
  unfold Cert.ReferenceIdeal.Value.res_main_v58 refOf refDec refCat refCol refSum refMax refCnt masked wrapped clipped refEnc
  rfl

end Cert.Proof.Worth
-- ==== Proof.V.Held.lean ====
/-
  A window whose block is its whole array holds the array once it is fetched.
-/
module

public import Idealize.ShloMosaic.Lib.Pipeline.ValueKit

@[expose] public section

noncomputable section

namespace Cert.Proof.Worth

open Idealize.ShloMosaic Idealize.ShloMosaic.Pipeline Idealize.ShloMosaic.TcCoe

variable {nD : Nat} {τ : Topo} {sig : RefSig} {Λ₀ : Idealize.SL.Sem.Labels} {Val : EltTy → Type} [∀ e, Nonempty (Val e)]

/-- What such a window holds at a place is the array's element at that place. -/
theorem held_whole {c : Dev nD} (cfg : Cfg sig Λ₀) (A : (w : Fin cfg.W) → Buf Val ((cfg.win w).arr.view.loc (c.tc : Thread nD τ))) (w : Fin cfg.W)
    (t : Fin cfg.N) (hf : (cfg.win w).fetch t = true)
    (hz : ∀ a, (cfg.win w).index t a = 0 ∧ (cfg.win w).xsize (cfg.grid.coords t) a = (cfg.win w).shape.size a)
    (y : (cfg.win w).block.Idx) (j : (cfg.win w).shape.Idx) (hj : ∀ a, (j a).val = (y a).val) :
    heldIn (c := c) (τ := τ) (Val := Val) cfg A w t.val t.isLt y
      = _root_.cast (congrArg Val (cfg.win w).arr.view.elt_eq) (A w ((cfg.win w).arr.view.emb j)) := by
  rw [heldIn_of_fetch A w t hf]
  have hm : (cfg.win w).moved (cfg.grid.coords t) y = true :=
    ((cfg.win w).moved_iff _ _).2 fun a => by rw [(hz a).2, ← hj a]; exact (j a).isLt
  unfold Pipeline.Window.fill
  rw [dif_pos hm]
  have hy : ∀ x : ((cfg.win w).xblock (cfg.grid.coords t)).Idx, (∀ a, (x a).val = (y a).val) → ((cfg.win w).blk t).view.emb x = (cfg.win w).arr.view.emb j := by
    intro x hx
    show (cfg.win w).arr.view.emb (((cfg.win w).rect t).emb x) = _
    congr 1; funext a; apply Fin.ext
    rw [Window.rect_emb_val_of_index_zero _ _ _ (hz a).1, hx, hj]
  show _root_.cast _ (A w (((cfg.win w).blk t).view.emb _)) = _
  rw [hy _ fun a => rfl]

end Cert.Proof.Worth
-- ==== Proof.V.PhiVal.lean ====
/-
  The encoder's region over the extended reals: the array it leaves, entry by entry.
-/
module

public import proofs.«01_k».proof.Proof.V.Enc
public import proofs.«01_k».proof.Proof.V.Held
public import proofs.«01_k».proof.Proof.Gen.KernelIdeal.Points
public import Idealize.ShloMosaic.Lib.Pipeline.ValueKit
public import Idealize.ShloMosaic.Lib.Pipeline.Covers

@[expose] public section

set_option maxRecDepth 16384

noncomputable section

namespace Cert.Proof.Worth

open Cert.KernelIdeal Cert.KernelIdeal.Gen Cert.Proof.SegIdeal
open Idealize.ShloMosaic Idealize.ShloMosaic.TcCoe
open Idealize.ShloMosaic.Pipeline (heldIn_of_fetch heldIn_of_not_fetch)

variable (V : (c : Dev nD) → (b : Ref sig .tc) → Buf (Elt Ideal) ((c : Thread nD τ).loc b)) (c : Dev nD)

/-- The encoder runs over 125 blocks. -/
theorem N0 : cfg0.N = 125 := by decide +kernel

/-- A window fetched at the first point alone holds the same at every point. -/
theorem phiIn_still (w : Fin cfg0.W) (hw : ∀ t : Fin cfg0.N, (cfg0.win w).fetch t = true ↔ t.val % 125 = 0) :
    ∀ (n : ℕ) (h : n < cfg0.N), n < 125 → phiIn V c w ⟨n, h⟩ = phiIn V c w ⟨0, by omega⟩ := by
  intro n
  induction n with
  | zero => intro _ _; rfl
  | succ n ih =>
    intro h hn
    rw [← ih (by omega) (by omega)]
    refine heldIn_of_not_fetch _ w n h ?_
    rw [Bool.eq_false_iff]
    intro hf
    have := (hw _).1 hf
    change (n + 1) % 125 = 0 at this
    omega

/-- Which block of input rows a grid step reads. -/
theorem idx0_0 : ∀ t : Fin grid0.N, (win0_0.index t 0 : ℕ) = t.val ∧ (win0_0.index t 1 : ℕ) = 0 := by decide +kernel
/-- Which block of encoded rows a grid step writes. -/
theorem idx0_5 : ∀ t : Fin grid0.N, (win0_5.index t 0 : ℕ) = t.val ∧ (win0_5.index t 1 : ℕ) = 0 := by decide +kernel

/-- A block of input rows, entry by entry. -/
theorem phiIn0_val (t : Fin cfg0.N) (r : Fin 2560) (j : Fin 128) (ht : 2560 * t.val + r.val < 320000) :
    phiIn V c 0 t (ix2 r j) = V c main_arg0 (ix2 ⟨2560 * t.val + r.val, ht⟩ j) := by
  unfold phiIn
  rw [heldIn_of_fetch _ _ t (fetch0_0 t)]
  unfold Pipeline.Window.fill
  rw [dif_pos ((Pipeline.Window.moved_iff _ _ _).2 fun a => by have := ((ix2 r j : S2560x128.Idx) a).isLt; exact this)]
  blk_simp
  refine congrArg (V c main_arg0) (funext fun a => Fin.ext ?_)
  match a with
  | ⟨0, _⟩ =>
    blk_simp
    rw [(idx0_0 t).1]
    show t.val * 2560 + r.val = 2560 * t.val + r.val
    omega
  | ⟨1, _⟩ =>
    blk_simp
    rw [(idx0_0 t).2]
    show 0 * 128 + j.val = j.val
    omega

/-- The first point. -/
def t00 : Fin cfg0.N := ⟨0, by decide +kernel⟩

/-- The weights' windows hold their arrays at every point. -/
theorem phiIn1_val (t : Fin cfg0.N) : phiIn V c 1 t = V c main_arg2 := by
  rw [phiIn_still V c 1 fetch0_1 t.val t.isLt (lt_of_lt_of_eq t.isLt N0)]
  funext y
  exact held_whole cfg0 _ 1 t00 ((fetch0_1 _).2 rfl) (by decide +kernel) y y fun _ => rfl
/-- Every block reads the whole first bias. -/
theorem phiIn2_val (t : Fin cfg0.N) : phiIn V c 2 t = V c main_v0 := by
  rw [phiIn_still V c 2 fetch0_2 t.val t.isLt (lt_of_lt_of_eq t.isLt N0)]
  funext y
  exact held_whole cfg0 _ 2 t00 ((fetch0_2 _).2 rfl) (by decide +kernel) y y fun _ => rfl
/-- Every block reads the whole second weights. -/
theorem phiIn3_val (t : Fin cfg0.N) : phiIn V c 3 t = V c main_arg4 := by
  rw [phiIn_still V c 3 fetch0_3 t.val t.isLt (lt_of_lt_of_eq t.isLt N0)]
  funext y
  exact held_whole cfg0 _ 3 t00 ((fetch0_3 _).2 rfl) (by decide +kernel) y y fun _ => rfl
/-- Every block reads the whole second bias. -/
theorem phiIn4_val (t : Fin cfg0.N) : phiIn V c 4 t = V c main_v1 := by
  rw [phiIn_still V c 4 fetch0_4 t.val t.isLt (lt_of_lt_of_eq t.isLt N0)]
  funext y
  exact held_whole cfg0 _ 4 t00 ((fetch0_4 _).2 rfl) (by decide +kernel) y y fun _ => rfl

/-- The encoder's array: every row encoded. -/
theorem phiOut_val : phiOut V c = fun i : S320000x64.Idx =>
    encOf (fun j => V c main_arg0 (ix2 (i 0) j)) (fun j k => V c main_arg2 (ix2 j k)) (fun k => V c main_v0 (ix2 0 k))
      (fun k => V c main_arg4 (ix2 k (i 1))) (V c main_v1 (ix2 0 (i 1))) := by
  unfold phiOut
  refine (phiDat V c).arrAt_eq_of_covers 5 _ (by decide +kernel) fun t hf y => ?_
  blk_simp
  have ht : t.val < 125 := by have := t.isLt; have e : cfg0.grid.N = 125 := N0; omega
  obtain ⟨r, k, hy⟩ : ∃ (r : Fin 2560) (k : Fin 64), y = ix2 r k := ⟨y 0, y 1, eq_ix2 (n0 := 2560) (n1 := 64) y⟩
  have h0 : (win0_5.blk t).view.emb y 0 = (⟨2560 * t.val + r.val, by omega⟩ : Fin 320000) := Fin.ext (by
    blk_simp
    rw [(idx0_5 t).1, hy]
    show t.val * 2560 + r.val = 2560 * t.val + r.val
    omega)
  have h1 : (win0_5.blk t).view.emb y 1 = k := Fin.ext (by
    blk_simp
    rw [(idx0_5 t).2, hy]
    show 0 * 64 + k.val = k.val
    omega)
  rw [h0, h1]
  show phiPay (phiIn V c 0 t) (phiIn V c 1 t) (phiIn V c 2 t) (phiIn V c 3 t) (phiIn V c 4 t) y = _
  rw [phiIn1_val, phiIn2_val, phiIn3_val, phiIn4_val, hy]
  refine (phiPay_val _ _ _ _ _ r k).trans ?_
  refine congrArg (fun f => encOf f _ _ _ _) (funext fun j => ?_)
  exact phiIn0_val V c t r j (by omega)

end Cert.Proof.Worth
-- ==== Proof.V.RhoVal.lean ====
/-
  The decoder's region over the extended reals: the array it leaves, entry by entry.
-/
module

public import proofs.«01_k».proof.Proof.V.Dec
public import proofs.«01_k».proof.Proof.V.Held
public import proofs.«01_k».proof.Proof.Gen.KernelIdeal.Points
public import Idealize.ShloMosaic.Lib.Pipeline.ValueKit
public import Idealize.ShloMosaic.Lib.Pipeline.Covers

@[expose] public section

set_option maxRecDepth 16384

noncomputable section

namespace Cert.Proof.Worth

open Cert.KernelIdeal Cert.KernelIdeal.Gen Cert.Proof.SegIdeal
open Idealize.ShloMosaic Idealize.ShloMosaic.TcCoe
open Idealize.ShloMosaic.Pipeline (heldIn_of_fetch heldIn_of_not_fetch)

variable (V : (c : Dev nD) → (b : Ref sig .tc) → Buf (Elt Ideal) ((c : Thread nD τ).loc b)) (c : Dev nD)

/-- The decoder's windows hold their arrays at the one point. -/
theorem rhoIn0_val : rhoIn V c 0 t2_0 = V c main_v4 :=
  funext fun y => held_whole cfg2 _ 0 t2_0 (fetch2_0 _) (by decide +kernel) y y fun _ => rfl
/-- The decoder reads all the maxima. -/
theorem rhoIn1_val : rhoIn V c 1 t2_0 = V c main_v5 :=
  funext fun y => held_whole cfg2 _ 1 t2_0 (fetch2_1 _) (by decide +kernel) y y fun _ => rfl
/-- The decoder reads all the counts. -/
theorem rhoIn2_val : rhoIn V c 2 t2_0 = V c main_v6 :=
  funext fun y => held_whole cfg2 _ 2 t2_0 (fetch2_2 _) (by decide +kernel) y y fun _ => rfl
/-- The decoder reads all the means' weights. -/
theorem rhoIn3_val : rhoIn V c 3 t2_0 = V c main_v7 :=
  funext fun y => held_whole cfg2 _ 3 t2_0 (fetch2_3 _) (by decide +kernel) y y fun _ => rfl
/-- The decoder reads all the maxima's weights. -/
theorem rhoIn4_val : rhoIn V c 4 t2_0 = V c main_v8 :=
  funext fun y => held_whole cfg2 _ 4 t2_0 (fetch2_4 _) (by decide +kernel) y y fun _ => rfl
/-- The decoder reads all the logarithm's weights. -/
theorem rhoIn5_val : rhoIn V c 5 t2_0 = V c main_v9 :=
  funext fun y => held_whole cfg2 _ 5 t2_0 (fetch2_5 _) (by decide +kernel) y y fun _ => rfl
/-- The decoder reads the whole first bias. -/
theorem rhoIn6_val : rhoIn V c 6 t2_0 = V c main_v10 :=
  funext fun y => held_whole cfg2 _ 6 t2_0 (fetch2_6 _) (by decide +kernel) y y fun _ => rfl
/-- The decoder reads all the second weights. -/
theorem rhoIn7_val : rhoIn V c 7 t2_0 = V c main_arg8 :=
  funext fun y => held_whole cfg2 _ 7 t2_0 (fetch2_7 _) (by decide +kernel) y y fun _ => rfl
/-- The decoder reads the whole second bias. -/
theorem rhoIn8_val : rhoIn V c 8 t2_0 = V c main_v11 :=
  funext fun y => held_whole cfg2 _ 8 t2_0 (fetch2_8 _) (by decide +kernel) y y fun _ => rfl

/-- The decoder's array. -/
theorem rhoOut_val : rhoOut V c = rhoPay (F := Ideal) (V c main_v4) (V c main_v5) (V c main_v6) (V c main_v7) (V c main_v8) (V c main_v9)
    (V c main_v10) (V c main_arg8) (V c main_v11) := by
  unfold rhoOut
  refine (rhoDat V c).arrAt_eq_of_after_last 9 t2_0 (by decide +kernel) _ fun j => ?_
  show rhoPay (rhoIn V c 0 t2_0) (rhoIn V c 1 t2_0) (rhoIn V c 2 t2_0) (rhoIn V c 3 t2_0) (rhoIn V c 4 t2_0) (rhoIn V c 5 t2_0)
    (rhoIn V c 6 t2_0) (rhoIn V c 7 t2_0) (rhoIn V c 8 t2_0) j = _
  rw [rhoIn0_val, rhoIn1_val, rhoIn2_val, rhoIn3_val, rhoIn4_val, rhoIn5_val, rhoIn6_val, rhoIn7_val, rhoIn8_val]
  rfl

end Cert.Proof.Worth
-- ==== Proof.V.Vals.lean ====
/-
  What each buffer of the kernel's program holds over the extended reals, stage by stage.
-/
module

public import proofs.«01_k».proof.Proof.V.PhiVal
public import proofs.«01_k».proof.Proof.V.RhoVal
public import proofs.«01_k».proof.Proof.KI.Fin

@[expose] public section

set_option maxRecDepth 16384

noncomputable section

namespace Cert.Proof.Worth

open Cert.KernelIdeal Cert.KernelIdeal.Gen Cert.Proof.SegIdeal
open Idealize.ShloMosaic Idealize.ShloMosaic.TcCoe

variable (m : (ℓ : Loc nD τ sig) → Buf (Elt Ideal) ℓ) (d : Dev nD)

/-- A buffer's contents at the launch. -/
abbrev arg (b : Ref sig .tc) : Buf (Elt Ideal) ((d : Thread nD τ).loc b) := m ((d : Dev nD), Proc.devRef .tc b)

/-- Before the encoder, what is not written is as the launch left it. -/
theorem v1_keep (b : Ref sig .tc) (h : b ∉ written) : view (v1 m) d b = arg m d b := by
  have n {r : Ref sig .tc} (hr : r ∈ written) : b ≠ r := ne_of_written h hr
  unfold view v1 opB0 opB1
  rw [StableHlo.reshape_result_ne _ _ _ _ _ _ _ (n (by decide)), StableHlo.reshape_result_ne _ _ _ _ _ _ _ (n (by decide))]
  rfl

/-- The encoder's biases, as rows. -/
theorem v1_v0 : view (v1 m) d main_v0 = shapeCast S1x64 (arg m d main_arg3) shapeCasts_S64_S1x64 := by
  unfold view v1 opB0 opB1
  rw [StableHlo.reshape_result_ne _ _ _ _ _ _ _ (by decide), StableHlo.reshape_result']
  rfl
/-- The second bias as a row. -/
theorem v1_v1 : view (v1 m) d main_v1 = shapeCast S1x64 (arg m d main_arg5) shapeCasts_S64_S1x64 := by
  unfold view v1 opB0 opB1
  rw [StableHlo.reshape_result', StableHlo.reshape_result_ne _ _ _ _ _ _ _ (by decide)]
  rfl

/-- After the pooling: the sums. -/
theorem v3_sum : v3 m d main_v3_0 = sumG (idsAt m d) (rowsAt m d) := pooled_sum _ _ _
/-- After the pooling: the maxima. -/
theorem v3_max : v3 m d main_v3_1 = maxG (idsAt m d) (rowsAt m d) := pooled_max _ _ _
/-- After the pooling: the counts. -/
theorem v3_cnt : v3 m d main_v3_2 = cntG (F := Ideal) (idsAt m d) := pooled_cnt _ _ _

/-- The decoder's operands. -/
theorem v4_v4 : view (v4 m) d main_v4 = extractStridedSlice S10000x64 ![0, 0] (sumG (idsAt m d) (rowsAt m d)) slices_S10240x64_S10000x64_0_0 := by
  unfold view v4 opC0 opC1 opC2 opC3 opC4 opC5 opC6 opC7
  simp (disch := decide) only [StableHlo.unary_result', StableHlo.reshape_result', StableHlo.unary_result_ne', StableHlo.reshape_result_ne']
  rw [v3_sum]
/-- The decoder's maxima, without the padding. -/
theorem v4_v5 : view (v4 m) d main_v5 = extractStridedSlice S10000x64 ![0, 0] (maxG (idsAt m d) (rowsAt m d)) slices_S10240x64_S10000x64_0_0 := by
  unfold view v4 opC0 opC1 opC2 opC3 opC4 opC5 opC6 opC7
  simp (disch := decide) only [StableHlo.unary_result', StableHlo.reshape_result', StableHlo.unary_result_ne', StableHlo.reshape_result_ne']
  rw [v3_max]
/-- The decoder's counts, without the padding. -/
theorem v4_v6 : view (v4 m) d main_v6 = extractStridedSlice S10000x16 ![0, 0] (cntG (F := Ideal) (idsAt m d)) slices_S10240x16_S10000x16_0_0 := by
  unfold view v4 opC0 opC1 opC2 opC3 opC4 opC5 opC6 opC7
  simp (disch := decide) only [StableHlo.unary_result', StableHlo.reshape_result', StableHlo.unary_result_ne', StableHlo.reshape_result_ne']
  rw [v3_cnt]
/-- The decoder's weights of the means. -/
theorem v4_v7 : view (v4 m) d main_v7 = extractStridedSlice S64x64 ![0, 0] (arg m d main_arg6) slices_S129x64_S64x64_0_0 := by
  unfold view v4 opC0 opC1 opC2 opC3 opC4 opC5 opC6 opC7
  simp (disch := decide) only [StableHlo.unary_result', StableHlo.reshape_result', StableHlo.unary_result_ne', StableHlo.reshape_result_ne']
  rw [v3_keep m d main_arg6 (by decide)]
/-- The decoder's weights of the maxima. -/
theorem v4_v8 : view (v4 m) d main_v8 = extractStridedSlice S64x64 ![64, 0] (arg m d main_arg6) slices_S129x64_S64x64_64_0 := by
  unfold view v4 opC0 opC1 opC2 opC3 opC4 opC5 opC6 opC7
  simp (disch := decide) only [StableHlo.unary_result', StableHlo.reshape_result', StableHlo.unary_result_ne', StableHlo.reshape_result_ne']
  rw [v3_keep m d main_arg6 (by decide)]
/-- The decoder's weights of the logarithm. -/
theorem v4_v9 : view (v4 m) d main_v9 = extractStridedSlice S1x64 ![128, 0] (arg m d main_arg6) slices_S129x64_S1x64_128_0 := by
  unfold view v4 opC0 opC1 opC2 opC3 opC4 opC5 opC6 opC7
  simp (disch := decide) only [StableHlo.unary_result', StableHlo.reshape_result', StableHlo.unary_result_ne', StableHlo.reshape_result_ne']
  rw [v3_keep m d main_arg6 (by decide)]
/-- The decoder's first bias as a row. -/
theorem v4_v10 : view (v4 m) d main_v10 = shapeCast S1x64 (arg m d main_arg7) shapeCasts_S64_S1x64 := by
  unfold view v4 opC0 opC1 opC2 opC3 opC4 opC5 opC6 opC7
  simp (disch := decide) only [StableHlo.unary_result', StableHlo.reshape_result', StableHlo.unary_result_ne', StableHlo.reshape_result_ne']
  rw [v3_keep m d main_arg7 (by decide)]
  rfl
/-- The decoder's second bias as a row. -/
theorem v4_v11 : view (v4 m) d main_v11 = shapeCast S1x1 (arg m d main_arg9) shapeCasts_S1_S1x1 := by
  unfold view v4 opC0 opC1 opC2 opC3 opC4 opC5 opC6 opC7
  simp (disch := decide) only [StableHlo.unary_result', StableHlo.reshape_result', StableHlo.unary_result_ne', StableHlo.reshape_result_ne']
  rw [v3_keep m d main_arg9 (by decide)]
  rfl

/-- A vector as one row, at a place. -/
theorem row_val (x : FVec Ideal S64 .f32) (k : Fin 64) : shapeCast S1x64 x shapeCasts_S64_S1x64 (ix2 0 k) = x (ix1 k) := by
  pointwise []

/-- The rows the pooling reads are the encoder's. -/
theorem rows_val (p : Fin 320000) (c : Fin 64) : rowsAt m d (ix2 p c)
    = encOf (fun j => arg m d main_arg0 (ix2 p j)) (fun j k => arg m d main_arg2 (ix2 j k)) (fun k => arg m d main_arg3 (ix1 k))
        (fun k => arg m d main_arg4 (ix2 k c)) (arg m d main_arg5 (ix1 c)) := by
  have h : rowsAt m d = phiOut (view (v1 m)) d := phiAft_out (v1 m) d
  rw [h, phiOut_val]
  have e0 := v1_keep m d main_arg0 (by decide)
  have e2 := v1_keep m d main_arg2 (by decide)
  have e4 := v1_keep m d main_arg4 (by decide)
  have b3 : ∀ k : Fin 64, view (v1 m) d main_v0 (ix2 0 k) = arg m d main_arg3 (ix1 k) := fun k => by
    rw [v1_v0]; exact row_val _ k
  have b5 : view (v1 m) d main_v1 (ix2 0 c) = arg m d main_arg5 (ix1 c) := by
    rw [v1_v1]; exact row_val _ c
  refine Eq.trans (b := encOf (fun j => view (v1 m) d main_arg0 (ix2 p j)) (fun j k => view (v1 m) d main_arg2 (ix2 j k))
    (fun k => view (v1 m) d main_v0 (ix2 0 k)) (fun k => view (v1 m) d main_arg4 (ix2 k c)) (view (v1 m) d main_v1 (ix2 0 c))) rfl ?_
  rw [e0, e2, e4, b5, funext b3]

/-- The decoder's slices, at a place. -/
theorem top_val (x : FVec Ideal S10240x64 .f32) (g : Fin 10000) (j : Fin 64) :
    extractStridedSlice S10000x64 ![0, 0] x slices_S10240x64_S10000x64_0_0 (ix2 g j) = x (ix2 ⟨g.val, by omega⟩ j) := by
  pointwise []
/-- The counts without the padding, at a place. -/
theorem topc_val (x : FVec Ideal S10240x16 .f32) (g : Fin 10000) :
    extractStridedSlice S10000x16 ![0, 0] x slices_S10240x16_S10000x16_0_0 (ix2 g 0) = x (ix2 ⟨g.val, by omega⟩ 0) := by
  pointwise []
/-- The weights of the means, at a place. -/
theorem wa_val (x : FVec Ideal S129x64 .f32) (j k : Fin 64) :
    extractStridedSlice S64x64 ![0, 0] x slices_S129x64_S64x64_0_0 (ix2 j k) = x (ix2 ⟨j.val, by omega⟩ k) := by
  pointwise []
/-- The weights of the maxima, at a place. -/
theorem wb_val (x : FVec Ideal S129x64 .f32) (j k : Fin 64) :
    extractStridedSlice S64x64 ![64, 0] x slices_S129x64_S64x64_64_0 (ix2 j k) = x (ix2 ⟨64 + j.val, by omega⟩ k) := by
  pointwise []
/-- The weights of the logarithm, at a place. -/
theorem wc_val (x : FVec Ideal S129x64 .f32) (k : Fin 64) :
    extractStridedSlice S1x64 ![128, 0] x slices_S129x64_S1x64_128_0 (ix2 0 k) = x (ix2 ⟨128, by omega⟩ k) := by
  pointwise []
/-- The second bias as a row, at its place. -/
theorem one_val (x : FVec Ideal S1 .f32) : shapeCast S1x1 x shapeCasts_S1_S1x1 (ix2 0 0) = x (ix1 0) := by
  pointwise []

/-- The program's result, from the pooled numbers. -/
theorem out_val (g : Fin 10000) : v6 m d main_v13 (ix1 g)
    = decOf (fun j => segSum (F := Ideal) (idsAt m d) (rowsAt m d) g.val j.val 320000)
        (fun j => segMax (F := Ideal) (idsAt m d) (rowsAt m d) g.val j.val 320000)
        (max (segCnt (F := Ideal) (idsAt m d) g.val 320000) 1)
        (fun j k => arg m d main_arg6 (ix2 ⟨j.val, by omega⟩ k)) (fun j k => arg m d main_arg6 (ix2 ⟨64 + j.val, by omega⟩ k))
        (fun k => arg m d main_arg6 (ix2 ⟨128, by omega⟩ k)) (fun k => arg m d main_arg7 (ix1 k)) (fun k => arg m d main_arg8 (ix2 k 0))
        (arg m d main_arg9 (ix1 0)) := by
  have h : v6 m d main_v13 = shapeCast S10000 (rhoOut (view (v4 m)) d) shapeCasts_S10000x1_S10000 := by
    unfold v6 opD
    rw [StableHlo.reshape_result']
    exact congrArg (fun x => shapeCast S10000 x shapeCasts_S10000x1_S10000) (rhoAft_out (v4 m) d)
  have h8 : view (v4 m) d main_arg8 = arg m d main_arg8 := v4_keep m d main_arg8 (by decide)
  have hp : shapeCast S10000 (rhoOut (view (v4 m)) d) shapeCasts_S10000x1_S10000 (ix1 g) = rhoOut (view (v4 m)) d (ix2 g 0) := by
    pointwise []
  rw [h, hp, rhoOut_val, v4_v4, v4_v5, v4_v6, v4_v7, v4_v8, v4_v9, v4_v10, v4_v11, h8, rhoPay_val]
  have e1 : ∀ j : Fin 64, extractStridedSlice S10000x64 ![0, 0] (sumG (idsAt m d) (rowsAt m d)) slices_S10240x64_S10000x64_0_0 (ix2 g j)
      = segSum (F := Ideal) (idsAt m d) (rowsAt m d) g.val j.val 320000 := fun j => (top_val _ g j).trans (by unfold sumG; rfl)
  have e2 : ∀ j : Fin 64, extractStridedSlice S10000x64 ![0, 0] (maxG (idsAt m d) (rowsAt m d)) slices_S10240x64_S10000x64_0_0 (ix2 g j)
      = segMax (F := Ideal) (idsAt m d) (rowsAt m d) g.val j.val 320000 := fun j => (top_val _ g j).trans (by unfold maxG; rfl)
  have e3 : extractStridedSlice S10000x16 ![0, 0] (cntG (F := Ideal) (idsAt m d)) slices_S10240x16_S10000x16_0_0 (ix2 g 0)
      = segCnt (F := Ideal) (idsAt m d) g.val 320000 := (topc_val _ g).trans (by unfold cntG; rfl)
  have e4 : ∀ j k : Fin 64, extractStridedSlice S64x64 ![0, 0] (arg m d main_arg6) slices_S129x64_S64x64_0_0 (ix2 j k)
      = arg m d main_arg6 (ix2 ⟨j.val, by omega⟩ k) := fun j k => wa_val _ j k
  have e5 : ∀ j k : Fin 64, extractStridedSlice S64x64 ![64, 0] (arg m d main_arg6) slices_S129x64_S64x64_64_0 (ix2 j k)
      = arg m d main_arg6 (ix2 ⟨64 + j.val, by omega⟩ k) := fun j k => wb_val _ j k
  have e6 : ∀ k : Fin 64, extractStridedSlice S1x64 ![128, 0] (arg m d main_arg6) slices_S129x64_S1x64_128_0 (ix2 0 k)
      = arg m d main_arg6 (ix2 ⟨128, by omega⟩ k) := fun k => wc_val _ k
  have e7 : ∀ k : Fin 64, shapeCast S1x64 (arg m d main_arg7) shapeCasts_S64_S1x64 (ix2 0 k) = arg m d main_arg7 (ix1 k) := fun k => row_val _ k
  have e8 : shapeCast S1x1 (arg m d main_arg9) shapeCasts_S1_S1x1 (ix2 0 0) = arg m d main_arg9 (ix1 0) := one_val _
  rw [e3, e8, funext e1, funext e2, funext fun j => funext (e4 j), funext fun j => funext (e5 j), funext e6, funext e7]

end Cert.Proof.Worth
-- ==== Proof.V.Tie.lean ====
/-
  The kernel's value and the reference's are one, entry by entry.
-/
module

public import proofs.«01_k».proof.Proof.V.Res
public import proofs.«01_k».proof.Proof.V.Vals

@[expose] public section

set_option maxRecDepth 16384

noncomputable section

namespace Cert.Proof.Worth

open Cert.KernelIdeal Cert.KernelIdeal.Gen Cert.Proof.SegIdeal
open Idealize.ShloMosaic Idealize.ShloMosaic.TcCoe

/-- A count clipped below at one, as an integer and as a real. -/
theorem clip_count (n : Nat) (hn : n ≤ 320000) :
    (((IntOp.maxsi (BitVec.ofNat 32 n) 1#32).toInt : ℝ) : EReal) = max ((n : ℝ) : EReal) 1 := by
  have hi : (BitVec.ofNat 32 n).toInt = (n : Int) := by
    rw [BitVec.toInt_eq_toNat_of_lt (by rw [BitVec.toNat_ofNat]; omega), BitVec.toNat_ofNat]
    omega
  have h1 : (1#32).toInt = 1 := by decide
  have e1 : (1 : EReal) = ((1 : ℝ) : EReal) := rfl
  unfold IntOp.maxsi
  split
  · next h =>
    have hz := BitVec.slt_iff_toInt_lt.1 h
    rw [hi, h1] at hz
    rw [hi, e1, max_eq_left (EReal.coe_le_coe_iff.2 (by exact_mod_cast hz.le))]
    rfl
  · next h =>
    have hz : ¬ _ := fun q => h (BitVec.slt_iff_toInt_lt.2 q)
    rw [hi, h1] at hz
    rw [h1, e1, max_eq_right (EReal.coe_le_coe_iff.2 (by exact_mod_cast not_lt.1 hz))]
    norm_num

/-- The decoder depends on its pooled numbers alone. -/
theorem decOf_pooled {sm mx sm' mx' : Fin 64 → EReal} {ct ct' : EReal} (hs : ∀ j, sm j = sm' j) (hm : ∀ j, mx j = mx' j) (hc : ct = ct')
    (wa wb : Fin 64 → Fin 64 → EReal) (wc b w2 : Fin 64 → EReal) (b2 : EReal) :
    decOf sm mx ct wa wb wc b w2 b2 = decOf sm' mx' ct' wa wb wc b w2 b2 := by
  rw [funext hs, funext hm, hc]

/-- Sums over the same points of the same rows are equal. -/
theorem sum_same (ids : IVec S320000 32) (e x : FVec Ideal S320000x64 .f32) (hx : ∀ p c, (x (ix2 p c) : EReal) = e (ix2 p c))
    (hg : ∀ p : Fin 320000, (ids (ix1 p)).toNat < 10000) (g : Fin 10000) (j : Fin 64) :
    segSum (F := Ideal) ids x g.val j.val 320000 = refSum ids e (ix2 g j) := by
  rw [segSum_val, refSum_val ids e hg]
  exact Finset.sum_congr rfl fun p _ => by rw [hx]

/-- Maxima over the same points of the same rows are equal. -/
theorem max_same (ids : IVec S320000 32) (e x : FVec Ideal S320000x64 .f32) (hx : ∀ p c, (x (ix2 p c) : EReal) = e (ix2 p c))
    (g : Fin 10000) (j : Fin 64) : segMax (F := Ideal) ids x g.val j.val 320000 = refMax ids e (ix2 g j) := by
  refine eq_of_forall_ge_iff fun z => ?_
  refine (segMax_le ids x g.val j z).trans ((and_congr_right fun _ => forall_congr' fun p => ?_).trans (refMax_le ids e g j z).symm)
  rw [hx]

/-- Counts of the same points are equal. -/
theorem cnt_same (ids : IVec S320000 32) (hg : ∀ p : Fin 320000, (ids (ix1 p)).toNat < 10000) (g : Fin 10000) :
    max (segCnt (F := Ideal) ids g.val 320000 : EReal) 1 = (((IntOp.maxsi (refCnt ids (ix1 g)) 1#32).toInt : ℝ) : EReal) := by
  rw [segCnt_val, refCnt_val ids hg, clip_count _ (howMany_le _ _ _)]

/-- The kernel's value is the reference of the kernel's arguments. -/
theorem value (m : (ℓ : Loc nD τ sig) → Buf (Elt Ideal) ℓ) (d : Dev nD) (h : Good (idsAt m d)) :
    v6 m d main_v13 = refOf (arg m d main_arg0) (arg m d main_arg1) (arg m d main_arg2) (arg m d main_arg3) (arg m d main_arg4)
      (arg m d main_arg5) (arg m d main_arg6) (arg m d main_arg7) (arg m d main_arg8) (arg m d main_arg9) := by
  have hg : ∀ p : Fin 320000, (idsAt m d (ix1 p)).toNat < 10000 := fun p => by
    have := h.range p.val p.isLt
    rwa [idAt, dif_pos p.isLt] at this
  have hx : ∀ (p : Fin 320000) (c : Fin 64), (rowsAt m d (ix2 p c) : EReal)
      = refEnc (arg m d main_arg0) (arg m d main_arg2) (arg m d main_arg3) (arg m d main_arg4) (arg m d main_arg5) (ix2 p c) := fun p c =>
    (rows_val m d p c).trans (refEnc_val _ _ _ _ _ p c).symm
  have hi : idsAt m d = arg m d main_arg1 := ids_same m d
  funext i
  obtain ⟨g, rfl⟩ : ∃ g : Fin 10000, i = ix1 g := ⟨i 0, eq_ix1 i⟩
  refine (out_val m d g).trans (Eq.trans ?_ (refDec_val _ _ _ _ _ _ _ g).symm)
  rw [← hi]
  exact decOf_pooled (fun j => sum_same _ _ _ hx hg g j) (fun j => max_same _ _ _ hx g j) (cnt_same _ hg g) _ _ _ _ _ _

end Cert.Proof.Worth
-- ==== Proof.V.Alg.lean ====
/-
  The algebraic claim: both programs run, end with one value, and leave their arguments.
-/
module

public import proofs.«01_k».proof.Proof.V.Tie
public import proofs.«01_k».proof.Proof.KI.Frame

@[expose] public section

noncomputable section

namespace Cert.Proof.Worth

open Cert.KernelIdeal Cert.KernelIdeal.Gen Cert.Proof.SegIdeal
open Idealize.ShloMosaic Idealize.ShloMosaic.TcCoe Idealize.SL.Sem

/-- `Cert.algebraic_KernelIdeal_ReferenceIdeal` (Defs.lean). -/
theorem algebraic : Cert.algebraic_KernelIdeal_ReferenceIdeal := fun m ρ m' ρ' hpre hag =>
  ⟨fun c => v6 m c main_v13,
    (θ_run (Cert.KernelIdeal.defs (F := Ideal)) _ _).mono
      (fun r h c => by
        have k (b : Ref sig .tc) (hs : (Proc.devRef .tc b : DevRef τ sig).isScoped = false) (hb : b ∉ written) :
            r.2.mem ((c : Dev nD), Proc.devRef .tc b) = m ((c : Dev nD), Proc.devRef .tc b) :=
          (h.1 c _ (mem_bufSet hs)).trans (v6_keep m c b hb)
        exact ⟨h.1 c _ (mem_bufSet (b := main_v13) rfl), k main_arg0 rfl (by decide), k main_arg1 rfl (by decide),
          k main_arg2 rfl (by decide), k main_arg3 rfl (by decide), k main_arg4 rfl (by decide), k main_arg5 rfl (by decide),
          k main_arg6 rfl (by decide), k main_arg7 rfl (by decide), k main_arg8 rfl (by decide), k main_arg9 rfl (by decide)⟩)
      (run_main m ρ (good_of m hpre)),
    (θ_run (Cert.ReferenceIdeal.defs (F := Ideal)) _ _).mono
      (fun r h c => by
        refine ⟨(h c).1.trans ((res_eq m' c).trans ?_), (h c).2⟩
        obtain ⟨h0, h1, h2, h3, h4, h5, h6, h7, h8, h9⟩ := hag c
        rw [h0, h1, h2, h3, h4, h5, h6, h7, h8, h9]
        exact (value m c (good_of m hpre c)).symm)
      (Cert.ReferenceIdeal.Value.run (F := Ideal) m' ρ')⟩

end Cert.Proof.Worth
-- ==== Proof.lean ====
/-
  The certificate of the segment pooling kernel: the frames of the kernel, of its idealization and of the reference, that
  the idealization is the kernel read over the extended reals, and that its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_ok
public import proofs.«01_k».proof.Proof.K.Frame
public import proofs.«01_k».proof.Proof.KI.Frame
public import proofs.«01_k».proof.Proof.Ref
public import proofs.«01_k».proof.Proof.V.Alg
public import Idealize.ShloMosaic.Adequacy
public import Idealize.ShloMosaic.Init

@[expose] public section

noncomputable section

namespace Cert.Proof

open Idealize.ShloMosaic Idealize.SL.Sem Cert.Kernel

/-- Every claim of Defs.lean. -/
theorem claim : Cert.Claim := ⟨Cert.Kernel.Gen.facts, Cert.KernelIdeal.Gen.facts, Cert.ReferenceIdeal.Gen.facts, Cert.Pre_ids_ok.Gen.facts,
  Cert.Proof.Seg.frame, Cert.Proof.SegIdeal.frame, Cert.Proof.Plain.frame,
  Cert.Proof.Plain.frame_pre, trivial, Cert.Proof.Worth.algebraic⟩

end Cert.Proof

end
